-- ==== Defs.lean ====
def Pre_Dsa (m : (ℓ : Loc Cert.Dsa.nD Cert.Dsa.τ Cert.Dsa.sig) → Buf (Elt Bits) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_FfnLast (m : (ℓ : Loc Cert.FfnLast.nD Cert.FfnLast.τ Cert.FfnLast.sig) → Buf (Elt Bits) ℓ) : Prop :=
  True

def Pre_FfnLastIdeal (m : (ℓ : Loc Cert.FfnLastIdeal.nD Cert.FfnLastIdeal.τ Cert.FfnLastIdeal.sig) → Buf (Elt Ideal) ℓ) : Prop :=
  True

def Pre_FfnLastRefIdeal (m : (ℓ : Loc Cert.FfnLastRefIdeal.nD Cert.FfnLastRefIdeal.τ Cert.FfnLastRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Memory (m : (ℓ : Loc Cert.Memory.nD Cert.Memory.τ Cert.Memory.sig) → Buf (Elt Bits) ℓ) : Prop :=
  True

def Pre_MemoryIdeal (m : (ℓ : Loc Cert.MemoryIdeal.nD Cert.MemoryIdeal.τ Cert.MemoryIdeal.sig) → Buf (Elt Ideal) ℓ) : Prop :=
  True

def Pre_MemoryRefIdeal (m : (ℓ : Loc Cert.MemoryRefIdeal.nD Cert.MemoryRefIdeal.τ Cert.MemoryRefIdeal.sig) → Buf (Elt Ideal) ℓ) : Prop :=
  True

def Pre_Rglru (m : (ℓ : Loc Cert.Rglru.nD Cert.Rglru.τ Cert.Rglru.sig) → Buf (Elt Bits) ℓ) : Prop :=
  True

def Pre_RglruIdeal (m : (ℓ : Loc Cert.RglruIdeal.nD Cert.RglruIdeal.τ Cert.RglruIdeal.sig) → Buf (Elt Ideal) ℓ) : Prop :=
  True

def Pre_Sums (m : (ℓ : Loc Cert.Sums.nD Cert.Sums.τ Cert.Sums.sig) → Buf (Elt Bits) ℓ) : Prop :=
  True

def Pre_SumsIdeal (m : (ℓ : Loc Cert.SumsIdeal.nD Cert.SumsIdeal.τ Cert.SumsIdeal.sig) → Buf (Elt Ideal) ℓ) : Prop :=
  True

def Pre_Fox (m : (ℓ : Loc Cert.Fox.nD Cert.Fox.τ Cert.Fox.sig) → Buf (Elt Bits) ℓ) : Prop :=
  True

def quiescent_Dsa [hDsa : Cert.Dsa.Facts] : Prop :=
  ∀ (m : (ℓ : Loc Cert.Dsa.nD Cert.Dsa.τ Cert.Dsa.sig) → Buf (Elt Bits) ℓ) (g : Dev Cert.Dsa.nD → PrngReg), Pre_Dsa m →
    θ_run (Cert.Dsa.defs (F := Bits)) (onTc (τ := Cert.Dsa.τ) (Cert.Dsa.main (F := Bits))) ⟨m, fun _ => 0, g⟩ (fun r => (∀ c : Dev Cert.Dsa.nD,
      r.2.mem ((c.tc : Thread Cert.Dsa.nD Cert.Dsa.τ).loc Cert.Dsa.main_arg0) = m ((c.tc : Thread Cert.Dsa.nD Cert.Dsa.τ).loc Cert.Dsa.main_arg0)
      ∧ r.2.mem ((c.tc : Thread Cert.Dsa.nD Cert.Dsa.τ).loc Cert.Dsa.main_arg1) = m ((c.tc : Thread Cert.Dsa.nD Cert.Dsa.τ).loc Cert.Dsa.main_arg1)
      ∧ r.2.mem ((c.tc : Thread Cert.Dsa.nD Cert.Dsa.τ).loc Cert.Dsa.main_arg2) = m ((c.tc : Thread Cert.Dsa.nD Cert.Dsa.τ).loc Cert.Dsa.main_arg2)
      ∧ r.2.mem ((c.tc : Thread Cert.Dsa.nD Cert.Dsa.τ).loc Cert.Dsa.main_arg3) = m ((c.tc : Thread Cert.Dsa.nD Cert.Dsa.τ).loc Cert.Dsa.main_arg3)
      ∧ r.2.mem ((c.tc : Thread Cert.Dsa.nD Cert.Dsa.τ).loc Cert.Dsa.main_arg4) = m ((c.tc : Thread Cert.Dsa.nD Cert.Dsa.τ).loc Cert.Dsa.main_arg4)
      ∧ r.2.mem ((c.tc : Thread Cert.Dsa.nD Cert.Dsa.τ).loc Cert.Dsa.main_arg5) = m ((c.tc : Thread Cert.Dsa.nD Cert.Dsa.τ).loc Cert.Dsa.main_arg5)
      ∧ r.2.mem ((c.tc : Thread Cert.Dsa.nD Cert.Dsa.τ).loc Cert.Dsa.main_arg6) = m ((c.tc : Thread Cert.Dsa.nD Cert.Dsa.τ).loc Cert.Dsa.main_arg6)
      ∧ r.2.mem ((c.tc : Thread Cert.Dsa.nD Cert.Dsa.τ).loc Cert.Dsa.main_arg7) = m ((c.tc : Thread Cert.Dsa.nD Cert.Dsa.τ).loc Cert.Dsa.main_arg7)
      ∧ r.2.mem ((c.tc : Thread Cert.Dsa.nD Cert.Dsa.τ).loc Cert.Dsa.main_arg8) = m ((c.tc : Thread Cert.Dsa.nD Cert.Dsa.τ).loc Cert.Dsa.main_arg8)
      ∧ r.2.mem ((c.tc : Thread Cert.Dsa.nD Cert.Dsa.τ).loc Cert.Dsa.main_arg9) = m ((c.tc : Thread Cert.Dsa.nD Cert.Dsa.τ).loc Cert.Dsa.main_arg9))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4))
      ∧ r.2.sem = fun _ => 0)

def quiescent_FfnLast [hFfnLast : Cert.FfnLast.Facts] : Prop :=
  ∀ (m : (ℓ : Loc Cert.FfnLast.nD Cert.FfnLast.τ Cert.FfnLast.sig) → Buf (Elt Bits) ℓ) (g : Dev Cert.FfnLast.nD → PrngReg), Pre_FfnLast m →
    θ_run (Cert.FfnLast.defs (F := Bits)) (onTc (τ := Cert.FfnLast.τ) (Cert.FfnLast.main (F := Bits))) ⟨m, fun _ => 0, g⟩ (fun r => (∀ c : Dev Cert.FfnLast.nD,
      r.2.mem ((c.tc : Thread Cert.FfnLast.nD Cert.FfnLast.τ).loc Cert.FfnLast.main_arg0) = m ((c.tc : Thread Cert.FfnLast.nD Cert.FfnLast.τ).loc Cert.FfnLast.main_arg0)
      ∧ r.2.mem ((c.tc : Thread Cert.FfnLast.nD Cert.FfnLast.τ).loc Cert.FfnLast.main_arg1) = m ((c.tc : Thread Cert.FfnLast.nD Cert.FfnLast.τ).loc Cert.FfnLast.main_arg1)
      ∧ r.2.mem ((c.tc : Thread Cert.FfnLast.nD Cert.FfnLast.τ).loc Cert.FfnLast.main_arg2) = m ((c.tc : Thread Cert.FfnLast.nD Cert.FfnLast.τ).loc Cert.FfnLast.main_arg2)
      ∧ r.2.mem ((c.tc : Thread Cert.FfnLast.nD Cert.FfnLast.τ).loc Cert.FfnLast.main_arg3) = m ((c.tc : Thread Cert.FfnLast.nD Cert.FfnLast.τ).loc Cert.FfnLast.main_arg3)
      ∧ r.2.mem ((c.tc : Thread Cert.FfnLast.nD Cert.FfnLast.τ).loc Cert.FfnLast.main_arg4) = m ((c.tc : Thread Cert.FfnLast.nD Cert.FfnLast.τ).loc Cert.FfnLast.main_arg4))
      ∧ r.2.sem = fun _ => 0)

def quiescent_FfnLastIdeal [hFfnLastIdeal : Cert.FfnLastIdeal.Facts] : Prop :=
  ∀ (m : (ℓ : Loc Cert.FfnLastIdeal.nD Cert.FfnLastIdeal.τ Cert.FfnLastIdeal.sig) → Buf (Elt Ideal) ℓ) (g : Dev Cert.FfnLastIdeal.nD → PrngReg), Pre_FfnLastIdeal m →
    θ_run (Cert.FfnLastIdeal.defs (F := Ideal)) (onTc (τ := Cert.FfnLastIdeal.τ) (Cert.FfnLastIdeal.main (F := Ideal))) ⟨m, fun _ => 0, g⟩ (fun r => (∀ c : Dev Cert.FfnLastIdeal.nD,
      r.2.mem ((c.tc : Thread Cert.FfnLastIdeal.nD Cert.FfnLastIdeal.τ).loc Cert.FfnLastIdeal.main_arg0) = m ((c.tc : Thread Cert.FfnLastIdeal.nD Cert.FfnLastIdeal.τ).loc Cert.FfnLastIdeal.main_arg0)
      ∧ r.2.mem ((c.tc : Thread Cert.FfnLastIdeal.nD Cert.FfnLastIdeal.τ).loc Cert.FfnLastIdeal.main_arg1) = m ((c.tc : Thread Cert.FfnLastIdeal.nD Cert.FfnLastIdeal.τ).loc Cert.FfnLastIdeal.main_arg1)
      ∧ r.2.mem ((c.tc : Thread Cert.FfnLastIdeal.nD Cert.FfnLastIdeal.τ).loc Cert.FfnLastIdeal.main_arg2) = m ((c.tc : Thread Cert.FfnLastIdeal.nD Cert.FfnLastIdeal.τ).loc Cert.FfnLastIdeal.main_arg2)
      ∧ r.2.mem ((c.tc : Thread Cert.FfnLastIdeal.nD Cert.FfnLastIdeal.τ).loc Cert.FfnLastIdeal.main_arg3) = m ((c.tc : Thread Cert.FfnLastIdeal.nD Cert.FfnLastIdeal.τ).loc Cert.FfnLastIdeal.main_arg3)
      ∧ r.2.mem ((c.tc : Thread Cert.FfnLastIdeal.nD Cert.FfnLastIdeal.τ).loc Cert.FfnLastIdeal.main_arg4) = m ((c.tc : Thread Cert.FfnLastIdeal.nD Cert.FfnLastIdeal.τ).loc Cert.FfnLastIdeal.main_arg4))
      ∧ r.2.sem = fun _ => 0)

def quiescent_FfnLastRefIdeal [hFfnLastRefIdeal : Cert.FfnLastRefIdeal.Facts] : Prop :=
  ∀ (m : (ℓ : Loc Cert.FfnLastRefIdeal.nD Cert.FfnLastRefIdeal.τ Cert.FfnLastRefIdeal.sig) → Buf (Elt Ideal) ℓ) (g : Dev Cert.FfnLastRefIdeal.nD → PrngReg), Pre_FfnLastRefIdeal m →
    θ_run (Cert.FfnLastRefIdeal.defs (F := Ideal)) (onTc (τ := Cert.FfnLastRefIdeal.τ) (Cert.FfnLastRefIdeal.main (F := Ideal))) ⟨m, fun _ => 0, g⟩ (fun r => (∀ c : Dev Cert.FfnLastRefIdeal.nD,
      r.2.mem ((c.tc : Thread Cert.FfnLastRefIdeal.nD Cert.FfnLastRefIdeal.τ).loc Cert.FfnLastRefIdeal.main_arg0) = m ((c.tc : Thread Cert.FfnLastRefIdeal.nD Cert.FfnLastRefIdeal.τ).loc Cert.FfnLastRefIdeal.main_arg0)
      ∧ r.2.mem ((c.tc : Thread Cert.FfnLastRefIdeal.nD Cert.FfnLastRefIdeal.τ).loc Cert.FfnLastRefIdeal.main_arg1) = m ((c.tc : Thread Cert.FfnLastRefIdeal.nD Cert.FfnLastRefIdeal.τ).loc Cert.FfnLastRefIdeal.main_arg1)
      ∧ r.2.mem ((c.tc : Thread Cert.FfnLastRefIdeal.nD Cert.FfnLastRefIdeal.τ).loc Cert.FfnLastRefIdeal.main_arg2) = m ((c.tc : Thread Cert.FfnLastRefIdeal.nD Cert.FfnLastRefIdeal.τ).loc Cert.FfnLastRefIdeal.main_arg2)
      ∧ r.2.mem ((c.tc : Thread Cert.FfnLastRefIdeal.nD Cert.FfnLastRefIdeal.τ).loc Cert.FfnLastRefIdeal.main_arg3) = m ((c.tc : Thread Cert.FfnLastRefIdeal.nD Cert.FfnLastRefIdeal.τ).loc Cert.FfnLastRefIdeal.main_arg3)
      ∧ r.2.mem ((c.tc : Thread Cert.FfnLastRefIdeal.nD Cert.FfnLastRefIdeal.τ).loc Cert.FfnLastRefIdeal.main_arg4) = m ((c.tc : Thread Cert.FfnLastRefIdeal.nD Cert.FfnLastRefIdeal.τ).loc Cert.FfnLastRefIdeal.main_arg4))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9)
      ∧ r.2.mem ((c.tc : Thread Cert.Merge.nD Cert.Merge.τ).loc Cert.Merge.main_arg10) = m ((c.tc : Thread Cert.Merge.nD Cert.Merge.τ).loc Cert.Merge.main_arg10))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8)
      ∧ r.2.mem ((c.tc : Thread Cert.MergeRefIdeal.nD Cert.MergeRefIdeal.τ).loc Cert.MergeRefIdeal.main_arg9) = m ((c.tc : Thread Cert.MergeRefIdeal.nD Cert.MergeRefIdeal.τ).loc Cert.MergeRefIdeal.main_arg9)
      ∧ r.2.mem ((c.tc : Thread Cert.MergeRefIdeal.nD Cert.MergeRefIdeal.τ).loc Cert.MergeRefIdeal.main_arg10) = m ((c.tc : Thread Cert.MergeRefIdeal.nD Cert.MergeRefIdeal.τ).loc Cert.MergeRefIdeal.main_arg10))
      ∧ r.2.sem = fun _ => 0)

def quiescent_Memory [hMemory : Cert.Memory.Facts] : Prop :=
  ∀ (m : (ℓ : Loc Cert.Memory.nD Cert.Memory.τ Cert.Memory.sig) → Buf (Elt Bits) ℓ) (g : Dev Cert.Memory.nD → PrngReg), Pre_Memory m →
    θ_run (Cert.Memory.defs (F := Bits)) (onTc (τ := Cert.Memory.τ) (Cert.Memory.main (F := Bits))) ⟨m, fun _ => 0, g⟩ (fun r => (∀ c : Dev Cert.Memory.nD,
      r.2.mem ((c.tc : Thread Cert.Memory.nD Cert.Memory.τ).loc Cert.Memory.main_arg0) = m ((c.tc : Thread Cert.Memory.nD Cert.Memory.τ).loc Cert.Memory.main_arg0)
      ∧ r.2.mem ((c.tc : Thread Cert.Memory.nD Cert.Memory.τ).loc Cert.Memory.main_arg1) = m ((c.tc : Thread Cert.Memory.nD Cert.Memory.τ).loc Cert.Memory.main_arg1)
      ∧ r.2.mem ((c.tc : Thread Cert.Memory.nD Cert.Memory.τ).loc Cert.Memory.main_arg2) = m ((c.tc : Thread Cert.Memory.nD Cert.Memory.τ).loc Cert.Memory.main_arg2))
      ∧ r.2.sem = fun _ => 0)

def quiescent_MemoryIdeal [hMemoryIdeal : Cert.MemoryIdeal.Facts] : Prop :=
  ∀ (m : (ℓ : Loc Cert.MemoryIdeal.nD Cert.MemoryIdeal.τ Cert.MemoryIdeal.sig) → Buf (Elt Ideal) ℓ) (g : Dev Cert.MemoryIdeal.nD → PrngReg), Pre_MemoryIdeal m →
    θ_run (Cert.MemoryIdeal.defs (F := Ideal)) (onTc (τ := Cert.MemoryIdeal.τ) (Cert.MemoryIdeal.main (F := Ideal))) ⟨m, fun _ => 0, g⟩ (fun r => (∀ c : Dev Cert.MemoryIdeal.nD,
      r.2.mem ((c.tc : Thread Cert.MemoryIdeal.nD Cert.MemoryIdeal.τ).loc Cert.MemoryIdeal.main_arg0) = m ((c.tc : Thread Cert.MemoryIdeal.nD Cert.MemoryIdeal.τ).loc Cert.MemoryIdeal.main_arg0)
      ∧ r.2.mem ((c.tc : Thread Cert.MemoryIdeal.nD Cert.MemoryIdeal.τ).loc Cert.MemoryIdeal.main_arg1) = m ((c.tc : Thread Cert.MemoryIdeal.nD Cert.MemoryIdeal.τ).loc Cert.MemoryIdeal.main_arg1)
      ∧ r.2.mem ((c.tc : Thread Cert.MemoryIdeal.nD Cert.MemoryIdeal.τ).loc Cert.MemoryIdeal.main_arg2) = m ((c.tc : Thread Cert.MemoryIdeal.nD Cert.MemoryIdeal.τ).loc Cert.MemoryIdeal.main_arg2))
      ∧ r.2.sem = fun _ => 0)

def quiescent_MemoryRefIdeal [hMemoryRefIdeal : Cert.MemoryRefIdeal.Facts] : Prop :=
  ∀ (m : (ℓ : Loc Cert.MemoryRefIdeal.nD Cert.MemoryRefIdeal.τ Cert.MemoryRefIdeal.sig) → Buf (Elt Ideal) ℓ) (g : Dev Cert.MemoryRefIdeal.nD → PrngReg), Pre_MemoryRefIdeal m →
    θ_run (Cert.MemoryRefIdeal.defs (F := Ideal)) (onTc (τ := Cert.MemoryRefIdeal.τ) (Cert.MemoryRefIdeal.main (F := Ideal))) ⟨m, fun _ => 0, g⟩ (fun r => (∀ c : Dev Cert.MemoryRefIdeal.nD,
      r.2.mem ((c.tc : Thread Cert.MemoryRefIdeal.nD Cert.MemoryRefIdeal.τ).loc Cert.MemoryRefIdeal.main_arg0) = m ((c.tc : Thread Cert.MemoryRefIdeal.nD Cert.MemoryRefIdeal.τ).loc Cert.MemoryRefIdeal.main_arg0)
      ∧ r.2.mem ((c.tc : Thread Cert.MemoryRefIdeal.nD Cert.MemoryRefIdeal.τ).loc Cert.MemoryRefIdeal.main_arg1) = m ((c.tc : Thread Cert.MemoryRefIdeal.nD Cert.MemoryRefIdeal.τ).loc Cert.MemoryRefIdeal.main_arg1)
      ∧ r.2.mem ((c.tc : Thread Cert.MemoryRefIdeal.nD Cert.MemoryRefIdeal.τ).loc Cert.MemoryRefIdeal.main_arg2) = m ((c.tc : Thread Cert.MemoryRefIdeal.nD Cert.MemoryRefIdeal.τ).loc Cert.MemoryRefIdeal.main_arg2))
      ∧ r.2.sem = fun _ => 0)

def quiescent_Rglru [hRglru : Cert.Rglru.Facts] : Prop :=
  ∀ (m : (ℓ : Loc Cert.Rglru.nD Cert.Rglru.τ Cert.Rglru.sig) → Buf (Elt Bits) ℓ) (g : Dev Cert.Rglru.nD → PrngReg), Pre_Rglru m →
    θ_run (Cert.Rglru.defs (F := Bits)) (onTc (τ := Cert.Rglru.τ) (Cert.Rglru.main (F := Bits))) ⟨m, fun _ => 0, g⟩ (fun r => (∀ c : Dev Cert.Rglru.nD,
      r.2.mem ((c.tc : Thread Cert.Rglru.nD Cert.Rglru.τ).loc Cert.Rglru.main_arg0) = m ((c.tc : Thread Cert.Rglru.nD Cert.Rglru.τ).loc Cert.Rglru.main_arg0)
      ∧ r.2.mem ((c.tc : Thread Cert.Rglru.nD Cert.Rglru.τ).loc Cert.Rglru.main_arg1) = m ((c.tc : Thread Cert.Rglru.nD Cert.Rglru.τ).loc Cert.Rglru.main_arg1)
      ∧ r.2.mem ((c.tc : Thread Cert.Rglru.nD Cert.Rglru.τ).loc Cert.Rglru.main_arg2) = m ((c.tc : Thread Cert.Rglru.nD Cert.Rglru.τ).loc Cert.Rglru.main_arg2)
      ∧ r.2.mem ((c.tc : Thread Cert.Rglru.nD Cert.Rglru.τ).loc Cert.Rglru.main_arg3) = m ((c.tc : Thread Cert.Rglru.nD Cert.Rglru.τ).loc Cert.Rglru.main_arg3)
      ∧ r.2.mem ((c.tc : Thread Cert.Rglru.nD Cert.Rglru.τ).loc Cert.Rglru.main_arg4) = m ((c.tc : Thread Cert.Rglru.nD Cert.Rglru.τ).loc Cert.Rglru.main_arg4)
      ∧ r.2.mem ((c.tc : Thread Cert.Rglru.nD Cert.Rglru.τ).loc Cert.Rglru.main_arg5) = m ((c.tc : Thread Cert.Rglru.nD Cert.Rglru.τ).loc Cert.Rglru.main_arg5)
      ∧ r.2.mem ((c.tc : Thread Cert.Rglru.nD Cert.Rglru.τ).loc Cert.Rglru.main_arg6) = m ((c.tc : Thread Cert.Rglru.nD Cert.Rglru.τ).loc Cert.Rglru.main_arg6)
      ∧ r.2.mem ((c.tc : Thread Cert.Rglru.nD Cert.Rglru.τ).loc Cert.Rglru.main_arg7) = m ((c.tc : Thread Cert.Rglru.nD Cert.Rglru.τ).loc Cert.Rglru.main_arg7))
      ∧ r.2.sem = fun _ => 0)

def quiescent_RglruIdeal [hRglruIdeal : Cert.RglruIdeal.Facts] : Prop :=
  ∀ (m : (ℓ : Loc Cert.RglruIdeal.nD Cert.RglruIdeal.τ Cert.RglruIdeal.sig) → Buf (Elt Ideal) ℓ) (g : Dev Cert.RglruIdeal.nD → PrngReg), Pre_RglruIdeal m →
    θ_run (Cert.RglruIdeal.defs (F := Ideal)) (onTc (τ := Cert.RglruIdeal.τ) (Cert.RglruIdeal.main (F := Ideal))) ⟨m, fun _ => 0, g⟩ (fun r => (∀ c : Dev Cert.RglruIdeal.nD,
      r.2.mem ((c.tc : Thread Cert.RglruIdeal.nD Cert.RglruIdeal.τ).loc Cert.RglruIdeal.main_arg0) = m ((c.tc : Thread Cert.RglruIdeal.nD Cert.RglruIdeal.τ).loc Cert.RglruIdeal.main_arg0)
      ∧ r.2.mem ((c.tc : Thread Cert.RglruIdeal.nD Cert.RglruIdeal.τ).loc Cert.RglruIdeal.main_arg1) = m ((c.tc : Thread Cert.RglruIdeal.nD Cert.RglruIdeal.τ).loc Cert.RglruIdeal.main_arg1)
      ∧ r.2.mem ((c.tc : Thread Cert.RglruIdeal.nD Cert.RglruIdeal.τ).loc Cert.RglruIdeal.main_arg2) = m ((c.tc : Thread Cert.RglruIdeal.nD Cert.RglruIdeal.τ).loc Cert.RglruIdeal.main_arg2)
      ∧ r.2.mem ((c.tc : Thread Cert.RglruIdeal.nD Cert.RglruIdeal.τ).loc Cert.RglruIdeal.main_arg3) = m ((c.tc : Thread Cert.RglruIdeal.nD Cert.RglruIdeal.τ).loc Cert.RglruIdeal.main_arg3)
      ∧ r.2.mem ((c.tc : Thread Cert.RglruIdeal.nD Cert.RglruIdeal.τ).loc Cert.RglruIdeal.main_arg4) = m ((c.tc : Thread Cert.RglruIdeal.nD Cert.RglruIdeal.τ).loc Cert.RglruIdeal.main_arg4)
      ∧ r.2.mem ((c.tc : Thread Cert.RglruIdeal.nD Cert.RglruIdeal.τ).loc Cert.RglruIdeal.main_arg5) = m ((c.tc : Thread Cert.RglruIdeal.nD Cert.RglruIdeal.τ).loc Cert.RglruIdeal.main_arg5)
      ∧ r.2.mem ((c.tc : Thread Cert.RglruIdeal.nD Cert.RglruIdeal.τ).loc Cert.RglruIdeal.main_arg6) = m ((c.tc : Thread Cert.RglruIdeal.nD Cert.RglruIdeal.τ).loc Cert.RglruIdeal.main_arg6)
      ∧ r.2.mem ((c.tc : Thread Cert.RglruIdeal.nD Cert.RglruIdeal.τ).loc Cert.RglruIdeal.main_arg7) = m ((c.tc : Thread Cert.RglruIdeal.nD Cert.RglruIdeal.τ).loc Cert.RglruIdeal.main_arg7))
      ∧ r.2.sem = fun _ => 0)

def quiescent_Sums [hSums : Cert.Sums.Facts] : Prop :=
  ∀ (m : (ℓ : Loc Cert.Sums.nD Cert.Sums.τ Cert.Sums.sig) → Buf (Elt Bits) ℓ) (g : Dev Cert.Sums.nD → PrngReg), Pre_Sums m →
    θ_run (Cert.Sums.defs (F := Bits)) (onTc (τ := Cert.Sums.τ) (Cert.Sums.main (F := Bits))) ⟨m, fun _ => 0, g⟩ (fun r => (∀ c : Dev Cert.Sums.nD,
      r.2.mem ((c.tc : Thread Cert.Sums.nD Cert.Sums.τ).loc Cert.Sums.main_arg0) = m ((c.tc : Thread Cert.Sums.nD Cert.Sums.τ).loc Cert.Sums.main_arg0)
      ∧ r.2.mem ((c.tc : Thread Cert.Sums.nD Cert.Sums.τ).loc Cert.Sums.main_arg1) = m ((c.tc : Thread Cert.Sums.nD Cert.Sums.τ).loc Cert.Sums.main_arg1))
      ∧ r.2.sem = fun _ => 0)

def quiescent_SumsIdeal [hSumsIdeal : Cert.SumsIdeal.Facts] : Prop :=
  ∀ (m : (ℓ : Loc Cert.SumsIdeal.nD Cert.SumsIdeal.τ Cert.SumsIdeal.sig) → Buf (Elt Ideal) ℓ) (g : Dev Cert.SumsIdeal.nD → PrngReg), Pre_SumsIdeal m →
    θ_run (Cert.SumsIdeal.defs (F := Ideal)) (onTc (τ := Cert.SumsIdeal.τ) (Cert.SumsIdeal.main (F := Ideal))) ⟨m, fun _ => 0, g⟩ (fun r => (∀ c : Dev Cert.SumsIdeal.nD,
      r.2.mem ((c.tc : Thread Cert.SumsIdeal.nD Cert.SumsIdeal.τ).loc Cert.SumsIdeal.main_arg0) = m ((c.tc : Thread Cert.SumsIdeal.nD Cert.SumsIdeal.τ).loc Cert.SumsIdeal.main_arg0)
      ∧ r.2.mem ((c.tc : Thread Cert.SumsIdeal.nD Cert.SumsIdeal.τ).loc Cert.SumsIdeal.main_arg1) = m ((c.tc : Thread Cert.SumsIdeal.nD Cert.SumsIdeal.τ).loc Cert.SumsIdeal.main_arg1))
      ∧ r.2.sem = fun _ => 0)

def quiescent_Fox [hFox : Cert.Fox.Facts] : Prop :=
  ∀ (m : (ℓ : Loc Cert.Fox.nD Cert.Fox.τ Cert.Fox.sig) → Buf (Elt Bits) ℓ) (g : Dev Cert.Fox.nD → PrngReg), Pre_Fox m →
    θ_run (Cert.Fox.defs (F := Bits)) (onTc (τ := Cert.Fox.τ) (Cert.Fox.main (F := Bits))) ⟨m, fun _ => 0, g⟩ (fun r => (∀ c : Dev Cert.Fox.nD,
      r.2.mem ((c.tc : Thread Cert.Fox.nD Cert.Fox.τ).loc Cert.Fox.main_arg0) = m ((c.tc : Thread Cert.Fox.nD Cert.Fox.τ).loc Cert.Fox.main_arg0)
      ∧ r.2.mem ((c.tc : Thread Cert.Fox.nD Cert.Fox.τ).loc Cert.Fox.main_arg1) = m ((c.tc : Thread Cert.Fox.nD Cert.Fox.τ).loc Cert.Fox.main_arg1)
      ∧ r.2.mem ((c.tc : Thread Cert.Fox.nD Cert.Fox.τ).loc Cert.Fox.main_arg2) = m ((c.tc : Thread Cert.Fox.nD Cert.Fox.τ).loc Cert.Fox.main_arg2)
      ∧ r.2.mem ((c.tc : Thread Cert.Fox.nD Cert.Fox.τ).loc Cert.Fox.main_arg3) = m ((c.tc : Thread Cert.Fox.nD Cert.Fox.τ).loc Cert.Fox.main_arg3))
      ∧ r.2.sem = fun _ => 0)

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)) →
    ∃ (v0 : (c : Dev Cert.FfnIdeal.nD) → Buf (Elt Ideal) ((c.tc : Thread Cert.FfnIdeal.nD Cert.FfnIdeal.τ).loc Cert.FfnIdeal.main_v8)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v8) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v22) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4))

def preserves_FfnLast_FfnLastIdeal : Prop :=
  True

def algebraic_FfnLastIdeal_FfnLastRefIdeal [hFfnLastIdeal : Cert.FfnLastIdeal.Facts] [hFfnLastRefIdeal : Cert.FfnLastRefIdeal.Facts] : Prop :=
  ∀ (m : (ℓ : Loc Cert.FfnLastIdeal.nD Cert.FfnLastIdeal.τ Cert.FfnLastIdeal.sig) → Buf (Elt Ideal) ℓ) (g : Dev Cert.FfnLastIdeal.nD → PrngReg)
    (m' : (ℓ : Loc Cert.FfnLastRefIdeal.nD Cert.FfnLastRefIdeal.τ Cert.FfnLastRefIdeal.sig) → Buf (Elt Ideal) ℓ) (g' : Dev Cert.FfnLastRefIdeal.nD → PrngReg), Pre_FfnLastIdeal m →
    (∀ c : Dev Cert.FfnLastIdeal.nD,
      m' ((c.tc : Thread Cert.FfnLastRefIdeal.nD Cert.FfnLastRefIdeal.τ).loc Cert.FfnLastRefIdeal.main_arg0) = m ((c.tc : Thread Cert.FfnLastIdeal.nD Cert.FfnLastIdeal.τ).loc Cert.FfnLastIdeal.main_arg0)
      ∧ m' ((c.tc : Thread Cert.FfnLastRefIdeal.nD Cert.FfnLastRefIdeal.τ).loc Cert.FfnLastRefIdeal.main_arg1) = m ((c.tc : Thread Cert.FfnLastIdeal.nD Cert.FfnLastIdeal.τ).loc Cert.FfnLastIdeal.main_arg1)
      ∧ m' ((c.tc : Thread Cert.FfnLastRefIdeal.nD Cert.FfnLastRefIdeal.τ).loc Cert.FfnLastRefIdeal.main_arg2) = m ((c.tc : Thread Cert.FfnLastIdeal.nD Cert.FfnLastIdeal.τ).loc Cert.FfnLastIdeal.main_arg2)
      ∧ m' ((c.tc : Thread Cert.FfnLastRefIdeal.nD Cert.FfnLastRefIdeal.τ).loc Cert.FfnLastRefIdeal.main_arg3) = m ((c.tc : Thread Cert.FfnLastIdeal.nD Cert.FfnLastIdeal.τ).loc Cert.FfnLastIdeal.main_arg3)
      ∧ m' ((c.tc : Thread Cert.FfnLastRefIdeal.nD Cert.FfnLastRefIdeal.τ).loc Cert.FfnLastRefIdeal.main_arg4) = m ((c.tc : Thread Cert.FfnLastIdeal.nD Cert.FfnLastIdeal.τ).loc Cert.FfnLastIdeal.main_arg4)) →
    ∃ (v0 : (c : Dev Cert.FfnLastIdeal.nD) → Buf (Elt Ideal) ((c.tc : Thread Cert.FfnLastIdeal.nD Cert.FfnLastIdeal.τ).loc Cert.FfnLastIdeal.main_v8)),
      θ_run (Cert.FfnLastIdeal.defs (F := Ideal)) (onTc (τ := Cert.FfnLastIdeal.τ) (Cert.FfnLastIdeal.main (F := Ideal))) ⟨m, fun _ => 0, g⟩ (fun r => ∀ c : Dev Cert.FfnLastIdeal.nD,
          r.2.mem ((c.tc : Thread Cert.FfnLastIdeal.nD Cert.FfnLastIdeal.τ).loc Cert.FfnLastIdeal.main_v8) = v0 c
          ∧ r.2.mem ((c.tc : Thread Cert.FfnLastIdeal.nD Cert.FfnLastIdeal.τ).loc Cert.FfnLastIdeal.main_arg0) = m ((c.tc : Thread Cert.FfnLastIdeal.nD Cert.FfnLastIdeal.τ).loc Cert.FfnLastIdeal.main_arg0)
          ∧ r.2.mem ((c.tc : Thread Cert.FfnLastIdeal.nD Cert.FfnLastIdeal.τ).loc Cert.FfnLastIdeal.main_arg1) = m ((c.tc : Thread Cert.FfnLastIdeal.nD Cert.FfnLastIdeal.τ).loc Cert.FfnLastIdeal.main_arg1)
          ∧ r.2.mem ((c.tc : Thread Cert.FfnLastIdeal.nD Cert.FfnLastIdeal.τ).loc Cert.FfnLastIdeal.main_arg2) = m ((c.tc : Thread Cert.FfnLastIdeal.nD Cert.FfnLastIdeal.τ).loc Cert.FfnLastIdeal.main_arg2)
          ∧ r.2.mem ((c.tc : Thread Cert.FfnLastIdeal.nD Cert.FfnLastIdeal.τ).loc Cert.FfnLastIdeal.main_arg3) = m ((c.tc : Thread Cert.FfnLastIdeal.nD Cert.FfnLastIdeal.τ).loc Cert.FfnLastIdeal.main_arg3)
          ∧ r.2.mem ((c.tc : Thread Cert.FfnLastIdeal.nD Cert.FfnLastIdeal.τ).loc Cert.FfnLastIdeal.main_arg4) = m ((c.tc : Thread Cert.FfnLastIdeal.nD Cert.FfnLastIdeal.τ).loc Cert.FfnLastIdeal.main_arg4))
      ∧ θ_run (Cert.FfnLastRefIdeal.defs (F := Ideal)) (onTc (τ := Cert.FfnLastRefIdeal.τ) (Cert.FfnLastRefIdeal.main (F := Ideal))) ⟨m', fun _ => 0, g'⟩ (fun r => ∀ c : Dev Cert.FfnLastRefIdeal.nD,
          r.2.mem ((c.tc : Thread Cert.FfnLastRefIdeal.nD Cert.FfnLastRefIdeal.τ).loc Cert.FfnLastRefIdeal.main_v35) = v0 c
          ∧ r.2.mem ((c.tc : Thread Cert.FfnLastRefIdeal.nD Cert.FfnLastRefIdeal.τ).loc Cert.FfnLastRefIdeal.main_arg0) = m' ((c.tc : Thread Cert.FfnLastRefIdeal.nD Cert.FfnLastRefIdeal.τ).loc Cert.FfnLastRefIdeal.main_arg0)
          ∧ r.2.mem ((c.tc : Thread Cert.FfnLastRefIdeal.nD Cert.FfnLastRefIdeal.τ).loc Cert.FfnLastRefIdeal.main_arg1) = m' ((c.tc : Thread Cert.FfnLastRefIdeal.nD Cert.FfnLastRefIdeal.τ).loc Cert.FfnLastRefIdeal.main_arg1)
          ∧ r.2.mem ((c.tc : Thread Cert.FfnLastRefIdeal.nD Cert.FfnLastRefIdeal.τ).loc Cert.FfnLastRefIdeal.main_arg2) = m' ((c.tc : Thread Cert.FfnLastRefIdeal.nD Cert.FfnLastRefIdeal.τ).loc Cert.FfnLastRefIdeal.main_arg2)
          ∧ r.2.mem ((c.tc : Thread Cert.FfnLastRefIdeal.nD Cert.FfnLastRefIdeal.τ).loc Cert.FfnLastRefIdeal.main_arg3) = m' ((c.tc : Thread Cert.FfnLastRefIdeal.nD Cert.FfnLastRefIdeal.τ).loc Cert.FfnLastRefIdeal.main_arg3)
          ∧ r.2.mem ((c.tc : Thread Cert.FfnLastRefIdeal.nD Cert.FfnLastRefIdeal.τ).loc Cert.FfnLastRefIdeal.main_arg4) = m' ((c.tc : Thread Cert.FfnLastRefIdeal.nD Cert.FfnLastRefIdeal.τ).loc Cert.FfnLastRefIdeal.main_arg4))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)) →
    ∃ (v0 : (c : Dev Cert.ProjIdeal.nD) → Buf (Elt Ideal) ((c.tc : Thread Cert.ProjIdeal.nD Cert.ProjIdeal.τ).loc Cert.ProjIdeal.main_v25_0)) (v1 : (c : Dev Cert.ProjIdeal.nD) → Buf (Elt Ideal) ((c.tc : Thread Cert.ProjIdeal.nD Cert.ProjIdeal.τ).loc Cert.ProjIdeal.main_v25_1)) (v2 : (c : Dev Cert.ProjIdeal.nD) → Buf (Elt Ideal) ((c.tc : Thread Cert.ProjIdeal.nD Cert.ProjIdeal.τ).loc Cert.ProjIdeal.main_v25_2)) (v3 : (c : Dev Cert.ProjIdeal.nD) → Buf (Elt Ideal) ((c.tc : Thread Cert.ProjIdeal.nD Cert.ProjIdeal.τ).loc Cert.ProjIdeal.main_v25_3)) (v4 : (c : Dev Cert.ProjIdeal.nD) → Buf (Elt Ideal) ((c.tc : Thread Cert.ProjIdeal.nD Cert.ProjIdeal.τ).loc Cert.ProjIdeal.main_v25_4)) (v5 : (c : Dev Cert.ProjIdeal.nD) → Buf (Elt Ideal) ((c.tc : Thread Cert.ProjIdeal.nD Cert.ProjIdeal.τ).loc Cert.ProjIdeal.main_v25_5)) (v6 : (c : Dev Cert.ProjIdeal.nD) → Buf (Elt Ideal) ((c.tc : Thread Cert.ProjIdeal.nD Cert.ProjIdeal.τ).loc Cert.ProjIdeal.main_v25_6)) (v7 : (c : Dev Cert.ProjIdeal.nD) → Buf (Elt Ideal) ((c.tc : Thread Cert.ProjIdeal.nD Cert.ProjIdeal.τ).loc Cert.ProjIdeal.main_v25_7)) (v8 : (c : Dev Cert.ProjIdeal.nD) → Buf (Elt Ideal) ((c.tc : Thread Cert.ProjIdeal.nD Cert.ProjIdeal.τ).loc Cert.ProjIdeal.main_v25_8)) (v9 : (c : Dev Cert.ProjIdeal.nD) → Buf (Elt Ideal) ((c.tc : Thread Cert.ProjIdeal.nD Cert.ProjIdeal.τ).loc Cert.ProjIdeal.main_v25_9)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v25_0) = v0 c
          ∧ r.2.mem ((c.tc : Thread Cert.ProjIdeal.nD Cert.ProjIdeal.τ).loc Cert.ProjIdeal.main_v25_1) = v1 c
          ∧ r.2.mem ((c.tc : Thread Cert.ProjIdeal.nD Cert.ProjIdeal.τ).loc Cert.ProjIdeal.main_v25_2) = v2 c
          ∧ r.2.mem ((c.tc : Thread Cert.ProjIdeal.nD Cert.ProjIdeal.τ).loc Cert.ProjIdeal.main_v25_3) = v3 c
          ∧ r.2.mem ((c.tc : Thread Cert.ProjIdeal.nD Cert.ProjIdeal.τ).loc Cert.ProjIdeal.main_v25_4) = v4 c
          ∧ r.2.mem ((c.tc : Thread Cert.ProjIdeal.nD Cert.ProjIdeal.τ).loc Cert.ProjIdeal.main_v25_5) = v5 c
          ∧ r.2.mem ((c.tc : Thread Cert.ProjIdeal.nD Cert.ProjIdeal.τ).loc Cert.ProjIdeal.main_v25_6) = v6 c
          ∧ r.2.mem ((c.tc : Thread Cert.ProjIdeal.nD Cert.ProjIdeal.τ).loc Cert.ProjIdeal.main_v25_7) = v7 c
          ∧ r.2.mem ((c.tc : Thread Cert.ProjIdeal.nD Cert.ProjIdeal.τ).loc Cert.ProjIdeal.main_v25_8) = v8 c
          ∧ r.2.mem ((c.tc : Thread Cert.ProjIdeal.nD Cert.ProjIdeal.τ).loc Cert.ProjIdeal.main_v25_9) = v9 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v45) = v0 c
          ∧ r.2.mem ((c.tc : Thread Cert.ProjRefIdeal.nD Cert.ProjRefIdeal.τ).loc Cert.ProjRefIdeal.main_v46) = v1 c
          ∧ r.2.mem ((c.tc : Thread Cert.ProjRefIdeal.nD Cert.ProjRefIdeal.τ).loc Cert.ProjRefIdeal.main_v47) = v2 c
          ∧ r.2.mem ((c.tc : Thread Cert.ProjRefIdeal.nD Cert.ProjRefIdeal.τ).loc Cert.ProjRefIdeal.main_v48) = v3 c
          ∧ r.2.mem ((c.tc : Thread Cert.ProjRefIdeal.nD Cert.ProjRefIdeal.τ).loc Cert.ProjRefIdeal.main_v49) = v4 c
          ∧ r.2.mem ((c.tc : Thread Cert.ProjRefIdeal.nD Cert.ProjRefIdeal.τ).loc Cert.ProjRefIdeal.main_v50) = v5 c
          ∧ r.2.mem ((c.tc : Thread Cert.ProjRefIdeal.nD Cert.ProjRefIdeal.τ).loc Cert.ProjRefIdeal.main_v51) = v6 c
          ∧ r.2.mem ((c.tc : Thread Cert.ProjRefIdeal.nD Cert.ProjRefIdeal.τ).loc Cert.ProjRefIdeal.main_v52) = v7 c
          ∧ r.2.mem ((c.tc : Thread Cert.ProjRefIdeal.nD Cert.ProjRefIdeal.τ).loc Cert.ProjRefIdeal.main_v53) = v8 c
          ∧ r.2.mem ((c.tc : Thread Cert.ProjRefIdeal.nD Cert.ProjRefIdeal.τ).loc Cert.ProjRefIdeal.main_v44) = v9 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)
      ∧ m' ((c.tc : Thread Cert.MergeRefIdeal.nD Cert.MergeRefIdeal.τ).loc Cert.MergeRefIdeal.main_arg9) = m ((c.tc : Thread Cert.MergeIdeal.nD Cert.MergeIdeal.τ).loc Cert.MergeIdeal.main_arg9)
      ∧ m' ((c.tc : Thread Cert.MergeRefIdeal.nD Cert.MergeRefIdeal.τ).loc Cert.MergeRefIdeal.main_arg10) = m ((c.tc : Thread Cert.MergeIdeal.nD Cert.MergeIdeal.τ).loc Cert.MergeIdeal.main_arg10)) →
    ∃ (v0 : (c : Dev Cert.MergeIdeal.nD) → Buf (Elt Ideal) ((c.tc : Thread Cert.MergeIdeal.nD Cert.MergeIdeal.τ).loc Cert.MergeIdeal.main_v6)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v6) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
          ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v85) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8)
          ∧ r.2.mem ((c.tc : Thread Cert.MergeRefIdeal.nD Cert.MergeRefIdeal.τ).loc Cert.MergeRefIdeal.main_arg9) = m' ((c.tc : Thread Cert.MergeRefIdeal.nD Cert.MergeRefIdeal.τ).loc Cert.MergeRefIdeal.main_arg9)
          ∧ r.2.mem ((c.tc : Thread Cert.MergeRefIdeal.nD Cert.MergeRefIdeal.τ).loc Cert.MergeRefIdeal.main_arg10) = m' ((c.tc : Thread Cert.MergeRefIdeal.nD Cert.MergeRefIdeal.τ).loc Cert.MergeRefIdeal.main_arg10))

def preserves_Memory_MemoryIdeal : Prop :=
  True

def algebraic_MemoryIdeal_MemoryRefIdeal [hMemoryIdeal : Cert.MemoryIdeal.Facts] [hMemoryRefIdeal : Cert.MemoryRefIdeal.Facts] : Prop :=
  ∀ (m : (ℓ : Loc Cert.MemoryIdeal.nD Cert.MemoryIdeal.τ Cert.MemoryIdeal.sig) → Buf (Elt Ideal) ℓ) (g : Dev Cert.MemoryIdeal.nD → PrngReg)
    (m' : (ℓ : Loc Cert.MemoryRefIdeal.nD Cert.MemoryRefIdeal.τ Cert.MemoryRefIdeal.sig) → Buf (Elt Ideal) ℓ) (g' : Dev Cert.MemoryRefIdeal.nD → PrngReg), Pre_MemoryIdeal m →
    (∀ c : Dev Cert.MemoryIdeal.nD,
      m' ((c.tc : Thread Cert.MemoryRefIdeal.nD Cert.MemoryRefIdeal.τ).loc Cert.MemoryRefIdeal.main_arg0) = m ((c.tc : Thread Cert.MemoryIdeal.nD Cert.MemoryIdeal.τ).loc Cert.MemoryIdeal.main_arg0)
      ∧ m' ((c.tc : Thread Cert.MemoryRefIdeal.nD Cert.MemoryRefIdeal.τ).loc Cert.MemoryRefIdeal.main_arg1) = m ((c.tc : Thread Cert.MemoryIdeal.nD Cert.MemoryIdeal.τ).loc Cert.MemoryIdeal.main_arg1)
      ∧ m' ((c.tc : Thread Cert.MemoryRefIdeal.nD Cert.MemoryRefIdeal.τ).loc Cert.MemoryRefIdeal.main_arg2) = m ((c.tc : Thread Cert.MemoryIdeal.nD Cert.MemoryIdeal.τ).loc Cert.MemoryIdeal.main_arg2)) →
    ∃ (v0 : (c : Dev Cert.MemoryIdeal.nD) → Buf (Elt Ideal) ((c.tc : Thread Cert.MemoryIdeal.nD Cert.MemoryIdeal.τ).loc Cert.MemoryIdeal.main_v3)),
      θ_run (Cert.MemoryIdeal.defs (F := Ideal)) (onTc (τ := Cert.MemoryIdeal.τ) (Cert.MemoryIdeal.main (F := Ideal))) ⟨m, fun _ => 0, g⟩ (fun r => ∀ c : Dev Cert.MemoryIdeal.nD,
          r.2.mem ((c.tc : Thread Cert.MemoryIdeal.nD Cert.MemoryIdeal.τ).loc Cert.MemoryIdeal.main_v3) = v0 c
          ∧ r.2.mem ((c.tc : Thread Cert.MemoryIdeal.nD Cert.MemoryIdeal.τ).loc Cert.MemoryIdeal.main_arg0) = m ((c.tc : Thread Cert.MemoryIdeal.nD Cert.MemoryIdeal.τ).loc Cert.MemoryIdeal.main_arg0)
          ∧ r.2.mem ((c.tc : Thread Cert.MemoryIdeal.nD Cert.MemoryIdeal.τ).loc Cert.MemoryIdeal.main_arg1) = m ((c.tc : Thread Cert.MemoryIdeal.nD Cert.MemoryIdeal.τ).loc Cert.MemoryIdeal.main_arg1)
          ∧ r.2.mem ((c.tc : Thread Cert.MemoryIdeal.nD Cert.MemoryIdeal.τ).loc Cert.MemoryIdeal.main_arg2) = m ((c.tc : Thread Cert.MemoryIdeal.nD Cert.MemoryIdeal.τ).loc Cert.MemoryIdeal.main_arg2))
      ∧ θ_run (Cert.MemoryRefIdeal.defs (F := Ideal)) (onTc (τ := Cert.MemoryRefIdeal.τ) (Cert.MemoryRefIdeal.main (F := Ideal))) ⟨m', fun _ => 0, g'⟩ (fun r => ∀ c : Dev Cert.MemoryRefIdeal.nD,
          r.2.mem ((c.tc : Thread Cert.MemoryRefIdeal.nD Cert.MemoryRefIdeal.τ).loc Cert.MemoryRefIdeal.main_v15) = v0 c
          ∧ r.2.mem ((c.tc : Thread Cert.MemoryRefIdeal.nD Cert.MemoryRefIdeal.τ).loc Cert.MemoryRefIdeal.main_arg0) = m' ((c.tc : Thread Cert.MemoryRefIdeal.nD Cert.MemoryRefIdeal.τ).loc Cert.MemoryRefIdeal.main_arg0)
          ∧ r.2.mem ((c.tc : Thread Cert.MemoryRefIdeal.nD Cert.MemoryRefIdeal.τ).loc Cert.MemoryRefIdeal.main_arg1) = m' ((c.tc : Thread Cert.MemoryRefIdeal.nD Cert.MemoryRefIdeal.τ).loc Cert.MemoryRefIdeal.main_arg1)
          ∧ r.2.mem ((c.tc : Thread Cert.MemoryRefIdeal.nD Cert.MemoryRefIdeal.τ).loc Cert.MemoryRefIdeal.main_arg2) = m' ((c.tc : Thread Cert.MemoryRefIdeal.nD Cert.MemoryRefIdeal.τ).loc Cert.MemoryRefIdeal.main_arg2))

def preserves_Rglru_RglruIdeal : Prop :=
  True

def preserves_Sums_SumsIdeal : Prop :=
  True

def Claim : Prop :=
  ∃ (hDsa : Cert.Dsa.Facts) (hFfn : Cert.Ffn.Facts) (hFfnIdeal : Cert.FfnIdeal.Facts) (hFfnRefIdeal : Cert.FfnRefIdeal.Facts) (hFfnLast : Cert.FfnLast.Facts) (hFfnLastIdeal : Cert.FfnLastIdeal.Facts) (hFfnLastRefIdeal : Cert.FfnLastRefIdeal.Facts) (hProj : Cert.Proj.Facts) (hProjIdeal : Cert.ProjIdeal.Facts) (hProjRefIdeal : Cert.ProjRefIdeal.Facts) (hMerge : Cert.Merge.Facts) (hMergeIdeal : Cert.MergeIdeal.Facts) (hMergeRefIdeal : Cert.MergeRefIdeal.Facts) (hMemory : Cert.Memory.Facts) (hMemoryIdeal : Cert.MemoryIdeal.Facts) (hMemoryRefIdeal : Cert.MemoryRefIdeal.Facts) (hRglru : Cert.Rglru.Facts) (hRglruIdeal : Cert.RglruIdeal.Facts) (hSums : Cert.Sums.Facts) (hSumsIdeal : Cert.SumsIdeal.Facts) (hFox : Cert.Fox.Facts),
    quiescent_Dsa (hDsa := hDsa)
    ∧ quiescent_Ffn (hFfn := hFfn)
    ∧ quiescent_FfnIdeal (hFfnIdeal := hFfnIdeal)
    ∧ quiescent_FfnRefIdeal (hFfnRefIdeal := hFfnRefIdeal)
    ∧ quiescent_FfnLast (hFfnLast := hFfnLast)
    ∧ quiescent_FfnLastIdeal (hFfnLastIdeal := hFfnLastIdeal)
    ∧ quiescent_FfnLastRefIdeal (hFfnLastRefIdeal := hFfnLastRefIdeal)
    ∧ quiescent_Proj (hProj := hProj)
    ∧ quiescent_ProjIdeal (hProjIdeal := hProjIdeal)
    ∧ quiescent_ProjRefIdeal (hProjRefIdeal := hProjRefIdeal)
    ∧ quiescent_Merge (hMerge := hMerge)
    ∧ quiescent_MergeIdeal (hMergeIdeal := hMergeIdeal)
    ∧ quiescent_MergeRefIdeal (hMergeRefIdeal := hMergeRefIdeal)
    ∧ quiescent_Memory (hMemory := hMemory)
    ∧ quiescent_MemoryIdeal (hMemoryIdeal := hMemoryIdeal)
    ∧ quiescent_MemoryRefIdeal (hMemoryRefIdeal := hMemoryRefIdeal)
    ∧ quiescent_Rglru (hRglru := hRglru)
    ∧ quiescent_RglruIdeal (hRglruIdeal := hRglruIdeal)
    ∧ quiescent_Sums (hSums := hSums)
    ∧ quiescent_SumsIdeal (hSumsIdeal := hSumsIdeal)
    ∧ quiescent_Fox (hFox := hFox)
    ∧ preserves_Ffn_FfnIdeal
    ∧ algebraic_FfnIdeal_FfnRefIdeal (hFfnIdeal := hFfnIdeal) (hFfnRefIdeal := hFfnRefIdeal)
    ∧ preserves_FfnLast_FfnLastIdeal
    ∧ algebraic_FfnLastIdeal_FfnLastRefIdeal (hFfnLastIdeal := hFfnLastIdeal) (hFfnLastRefIdeal := hFfnLastRefIdeal)
    ∧ preserves_Proj_ProjIdeal
    ∧ algebraic_ProjIdeal_ProjRefIdeal (hProjIdeal := hProjIdeal) (hProjRefIdeal := hProjRefIdeal)
    ∧ preserves_Merge_MergeIdeal
    ∧ algebraic_MergeIdeal_MergeRefIdeal (hMergeIdeal := hMergeIdeal) (hMergeRefIdeal := hMergeRefIdeal)
    ∧ preserves_Memory_MemoryIdeal
    ∧ algebraic_MemoryIdeal_MemoryRefIdeal (hMemoryIdeal := hMemoryIdeal) (hMemoryRefIdeal := hMemoryRefIdeal)
    ∧ preserves_Rglru_RglruIdeal
    ∧ preserves_Sums_SumsIdeal
-- ==== Dsa.lean ====
abbrev S65536x512 : Shape := ⟨2, ![65536, 512]⟩
abbrev S65536x128 : Shape := ⟨2, ![65536, 128]⟩
abbrev S128 : Shape := ⟨1, ![128]⟩
abbrev S8x64x128 : Shape := ⟨3, ![8, 64, 128]⟩
abbrev S8x128x64 : Shape := ⟨3, ![8, 128, 64]⟩
abbrev S32x8 : Shape := ⟨2, ![32, 8]⟩
abbrev S256x384x32 : Shape := ⟨3, ![256, 384, 32]⟩
abbrev S1x128 : Shape := ⟨2, ![1, 128]⟩
abbrev S8x8 : Shape := ⟨2, ![8, 8]⟩
abbrev S_ : Shape := ⟨0, ![]⟩
abbrev S8x1x8x1 : Shape := ⟨4, ![8, 1, 8, 1]⟩
abbrev S8x64x1x128 : Shape := ⟨4, ![8, 64, 1, 128]⟩
abbrev S8x64x8x128 : Shape := ⟨4, ![8, 64, 8, 128]⟩
abbrev S512x1024 : Shape := ⟨2, ![512, 1024]⟩
abbrev S1024x512 : Shape := ⟨2, ![1024, 512]⟩
abbrev S8x128x1x64 : Shape := ⟨4, ![8, 128, 1, 64]⟩
abbrev S8x128x8x64 : Shape := ⟨4, ![8, 128, 8, 64]⟩
abbrev S1x8 : Shape := ⟨2, ![1, 8]⟩
abbrev S8 : Shape := ⟨1, ![8]⟩
abbrev S8x256x384 : Shape := ⟨3, ![8, 256, 384]⟩
abbrev S8x384x256 : Shape := ⟨3, ![8, 384, 256]⟩
abbrev S2x8 : Shape := ⟨2, ![2, 8]⟩
abbrev S2x8x1x1 : Shape := ⟨4, ![2, 8, 1, 1]⟩
abbrev S2x8x1x128 : Shape := ⟨4, ![2, 8, 1, 128]⟩
abbrev S512x512 : Shape := ⟨2, ![512, 512]⟩
abbrev S512x128 : Shape := ⟨2, ![512, 128]⟩
abbrev S4096x128 : Shape := ⟨2, ![4096, 128]⟩
abbrev S4352x256 : Shape := ⟨2, ![4352, 256]⟩
abbrev S4352x128 : Shape := ⟨2, ![4352, 128]⟩
abbrev S2x8x512x256 : Shape := ⟨4, ![2, 8, 512, 256]⟩
abbrev S2x1x256 : Shape := ⟨3, ![2, 1, 256]⟩
abbrev S2048x128 : Shape := ⟨2, ![2048, 128]⟩
abbrev S4x1x512 : Shape := ⟨3, ![4, 1, 512]⟩
abbrev S4x128x512 : Shape := ⟨3, ![4, 128, 512]⟩
abbrev S256x256 : Shape := ⟨2, ![256, 256]⟩
abbrev S256x128 : Shape := ⟨2, ![256, 128]⟩
abbrev S4096 : Shape := ⟨1, ![4096]⟩
abbrev S4096x1 : Shape := ⟨2, ![4096, 1]⟩
abbrev S1 : Shape := ⟨1, ![1]⟩
abbrev S1x1 : Shape := ⟨2, ![1, 1]⟩
abbrev S512x256 : Shape := ⟨2, ![512, 256]⟩
abbrev S128x256 : Shape := ⟨2, ![128, 256]⟩
abbrev S8x256 : Shape := ⟨2, ![8, 256]⟩
abbrev S1x256 : Shape := ⟨2, ![1, 256]⟩
abbrev S1x1x512x256 : Shape := ⟨4, ![1, 1, 512, 256]⟩
abbrev S16x256 : Shape := ⟨2, ![16, 256]⟩
abbrev S1x1x16x256 : Shape := ⟨4, ![1, 1, 16, 256]⟩
abbrev S256 : Shape := ⟨1, ![256]⟩
abbrev S1x1x256 : Shape := ⟨3, ![1, 1, 256]⟩
abbrev S64x8x256 : Shape := ⟨3, ![64, 8, 256]⟩
abbrev S1x1x1 : Shape := ⟨3, ![1, 1, 1]⟩
abbrev S256x512 : Shape := ⟨2, ![256, 512]⟩
abbrev S1024x256 : Shape := ⟨2, ![1024, 256]⟩
abbrev S1x1x1x128 : Shape := ⟨4, ![1, 1, 1, 128]⟩
abbrev S384x256 : Shape := ⟨2, ![384, 256]⟩
abbrev S1x384x256 : Shape := ⟨3, ![1, 384, 256]⟩
abbrev S1x1x512 : Shape := ⟨3, ![1, 1, 512]⟩
abbrev S1x512 : Shape := ⟨2, ![1, 512]⟩
abbrev S512 : Shape := ⟨1, ![512]⟩
abbrev S1x128x512 : Shape := ⟨3, ![1, 128, 512]⟩
abbrev S128x512 : Shape := ⟨2, ![128, 512]⟩

abbrev nBuf : Space → Nat
  | .hbm => 67
  | .vmem => 29
  | .smem => 0
  | _ => 0

abbrev bufTy : (tb : Table) → Fin (tcTables nBuf tb) → BufTy
  | .hbm, ⟨0, _⟩ => ⟨S65536x512, .bf16⟩
  | .hbm, ⟨1, _⟩ => ⟨S65536x512, .bf16⟩
  | .hbm, ⟨2, _⟩ => ⟨S65536x128, .f32⟩
  | .hbm, ⟨3, _⟩ => ⟨S65536x128, .bf16⟩
  | .hbm, ⟨4, _⟩ => ⟨S65536x128, .bf16⟩
  | .hbm, ⟨5, _⟩ => ⟨S128, .f32⟩
  | .hbm, ⟨6, _⟩ => ⟨S8x64x128, .f32⟩
  | .hbm, ⟨7, _⟩ => ⟨S8x128x64, .f32⟩
  | .hbm, ⟨8, _⟩ => ⟨S32x8, .f32⟩
  | .hbm, ⟨9, _⟩ => ⟨S256x384x32, .f32⟩
  | .hbm, ⟨10, _⟩ => ⟨S1x128, .f32⟩
  | .hbm, ⟨11, _⟩ => ⟨S8x8, .i32⟩
  | .hbm, ⟨12, _⟩ => ⟨S8x8, .i32⟩
  | .hbm, ⟨13, _⟩ => ⟨S_, .i32⟩
  | .hbm, ⟨14, _⟩ => ⟨S8x8, .i32⟩
  | .hbm, ⟨15, _⟩ => ⟨S8x8, .i32⟩
  | .hbm, ⟨16, _⟩ => ⟨S8x8, .i1⟩
  | .hbm, ⟨17, _⟩ => ⟨S8x8, .f32⟩
  | .hbm, ⟨18, _⟩ => ⟨S8x1x8x1, .f32⟩
  | .hbm, ⟨19, _⟩ => ⟨S8x64x1x128, .f32⟩
  | .hbm, ⟨20, _⟩ => ⟨S8x64x8x128, .f32⟩
  | .hbm, ⟨21, _⟩ => ⟨S8x64x8x128, .f32⟩
  | .hbm, ⟨22, _⟩ => ⟨S8x64x8x128, .f32⟩
  | .hbm, ⟨23, _⟩ => ⟨S512x1024, .f32⟩
  | .hbm, ⟨24, _⟩ => ⟨S1024x512, .f32⟩
  | .hbm, ⟨25, _⟩ => ⟨S1024x512, .bf16⟩
  | .hbm, ⟨26, _⟩ => ⟨S8x8, .i32⟩
  | .hbm, ⟨27, _⟩ => ⟨S8x8, .i32⟩
  | .hbm, ⟨28, _⟩ => ⟨S_, .i32⟩
  | .hbm, ⟨29, _⟩ => ⟨S8x8, .i32⟩
  | .hbm, ⟨30, _⟩ => ⟨S8x8, .i32⟩
  | .hbm, ⟨31, _⟩ => ⟨S8x8, .i1⟩
  | .hbm, ⟨32, _⟩ => ⟨S8x8, .f32⟩
  | .hbm, ⟨33, _⟩ => ⟨S8x1x8x1, .f32⟩
  | .hbm, ⟨34, _⟩ => ⟨S8x128x1x64, .f32⟩
  | .hbm, ⟨35, _⟩ => ⟨S8x128x8x64, .f32⟩
  | .hbm, ⟨36, _⟩ => ⟨S8x128x8x64, .f32⟩
  | .hbm, ⟨37, _⟩ => ⟨S8x128x8x64, .f32⟩
  | .hbm, ⟨38, _⟩ => ⟨S1024x512, .f32⟩
  | .hbm, ⟨39, _⟩ => ⟨S512x1024, .f32⟩
  | .hbm, ⟨40, _⟩ => ⟨S512x1024, .bf16⟩
  | .hbm, ⟨41, _⟩ => ⟨S1x8, .f32⟩
  | .hbm, ⟨42, _⟩ => ⟨S8, .f32⟩
  | .hbm, ⟨43, _⟩ => ⟨S1x8, .f32⟩
  | .hbm, ⟨44, _⟩ => ⟨S32x8, .f32⟩
  | .hbm, ⟨45, _⟩ => ⟨S32x8, .f32⟩
  | .hbm, ⟨46, _⟩ => ⟨S_, .f32⟩
  | .hbm, ⟨47, _⟩ => ⟨S32x8, .f32⟩
  | .hbm, ⟨48, _⟩ => ⟨S32x8, .f32⟩
  | .hbm, ⟨49, _⟩ => ⟨S8x256x384, .f32⟩
  | .hbm, ⟨50, _⟩ => ⟨S8x384x256, .f32⟩
  | .hbm, ⟨51, _⟩ => ⟨S_, .f32⟩
  | .hbm, ⟨52, _⟩ => ⟨S8, .f32⟩
  | .hbm, ⟨53, _⟩ => ⟨S_, .f32⟩
  | .hbm, ⟨54, _⟩ => ⟨S8, .f32⟩
  | .hbm, ⟨55, _⟩ => ⟨S8, .f32⟩
  | .hbm, ⟨56, _⟩ => ⟨S_, .f32⟩
  | .hbm, ⟨57, _⟩ => ⟨S8, .f32⟩
  | .hbm, ⟨58, _⟩ => ⟨S_, .f32⟩
  | .hbm, ⟨59, _⟩ => ⟨S8, .f32⟩
  | .hbm, ⟨60, _⟩ => ⟨S8, .f32⟩
  | .hbm, ⟨61, _⟩ => ⟨S1x8, .f32⟩
  | .hbm, ⟨62, _⟩ => ⟨S1x8, .f32⟩
  | .hbm, ⟨63, _⟩ => ⟨S2x8, .f32⟩
  | .hbm, ⟨64, _⟩ => ⟨S2x8x1x1, .f32⟩
  | .hbm, ⟨65, _⟩ => ⟨S2x8x1x128, .f32⟩
  | .hbm, ⟨66, _⟩ => ⟨S65536x512, .bf16⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x128, .f32⟩
  | .local _ .vmem, ⟨5, _⟩ => ⟨S512x128, .f32⟩
  | .local _ .vmem, ⟨6, _⟩ => ⟨S4096x128, .bf16⟩
  | .local _ .vmem, ⟨7, _⟩ => ⟨S4096x128, .bf16⟩
  | .local _ .vmem, ⟨8, _⟩ => ⟨S4096x128, .bf16⟩
  | .local _ .vmem, ⟨9, _⟩ => ⟨S4096x128, .bf16⟩
  | .local _ .vmem, ⟨10, _⟩ => ⟨S1x128, .f32⟩
  | .local _ .vmem, ⟨11, _⟩ => ⟨S1024x512, .bf16⟩
  | .local _ .vmem, ⟨12, _⟩ => ⟨S512x1024, .bf16⟩
  | .local _ .vmem, ⟨13, _⟩ => ⟨S8x384x256, .f32⟩
  | .local _ .vmem, ⟨14, _⟩ => ⟨S2x8x1x128, .f32⟩
  | .local _ .vmem, ⟨15, _⟩ => ⟨S512x512, .bf16⟩
  | .local _ .vmem, ⟨16, _⟩ => ⟨S512x512, .bf16⟩
  | .local _ .vmem, ⟨17, _⟩ => ⟨S4352x256, .bf16⟩
  | .local _ .vmem, ⟨18, _⟩ => ⟨S4352x128, .bf16⟩
  | .local _ .vmem, ⟨19, _⟩ => ⟨S2x8x512x256, .i32⟩
  | .local _ .vmem, ⟨20, _⟩ => ⟨S2x8x512x256, .i16⟩
  | .local _ .vmem, ⟨21, _⟩ => ⟨S2x1x256, .i32⟩
  | .local _ .vmem, ⟨22, _⟩ => ⟨S2048x128, .bf16⟩
  | .local _ .vmem, ⟨23, _⟩ => ⟨S512x512, .f32⟩
  | .local _ .vmem, ⟨24, _⟩ => ⟨S512x512, .f32⟩
  | .local _ .vmem, ⟨25, _⟩ => ⟨S1x128, .f32⟩
  | .local _ .vmem, ⟨26, _⟩ => ⟨S4x1x512, .f32⟩
  | .local _ .vmem, ⟨27, _⟩ => ⟨S4x1x512, .f32⟩
  | .local _ .vmem, ⟨28, _⟩ => ⟨S4x128x512, .f32⟩
  | _, _ => ⟨S65536x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_c : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_c_0 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_1 : Ref sig .tc := ⟨.hbm, 51, rfl⟩
abbrev main_v38 : Ref sig .tc := ⟨.hbm, 52, rfl⟩
abbrev main_cst_2 : Ref sig .tc := ⟨.hbm, 53, rfl⟩
abbrev main_v39 : Ref sig .tc := ⟨.hbm, 54, rfl⟩
abbrev main_v40 : Ref sig .tc := ⟨.hbm, 55, rfl⟩
abbrev main_cst_3 : Ref sig .tc := ⟨.hbm, 56, rfl⟩
abbrev main_v41 : Ref sig .tc := ⟨.hbm, 57, rfl⟩
abbrev main_cst_4 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_scratch3 : Ref sig .tc := ⟨.vmem, 20, rfl⟩
abbrev cc0_scratch4 : Ref sig .tc := ⟨.vmem, 21, rfl⟩
abbrev cc0_scratch5 : Ref sig .tc := ⟨.vmem, 22, rfl⟩
abbrev cc0_scratch6 : Ref sig .tc := ⟨.vmem, 23, rfl⟩
abbrev cc0_scratch7 : Ref sig .tc := ⟨.vmem, 24, rfl⟩
abbrev cc0_scratch8 : Ref sig .tc := ⟨.vmem, 25, rfl⟩
abbrev cc0_scratch9 : Ref sig .tc := ⟨.vmem, 26, rfl⟩
abbrev cc0_scratch10 : Ref sig .tc := ⟨.vmem, 27, rfl⟩
abbrev cc0_scratch11 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16

abbrev nD : Nat := 1
abbrev τ : Topo := Topo.v7x

variable {F : FTy → Type} [BitOps F]

abbrev grid0 : Pipeline.Grid := ⟨2, ![16, 8], ![false, false]⟩

@[reducible] def k0_t1_loop : Scf.Loop 32 :=
  let c0_i32_1 : BitVec 32 := 0#32
  let c2_i32 : BitVec 32 := 2#32
  let v6 : BitVec 32 := Scalar.addi c0_i32_1 c2_i32
  let c1_i32_2 : BitVec 32 := 1#32
  ⟨c0_i32_1, v6, c1_i32_2⟩
def k0_mult1 (k0_t1 : Fin k0_t1_loop.trips) : BitVec 32 :=
  let c0_i32_1 : BitVec 32 := 0#32
  let c1_i32_2 : BitVec 32 := 1#32
  let arg25 : BitVec 32 := Scf.iv c0_i32_1 c1_i32_2 k0_t1
  let c256_i32_36 : BitVec 32 := 256#32
  let v64 : BitVec 32 := Scalar.muli arg25 c256_i32_36
  v64
def k0_off1 (k0_t1 : Fin k0_t1_loop.trips) : Fin 2 → Nat :=
  let c0_i32_1 : BitVec 32 := 0#32
  let c1_i32_2 : BitVec 32 := 1#32
  let arg25 : BitVec 32 := Scf.iv c0_i32_1 c1_i32_2 k0_t1
  let c256_i32_36 : BitVec 32 := 256#32
  let v64 : BitVec 32 := Scalar.muli arg25 c256_i32_36
  let v65 : BitVec 32 := v64
  let v66 : Index := Scalar.indexCast v65
  let c0_37 : Index := 0#32
  ![v66.toNat, 0]
def k0_mult2 (k0_t1 : Fin k0_t1_loop.trips) : BitVec 32 :=
  let c0_i32_1 : BitVec 32 := 0#32
  let c1_i32_2 : BitVec 32 := 1#32
  let arg25 : BitVec 32 := Scf.iv c0_i32_1 c1_i32_2 k0_t1
  let c256_i32_41 : BitVec 32 := 256#32
  let v80 : BitVec 32 := Scalar.muli arg25 c256_i32_41
  v80
def k0_mult3 (k0_t1 : Fin k0_t1_loop.trips) : BitVec 32 :=
  let c0_i32_1 : BitVec 32 := 0#32
  let c1_i32_2 : BitVec 32 := 1#32
  let arg25 : BitVec 32 := Scf.iv c0_i32_1 c1_i32_2 k0_t1
  let c256_i32_46 : BitVec 32 := 256#32
  let v96 : BitVec 32 := Scalar.muli arg25 c256_i32_46
  v96
def k0_off2 (k0_t1 : Fin k0_t1_loop.trips) : Fin 2 → Nat :=
  let c0_i32_1 : BitVec 32 := 0#32
  let c1_i32_2 : BitVec 32 := 1#32
  let arg25 : BitVec 32 := Scf.iv c0_i32_1 c1_i32_2 k0_t1
  let c256_i32_46 : BitVec 32 := 256#32
  let v96 : BitVec 32 := Scalar.muli arg25 c256_i32_46
  let v97 : BitVec 32 := v96
  let v98 : Index := Scalar.indexCast v97
  let c128 : Index := 128#32
  ![v98.toNat, 128]
def k0_mult4 (k0_t1 : Fin k0_t1_loop.trips) : BitVec 32 :=
  let c0_i32_1 : BitVec 32 := 0#32
  let c1_i32_2 : BitVec 32 := 1#32
  let arg25 : BitVec 32 := Scf.iv c0_i32_1 c1_i32_2 k0_t1
  let c256_i32_51 : BitVec 32 := 256#32
  let v112 : BitVec 32 := Scalar.muli arg25 c256_i32_51
  v112
def k0_mult5 (k0_t1 : Fin k0_t1_loop.trips) : BitVec 32 :=
  let c0_i32_1 : BitVec 32 := 0#32
  let c1_i32_2 : BitVec 32 := 1#32
  let arg25 : BitVec 32 := Scf.iv c0_i32_1 c1_i32_2 k0_t1
  let c256_i32_57 : BitVec 32 := 256#32
  let v128 : BitVec 32 := Scalar.muli arg25 c256_i32_57
  v128
def k0_off3 (k0_t1 : Fin k0_t1_loop.trips) : Fin 2 → Nat :=
  let c0_i32_1 : BitVec 32 := 0#32
  let c1_i32_2 : BitVec 32 := 1#32
  let arg25 : BitVec 32 := Scf.iv c0_i32_1 c1_i32_2 k0_t1
  let c256_i32_57 : BitVec 32 := 256#32
  let v128 : BitVec 32 := Scalar.muli arg25 c256_i32_57
  let v129 : BitVec 32 := v128
  let v130 : Index := Scalar.indexCast v129
  let c256_58 : Index := 256#32
  ![v130.toNat, 256]
def k0_mult6 (k0_t1 : Fin k0_t1_loop.trips) : BitVec 32 :=
  let c0_i32_1 : BitVec 32 := 0#32
  let c1_i32_2 : BitVec 32 := 1#32
  let arg25 : BitVec 32 := Scf.iv c0_i32_1 c1_i32_2 k0_t1
  let c256_i32_63 : BitVec 32 := 256#32
  let v144 : BitVec 32 := Scalar.muli arg25 c256_i32_63
  v144
def k0_mult7 (k0_t1 : Fin k0_t1_loop.trips) : BitVec 32 :=
  let c0_i32_1 : BitVec 32 := 0#32
  let c1_i32_2 : BitVec 32 := 1#32
  let arg25 : BitVec 32 := Scf.iv c0_i32_1 c1_i32_2 k0_t1
  let c256_i32_69 : BitVec 32 := 256#32
  let v160 : BitVec 32 := Scalar.muli arg25 c256_i32_69
  v160
def k0_off4 (k0_t1 : Fin k0_t1_loop.trips) : Fin 2 → Nat :=
  let c0_i32_1 : BitVec 32 := 0#32
  let c1_i32_2 : BitVec 32 := 1#32
  let arg25 : BitVec 32 := Scf.iv c0_i32_1 c1_i32_2 k0_t1
  let c256_i32_69 : BitVec 32 := 256#32
  let v160 : BitVec 32 := Scalar.muli arg25 c256_i32_69
  let v161 : BitVec 32 := v160
  let v162 : Index := Scalar.indexCast v161
  let c384 : Index := 384#32
  ![v162.toNat, 384]
def k0_mult8 (k0_t1 : Fin k0_t1_loop.trips) : BitVec 32 :=
  let c0_i32_1 : BitVec 32 := 0#32
  let c1_i32_2 : BitVec 32 := 1#32
  let arg25 : BitVec 32 := Scf.iv c0_i32_1 c1_i32_2 k0_t1
  let c256_i32_74 : BitVec 32 := 256#32
  let v176 : BitVec 32 := Scalar.muli arg25 c256_i32_74
  v176
def k0_mult9 (k0_t1 : Fin k0_t1_loop.trips) : BitVec 32 :=
  let c0_i32_1 : BitVec 32 := 0#32
  let c1_i32_2 : BitVec 32 := 1#32
  let arg25 : BitVec 32 := Scf.iv c0_i32_1 c1_i32_2 k0_t1
  let c256_i32_80 : BitVec 32 := 256#32
  let v192 : BitVec 32 := Scalar.muli arg25 c256_i32_80
  v192
def k0_off5 (k0_t1 : Fin k0_t1_loop.trips) : Fin 2 → Nat :=
  let c0_i32_1 : BitVec 32 := 0#32
  let c1_i32_2 : BitVec 32 := 1#32
  let arg25 : BitVec 32 := Scf.iv c0_i32_1 c1_i32_2 k0_t1
  let c256_i32_80 : BitVec 32 := 256#32
  let v192 : BitVec 32 := Scalar.muli arg25 c256_i32_80
  let v193 : BitVec 32 := v192
  let v194 : Index := Scalar.indexCast v193
  let c0_81 : Index := 0#32
  ![v194.toNat, 0]
def k0_mult10 (i : grid0.Coords) (k0_t1 : Fin k0_t1_loop.trips) : BitVec 32 :=
  let c2_i32_85 : BitVec 32 := 2#32
  let arg1 : BitVec 32 := BitVec.ofNat 32 (i 1).val
  let v208 : BitVec 32 := Scalar.muli c2_i32_85 arg1
  let c0_i32_1 : BitVec 32 := 0#32
  let c1_i32_2 : BitVec 32 := 1#32
  let arg25 : BitVec 32 := Scf.iv c0_i32_1 c1_i32_2 k0_t1
  let v209 : BitVec 32 := Scalar.addi v208 arg25
  let c1_i32_86 : BitVec 32 := 1#32
  let v210 : BitVec 32 := Scalar.addi v209 c1_i32_86
  let c256_i32_87 : BitVec 32 := 256#32
  let v211 : BitVec 32 := Scalar.muli v210 c256_i32_87
  let c512_i32 : BitVec 32 := 512#32
  let v212 : BitVec 32 := Scalar.subi v211 c512_i32
  let c256_i32_88 : BitVec 32 := 256#32
  let v213 : BitVec 32 := Scalar.addi v212 c256_i32_88
  v213
def k0_off6 (i : grid0.Coords) (k0_t1 : Fin k0_t1_loop.trips) : Fin 2 → Nat :=
  let c2_i32_85 : BitVec 32 := 2#32
  let arg1 : BitVec 32 := BitVec.ofNat 32 (i 1).val
  let v208 : BitVec 32 := Scalar.muli c2_i32_85 arg1
  let c0_i32_1 : BitVec 32 := 0#32
  let c1_i32_2 : BitVec 32 := 1#32
  let arg25 : BitVec 32 := Scf.iv c0_i32_1 c1_i32_2 k0_t1
  let v209 : BitVec 32 := Scalar.addi v208 arg25
  let c1_i32_86 : BitVec 32 := 1#32
  let v210 : BitVec 32 := Scalar.addi v209 c1_i32_86
  let c256_i32_87 : BitVec 32 := 256#32
  let v211 : BitVec 32 := Scalar.muli v210 c256_i32_87
  let c512_i32 : BitVec 32 := 512#32
  let v212 : BitVec 32 := Scalar.subi v211 c512_i32
  let c256_i32_88 : BitVec 32 := 256#32
  let v213 : BitVec 32 := Scalar.addi v212 c256_i32_88
  let v214 : BitVec 32 := v213
  let v215 : Index := Scalar.indexCast v214
  let c0_89 : Index := 0#32
  ![v215.toNat, 0]
def k0_mult11 (i : grid0.Coords) (k0_t1 : Fin k0_t1_loop.trips) : BitVec 32 :=
  let c2_i32_98 : BitVec 32 := 2#32
  let arg1 : BitVec 32 := BitVec.ofNat 32 (i 1).val
  let v224 : BitVec 32 := Scalar.muli c2_i32_98 arg1
  let c0_i32_1 : BitVec 32 := 0#32
  let c1_i32_2 : BitVec 32 := 1#32
  let arg25 : BitVec 32 := Scf.iv c0_i32_1 c1_i32_2 k0_t1
  let v225 : BitVec 32 := Scalar.addi v224 arg25
  let c1_i32_99 : BitVec 32 := 1#32
  let v226 : BitVec 32 := Scalar.addi v225 c1_i32_99
  let c256_i32_100 : BitVec 32 := 256#32
  let v227 : BitVec 32 := Scalar.muli v226 c256_i32_100
  let c512_i32_101 : BitVec 32 := 512#32
  let v228 : BitVec 32 := Scalar.subi v227 c512_i32_101
  let c256_i32_102 : BitVec 32 := 256#32
  let v229 : BitVec 32 := Scalar.addi v228 c256_i32_102
  v229
def k0_mult12 (i : grid0.Coords) (k0_t1 : Fin k0_t1_loop.trips) : BitVec 32 :=
  let c2_i32_109 : BitVec 32 := 2#32
  let arg1 : BitVec 32 := BitVec.ofNat 32 (i 1).val
  let v249 : BitVec 32 := Scalar.muli c2_i32_109 arg1
  let c0_i32_1 : BitVec 32 := 0#32
  let c1_i32_2 : BitVec 32 := 1#32
  let arg25 : BitVec 32 := Scf.iv c0_i32_1 c1_i32_2 k0_t1
  let v250 : BitVec 32 := Scalar.addi v249 arg25
  let c1_i32_110 : BitVec 32 := 1#32
  let v251 : BitVec 32 := Scalar.addi v250 c1_i32_110
  let c256_i32_111 : BitVec 32 := 256#32
  let v252 : BitVec 32 := Scalar.muli v251 c256_i32_111
  let c512_i32_112 : BitVec 32 := 512#32
  let v253 : BitVec 32 := Scalar.subi v252 c512_i32_112
  let c256_i32_113 : BitVec 32 := 256#32
  let v254 : BitVec 32 := Scalar.addi v253 c256_i32_113
  v254
def k0_mult13 (i : grid0.Coords) (k0_t1 : Fin k0_t1_loop.trips) : BitVec 32 :=
  let c2_i32_120 : BitVec 32 := 2#32
  let arg1 : BitVec 32 := BitVec.ofNat 32 (i 1).val
  let v274 : BitVec 32 := Scalar.muli c2_i32_120 arg1
  let c0_i32_1 : BitVec 32 := 0#32
  let c1_i32_2 : BitVec 32 := 1#32
  let arg25 : BitVec 32 := Scf.iv c0_i32_1 c1_i32_2 k0_t1
  let v275 : BitVec 32 := Scalar.addi v274 arg25
  let c1_i32_121 : BitVec 32 := 1#32
  let v276 : BitVec 32 := Scalar.addi v275 c1_i32_121
  let c256_i32_122 : BitVec 32 := 256#32
  let v277 : BitVec 32 := Scalar.muli v276 c256_i32_122
  let c512_i32_123 : BitVec 32 := 512#32
  let v278 : BitVec 32 := Scalar.subi v277 c512_i32_123
  let c256_i32_124 : BitVec 32 := 256#32
  let v279 : BitVec 32 := Scalar.addi v278 c256_i32_124
  v279
def k0_mult14 (i : grid0.Coords) (k0_t1 : Fin k0_t1_loop.trips) : BitVec 32 :=
  let c2_i32_133 : BitVec 32 := 2#32
  let arg1 : BitVec 32 := BitVec.ofNat 32 (i 1).val
  let v301 : BitVec 32 := Scalar.muli c2_i32_133 arg1
  let c0_i32_1 : BitVec 32 := 0#32
  let c1_i32_2 : BitVec 32 := 1#32
  let arg25 : BitVec 32 := Scf.iv c0_i32_1 c1_i32_2 k0_t1
  let v302 : BitVec 32 := Scalar.addi v301 arg25
  let c1_i32_134 : BitVec 32 := 1#32
  let v303 : BitVec 32 := Scalar.addi v302 c1_i32_134
  let c256_i32_135 : BitVec 32 := 256#32
  let v304 : BitVec 32 := Scalar.muli v303 c256_i32_135
  let c1_i32_132 : BitVec 32 := 1#32
  let c1_i32 : BitVec 32 := 1#32
  let v4 : BitVec 32 := Scalar.addi arg1 c1_i32
  let c1_i32_131 : BitVec 32 := 1#32
  let v299 : BitVec 32 := Scalar.subi v4 c1_i32_131
  let v300 : BitVec 32 := Scalar.minsi c1_i32_132 v299
  let c1_i32_136 : BitVec 32 := 1#32
  let v305 : BitVec 32 := Scalar.addi v300 c1_i32_136
  let c512_i32_137 : BitVec 32 := 512#32
  let v306 : BitVec 32 := Scalar.muli v305 c512_i32_137
  let v307 : BitVec 32 := Scalar.subi v304 v306
  let c256_i32_138 : BitVec 32 := 256#32
  let v308 : BitVec 32 := Scalar.addi v307 c256_i32_138
  v308
def k0_off7 (i : grid0.Coords) (k0_t1 : Fin k0_t1_loop.trips) : Fin 2 → Nat :=
  let c2_i32_133 : BitVec 32 := 2#32
  let arg1 : BitVec 32 := BitVec.ofNat 32 (i 1).val
  let v301 : BitVec 32 := Scalar.muli c2_i32_133 arg1
  let c0_i32_1 : BitVec 32 := 0#32
  let c1_i32_2 : BitVec 32 := 1#32
  let arg25 : BitVec 32 := Scf.iv c0_i32_1 c1_i32_2 k0_t1
  let v302 : BitVec 32 := Scalar.addi v301 arg25
  let c1_i32_134 : BitVec 32 := 1#32
  let v303 : BitVec 32 := Scalar.addi v302 c1_i32_134
  let c256_i32_135 : BitVec 32 := 256#32
  let v304 : BitVec 32 := Scalar.muli v303 c256_i32_135
  let c1_i32_132 : BitVec 32 := 1#32
  let c1_i32 : BitVec 32 := 1#32
  let v4 : BitVec 32 := Scalar.addi arg1 c1_i32
  let c1_i32_131 : BitVec 32 := 1#32
  let v299 : BitVec 32 := Scalar.subi v4 c1_i32_131
  let v300 : BitVec 32 := Scalar.minsi c1_i32_132 v299
  let c1_i32_136 : BitVec 32 := 1#32
  let v305 : BitVec 32 := Scalar.addi v300 c1_i32_136
  let c512_i32_137 : BitVec 32 := 512#32
  let v306 : BitVec 32 := Scalar.muli v305 c512_i32_137
  let v307 : BitVec 32 := Scalar.subi v304 v306
  let c256_i32_138 : BitVec 32 := 256#32
  let v308 : BitVec 32 := Scalar.addi v307 c256_i32_138
  let v309 : BitVec 32 := v308
  let v310 : Index := Scalar.indexCast v309
  let c0_139 : Index := 0#32
  ![v310.toNat, 0]
def k0_off8 (k0_t1 : Fin k0_t1_loop.trips) : Fin 4 → Nat :=
  let c0_i32_1 : BitVec 32 := 0#32
  let c1_i32_2 : BitVec 32 := 1#32
  let arg25 : BitVec 32 := Scf.iv c0_i32_1 c1_i32_2 k0_t1
  let v353 : Index := Scalar.indexCast arg25
  let c0_155 : Index := 0#32
  let c0_156 : Index := 0#32
  let c0_157 : Index := 0#32
  ![v353.toNat, 0, 0, 0]
@[reducible] def k0_t2_loop (i : grid0.Coords) : Scf.Loop 32 :=
  let c1_i32_162 : BitVec 32 := 1#32
  let arg1 : BitVec 32 := BitVec.ofNat 32 (i 1).val
  let c1_i32 : BitVec 32 := 1#32
  let v4 : BitVec 32 := Scalar.addi arg1 c1_i32
  let v364 : BitVec 32 := Scalar.subi v4 c1_i32_162
  let c1_i32_164 : BitVec 32 := 1#32
  let v366 : BitVec 32 := Scalar.divsi v364 c1_i32_164
  let v367 : BitVec 32 := Scalar.muli v366 c1_i32_164
  let v368 : BitVec 32 := Scalar.addi c1_i32_162 v367
  let c1_i32_165 : BitVec 32 := 1#32
  ⟨c1_i32_162, v368, c1_i32_165⟩
def k0_mult15 (i : grid0.Coords) (k0_t1 : Fin k0_t1_loop.trips) (k0_t2 : Fin (k0_t2_loop i).trips) : BitVec 32 :=
  let c2_i32_170 : BitVec 32 := 2#32
  let arg1 : BitVec 32 := BitVec.ofNat 32 (i 1).val
  let v373 : BitVec 32 := Scalar.muli c2_i32_170 arg1
  let c0_i32_1 : BitVec 32 := 0#32
  let c1_i32_2 : BitVec 32 := 1#32
  let arg25 : BitVec 32 := Scf.iv c0_i32_1 c1_i32_2 k0_t1
  let v374 : BitVec 32 := Scalar.addi v373 arg25
  let c1_i32_171 : BitVec 32 := 1#32
  let v375 : BitVec 32 := Scalar.addi v374 c1_i32_171
  let c256_i32_172 : BitVec 32 := 256#32
  let v376 : BitVec 32 := Scalar.muli v375 c256_i32_172
  let c1_i32_162 : BitVec 32 := 1#32
  let c1_i32_165 : BitVec 32 := 1#32
  let arg26 : BitVec 32 := Scf.iv c1_i32_162 c1_i32_165 k0_t2
  let c1_i32_173 : BitVec 32 := 1#32
  let v377 : BitVec 32 := Scalar.addi arg26 c1_i32_173
  let c512_i32_174 : BitVec 32 := 512#32
  let v378 : BitVec 32 := Scalar.muli v377 c512_i32_174
  let v379 : BitVec 32 := Scalar.subi v376 v378
  let c256_i32_175 : BitVec 32 := 256#32
  let v380 : BitVec 32 := Scalar.addi v379 c256_i32_175
  v380
def k0_off9 (i : grid0.Coords) (k0_t1 : Fin k0_t1_loop.trips) (k0_t2 : Fin (k0_t2_loop i).trips) : Fin 2 → Nat :=
  let c2_i32_170 : BitVec 32 := 2#32
  let arg1 : BitVec 32 := BitVec.ofNat 32 (i 1).val
  let v373 : BitVec 32 := Scalar.muli c2_i32_170 arg1
  let c0_i32_1 : BitVec 32 := 0#32
  let c1_i32_2 : BitVec 32 := 1#32
  let arg25 : BitVec 32 := Scf.iv c0_i32_1 c1_i32_2 k0_t1
  let v374 : BitVec 32 := Scalar.addi v373 arg25
  let c1_i32_171 : BitVec 32 := 1#32
  let v375 : BitVec 32 := Scalar.addi v374 c1_i32_171
  let c256_i32_172 : BitVec 32 := 256#32
  let v376 : BitVec 32 := Scalar.muli v375 c256_i32_172
  let c1_i32_162 : BitVec 32 := 1#32
  let c1_i32_165 : BitVec 32 := 1#32
  let arg26 : BitVec 32 := Scf.iv c1_i32_162 c1_i32_165 k0_t2
  let c1_i32_173 : BitVec 32 := 1#32
  let v377 : BitVec 32 := Scalar.addi arg26 c1_i32_173
  let c512_i32_174 : BitVec 32 := 512#32
  let v378 : BitVec 32 := Scalar.muli v377 c512_i32_174
  let v379 : BitVec 32 := Scalar.subi v376 v378
  let c256_i32_175 : BitVec 32 := 256#32
  let v380 : BitVec 32 := Scalar.addi v379 c256_i32_175
  let v381 : BitVec 32 := v380
  let v382 : Index := Scalar.indexCast v381
  let c0_176 : Index := 0#32
  ![v382.toNat, 0]
def k0_mult16 (i : grid0.Coords) (k0_t1 : Fin k0_t1_loop.trips) (k0_t2 : Fin (k0_t2_loop i).trips) : BitVec 32 :=
  let c2_i32_182 : BitVec 32 := 2#32
  let arg1 : BitVec 32 := BitVec.ofNat 32 (i 1).val
  let v400 : BitVec 32 := Scalar.muli c2_i32_182 arg1
  let c0_i32_1 : BitVec 32 := 0#32
  let c1_i32_2 : BitVec 32 := 1#32
  let arg25 : BitVec 32 := Scf.iv c0_i32_1 c1_i32_2 k0_t1
  let v401 : BitVec 32 := Scalar.addi v400 arg25
  let c1_i32_183 : BitVec 32 := 1#32
  let v402 : BitVec 32 := Scalar.addi v401 c1_i32_183
  let c256_i32_184 : BitVec 32 := 256#32
  let v403 : BitVec 32 := Scalar.muli v402 c256_i32_184
  let c1_i32_162 : BitVec 32 := 1#32
  let c1_i32_165 : BitVec 32 := 1#32
  let arg26 : BitVec 32 := Scf.iv c1_i32_162 c1_i32_165 k0_t2
  let c1_i32_185 : BitVec 32 := 1#32
  let v404 : BitVec 32 := Scalar.addi arg26 c1_i32_185
  let c512_i32_186 : BitVec 32 := 512#32
  let v405 : BitVec 32 := Scalar.muli v404 c512_i32_186
  let v406 : BitVec 32 := Scalar.subi v403 v405
  let c256_i32_187 : BitVec 32 := 256#32
  let v407 : BitVec 32 := Scalar.addi v406 c256_i32_187
  v407
def k0_mult17 (i : grid0.Coords) (k0_t1 : Fin k0_t1_loop.trips) (k0_t2 : Fin (k0_t2_loop i).trips) : BitVec 32 :=
  let c2_i32_194 : BitVec 32 := 2#32
  let arg1 : BitVec 32 := BitVec.ofNat 32 (i 1).val
  let v427 : BitVec 32 := Scalar.muli c2_i32_194 arg1
  let c0_i32_1 : BitVec 32 := 0#32
  let c1_i32_2 : BitVec 32 := 1#32
  let arg25 : BitVec 32 := Scf.iv c0_i32_1 c1_i32_2 k0_t1
  let v428 : BitVec 32 := Scalar.addi v427 arg25
  let c1_i32_195 : BitVec 32 := 1#32
  let v429 : BitVec 32 := Scalar.addi v428 c1_i32_195
  let c256_i32_196 : BitVec 32 := 256#32
  let v430 : BitVec 32 := Scalar.muli v429 c256_i32_196
  let c1_i32_162 : BitVec 32 := 1#32
  let c1_i32_165 : BitVec 32 := 1#32
  let arg26 : BitVec 32 := Scf.iv c1_i32_162 c1_i32_165 k0_t2
  let c1_i32_197 : BitVec 32 := 1#32
  let v431 : BitVec 32 := Scalar.addi arg26 c1_i32_197
  let c512_i32_198 : BitVec 32 := 512#32
  let v432 : BitVec 32 := Scalar.muli v431 c512_i32_198
  let v433 : BitVec 32 := Scalar.subi v430 v432
  let c256_i32_199 : BitVec 32 := 256#32
  let v434 : BitVec 32 := Scalar.addi v433 c256_i32_199
  v434
def k0_mult18 (i : grid0.Coords) (k0_t1 : Fin k0_t1_loop.trips) (k0_t2 : Fin (k0_t2_loop i).trips) : BitVec 32 :=
  let c2_i32_208 : BitVec 32 := 2#32
  let arg1 : BitVec 32 := BitVec.ofNat 32 (i 1).val
  let v457 : BitVec 32 := Scalar.muli c2_i32_208 arg1
  let c0_i32_1 : BitVec 32 := 0#32
  let c1_i32_2 : BitVec 32 := 1#32
  let arg25 : BitVec 32 := Scf.iv c0_i32_1 c1_i32_2 k0_t1
  let v458 : BitVec 32 := Scalar.addi v457 arg25
  let c1_i32_209 : BitVec 32 := 1#32
  let v459 : BitVec 32 := Scalar.addi v458 c1_i32_209
  let c256_i32_210 : BitVec 32 := 256#32
  let v460 : BitVec 32 := Scalar.muli v459 c256_i32_210
  let c1_i32_162 : BitVec 32 := 1#32
  let c1_i32_165 : BitVec 32 := 1#32
  let arg26 : BitVec 32 := Scf.iv c1_i32_162 c1_i32_165 k0_t2
  let c1_i32_206 : BitVec 32 := 1#32
  let v454 : BitVec 32 := Scalar.addi arg26 c1_i32_206
  let c1_i32 : BitVec 32 := 1#32
  let v4 : BitVec 32 := Scalar.addi arg1 c1_i32
  let c1_i32_207 : BitVec 32 := 1#32
  let v455 : BitVec 32 := Scalar.subi v4 c1_i32_207
  let v456 : BitVec 32 := Scalar.minsi v454 v455
  let c1_i32_211 : BitVec 32 := 1#32
  let v461 : BitVec 32 := Scalar.addi v456 c1_i32_211
  let c512_i32_212 : BitVec 32 := 512#32
  let v462 : BitVec 32 := Scalar.muli v461 c512_i32_212
  let v463 : BitVec 32 := Scalar.subi v460 v462
  let c256_i32_213 : BitVec 32 := 256#32
  let v464 : BitVec 32 := Scalar.addi v463 c256_i32_213
  v464
def k0_off10 (i : grid0.Coords) (k0_t1 : Fin k0_t1_loop.trips) (k0_t2 : Fin (k0_t2_loop i).trips) : Fin 2 → Nat :=
  let c2_i32_208 : BitVec 32 := 2#32
  let arg1 : BitVec 32 := BitVec.ofNat 32 (i 1).val
  let v457 : BitVec 32 := Scalar.muli c2_i32_208 arg1
  let c0_i32_1 : BitVec 32 := 0#32
  let c1_i32_2 : BitVec 32 := 1#32
  let arg25 : BitVec 32 := Scf.iv c0_i32_1 c1_i32_2 k0_t1
  let v458 : BitVec 32 := Scalar.addi v457 arg25
  let c1_i32_209 : BitVec 32 := 1#32
  let v459 : BitVec 32 := Scalar.addi v458 c1_i32_209
  let c256_i32_210 : BitVec 32 := 256#32
  let v460 : BitVec 32 := Scalar.muli v459 c256_i32_210
  let c1_i32_162 : BitVec 32 := 1#32
  let c1_i32_165 : BitVec 32 := 1#32
  let arg26 : BitVec 32 := Scf.iv c1_i32_162 c1_i32_165 k0_t2
  let c1_i32_206 : BitVec 32 := 1#32
  let v454 : BitVec 32 := Scalar.addi arg26 c1_i32_206
  let c1_i32 : BitVec 32 := 1#32
  let v4 : BitVec 32 := Scalar.addi arg1 c1_i32
  let c1_i32_207 : BitVec 32 := 1#32
  let v455 : BitVec 32 := Scalar.subi v4 c1_i32_207
  let v456 : BitVec 32 := Scalar.minsi v454 v455
  let c1_i32_211 : BitVec 32 := 1#32
  let v461 : BitVec 32 := Scalar.addi v456 c1_i32_211
  let c512_i32_212 : BitVec 32 := 512#32
  let v462 : BitVec 32 := Scalar.muli v461 c512_i32_212
  let v463 : BitVec 32 := Scalar.subi v460 v462
  let c256_i32_213 : BitVec 32 := 256#32
  let v464 : BitVec 32 := Scalar.addi v463 c256_i32_213
  let v465 : BitVec 32 := v464
  let v466 : Index := Scalar.indexCast v465
  let c0_214 : Index := 0#32
  ![v466.toNat, 0]
def k0_off11 (i : grid0.Coords) (k0_t1 : Fin k0_t1_loop.trips) (k0_t2 : Fin (k0_t2_loop i).trips) : Fin 4 → Nat :=
  let c0_i32_1 : BitVec 32 := 0#32
  let c1_i32_2 : BitVec 32 := 1#32
  let arg25 : BitVec 32 := Scf.iv c0_i32_1 c1_i32_2 k0_t1
  let v506 : Index := Scalar.indexCast arg25
  let c1_i32_162 : BitVec 32 := 1#32
  let c1_i32_165 : BitVec 32 := 1#32
  let arg26 : BitVec 32 := Scf.iv c1_i32_162 c1_i32_165 k0_t2
  let v507 : Index := Scalar.indexCast arg26
  let c0_231 : Index := 0#32
  let c0_232 : Index := 0#32
  ![v506.toNat, v507.toNat, 0, 0]
@[reducible] def k0_t3_loop (i : grid0.Coords) : Scf.Loop 32 :=
  let c1_i32_162 : BitVec 32 := 1#32
  let arg1 : BitVec 32 := BitVec.ofNat 32 (i 1).val
  let c1_i32 : BitVec 32 := 1#32
  let v4 : BitVec 32 := Scalar.addi arg1 c1_i32
  let v364 : BitVec 32 := Scalar.subi v4 c1_i32_162
  let c1_i32_164 : BitVec 32 := 1#32
  let v366 : BitVec 32 := Scalar.divsi v364 c1_i32_164
  let v367 : BitVec 32 := Scalar.muli v366 c1_i32_164
  let v368 : BitVec 32 := Scalar.addi c1_i32_162 v367
  let v365 : BitVec 32 := Scalar.addi c1_i32_162 v364
  let c1_i32_166 : BitVec 32 := 1#32
  ⟨v368, v365, c1_i32_166⟩
def k0_mult19 (i : grid0.Coords) (k0_t1 : Fin k0_t1_loop.trips) (k0_t3 : Fin (k0_t3_loop i).trips) : BitVec 32 :=
  let c2_i32_170 : BitVec 32 := 2#32
  let arg1 : BitVec 32 := BitVec.ofNat 32 (i 1).val
  let v373 : BitVec 32 := Scalar.muli c2_i32_170 arg1
  let c0_i32_1 : BitVec 32 := 0#32
  let c1_i32_2 : BitVec 32 := 1#32
  let arg25 : BitVec 32 := Scf.iv c0_i32_1 c1_i32_2 k0_t1
  let v374 : BitVec 32 := Scalar.addi v373 arg25
  let c1_i32_171 : BitVec 32 := 1#32
  let v375 : BitVec 32 := Scalar.addi v374 c1_i32_171
  let c256_i32_172 : BitVec 32 := 256#32
  let v376 : BitVec 32 := Scalar.muli v375 c256_i32_172
  let c1_i32_162 : BitVec 32 := 1#32
  let c1_i32 : BitVec 32 := 1#32
  let v4 : BitVec 32 := Scalar.addi arg1 c1_i32
  let v364 : BitVec 32 := Scalar.subi v4 c1_i32_162
  let c1_i32_164 : BitVec 32 := 1#32
  let v366 : BitVec 32 := Scalar.divsi v364 c1_i32_164
  let v367 : BitVec 32 := Scalar.muli v366 c1_i32_164
  let v368 : BitVec 32 := Scalar.addi c1_i32_162 v367
  let c1_i32_166 : BitVec 32 := 1#32
  let arg26 : BitVec 32 := Scf.iv v368 c1_i32_166 k0_t3
  let c1_i32_173 : BitVec 32 := 1#32
  let v377 : BitVec 32 := Scalar.addi arg26 c1_i32_173
  let c512_i32_174 : BitVec 32 := 512#32
  let v378 : BitVec 32 := Scalar.muli v377 c512_i32_174
  let v379 : BitVec 32 := Scalar.subi v376 v378
  let c256_i32_175 : BitVec 32 := 256#32
  let v380 : BitVec 32 := Scalar.addi v379 c256_i32_175
  v380
def k0_off12 (i : grid0.Coords) (k0_t1 : Fin k0_t1_loop.trips) (k0_t3 : Fin (k0_t3_loop i).trips) : Fin 2 → Nat :=
  let c2_i32_170 : BitVec 32 := 2#32
  let arg1 : BitVec 32 := BitVec.ofNat 32 (i 1).val
  let v373 : BitVec 32 := Scalar.muli c2_i32_170 arg1
  let c0_i32_1 : BitVec 32 := 0#32
  let c1_i32_2 : BitVec 32 := 1#32
  let arg25 : BitVec 32 := Scf.iv c0_i32_1 c1_i32_2 k0_t1
  let v374 : BitVec 32 := Scalar.addi v373 arg25
  let c1_i32_171 : BitVec 32 := 1#32
  let v375 : BitVec 32 := Scalar.addi v374 c1_i32_171
  let c256_i32_172 : BitVec 32 := 256#32
  let v376 : BitVec 32 := Scalar.muli v375 c256_i32_172
  let c1_i32_162 : BitVec 32 := 1#32
  let c1_i32 : BitVec 32 := 1#32
  let v4 : BitVec 32 := Scalar.addi arg1 c1_i32
  let v364 : BitVec 32 := Scalar.subi v4 c1_i32_162
  let c1_i32_164 : BitVec 32 := 1#32
  let v366 : BitVec 32 := Scalar.divsi v364 c1_i32_164
  let v367 : BitVec 32 := Scalar.muli v366 c1_i32_164
  let v368 : BitVec 32 := Scalar.addi c1_i32_162 v367
  let c1_i32_166 : BitVec 32 := 1#32
  let arg26 : BitVec 32 := Scf.iv v368 c1_i32_166 k0_t3
  let c1_i32_173 : BitVec 32 := 1#32
  let v377 : BitVec 32 := Scalar.addi arg26 c1_i32_173
  let c512_i32_174 : BitVec 32 := 512#32
  let v378 : BitVec 32 := Scalar.muli v377 c512_i32_174
  let v379 : BitVec 32 := Scalar.subi v376 v378
  let c256_i32_175 : BitVec 32 := 256#32
  let v380 : BitVec 32 := Scalar.addi v379 c256_i32_175
  let v381 : BitVec 32 := v380
  let v382 : Index := Scalar.indexCast v381
  let c0_176 : Index := 0#32
  ![v382.toNat, 0]
def k0_mult20 (i : grid0.Coords) (k0_t1 : Fin k0_t1_loop.trips) (k0_t3 : Fin (k0_t3_loop i).trips) : BitVec 32 :=
  let c2_i32_182 : BitVec 32 := 2#32
  let arg1 : BitVec 32 := BitVec.ofNat 32 (i 1).val
  let v400 : BitVec 32 := Scalar.muli c2_i32_182 arg1
  let c0_i32_1 : BitVec 32 := 0#32
  let c1_i32_2 : BitVec 32 := 1#32
  let arg25 : BitVec 32 := Scf.iv c0_i32_1 c1_i32_2 k0_t1
  let v401 : BitVec 32 := Scalar.addi v400 arg25
  let c1_i32_183 : BitVec 32 := 1#32
  let v402 : BitVec 32 := Scalar.addi v401 c1_i32_183
  let c256_i32_184 : BitVec 32 := 256#32
  let v403 : BitVec 32 := Scalar.muli v402 c256_i32_184
  let c1_i32_162 : BitVec 32 := 1#32
  let c1_i32 : BitVec 32 := 1#32
  let v4 : BitVec 32 := Scalar.addi arg1 c1_i32
  let v364 : BitVec 32 := Scalar.subi v4 c1_i32_162
  let c1_i32_164 : BitVec 32 := 1#32
  let v366 : BitVec 32 := Scalar.divsi v364 c1_i32_164
  let v367 : BitVec 32 := Scalar.muli v366 c1_i32_164
  let v368 : BitVec 32 := Scalar.addi c1_i32_162 v367
  let c1_i32_166 : BitVec 32 := 1#32
  let arg26 : BitVec 32 := Scf.iv v368 c1_i32_166 k0_t3
  let c1_i32_185 : BitVec 32 := 1#32
  let v404 : BitVec 32 := Scalar.addi arg26 c1_i32_185
  let c512_i32_186 : BitVec 32 := 512#32
  let v405 : BitVec 32 := Scalar.muli v404 c512_i32_186
  let v406 : BitVec 32 := Scalar.subi v403 v405
  let c256_i32_187 : BitVec 32 := 256#32
  let v407 : BitVec 32 := Scalar.addi v406 c256_i32_187
  v407
def k0_mult21 (i : grid0.Coords) (k0_t1 : Fin k0_t1_loop.trips) (k0_t3 : Fin (k0_t3_loop i).trips) : BitVec 32 :=
  let c2_i32_194 : BitVec 32 := 2#32
  let arg1 : BitVec 32 := BitVec.ofNat 32 (i 1).val
  let v427 : BitVec 32 := Scalar.muli c2_i32_194 arg1
  let c0_i32_1 : BitVec 32 := 0#32
  let c1_i32_2 : BitVec 32 := 1#32
  let arg25 : BitVec 32 := Scf.iv c0_i32_1 c1_i32_2 k0_t1
  let v428 : BitVec 32 := Scalar.addi v427 arg25
  let c1_i32_195 : BitVec 32 := 1#32
  let v429 : BitVec 32 := Scalar.addi v428 c1_i32_195
  let c256_i32_196 : BitVec 32 := 256#32
  let v430 : BitVec 32 := Scalar.muli v429 c256_i32_196
  let c1_i32_162 : BitVec 32 := 1#32
  let c1_i32 : BitVec 32 := 1#32
  let v4 : BitVec 32 := Scalar.addi arg1 c1_i32
  let v364 : BitVec 32 := Scalar.subi v4 c1_i32_162
  let c1_i32_164 : BitVec 32 := 1#32
  let v366 : BitVec 32 := Scalar.divsi v364 c1_i32_164
  let v367 : BitVec 32 := Scalar.muli v366 c1_i32_164
  let v368 : BitVec 32 := Scalar.addi c1_i32_162 v367
  let c1_i32_166 : BitVec 32 := 1#32
  let arg26 : BitVec 32 := Scf.iv v368 c1_i32_166 k0_t3
  let c1_i32_197 : BitVec 32 := 1#32
  let v431 : BitVec 32 := Scalar.addi arg26 c1_i32_197
  let c512_i32_198 : BitVec 32 := 512#32
  let v432 : BitVec 32 := Scalar.muli v431 c512_i32_198
  let v433 : BitVec 32 := Scalar.subi v430 v432
  let c256_i32_199 : BitVec 32 := 256#32
  let v434 : BitVec 32 := Scalar.addi v433 c256_i32_199
  v434
def k0_mult22 (i : grid0.Coords) (k0_t1 : Fin k0_t1_loop.trips) (k0_t3 : Fin (k0_t3_loop i).trips) : BitVec 32 :=
  let c2_i32_208 : BitVec 32 := 2#32
  let arg1 : BitVec 32 := BitVec.ofNat 32 (i 1).val
  let v457 : BitVec 32 := Scalar.muli c2_i32_208 arg1
  let c0_i32_1 : BitVec 32 := 0#32
  let c1_i32_2 : BitVec 32 := 1#32
  let arg25 : BitVec 32 := Scf.iv c0_i32_1 c1_i32_2 k0_t1
  let v458 : BitVec 32 := Scalar.addi v457 arg25
  let c1_i32_209 : BitVec 32 := 1#32
  let v459 : BitVec 32 := Scalar.addi v458 c1_i32_209
  let c256_i32_210 : BitVec 32 := 256#32
  let v460 : BitVec 32 := Scalar.muli v459 c256_i32_210
  let c1_i32_162 : BitVec 32 := 1#32
  let c1_i32 : BitVec 32 := 1#32
  let v4 : BitVec 32 := Scalar.addi arg1 c1_i32
  let v364 : BitVec 32 := Scalar.subi v4 c1_i32_162
  let c1_i32_164 : BitVec 32 := 1#32
  let v366 : BitVec 32 := Scalar.divsi v364 c1_i32_164
  let v367 : BitVec 32 := Scalar.muli v366 c1_i32_164
  let v368 : BitVec 32 := Scalar.addi c1_i32_162 v367
  let c1_i32_166 : BitVec 32 := 1#32
  let arg26 : BitVec 32 := Scf.iv v368 c1_i32_166 k0_t3
  let c1_i32_206 : BitVec 32 := 1#32
  let v454 : BitVec 32 := Scalar.addi arg26 c1_i32_206
  let c1_i32_207 : BitVec 32 := 1#32
  let v455 : BitVec 32 := Scalar.subi v4 c1_i32_207
  let v456 : BitVec 32 := Scalar.minsi v454 v455
  let c1_i32_211 : BitVec 32 := 1#32
  let v461 : BitVec 32 := Scalar.addi v456 c1_i32_211
  let c512_i32_212 : BitVec 32 := 512#32
  let v462 : BitVec 32 := Scalar.muli v461 c512_i32_212
  let v463 : BitVec 32 := Scalar.subi v460 v462
  let c256_i32_213 : BitVec 32 := 256#32
  let v464 : BitVec 32 := Scalar.addi v463 c256_i32_213
  v464
def k0_off13 (i : grid0.Coords) (k0_t1 : Fin k0_t1_loop.trips) (k0_t3 : Fin (k0_t3_loop i).trips) : Fin 2 → Nat :=
  let c2_i32_208 : BitVec 32 := 2#32
  let arg1 : BitVec 32 := BitVec.ofNat 32 (i 1).val
  let v457 : BitVec 32 := Scalar.muli c2_i32_208 arg1
  let c0_i32_1 : BitVec 32 := 0#32
  let c1_i32_2 : BitVec 32 := 1#32
  let arg25 : BitVec 32 := Scf.iv c0_i32_1 c1_i32_2 k0_t1
  let v458 : BitVec 32 := Scalar.addi v457 arg25
  let c1_i32_209 : BitVec 32 := 1#32
  let v459 : BitVec 32 := Scalar.addi v458 c1_i32_209
  let c256_i32_210 : BitVec 32 := 256#32
  let v460 : BitVec 32 := Scalar.muli v459 c256_i32_210
  let c1_i32_162 : BitVec 32 := 1#32
  let c1_i32 : BitVec 32 := 1#32
  let v4 : BitVec 32 := Scalar.addi arg1 c1_i32
  let v364 : BitVec 32 := Scalar.subi v4 c1_i32_162
  let c1_i32_164 : BitVec 32 := 1#32
  let v366 : BitVec 32 := Scalar.divsi v364 c1_i32_164
  let v367 : BitVec 32 := Scalar.muli v366 c1_i32_164
  let v368 : BitVec 32 := Scalar.addi c1_i32_162 v367
  let c1_i32_166 : BitVec 32 := 1#32
  let arg26 : BitVec 32 := Scf.iv v368 c1_i32_166 k0_t3
  let c1_i32_206 : BitVec 32 := 1#32
  let v454 : BitVec 32 := Scalar.addi arg26 c1_i32_206
  let c1_i32_207 : BitVec 32 := 1#32
  let v455 : BitVec 32 := Scalar.subi v4 c1_i32_207
  let v456 : BitVec 32 := Scalar.minsi v454 v455
  let c1_i32_211 : BitVec 32 := 1#32
  let v461 : BitVec 32 := Scalar.addi v456 c1_i32_211
  let c512_i32_212 : BitVec 32 := 512#32
  let v462 : BitVec 32 := Scalar.muli v461 c512_i32_212
  let v463 : BitVec 32 := Scalar.subi v460 v462
  let c256_i32_213 : BitVec 32 := 256#32
  let v464 : BitVec 32 := Scalar.addi v463 c256_i32_213
  let v465 : BitVec 32 := v464
  let v466 : Index := Scalar.indexCast v465
  let c0_214 : Index := 0#32
  ![v466.toNat, 0]
def k0_off14 (i : grid0.Coords) (k0_t1 : Fin k0_t1_loop.trips) (k0_t3 : Fin (k0_t3_loop i).trips) : Fin 4 → Nat :=
  let c0_i32_1 : BitVec 32 := 0#32
  let c1_i32_2 : BitVec 32 := 1#32
  let arg25 : BitVec 32 := Scf.iv c0_i32_1 c1_i32_2 k0_t1
  let v506 : Index := Scalar.indexCast arg25
  let c1_i32_162 : BitVec 32 := 1#32
  let arg1 : BitVec 32 := BitVec.ofNat 32 (i 1).val
  let c1_i32 : BitVec 32 := 1#32
  let v4 : BitVec 32 := Scalar.addi arg1 c1_i32
  let v364 : BitVec 32 := Scalar.subi v4 c1_i32_162
  let c1_i32_164 : BitVec 32 := 1#32
  let v366 : BitVec 32 := Scalar.divsi v364 c1_i32_164
  let v367 : BitVec 32 := Scalar.muli v366 c1_i32_164
  let v368 : BitVec 32 := Scalar.addi c1_i32_162 v367
  let c1_i32_166 : BitVec 32 := 1#32
  let arg26 : BitVec 32 := Scf.iv v368 c1_i32_166 k0_t3
  let v507 : Index := Scalar.indexCast arg26
  let c0_231 : Index := 0#32
  let c0_232 : Index := 0#32
  ![v506.toNat, v507.toNat, 0, 0]
def k0_cond2 (i : grid0.Coords) : BitVec 1 :=
  let arg1 : BitVec 32 := BitVec.ofNat 32 (i 1).val
  let c1_i32 : BitVec 32 := 1#32
  let v4 : BitVec 32 := Scalar.addi arg1 c1_i32
  let c1_i32_4 : BitVec 32 := 1#32
  let v8 : BitVec 32 := Scalar.subi v4 c1_i32_4
  let c0_i32_5 : BitVec 32 := 0#32
  let v9 : BitVec 32 := Scalar.maxsi v8 c0_i32_5
  let c7_i32 : BitVec 32 := 7#32
  let v10 : BitVec 32 := Scalar.minsi v9 c7_i32
  let c0_i32_6 : BitVec 32 := 0#32
  let v11 : BitVec 1 := Scalar.cmpi .ne v10 c0_i32_6
  v11

def k0_cond3 (i : grid0.Coords) : BitVec 1 :=
  let arg1 : BitVec 32 := BitVec.ofNat 32 (i 1).val
  let c1_i32 : BitVec 32 := 1#32
  let v4 : BitVec 32 := Scalar.addi arg1 c1_i32
  let c1_i32_4 : BitVec 32 := 1#32
  let v8 : BitVec 32 := Scalar.subi v4 c1_i32_4
  let c0_i32_5 : BitVec 32 := 0#32
  let v9 : BitVec 32 := Scalar.maxsi v8 c0_i32_5
  let c7_i32 : BitVec 32 := 7#32
  let v10 : BitVec 32 := Scalar.minsi v9 c7_i32
  let c1_i32_36 : BitVec 32 := 1#32
  let v64 : BitVec 32 := Scalar.subi v10 c1_i32_36
  let c0_i32_37 : BitVec 32 := 0#32
  let v65 : BitVec 1 := Scalar.cmpi .ne v64 c0_i32_37
  v65

def k0_cond4 (i : grid0.Coords) : BitVec 1 :=
  let arg1 : BitVec 32 := BitVec.ofNat 32 (i 1).val
  let c1_i32 : BitVec 32 := 1#32
  let v4 : BitVec 32 := Scalar.addi arg1 c1_i32
  let c1_i32_4 : BitVec 32 := 1#32
  let v8 : BitVec 32 := Scalar.subi v4 c1_i32_4
  let c0_i32_5 : BitVec 32 := 0#32
  let v9 : BitVec 32 := Scalar.maxsi v8 c0_i32_5
  let c7_i32 : BitVec 32 := 7#32
  let v10 : BitVec 32 := Scalar.minsi v9 c7_i32
  let c1_i32_36 : BitVec 32 := 1#32
  let v64 : BitVec 32 := Scalar.subi v10 c1_i32_36
  let c1_i32_38 : BitVec 32 := 1#32
  let v67 : BitVec 32 := Scalar.subi v64 c1_i32_38
  let c0_i32_39 : BitVec 32 := 0#32
  let v68 : BitVec 1 := Scalar.cmpi .ne v67 c0_i32_39
  v68

def k0_cond5 (i : grid0.Coords) : BitVec 1 :=
  let arg1 : BitVec 32 := BitVec.ofNat 32 (i 1).val
  let c1_i32 : BitVec 32 := 1#32
  let v4 : BitVec 32 := Scalar.addi arg1 c1_i32
  let c1_i32_4 : BitVec 32 := 1#32
  let v8 : BitVec 32 := Scalar.subi v4 c1_i32_4
  let c0_i32_5 : BitVec 32 := 0#32
  let v9 : BitVec 32 := Scalar.maxsi v8 c0_i32_5
  let c7_i32 : BitVec 32 := 7#32
  let v10 : BitVec 32 := Scalar.minsi v9 c7_i32
  let c1_i32_36 : BitVec 32 := 1#32
  let v64 : BitVec 32 := Scalar.subi v10 c1_i32_36
  let c1_i32_38 : BitVec 32 := 1#32
  let v67 : BitVec 32 := Scalar.subi v64 c1_i32_38
  let c1_i32_40 : BitVec 32 := 1#32
  let v70 : BitVec 32 := Scalar.subi v67 c1_i32_40
  let c0_i32_41 : BitVec 32 := 0#32
  let v71 : BitVec 1 := Scalar.cmpi .ne v70 c0_i32_41
  v71

def k0_cond6 (i : grid0.Coords) : BitVec 1 :=
  let arg1 : BitVec 32 := BitVec.ofNat 32 (i 1).val
  let c1_i32 : BitVec 32 := 1#32
  let v4 : BitVec 32 := Scalar.addi arg1 c1_i32
  let c1_i32_4 : BitVec 32 := 1#32
  let v8 : BitVec 32 := Scalar.subi v4 c1_i32_4
  let c0_i32_5 : BitVec 32 := 0#32
  let v9 : BitVec 32 := Scalar.maxsi v8 c0_i32_5
  let c7_i32 : BitVec 32 := 7#32
  let v10 : BitVec 32 := Scalar.minsi v9 c7_i32
  let c1_i32_36 : BitVec 32 := 1#32
  let v64 : BitVec 32 := Scalar.subi v10 c1_i32_36
  let c1_i32_38 : BitVec 32 := 1#32
  let v67 : BitVec 32 := Scalar.subi v64 c1_i32_38
  let c1_i32_40 : BitVec 32 := 1#32
  let v70 : BitVec 32 := Scalar.subi v67 c1_i32_40
  let c1_i32_42 : BitVec 32 := 1#32
  let v73 : BitVec 32 := Scalar.subi v70 c1_i32_42
  let c0_i32_43 : BitVec 32 := 0#32
  let v74 : BitVec 1 := Scalar.cmpi .ne v73 c0_i32_43
  v74

def k0_cond7 (i : grid0.Coords) : BitVec 1 :=
  let arg1 : BitVec 32 := BitVec.ofNat 32 (i 1).val
  let c1_i32 : BitVec 32 := 1#32
  let v4 : BitVec 32 := Scalar.addi arg1 c1_i32
  let c1_i32_4 : BitVec 32 := 1#32
  let v8 : BitVec 32 := Scalar.subi v4 c1_i32_4
  let c0_i32_5 : BitVec 32 := 0#32
  let v9 : BitVec 32 := Scalar.maxsi v8 c0_i32_5
  let c7_i32 : BitVec 32 := 7#32
  let v10 : BitVec 32 := Scalar.minsi v9 c7_i32
  let c1_i32_36 : BitVec 32 := 1#32
  let v64 : BitVec 32 := Scalar.subi v10 c1_i32_36
  let c1_i32_38 : BitVec 32 := 1#32
  let v67 : BitVec 32 := Scalar.subi v64 c1_i32_38
  let c1_i32_40 : BitVec 32 := 1#32
  let v70 : BitVec 32 := Scalar.subi v67 c1_i32_40
  let c1_i32_42 : BitVec 32 := 1#32
  let v73 : BitVec 32 := Scalar.subi v70 c1_i32_42
  let c1_i32_44 : BitVec 32 := 1#32
  let v76 : BitVec 32 := Scalar.subi v73 c1_i32_44
  let c0_i32_45 : BitVec 32 := 0#32
  let v77 : BitVec 1 := Scalar.cmpi .ne v76 c0_i32_45
  v77

def k0_cond8 (i : grid0.Coords) : BitVec 1 :=
  let arg1 : BitVec 32 := BitVec.ofNat 32 (i 1).val
  let c1_i32 : BitVec 32 := 1#32
  let v4 : BitVec 32 := Scalar.addi arg1 c1_i32
  let c1_i32_4 : BitVec 32 := 1#32
  let v8 : BitVec 32 := Scalar.subi v4 c1_i32_4
  let c0_i32_5 : BitVec 32 := 0#32
  let v9 : BitVec 32 := Scalar.maxsi v8 c0_i32_5
  let c7_i32 : BitVec 32 := 7#32
  let v10 : BitVec 32 := Scalar.minsi v9 c7_i32
  let c1_i32_36 : BitVec 32 := 1#32
  let v64 : BitVec 32 := Scalar.subi v10 c1_i32_36
  let c1_i32_38 : BitVec 32 := 1#32
  let v67 : BitVec 32 := Scalar.subi v64 c1_i32_38
  let c1_i32_40 : BitVec 32 := 1#32
  let v70 : BitVec 32 := Scalar.subi v67 c1_i32_40
  let c1_i32_42 : BitVec 32 := 1#32
  let v73 : BitVec 32 := Scalar.subi v70 c1_i32_42
  let c1_i32_44 : BitVec 32 := 1#32
  let v76 : BitVec 32 := Scalar.subi v73 c1_i32_44
  let c1_i32_46 : BitVec 32 := 1#32
  let v79 : BitVec 32 := Scalar.subi v76 c1_i32_46
  let c0_i32_47 : BitVec 32 := 0#32
  let v80 : BitVec 1 := Scalar.cmpi .ne v79 c0_i32_47
  v80

@[reducible] def k0_t4_loop : Scf.Loop 32 :=
  let c0_i32_49 : BitVec 32 := 0#32
  let c16_i32_50 : BitVec 32 := 16#32
  let v83 : BitVec 32 := Scalar.addi c0_i32_49 c16_i32_50
  let c1_i32_51 : BitVec 32 := 1#32
  ⟨c0_i32_49, v83, c1_i32_51⟩
@[reducible] def k0_t5_loop : Scf.Loop 32 :=
  let c0_i32_49 : BitVec 32 := 0#32
  let c16_i32_50 : BitVec 32 := 16#32
  let v83 : BitVec 32 := Scalar.addi c0_i32_49 c16_i32_50
  let c1_i32_51 : BitVec 32 := 1#32
  ⟨c0_i32_49, v83, c1_i32_51⟩
@[reducible] def k0_t6_loop : Scf.Loop 32 :=
  let c0_i32_47 : BitVec 32 := 0#32
  let c16_i32_48 : BitVec 32 := 16#32
  let v80 : BitVec 32 := Scalar.addi c0_i32_47 c16_i32_48
  let c1_i32_49 : BitVec 32 := 1#32
  ⟨c0_i32_47, v80, c1_i32_49⟩
@[reducible] def k0_t7_loop : Scf.Loop 32 :=
  let c0_i32_45 : BitVec 32 := 0#32
  let c16_i32_46 : BitVec 32 := 16#32
  let v77 : BitVec 32 := Scalar.addi c0_i32_45 c16_i32_46
  let c1_i32_47 : BitVec 32 := 1#32
  ⟨c0_i32_45, v77, c1_i32_47⟩
@[reducible] def k0_t8_loop : Scf.Loop 32 :=
  let c0_i32_43 : BitVec 32 := 0#32
  let c16_i32_44 : BitVec 32 := 16#32
  let v74 : BitVec 32 := Scalar.addi c0_i32_43 c16_i32_44
  let c1_i32_45 : BitVec 32 := 1#32
  ⟨c0_i32_43, v74, c1_i32_45⟩
@[reducible] def k0_t9_loop : Scf.Loop 32 :=
  let c0_i32_41 : BitVec 32 := 0#32
  let c16_i32_42 : BitVec 32 := 16#32
  let v71 : BitVec 32 := Scalar.addi c0_i32_41 c16_i32_42
  let c1_i32_43 : BitVec 32 := 1#32
  ⟨c0_i32_41, v71, c1_i32_43⟩
@[reducible] def k0_t10_loop : Scf.Loop 32 :=
  let c0_i32_39 : BitVec 32 := 0#32
  let c16_i32_40 : BitVec 32 := 16#32
  let v68 : BitVec 32 := Scalar.addi c0_i32_39 c16_i32_40
  let c1_i32_41 : BitVec 32 := 1#32
  ⟨c0_i32_39, v68, c1_i32_41⟩
@[reducible] def k0_t11_loop : Scf.Loop 32 :=
  let c0_i32_37 : BitVec 32 := 0#32
  let c16_i32_38 : BitVec 32 := 16#32
  let v65 : BitVec 32 := Scalar.addi c0_i32_37 c16_i32_38
  let c1_i32_39 : BitVec 32 := 1#32
  ⟨c0_i32_37, v65, c1_i32_39⟩
@[reducible] def k0_t12_loop (i : grid0.Coords) : Scf.Loop 32 :=
  let c0_i32_14 : BitVec 32 := 0#32
  let arg1 : BitVec 32 := BitVec.ofNat 32 (i 1).val
  let c1_i32 : BitVec 32 := 1#32
  let v4 : BitVec 32 := Scalar.addi arg1 c1_i32
  let v26 : BitVec 32 := Scalar.subi v4 c0_i32_14
  let c1_i32_16 : BitVec 32 := 1#32
  let v28 : BitVec 32 := Scalar.divsi v26 c1_i32_16
  let v29 : BitVec 32 := Scalar.muli v28 c1_i32_16
  let v30 : BitVec 32 := Scalar.addi c0_i32_14 v29
  let c1_i32_17 : BitVec 32 := 1#32
  ⟨c0_i32_14, v30, c1_i32_17⟩
def k0_off15 (i : grid0.Coords) (k0_t12 : Fin (k0_t12_loop i).trips) : Fin 4 → Nat :=
  let c0_36 : Index := 0#32
  let c0_i32_14 : BitVec 32 := 0#32
  let c1_i32_17 : BitVec 32 := 1#32
  let arg25 : BitVec 32 := Scf.iv c0_i32_14 c1_i32_17 k0_t12
  let v64 : Index := Scalar.indexCast arg25
  let c0_37 : Index := 0#32
  let c0_38 : Index := 0#32
  ![0, v64.toNat, 0, 0]
def k0_off16 (i : grid0.Coords) (k0_t12 : Fin (k0_t12_loop i).trips) : Fin 4 → Nat :=
  let c1_44 : Index := 1#32
  let c0_i32_14 : BitVec 32 := 0#32
  let c1_i32_17 : BitVec 32 := 1#32
  let arg25 : BitVec 32 := Scf.iv c0_i32_14 c1_i32_17 k0_t12
  let v82 : Index := Scalar.indexCast arg25
  let c0_45 : Index := 0#32
  let c0_46 : Index := 0#32
  ![1, v82.toNat, 0, 0]
@[reducible] def k0_t13_loop (i : grid0.Coords) : Scf.Loop 32 :=
  let c0_i32_14 : BitVec 32 := 0#32
  let arg1 : BitVec 32 := BitVec.ofNat 32 (i 1).val
  let c1_i32 : BitVec 32 := 1#32
  let v4 : BitVec 32 := Scalar.addi arg1 c1_i32
  let v26 : BitVec 32 := Scalar.subi v4 c0_i32_14
  let c1_i32_16 : BitVec 32 := 1#32
  let v28 : BitVec 32 := Scalar.divsi v26 c1_i32_16
  let v29 : BitVec 32 := Scalar.muli v28 c1_i32_16
  let v30 : BitVec 32 := Scalar.addi c0_i32_14 v29
  let v27 : BitVec 32 := Scalar.addi c0_i32_14 v26
  let c1_i32_18 : BitVec 32 := 1#32
  ⟨v30, v27, c1_i32_18⟩
def k0_off17 (i : grid0.Coords) (k0_t13 : Fin (k0_t13_loop i).trips) : Fin 4 → Nat :=
  let c0_36 : Index := 0#32
  let c0_i32_14 : BitVec 32 := 0#32
  let arg1 : BitVec 32 := BitVec.ofNat 32 (i 1).val
  let c1_i32 : BitVec 32 := 1#32
  let v4 : BitVec 32 := Scalar.addi arg1 c1_i32
  let v26 : BitVec 32 := Scalar.subi v4 c0_i32_14
  let c1_i32_16 : BitVec 32 := 1#32
  let v28 : BitVec 32 := Scalar.divsi v26 c1_i32_16
  let v29 : BitVec 32 := Scalar.muli v28 c1_i32_16
  let v30 : BitVec 32 := Scalar.addi c0_i32_14 v29
  let c1_i32_18 : BitVec 32 := 1#32
  let arg25 : BitVec 32 := Scf.iv v30 c1_i32_18 k0_t13
  let v64 : Index := Scalar.indexCast arg25
  let c0_37 : Index := 0#32
  let c0_38 : Index := 0#32
  ![0, v64.toNat, 0, 0]
def k0_off18 (i : grid0.Coords) (k0_t13 : Fin (k0_t13_loop i).trips) : Fin 4 → Nat :=
  let c1_44 : Index := 1#32
  let c0_i32_14 : BitVec 32 := 0#32
  let arg1 : BitVec 32 := BitVec.ofNat 32 (i 1).val
  let c1_i32 : BitVec 32 := 1#32
  let v4 : BitVec 32 := Scalar.addi arg1 c1_i32
  let v26 : BitVec 32 := Scalar.subi v4 c0_i32_14
  let c1_i32_16 : BitVec 32 := 1#32
  let v28 : BitVec 32 := Scalar.divsi v26 c1_i32_16
  let v29 : BitVec 32 := Scalar.muli v28 c1_i32_16
  let v30 : BitVec 32 := Scalar.addi c0_i32_14 v29
  let c1_i32_18 : BitVec 32 := 1#32
  let arg25 : BitVec 32 := Scf.iv v30 c1_i32_18 k0_t13
  let v82 : Index := Scalar.indexCast arg25
  let c0_45 : Index := 0#32
  let c0_46 : Index := 0#32
  ![1, v82.toNat, 0, 0]
def k0_cond16 (i : grid0.Coords) : BitVec 1 :=
  let arg1 : BitVec 32 := BitVec.ofNat 32 (i 1).val
  let c1_i32 : BitVec 32 := 1#32
  let v4 : BitVec 32 := Scalar.addi arg1 c1_i32
  let c1_i32_21 : BitVec 32 := 1#32
  let v37 : BitVec 32 := Scalar.subi v4 c1_i32_21
  let c0_i32_22 : BitVec 32 := 0#32
  let v38 : BitVec 32 := Scalar.maxsi v37 c0_i32_22
  let c7_i32_23 : BitVec 32 := 7#32
  let v39 : BitVec 32 := Scalar.minsi v38 c7_i32_23
  let c0_i32_24 : BitVec 32 := 0#32
  let v40 : BitVec 1 := Scalar.cmpi .ne v39 c0_i32_24
  v40

def k0_cond17 (i : grid0.Coords) : BitVec 1 :=
  let arg1 : BitVec 32 := BitVec.ofNat 32 (i 1).val
  let c1_i32 : BitVec 32 := 1#32
  let v4 : BitVec 32 := Scalar.addi arg1 c1_i32
  let c1_i32_21 : BitVec 32 := 1#32
  let v37 : BitVec 32 := Scalar.subi v4 c1_i32_21
  let c0_i32_22 : BitVec 32 := 0#32
  let v38 : BitVec 32 := Scalar.maxsi v37 c0_i32_22
  let c7_i32_23 : BitVec 32 := 7#32
  let v39 : BitVec 32 := Scalar.minsi v38 c7_i32_23
  let c1_i32_36 : BitVec 32 := 1#32
  let v64 : BitVec 32 := Scalar.subi v39 c1_i32_36
  let c0_i32_37 : BitVec 32 := 0#32
  let v65 : BitVec 1 := Scalar.cmpi .ne v64 c0_i32_37
  v65

def k0_cond18 (i : grid0.Coords) : BitVec 1 :=
  let arg1 : BitVec 32 := BitVec.ofNat 32 (i 1).val
  let c1_i32 : BitVec 32 := 1#32
  let v4 : BitVec 32 := Scalar.addi arg1 c1_i32
  let c1_i32_21 : BitVec 32 := 1#32
  let v37 : BitVec 32 := Scalar.subi v4 c1_i32_21
  let c0_i32_22 : BitVec 32 := 0#32
  let v38 : BitVec 32 := Scalar.maxsi v37 c0_i32_22
  let c7_i32_23 : BitVec 32 := 7#32
  let v39 : BitVec 32 := Scalar.minsi v38 c7_i32_23
  let c1_i32_36 : BitVec 32 := 1#32
  let v64 : BitVec 32 := Scalar.subi v39 c1_i32_36
  let c1_i32_38 : BitVec 32 := 1#32
  let v67 : BitVec 32 := Scalar.subi v64 c1_i32_38
  let c0_i32_39 : BitVec 32 := 0#32
  let v68 : BitVec 1 := Scalar.cmpi .ne v67 c0_i32_39
  v68

def k0_cond19 (i : grid0.Coords) : BitVec 1 :=
  let arg1 : BitVec 32 := BitVec.ofNat 32 (i 1).val
  let c1_i32 : BitVec 32 := 1#32
  let v4 : BitVec 32 := Scalar.addi arg1 c1_i32
  let c1_i32_21 : BitVec 32 := 1#32
  let v37 : BitVec 32 := Scalar.subi v4 c1_i32_21
  let c0_i32_22 : BitVec 32 := 0#32
  let v38 : BitVec 32 := Scalar.maxsi v37 c0_i32_22
  let c7_i32_23 : BitVec 32 := 7#32
  let v39 : BitVec 32 := Scalar.minsi v38 c7_i32_23
  let c1_i32_36 : BitVec 32 := 1#32
  let v64 : BitVec 32 := Scalar.subi v39 c1_i32_36
  let c1_i32_38 : BitVec 32 := 1#32
  let v67 : BitVec 32 := Scalar.subi v64 c1_i32_38
  let c1_i32_40 : BitVec 32 := 1#32
  let v70 : BitVec 32 := Scalar.subi v67 c1_i32_40
  let c0_i32_41 : BitVec 32 := 0#32
  let v71 : BitVec 1 := Scalar.cmpi .ne v70 c0_i32_41
  v71

def k0_cond20 (i : grid0.Coords) : BitVec 1 :=
  let arg1 : BitVec 32 := BitVec.ofNat 32 (i 1).val
  let c1_i32 : BitVec 32 := 1#32
  let v4 : BitVec 32 := Scalar.addi arg1 c1_i32
  let c1_i32_21 : BitVec 32 := 1#32
  let v37 : BitVec 32 := Scalar.subi v4 c1_i32_21
  let c0_i32_22 : BitVec 32 := 0#32
  let v38 : BitVec 32 := Scalar.maxsi v37 c0_i32_22
  let c7_i32_23 : BitVec 32 := 7#32
  let v39 : BitVec 32 := Scalar.minsi v38 c7_i32_23
  let c1_i32_36 : BitVec 32 := 1#32
  let v64 : BitVec 32 := Scalar.subi v39 c1_i32_36
  let c1_i32_38 : BitVec 32 := 1#32
  let v67 : BitVec 32 := Scalar.subi v64 c1_i32_38
  let c1_i32_40 : BitVec 32 := 1#32
  let v70 : BitVec 32 := Scalar.subi v67 c1_i32_40
  let c1_i32_42 : BitVec 32 := 1#32
  let v73 : BitVec 32 := Scalar.subi v70 c1_i32_42
  let c0_i32_43 : BitVec 32 := 0#32
  let v74 : BitVec 1 := Scalar.cmpi .ne v73 c0_i32_43
  v74

def k0_cond21 (i : grid0.Coords) : BitVec 1 :=
  let arg1 : BitVec 32 := BitVec.ofNat 32 (i 1).val
  let c1_i32 : BitVec 32 := 1#32
  let v4 : BitVec 32 := Scalar.addi arg1 c1_i32
  let c1_i32_21 : BitVec 32 := 1#32
  let v37 : BitVec 32 := Scalar.subi v4 c1_i32_21
  let c0_i32_22 : BitVec 32 := 0#32
  let v38 : BitVec 32 := Scalar.maxsi v37 c0_i32_22
  let c7_i32_23 : BitVec 32 := 7#32
  let v39 : BitVec 32 := Scalar.minsi v38 c7_i32_23
  let c1_i32_36 : BitVec 32 := 1#32
  let v64 : BitVec 32 := Scalar.subi v39 c1_i32_36
  let c1_i32_38 : BitVec 32 := 1#32
  let v67 : BitVec 32 := Scalar.subi v64 c1_i32_38
  let c1_i32_40 : BitVec 32 := 1#32
  let v70 : BitVec 32 := Scalar.subi v67 c1_i32_40
  let c1_i32_42 : BitVec 32 := 1#32
  let v73 : BitVec 32 := Scalar.subi v70 c1_i32_42
  let c1_i32_44 : BitVec 32 := 1#32
  let v76 : BitVec 32 := Scalar.subi v73 c1_i32_44
  let c0_i32_45 : BitVec 32 := 0#32
  let v77 : BitVec 1 := Scalar.cmpi .ne v76 c0_i32_45
  v77

def k0_cond22 (i : grid0.Coords) : BitVec 1 :=
  let arg1 : BitVec 32 := BitVec.ofNat 32 (i 1).val
  let c1_i32 : BitVec 32 := 1#32
  let v4 : BitVec 32 := Scalar.addi arg1 c1_i32
  let c1_i32_21 : BitVec 32 := 1#32
  let v37 : BitVec 32 := Scalar.subi v4 c1_i32_21
  let c0_i32_22 : BitVec 32 := 0#32
  let v38 : BitVec 32 := Scalar.maxsi v37 c0_i32_22
  let c7_i32_23 : BitVec 32 := 7#32
  let v39 : BitVec 32 := Scalar.minsi v38 c7_i32_23
  let c1_i32_36 : BitVec 32 := 1#32
  let v64 : BitVec 32 := Scalar.subi v39 c1_i32_36
  let c1_i32_38 : BitVec 32 := 1#32
  let v67 : BitVec 32 := Scalar.subi v64 c1_i32_38
  let c1_i32_40 : BitVec 32 := 1#32
  let v70 : BitVec 32 := Scalar.subi v67 c1_i32_40
  let c1_i32_42 : BitVec 32 := 1#32
  let v73 : BitVec 32 := Scalar.subi v70 c1_i32_42
  let c1_i32_44 : BitVec 32 := 1#32
  let v76 : BitVec 32 := Scalar.subi v73 c1_i32_44
  let c1_i32_46 : BitVec 32 := 1#32
  let v79 : BitVec 32 := Scalar.subi v76 c1_i32_46
  let c0_i32_47 : BitVec 32 := 0#32
  let v80 : BitVec 1 := Scalar.cmpi .ne v79 c0_i32_47
  v80

@[reducible] def k0_t14_loop : Scf.Loop 32 :=
  let c0_i32_49 : BitVec 32 := 0#32
  let c16_i32_50 : BitVec 32 := 16#32
  let v83 : BitVec 32 := Scalar.addi c0_i32_49 c16_i32_50
  let c1_i32_51 : BitVec 32 := 1#32
  ⟨c0_i32_49, v83, c1_i32_51⟩
@[reducible] def k0_t15_loop : Scf.Loop 32 :=
  let c0_i32_49 : BitVec 32 := 0#32
  let c16_i32_50 : BitVec 32 := 16#32
  let v83 : BitVec 32 := Scalar.addi c0_i32_49 c16_i32_50
  let c1_i32_51 : BitVec 32 := 1#32
  ⟨c0_i32_49, v83, c1_i32_51⟩
@[reducible] def k0_t16_loop : Scf.Loop 32 :=
  let c0_i32_47 : BitVec 32 := 0#32
  let c16_i32_48 : BitVec 32 := 16#32
  let v80 : BitVec 32 := Scalar.addi c0_i32_47 c16_i32_48
  let c1_i32_49 : BitVec 32 := 1#32
  ⟨c0_i32_47, v80, c1_i32_49⟩
@[reducible] def k0_t17_loop : Scf.Loop 32 :=
  let c0_i32_45 : BitVec 32 := 0#32
  let c16_i32_46 : BitVec 32 := 16#32
  let v77 : BitVec 32 := Scalar.addi c0_i32_45 c16_i32_46
  let c1_i32_47 : BitVec 32 := 1#32
  ⟨c0_i32_45, v77, c1_i32_47⟩
@[reducible] def k0_t18_loop : Scf.Loop 32 :=
  let c0_i32_43 : BitVec 32 := 0#32
  let c16_i32_44 : BitVec 32 := 16#32
  let v74 : BitVec 32 := Scalar.addi c0_i32_43 c16_i32_44
  let c1_i32_45 : BitVec 32 := 1#32
  ⟨c0_i32_43, v74, c1_i32_45⟩
@[reducible] def k0_t19_loop : Scf.Loop 32 :=
  let c0_i32_41 : BitVec 32 := 0#32
  let c16_i32_42 : BitVec 32 := 16#32
  let v71 : BitVec 32 := Scalar.addi c0_i32_41 c16_i32_42
  let c1_i32_43 : BitVec 32 := 1#32
  ⟨c0_i32_41, v71, c1_i32_43⟩
@[reducible] def k0_t20_loop : Scf.Loop 32 :=
  let c0_i32_39 : BitVec 32 := 0#32
  let c16_i32_40 : BitVec 32 := 16#32
  let v68 : BitVec 32 := Scalar.addi c0_i32_39 c16_i32_40
  let c1_i32_41 : BitVec 32 := 1#32
  ⟨c0_i32_39, v68, c1_i32_41⟩
@[reducible] def k0_t21_loop : Scf.Loop 32 :=
  let c0_i32_37 : BitVec 32 := 0#32
  let c16_i32_38 : BitVec 32 := 16#32
  let v65 : BitVec 32 := Scalar.addi c0_i32_37 c16_i32_38
  let c1_i32_39 : BitVec 32 := 1#32
  ⟨c0_i32_37, v65, c1_i32_39⟩
@[reducible] def k0_t22_loop : Scf.Loop 32 :=
  let c0_i32_32 : BitVec 32 := 0#32
  let c2_i32_33 : BitVec 32 := 2#32
  let v63 : BitVec 32 := Scalar.addi c0_i32_32 c2_i32_33
  let c1_i32_34 : BitVec 32 := 1#32
  ⟨c0_i32_32, v63, c1_i32_34⟩
def k0_off19 (k0_t22 : Fin k0_t22_loop.trips) : Fin 3 → Nat :=
  let c0_i32_32 : BitVec 32 := 0#32
  let c1_i32_34 : BitVec 32 := 1#32
  let arg25 : BitVec 32 := Scf.iv c0_i32_32 c1_i32_34 k0_t22
  let v64 : Index := Scalar.indexCast arg25
  let c0_36 : Index := 0#32
  let c0_37 : Index := 0#32
  ![v64.toNat, 0, 0]
@[reducible] def k0_t23_loop (i : grid0.Coords) : Scf.Loop 32 :=
  let c0_i32_39 : BitVec 32 := 0#32
  let arg1 : BitVec 32 := BitVec.ofNat 32 (i 1).val
  let c1_i32 : BitVec 32 := 1#32
  let v4 : BitVec 32 := Scalar.addi arg1 c1_i32
  let v68 : BitVec 32 := Scalar.subi v4 c0_i32_39
  let c1_i32_40 : BitVec 32 := 1#32
  let v70 : BitVec 32 := Scalar.divsi v68 c1_i32_40
  let v71 : BitVec 32 := Scalar.muli v70 c1_i32_40
  let v72 : BitVec 32 := Scalar.addi c0_i32_39 v71
  let c1_i32_41 : BitVec 32 := 1#32
  ⟨c0_i32_39, v72, c1_i32_41⟩
def k0_off20 (i : grid0.Coords) (k0_t22 : Fin k0_t22_loop.trips) (k0_t23 : Fin (k0_t23_loop i).trips) : Fin 4 → Nat :=
  let c0_i32_32 : BitVec 32 := 0#32
  let c1_i32_34 : BitVec 32 := 1#32
  let arg25 : BitVec 32 := Scf.iv c0_i32_32 c1_i32_34 k0_t22
  let v607 : Index := Scalar.indexCast arg25
  let c0_i32_39 : BitVec 32 := 0#32
  let c1_i32_41 : BitVec 32 := 1#32
  let arg26 : BitVec 32 := Scf.iv c0_i32_39 c1_i32_41 k0_t23
  let v608 : Index := Scalar.indexCast arg26
  let c0_265 : Index := 0#32
  let c0_266 : Index := 0#32
  ![v607.toNat, v608.toNat, 0, 0]
@[reducible] def k0_t24_loop (i : grid0.Coords) : Scf.Loop 32 :=
  let c0_i32_39 : BitVec 32 := 0#32
  let arg1 : BitVec 32 := BitVec.ofNat 32 (i 1).val
  let c1_i32 : BitVec 32 := 1#32
  let v4 : BitVec 32 := Scalar.addi arg1 c1_i32
  let v68 : BitVec 32 := Scalar.subi v4 c0_i32_39
  let c1_i32_40 : BitVec 32 := 1#32
  let v70 : BitVec 32 := Scalar.divsi v68 c1_i32_40
  let v71 : BitVec 32 := Scalar.muli v70 c1_i32_40
  let v72 : BitVec 32 := Scalar.addi c0_i32_39 v71
  let v69 : BitVec 32 := Scalar.addi c0_i32_39 v68
  let c1_i32_42 : BitVec 32 := 1#32
  ⟨v72, v69, c1_i32_42⟩
def k0_off21 (i : grid0.Coords) (k0_t22 : Fin k0_t22_loop.trips) (k0_t24 : Fin (k0_t24_loop i).trips) : Fin 4 → Nat :=
  let c0_i32_32 : BitVec 32 := 0#32
  let c1_i32_34 : BitVec 32 := 1#32
  let arg25 : BitVec 32 := Scf.iv c0_i32_32 c1_i32_34 k0_t22
  let v607 : Index := Scalar.indexCast arg25
  let c0_i32_39 : BitVec 32 := 0#32
  let arg1 : BitVec 32 := BitVec.ofNat 32 (i 1).val
  let c1_i32 : BitVec 32 := 1#32
  let v4 : BitVec 32 := Scalar.addi arg1 c1_i32
  let v68 : BitVec 32 := Scalar.subi v4 c0_i32_39
  let c1_i32_40 : BitVec 32 := 1#32
  let v70 : BitVec 32 := Scalar.divsi v68 c1_i32_40
  let v71 : BitVec 32 := Scalar.muli v70 c1_i32_40
  let v72 : BitVec 32 := Scalar.addi c0_i32_39 v71
  let c1_i32_42 : BitVec 32 := 1#32
  let arg26 : BitVec 32 := Scf.iv v72 c1_i32_42 k0_t24
  let v608 : Index := Scalar.indexCast arg26
  let c0_265 : Index := 0#32
  let c0_266 : Index := 0#32
  ![v607.toNat, v608.toNat, 0, 0]
@[reducible] def k0_t25_loop (i : grid0.Coords) : Scf.Loop 32 :=
  let c0_i32_266 : BitVec 32 := 0#32
  let arg1 : BitVec 32 := BitVec.ofNat 32 (i 1).val
  let c1_i32 : BitVec 32 := 1#32
  let v4 : BitVec 32 := Scalar.addi arg1 c1_i32
  let v609 : BitVec 32 := Scalar.subi v4 c0_i32_266
  let c1_i32_267 : BitVec 32 := 1#32
  let v611 : BitVec 32 := Scalar.divsi v609 c1_i32_267
  let v612 : BitVec 32 := Scalar.muli v611 c1_i32_267
  let v613 : BitVec 32 := Scalar.addi c0_i32_266 v612
  let c1_i32_268 : BitVec 32 := 1#32
  ⟨c0_i32_266, v613, c1_i32_268⟩
def k0_off22 (i : grid0.Coords) (k0_t22 : Fin k0_t22_loop.trips) (k0_t25 : Fin (k0_t25_loop i).trips) : Fin 4 → Nat :=
  let c0_i32_32 : BitVec 32 := 0#32
  let c1_i32_34 : BitVec 32 := 1#32
  let arg25 : BitVec 32 := Scf.iv c0_i32_32 c1_i32_34 k0_t22
  let v640 : Index := Scalar.indexCast arg25
  let c0_i32_266 : BitVec 32 := 0#32
  let c1_i32_268 : BitVec 32 := 1#32
  let arg26 : BitVec 32 := Scf.iv c0_i32_266 c1_i32_268 k0_t25
  let v641 : Index := Scalar.indexCast arg26
  let c0_286 : Index := 0#32
  let c0_287 : Index := 0#32
  ![v640.toNat, v641.toNat, 0, 0]
@[reducible] def k0_t26_loop (i : grid0.Coords) : Scf.Loop 32 :=
  let c0_i32_266 : BitVec 32 := 0#32
  let arg1 : BitVec 32 := BitVec.ofNat 32 (i 1).val
  let c1_i32 : BitVec 32 := 1#32
  let v4 : BitVec 32 := Scalar.addi arg1 c1_i32
  let v609 : BitVec 32 := Scalar.subi v4 c0_i32_266
  let c1_i32_267 : BitVec 32 := 1#32
  let v611 : BitVec 32 := Scalar.divsi v609 c1_i32_267
  let v612 : BitVec 32 := Scalar.muli v611 c1_i32_267
  let v613 : BitVec 32 := Scalar.addi c0_i32_266 v612
  let v610 : BitVec 32 := Scalar.addi c0_i32_266 v609
  let c1_i32_269 : BitVec 32 := 1#32
  ⟨v613, v610, c1_i32_269⟩
def k0_off23 (i : grid0.Coords) (k0_t22 : Fin k0_t22_loop.trips) (k0_t26 : Fin (k0_t26_loop i).trips) : Fin 4 → Nat :=
  let c0_i32_32 : BitVec 32 := 0#32
  let c1_i32_34 : BitVec 32 := 1#32
  let arg25 : BitVec 32 := Scf.iv c0_i32_32 c1_i32_34 k0_t22
  let v640 : Index := Scalar.indexCast arg25
  let c0_i32_266 : BitVec 32 := 0#32
  let arg1 : BitVec 32 := BitVec.ofNat 32 (i 1).val
  let c1_i32 : BitVec 32 := 1#32
  let v4 : BitVec 32 := Scalar.addi arg1 c1_i32
  let v609 : BitVec 32 := Scalar.subi v4 c0_i32_266
  let c1_i32_267 : BitVec 32 := 1#32
  let v611 : BitVec 32 := Scalar.divsi v609 c1_i32_267
  let v612 : BitVec 32 := Scalar.muli v611 c1_i32_267
  let v613 : BitVec 32 := Scalar.addi c0_i32_266 v612
  let c1_i32_269 : BitVec 32 := 1#32
  let arg26 : BitVec 32 := Scf.iv v613 c1_i32_269 k0_t26
  let v641 : Index := Scalar.indexCast arg26
  let c0_286 : Index := 0#32
  let c0_287 : Index := 0#32
  ![v640.toNat, v641.toNat, 0, 0]
@[reducible] def k0_t27_loop : Scf.Loop 32 :=
  let c0_i32_273 : BitVec 32 := 0#32
  let c13_i32 : BitVec 32 := 13#32
  let v622 : BitVec 32 := Scalar.addi c0_i32_273 c13_i32
  let c1_i32_274 : BitVec 32 := 1#32
  ⟨c0_i32_273, v622, c1_i32_274⟩
@[reducible] def k0_t28_loop (i : grid0.Coords) : Scf.Loop 32 :=
  let c0_i32_283 : BitVec 32 := 0#32
  let arg1 : BitVec 32 := BitVec.ofNat 32 (i 1).val
  let c1_i32 : BitVec 32 := 1#32
  let v4 : BitVec 32 := Scalar.addi arg1 c1_i32
  let v636 : BitVec 32 := Scalar.subi v4 c0_i32_283
  let c1_i32_284 : BitVec 32 := 1#32
  let v638 : BitVec 32 := Scalar.divsi v636 c1_i32_284
  let v639 : BitVec 32 := Scalar.muli v638 c1_i32_284
  let v640 : BitVec 32 := Scalar.addi c0_i32_283 v639
  let c1_i32_285 : BitVec 32 := 1#32
  ⟨c0_i32_283, v640, c1_i32_285⟩
def k0_off24 (i : grid0.Coords) (k0_t22 : Fin k0_t22_loop.trips) (k0_t28 : Fin (k0_t28_loop i).trips) : Fin 4 → Nat :=
  let c0_i32_32 : BitVec 32 := 0#32
  let c1_i32_34 : BitVec 32 := 1#32
  let arg25 : BitVec 32 := Scf.iv c0_i32_32 c1_i32_34 k0_t22
  let v656 : Index := Scalar.indexCast arg25
  let c0_i32_283 : BitVec 32 := 0#32
  let c1_i32_285 : BitVec 32 := 1#32
  let arg28 : BitVec 32 := Scf.iv c0_i32_283 c1_i32_285 k0_t28
  let v657 : Index := Scalar.indexCast arg28
  let c0_293 : Index := 0#32
  let c0_294 : Index := 0#32
  ![v656.toNat, v657.toNat, 0, 0]
@[reducible] def k0_t29_loop (i : grid0.Coords) : Scf.Loop 32 :=
  let c0_i32_283 : BitVec 32 := 0#32
  let arg1 : BitVec 32 := BitVec.ofNat 32 (i 1).val
  let c1_i32 : BitVec 32 := 1#32
  let v4 : BitVec 32 := Scalar.addi arg1 c1_i32
  let v636 : BitVec 32 := Scalar.subi v4 c0_i32_283
  let c1_i32_284 : BitVec 32 := 1#32
  let v638 : BitVec 32 := Scalar.divsi v636 c1_i32_284
  let v639 : BitVec 32 := Scalar.muli v638 c1_i32_284
  let v640 : BitVec 32 := Scalar.addi c0_i32_283 v639
  let v637 : BitVec 32 := Scalar.addi c0_i32_283 v636
  let c1_i32_286 : BitVec 32 := 1#32
  ⟨v640, v637, c1_i32_286⟩
def k0_off25 (i : grid0.Coords) (k0_t22 : Fin k0_t22_loop.trips) (k0_t29 : Fin (k0_t29_loop i).trips) : Fin 4 → Nat :=
  let c0_i32_32 : BitVec 32 := 0#32
  let c1_i32_34 : BitVec 32 := 1#32
  let arg25 : BitVec 32 := Scf.iv c0_i32_32 c1_i32_34 k0_t22
  let v656 : Index := Scalar.indexCast arg25
  let c0_i32_283 : BitVec 32 := 0#32
  let arg1 : BitVec 32 := BitVec.ofNat 32 (i 1).val
  let c1_i32 : BitVec 32 := 1#32
  let v4 : BitVec 32 := Scalar.addi arg1 c1_i32
  let v636 : BitVec 32 := Scalar.subi v4 c0_i32_283
  let c1_i32_284 : BitVec 32 := 1#32
  let v638 : BitVec 32 := Scalar.divsi v636 c1_i32_284
  let v639 : BitVec 32 := Scalar.muli v638 c1_i32_284
  let v640 : BitVec 32 := Scalar.addi c0_i32_283 v639
  let c1_i32_286 : BitVec 32 := 1#32
  let arg28 : BitVec 32 := Scf.iv v640 c1_i32_286 k0_t29
  let v657 : Index := Scalar.indexCast arg28
  let c0_293 : Index := 0#32
  let c0_294 : Index := 0#32
  ![v656.toNat, v657.toNat, 0, 0]
@[reducible] def k0_t30_loop (i : grid0.Coords) : Scf.Loop 32 :=
  let c0_i32_276 : BitVec 32 := 0#32
  let arg1 : BitVec 32 := BitVec.ofNat 32 (i 1).val
  let c1_i32 : BitVec 32 := 1#32
  let v4 : BitVec 32 := Scalar.addi arg1 c1_i32
  let v624 : BitVec 32 := Scalar.subi v4 c0_i32_276
  let c1_i32_278 : BitVec 32 := 1#32
  let v626 : BitVec 32 := Scalar.divsi v624 c1_i32_278
  let v627 : BitVec 32 := Scalar.muli v626 c1_i32_278
  let v628 : BitVec 32 := Scalar.addi c0_i32_276 v627
  let c1_i32_279 : BitVec 32 := 1#32
  ⟨c0_i32_276, v628, c1_i32_279⟩
def k0_off26 (i : grid0.Coords) (k0_t22 : Fin k0_t22_loop.trips) (k0_t30 : Fin (k0_t30_loop i).trips) : Fin 4 → Nat :=
  let c0_i32_32 : BitVec 32 := 0#32
  let c1_i32_34 : BitVec 32 := 1#32
  let arg25 : BitVec 32 := Scf.iv c0_i32_32 c1_i32_34 k0_t22
  let v640 : Index := Scalar.indexCast arg25
  let c0_i32_276 : BitVec 32 := 0#32
  let c1_i32_279 : BitVec 32 := 1#32
  let arg26 : BitVec 32 := Scf.iv c0_i32_276 c1_i32_279 k0_t30
  let v641 : Index := Scalar.indexCast arg26
  let c0_286 : Index := 0#32
  let c0_287 : Index := 0#32
  ![v640.toNat, v641.toNat, 0, 0]
@[reducible] def k0_t31_loop (i : grid0.Coords) : Scf.Loop 32 :=
  let c0_i32_276 : BitVec 32 := 0#32
  let arg1 : BitVec 32 := BitVec.ofNat 32 (i 1).val
  let c1_i32 : BitVec 32 := 1#32
  let v4 : BitVec 32 := Scalar.addi arg1 c1_i32
  let v624 : BitVec 32 := Scalar.subi v4 c0_i32_276
  let c1_i32_278 : BitVec 32 := 1#32
  let v626 : BitVec 32 := Scalar.divsi v624 c1_i32_278
  let v627 : BitVec 32 := Scalar.muli v626 c1_i32_278
  let v628 : BitVec 32 := Scalar.addi c0_i32_276 v627
  let v625 : BitVec 32 := Scalar.addi c0_i32_276 v624
  let c1_i32_280 : BitVec 32 := 1#32
  ⟨v628, v625, c1_i32_280⟩
def k0_off27 (i : grid0.Coords) (k0_t22 : Fin k0_t22_loop.trips) (k0_t31 : Fin (k0_t31_loop i).trips) : Fin 4 → Nat :=
  let c0_i32_32 : BitVec 32 := 0#32
  let c1_i32_34 : BitVec 32 := 1#32
  let arg25 : BitVec 32 := Scf.iv c0_i32_32 c1_i32_34 k0_t22
  let v640 : Index := Scalar.indexCast arg25
  let c0_i32_276 : BitVec 32 := 0#32
  let arg1 : BitVec 32 := BitVec.ofNat 32 (i 1).val
  let c1_i32 : BitVec 32 := 1#32
  let v4 : BitVec 32 := Scalar.addi arg1 c1_i32
  let v624 : BitVec 32 := Scalar.subi v4 c0_i32_276
  let c1_i32_278 : BitVec 32 := 1#32
  let v626 : BitVec 32 := Scalar.divsi v624 c1_i32_278
  let v627 : BitVec 32 := Scalar.muli v626 c1_i32_278
  let v628 : BitVec 32 := Scalar.addi c0_i32_276 v627
  let c1_i32_280 : BitVec 32 := 1#32
  let arg26 : BitVec 32 := Scf.iv v628 c1_i32_280 k0_t31
  let v641 : Index := Scalar.indexCast arg26
  let c0_286 : Index := 0#32
  let c0_287 : Index := 0#32
  ![v640.toNat, v641.toNat, 0, 0]
def k0_mult23 (k0_t22 : Fin k0_t22_loop.trips) : BitVec 32 :=
  let c0_i32_32 : BitVec 32 := 0#32
  let c1_i32_34 : BitVec 32 := 1#32
  let arg25 : BitVec 32 := Scf.iv c0_i32_32 c1_i32_34 k0_t22
  let c256_i32_49 : BitVec 32 := 256#32
  let v88 : BitVec 32 := Scalar.muli arg25 c256_i32_49
  v88
def k0_off28 (k0_t22 : Fin k0_t22_loop.trips) : Fin 2 → Nat :=
  let c0_i32_32 : BitVec 32 := 0#32
  let c1_i32_34 : BitVec 32 := 1#32
  let arg25 : BitVec 32 := Scf.iv c0_i32_32 c1_i32_34 k0_t22
  let c256_i32_49 : BitVec 32 := 256#32
  let v88 : BitVec 32 := Scalar.muli arg25 c256_i32_49
  let v89 : BitVec 32 := v88
  let v90 : Index := Scalar.indexCast v89
  let c0_50 : Index := 0#32
  ![v90.toNat, 0]
def k0_mult24 (i : grid0.Coords) (k0_t22 : Fin k0_t22_loop.trips) : BitVec 32 :=
  let c2_i32_226 : BitVec 32 := 2#32
  let arg1 : BitVec 32 := BitVec.ofNat 32 (i 1).val
  let v546 : BitVec 32 := Scalar.muli c2_i32_226 arg1
  let c0_i32_32 : BitVec 32 := 0#32
  let c1_i32_34 : BitVec 32 := 1#32
  let arg25 : BitVec 32 := Scf.iv c0_i32_32 c1_i32_34 k0_t22
  let v547 : BitVec 32 := Scalar.addi v546 arg25
  let c1_i32_227 : BitVec 32 := 1#32
  let v548 : BitVec 32 := Scalar.addi v547 c1_i32_227
  let c256_i32_228 : BitVec 32 := 256#32
  let v549 : BitVec 32 := Scalar.muli v548 c256_i32_228
  let c512_i32 : BitVec 32 := 512#32
  let v550 : BitVec 32 := Scalar.subi v549 c512_i32
  let c256_i32_229 : BitVec 32 := 256#32
  let v551 : BitVec 32 := Scalar.addi v550 c256_i32_229
  v551
def k0_off29 (i : grid0.Coords) (k0_t22 : Fin k0_t22_loop.trips) : Fin 2 → Nat :=
  let c2_i32_226 : BitVec 32 := 2#32
  let arg1 : BitVec 32 := BitVec.ofNat 32 (i 1).val
  let v546 : BitVec 32 := Scalar.muli c2_i32_226 arg1
  let c0_i32_32 : BitVec 32 := 0#32
  let c1_i32_34 : BitVec 32 := 1#32
  let arg25 : BitVec 32 := Scf.iv c0_i32_32 c1_i32_34 k0_t22
  let v547 : BitVec 32 := Scalar.addi v546 arg25
  let c1_i32_227 : BitVec 32 := 1#32
  let v548 : BitVec 32 := Scalar.addi v547 c1_i32_227
  let c256_i32_228 : BitVec 32 := 256#32
  let v549 : BitVec 32 := Scalar.muli v548 c256_i32_228
  let c512_i32 : BitVec 32 := 512#32
  let v550 : BitVec 32 := Scalar.subi v549 c512_i32
  let c256_i32_229 : BitVec 32 := 256#32
  let v551 : BitVec 32 := Scalar.addi v550 c256_i32_229
  let v552 : BitVec 32 := v551
  let v553 : Index := Scalar.indexCast v552
  let c0_230 : Index := 0#32
  ![v553.toNat, 0]
def k0_mult25 (i : grid0.Coords) (k0_t22 : Fin k0_t22_loop.trips) : BitVec 32 :=
  let c2_i32_265 : BitVec 32 := 2#32
  let arg1 : BitVec 32 := BitVec.ofNat 32 (i 1).val
  let v607 : BitVec 32 := Scalar.muli c2_i32_265 arg1
  let c0_i32_32 : BitVec 32 := 0#32
  let c1_i32_34 : BitVec 32 := 1#32
  let arg25 : BitVec 32 := Scf.iv c0_i32_32 c1_i32_34 k0_t22
  let v608 : BitVec 32 := Scalar.addi v607 arg25
  let c1_i32_266 : BitVec 32 := 1#32
  let v609 : BitVec 32 := Scalar.addi v608 c1_i32_266
  let c256_i32_267 : BitVec 32 := 256#32
  let v610 : BitVec 32 := Scalar.muli v609 c256_i32_267
  let c512_i32_268 : BitVec 32 := 512#32
  let v611 : BitVec 32 := Scalar.subi v610 c512_i32_268
  let c256_i32_269 : BitVec 32 := 256#32
  let v612 : BitVec 32 := Scalar.addi v611 c256_i32_269
  v612
def k0_off30 (i : grid0.Coords) (k0_t22 : Fin k0_t22_loop.trips) : Fin 2 → Nat :=
  let c2_i32_265 : BitVec 32 := 2#32
  let arg1 : BitVec 32 := BitVec.ofNat 32 (i 1).val
  let v607 : BitVec 32 := Scalar.muli c2_i32_265 arg1
  let c0_i32_32 : BitVec 32 := 0#32
  let c1_i32_34 : BitVec 32 := 1#32
  let arg25 : BitVec 32 := Scf.iv c0_i32_32 c1_i32_34 k0_t22
  let v608 : BitVec 32 := Scalar.addi v607 arg25
  let c1_i32_266 : BitVec 32 := 1#32
  let v609 : BitVec 32 := Scalar.addi v608 c1_i32_266
  let c256_i32_267 : BitVec 32 := 256#32
  let v610 : BitVec 32 := Scalar.muli v609 c256_i32_267
  let c512_i32_268 : BitVec 32 := 512#32
  let v611 : BitVec 32 := Scalar.subi v610 c512_i32_268
  let c256_i32_269 : BitVec 32 := 256#32
  let v612 : BitVec 32 := Scalar.addi v611 c256_i32_269
  let v613 : BitVec 32 := v612
  let v614 : Index := Scalar.indexCast v613
  let c0_270 : Index := 0#32
  ![v614.toNat, 0]
def k0_mult26 (i : grid0.Coords) (k0_t22 : Fin k0_t22_loop.trips) : BitVec 32 :=
  let c2_i32_271 : BitVec 32 := 2#32
  let arg1 : BitVec 32 := BitVec.ofNat 32 (i 1).val
  let v616 : BitVec 32 := Scalar.muli c2_i32_271 arg1
  let c0_i32_32 : BitVec 32 := 0#32
  let c1_i32_34 : BitVec 32 := 1#32
  let arg25 : BitVec 32 := Scf.iv c0_i32_32 c1_i32_34 k0_t22
  let v617 : BitVec 32 := Scalar.addi v616 arg25
  let c1_i32_272 : BitVec 32 := 1#32
  let v618 : BitVec 32 := Scalar.addi v617 c1_i32_272
  let c256_i32_273 : BitVec 32 := 256#32
  let v619 : BitVec 32 := Scalar.muli v618 c256_i32_273
  let c512_i32_274 : BitVec 32 := 512#32
  let v620 : BitVec 32 := Scalar.subi v619 c512_i32_274
  let c256_i32_275 : BitVec 32 := 256#32
  let v621 : BitVec 32 := Scalar.addi v620 c256_i32_275
  v621
def k0_off31 (i : grid0.Coords) (k0_t22 : Fin k0_t22_loop.trips) : Fin 2 → Nat :=
  let c2_i32_271 : BitVec 32 := 2#32
  let arg1 : BitVec 32 := BitVec.ofNat 32 (i 1).val
  let v616 : BitVec 32 := Scalar.muli c2_i32_271 arg1
  let c0_i32_32 : BitVec 32 := 0#32
  let c1_i32_34 : BitVec 32 := 1#32
  let arg25 : BitVec 32 := Scf.iv c0_i32_32 c1_i32_34 k0_t22
  let v617 : BitVec 32 := Scalar.addi v616 arg25
  let c1_i32_272 : BitVec 32 := 1#32
  let v618 : BitVec 32 := Scalar.addi v617 c1_i32_272
  let c256_i32_273 : BitVec 32 := 256#32
  let v619 : BitVec 32 := Scalar.muli v618 c256_i32_273
  let c512_i32_274 : BitVec 32 := 512#32
  let v620 : BitVec 32 := Scalar.subi v619 c512_i32_274
  let c256_i32_275 : BitVec 32 := 256#32
  let v621 : BitVec 32 := Scalar.addi v620 c256_i32_275
  let v622 : BitVec 32 := v621
  let v623 : Index := Scalar.indexCast v622
  let c0_276 : Index := 0#32
  ![v623.toNat, 0]
def k0_off32 (k0_t22 : Fin k0_t22_loop.trips) : Fin 4 → Nat :=
  let c0_i32_32 : BitVec 32 := 0#32
  let c1_i32_34 : BitVec 32 := 1#32
  let arg25 : BitVec 32 := Scf.iv c0_i32_32 c1_i32_34 k0_t22
  let v625 : Index := Scalar.indexCast arg25
  let c0_277 : Index := 0#32
  let c0_278 : Index := 0#32
  let c0_279 : Index := 0#32
  ![v625.toNat, 0, 0, 0]
def k0_mult27 (i : grid0.Coords) (k0_t22 : Fin k0_t22_loop.trips) : BitVec 32 :=
  let c2_i32_349 : BitVec 32 := 2#32
  let arg1 : BitVec 32 := BitVec.ofNat 32 (i 1).val
  let v741 : BitVec 32 := Scalar.muli c2_i32_349 arg1
  let c0_i32_32 : BitVec 32 := 0#32
  let c1_i32_34 : BitVec 32 := 1#32
  let arg25 : BitVec 32 := Scf.iv c0_i32_32 c1_i32_34 k0_t22
  let v742 : BitVec 32 := Scalar.addi v741 arg25
  let c1_i32_350 : BitVec 32 := 1#32
  let v743 : BitVec 32 := Scalar.addi v742 c1_i32_350
  let c256_i32_351 : BitVec 32 := 256#32
  let v744 : BitVec 32 := Scalar.muli v743 c256_i32_351
  let c1_i32_348 : BitVec 32 := 1#32
  let c1_i32 : BitVec 32 := 1#32
  let v4 : BitVec 32 := Scalar.addi arg1 c1_i32
  let c1_i32_347 : BitVec 32 := 1#32
  let v739 : BitVec 32 := Scalar.subi v4 c1_i32_347
  let v740 : BitVec 32 := Scalar.minsi c1_i32_348 v739
  let c1_i32_352 : BitVec 32 := 1#32
  let v745 : BitVec 32 := Scalar.addi v740 c1_i32_352
  let c512_i32_353 : BitVec 32 := 512#32
  let v746 : BitVec 32 := Scalar.muli v745 c512_i32_353
  let v747 : BitVec 32 := Scalar.subi v744 v746
  let c256_i32_354 : BitVec 32 := 256#32
  let v748 : BitVec 32 := Scalar.addi v747 c256_i32_354
  v748
def k0_off33 (i : grid0.Coords) (k0_t22 : Fin k0_t22_loop.trips) : Fin 2 → Nat :=
  let c2_i32_349 : BitVec 32 := 2#32
  let arg1 : BitVec 32 := BitVec.ofNat 32 (i 1).val
  let v741 : BitVec 32 := Scalar.muli c2_i32_349 arg1
  let c0_i32_32 : BitVec 32 := 0#32
  let c1_i32_34 : BitVec 32 := 1#32
  let arg25 : BitVec 32 := Scf.iv c0_i32_32 c1_i32_34 k0_t22
  let v742 : BitVec 32 := Scalar.addi v741 arg25
  let c1_i32_350 : BitVec 32 := 1#32
  let v743 : BitVec 32 := Scalar.addi v742 c1_i32_350
  let c256_i32_351 : BitVec 32 := 256#32
  let v744 : BitVec 32 := Scalar.muli v743 c256_i32_351
  let c1_i32_348 : BitVec 32 := 1#32
  let c1_i32 : BitVec 32 := 1#32
  let v4 : BitVec 32 := Scalar.addi arg1 c1_i32
  let c1_i32_347 : BitVec 32 := 1#32
  let v739 : BitVec 32 := Scalar.subi v4 c1_i32_347
  let v740 : BitVec 32 := Scalar.minsi c1_i32_348 v739
  let c1_i32_352 : BitVec 32 := 1#32
  let v745 : BitVec 32 := Scalar.addi v740 c1_i32_352
  let c512_i32_353 : BitVec 32 := 512#32
  let v746 : BitVec 32 := Scalar.muli v745 c512_i32_353
  let v747 : BitVec 32 := Scalar.subi v744 v746
  let c256_i32_354 : BitVec 32 := 256#32
  let v748 : BitVec 32 := Scalar.addi v747 c256_i32_354
  let v749 : BitVec 32 := v748
  let v750 : Index := Scalar.indexCast v749
  let c0_355 : Index := 0#32
  ![v750.toNat, 0]
@[reducible] def k0_t32_loop (i : grid0.Coords) : Scf.Loop 32 :=
  let c1_i32_379 : BitVec 32 := 1#32
  let arg1 : BitVec 32 := BitVec.ofNat 32 (i 1).val
  let c1_i32 : BitVec 32 := 1#32
  let v4 : BitVec 32 := Scalar.addi arg1 c1_i32
  let v790 : BitVec 32 := Scalar.subi v4 c1_i32_379
  let c1_i32_381 : BitVec 32 := 1#32
  let v792 : BitVec 32 := Scalar.divsi v790 c1_i32_381
  let v793 : BitVec 32 := Scalar.muli v792 c1_i32_381
  let v794 : BitVec 32 := Scalar.addi c1_i32_379 v793
  let c1_i32_382 : BitVec 32 := 1#32
  ⟨c1_i32_379, v794, c1_i32_382⟩
def k0_mult28 (i : grid0.Coords) (k0_t22 : Fin k0_t22_loop.trips) (k0_t32 : Fin (k0_t32_loop i).trips) : BitVec 32 :=
  let c2_i32_384 : BitVec 32 := 2#32
  let arg1 : BitVec 32 := BitVec.ofNat 32 (i 1).val
  let v797 : BitVec 32 := Scalar.muli c2_i32_384 arg1
  let c0_i32_32 : BitVec 32 := 0#32
  let c1_i32_34 : BitVec 32 := 1#32
  let arg25 : BitVec 32 := Scf.iv c0_i32_32 c1_i32_34 k0_t22
  let v798 : BitVec 32 := Scalar.addi v797 arg25
  let c1_i32_385 : BitVec 32 := 1#32
  let v799 : BitVec 32 := Scalar.addi v798 c1_i32_385
  let c256_i32_386 : BitVec 32 := 256#32
  let v800 : BitVec 32 := Scalar.muli v799 c256_i32_386
  let c1_i32_379 : BitVec 32 := 1#32
  let c1_i32_382 : BitVec 32 := 1#32
  let arg26 : BitVec 32 := Scf.iv c1_i32_379 c1_i32_382 k0_t32
  let c1_i32_387 : BitVec 32 := 1#32
  let v801 : BitVec 32 := Scalar.addi arg26 c1_i32_387
  let c512_i32_388 : BitVec 32 := 512#32
  let v802 : BitVec 32 := Scalar.muli v801 c512_i32_388
  let v803 : BitVec 32 := Scalar.subi v800 v802
  let c256_i32_389 : BitVec 32 := 256#32
  let v804 : BitVec 32 := Scalar.addi v803 c256_i32_389
  v804
def k0_off34 (i : grid0.Coords) (k0_t22 : Fin k0_t22_loop.trips) (k0_t32 : Fin (k0_t32_loop i).trips) : Fin 2 → Nat :=
  let c2_i32_384 : BitVec 32 := 2#32
  let arg1 : BitVec 32 := BitVec.ofNat 32 (i 1).val
  let v797 : BitVec 32 := Scalar.muli c2_i32_384 arg1
  let c0_i32_32 : BitVec 32 := 0#32
  let c1_i32_34 : BitVec 32 := 1#32
  let arg25 : BitVec 32 := Scf.iv c0_i32_32 c1_i32_34 k0_t22
  let v798 : BitVec 32 := Scalar.addi v797 arg25
  let c1_i32_385 : BitVec 32 := 1#32
  let v799 : BitVec 32 := Scalar.addi v798 c1_i32_385
  let c256_i32_386 : BitVec 32 := 256#32
  let v800 : BitVec 32 := Scalar.muli v799 c256_i32_386
  let c1_i32_379 : BitVec 32 := 1#32
  let c1_i32_382 : BitVec 32 := 1#32
  let arg26 : BitVec 32 := Scf.iv c1_i32_379 c1_i32_382 k0_t32
  let c1_i32_387 : BitVec 32 := 1#32
  let v801 : BitVec 32 := Scalar.addi arg26 c1_i32_387
  let c512_i32_388 : BitVec 32 := 512#32
  let v802 : BitVec 32 := Scalar.muli v801 c512_i32_388
  let v803 : BitVec 32 := Scalar.subi v800 v802
  let c256_i32_389 : BitVec 32 := 256#32
  let v804 : BitVec 32 := Scalar.addi v803 c256_i32_389
  let v805 : BitVec 32 := v804
  let v806 : Index := Scalar.indexCast v805
  let c0_390 : Index := 0#32
  ![v806.toNat, 0]
def k0_mult29 (i : grid0.Coords) (k0_t22 : Fin k0_t22_loop.trips) (k0_t32 : Fin (k0_t32_loop i).trips) : BitVec 32 :=
  let c2_i32_391 : BitVec 32 := 2#32
  let arg1 : BitVec 32 := BitVec.ofNat 32 (i 1).val
  let v808 : BitVec 32 := Scalar.muli c2_i32_391 arg1
  let c0_i32_32 : BitVec 32 := 0#32
  let c1_i32_34 : BitVec 32 := 1#32
  let arg25 : BitVec 32 := Scf.iv c0_i32_32 c1_i32_34 k0_t22
  let v809 : BitVec 32 := Scalar.addi v808 arg25
  let c1_i32_392 : BitVec 32 := 1#32
  let v810 : BitVec 32 := Scalar.addi v809 c1_i32_392
  let c256_i32_393 : BitVec 32 := 256#32
  let v811 : BitVec 32 := Scalar.muli v810 c256_i32_393
  let c1_i32_379 : BitVec 32 := 1#32
  let c1_i32_382 : BitVec 32 := 1#32
  let arg26 : BitVec 32 := Scf.iv c1_i32_379 c1_i32_382 k0_t32
  let c1_i32_394 : BitVec 32 := 1#32
  let v812 : BitVec 32 := Scalar.addi arg26 c1_i32_394
  let c512_i32_395 : BitVec 32 := 512#32
  let v813 : BitVec 32 := Scalar.muli v812 c512_i32_395
  let v814 : BitVec 32 := Scalar.subi v811 v813
  let c256_i32_396 : BitVec 32 := 256#32
  let v815 : BitVec 32 := Scalar.addi v814 c256_i32_396
  v815
def k0_off35 (i : grid0.Coords) (k0_t22 : Fin k0_t22_loop.trips) (k0_t32 : Fin (k0_t32_loop i).trips) : Fin 2 → Nat :=
  let c2_i32_391 : BitVec 32 := 2#32
  let arg1 : BitVec 32 := BitVec.ofNat 32 (i 1).val
  let v808 : BitVec 32 := Scalar.muli c2_i32_391 arg1
  let c0_i32_32 : BitVec 32 := 0#32
  let c1_i32_34 : BitVec 32 := 1#32
  let arg25 : BitVec 32 := Scf.iv c0_i32_32 c1_i32_34 k0_t22
  let v809 : BitVec 32 := Scalar.addi v808 arg25
  let c1_i32_392 : BitVec 32 := 1#32
  let v810 : BitVec 32 := Scalar.addi v809 c1_i32_392
  let c256_i32_393 : BitVec 32 := 256#32
  let v811 : BitVec 32 := Scalar.muli v810 c256_i32_393
  let c1_i32_379 : BitVec 32 := 1#32
  let c1_i32_382 : BitVec 32 := 1#32
  let arg26 : BitVec 32 := Scf.iv c1_i32_379 c1_i32_382 k0_t32
  let c1_i32_394 : BitVec 32 := 1#32
  let v812 : BitVec 32 := Scalar.addi arg26 c1_i32_394
  let c512_i32_395 : BitVec 32 := 512#32
  let v813 : BitVec 32 := Scalar.muli v812 c512_i32_395
  let v814 : BitVec 32 := Scalar.subi v811 v813
  let c256_i32_396 : BitVec 32 := 256#32
  let v815 : BitVec 32 := Scalar.addi v814 c256_i32_396
  let v816 : BitVec 32 := v815
  let v817 : Index := Scalar.indexCast v816
  let c0_397 : Index := 0#32
  ![v817.toNat, 0]
def k0_off36 (i : grid0.Coords) (k0_t22 : Fin k0_t22_loop.trips) (k0_t32 : Fin (k0_t32_loop i).trips) : Fin 4 → Nat :=
  let c0_i32_32 : BitVec 32 := 0#32
  let c1_i32_34 : BitVec 32 := 1#32
  let arg25 : BitVec 32 := Scf.iv c0_i32_32 c1_i32_34 k0_t22
  let v819 : Index := Scalar.indexCast arg25
  let c1_i32_379 : BitVec 32 := 1#32
  let c1_i32_382 : BitVec 32 := 1#32
  let arg26 : BitVec 32 := Scf.iv c1_i32_379 c1_i32_382 k0_t32
  let v820 : Index := Scalar.indexCast arg26
  let c0_398 : Index := 0#32
  let c0_399 : Index := 0#32
  ![v819.toNat, v820.toNat, 0, 0]
def k0_mult30 (i : grid0.Coords) (k0_t22 : Fin k0_t22_loop.trips) (k0_t32 : Fin (k0_t32_loop i).trips) : BitVec 32 :=
  let c2_i32_451 : BitVec 32 := 2#32
  let arg1 : BitVec 32 := BitVec.ofNat 32 (i 1).val
  let v901 : BitVec 32 := Scalar.muli c2_i32_451 arg1
  let c0_i32_32 : BitVec 32 := 0#32
  let c1_i32_34 : BitVec 32 := 1#32
  let arg25 : BitVec 32 := Scf.iv c0_i32_32 c1_i32_34 k0_t22
  let v902 : BitVec 32 := Scalar.addi v901 arg25
  let c1_i32_452 : BitVec 32 := 1#32
  let v903 : BitVec 32 := Scalar.addi v902 c1_i32_452
  let c256_i32_453 : BitVec 32 := 256#32
  let v904 : BitVec 32 := Scalar.muli v903 c256_i32_453
  let c1_i32_379 : BitVec 32 := 1#32
  let c1_i32_382 : BitVec 32 := 1#32
  let arg26 : BitVec 32 := Scf.iv c1_i32_379 c1_i32_382 k0_t32
  let c1_i32_449 : BitVec 32 := 1#32
  let v898 : BitVec 32 := Scalar.addi arg26 c1_i32_449
  let c1_i32 : BitVec 32 := 1#32
  let v4 : BitVec 32 := Scalar.addi arg1 c1_i32
  let c1_i32_450 : BitVec 32 := 1#32
  let v899 : BitVec 32 := Scalar.subi v4 c1_i32_450
  let v900 : BitVec 32 := Scalar.minsi v898 v899
  let c1_i32_454 : BitVec 32 := 1#32
  let v905 : BitVec 32 := Scalar.addi v900 c1_i32_454
  let c512_i32_455 : BitVec 32 := 512#32
  let v906 : BitVec 32 := Scalar.muli v905 c512_i32_455
  let v907 : BitVec 32 := Scalar.subi v904 v906
  let c256_i32_456 : BitVec 32 := 256#32
  let v908 : BitVec 32 := Scalar.addi v907 c256_i32_456
  v908
def k0_off37 (i : grid0.Coords) (k0_t22 : Fin k0_t22_loop.trips) (k0_t32 : Fin (k0_t32_loop i).trips) : Fin 2 → Nat :=
  let c2_i32_451 : BitVec 32 := 2#32
  let arg1 : BitVec 32 := BitVec.ofNat 32 (i 1).val
  let v901 : BitVec 32 := Scalar.muli c2_i32_451 arg1
  let c0_i32_32 : BitVec 32 := 0#32
  let c1_i32_34 : BitVec 32 := 1#32
  let arg25 : BitVec 32 := Scf.iv c0_i32_32 c1_i32_34 k0_t22
  let v902 : BitVec 32 := Scalar.addi v901 arg25
  let c1_i32_452 : BitVec 32 := 1#32
  let v903 : BitVec 32 := Scalar.addi v902 c1_i32_452
  let c256_i32_453 : BitVec 32 := 256#32
  let v904 : BitVec 32 := Scalar.muli v903 c256_i32_453
  let c1_i32_379 : BitVec 32 := 1#32
  let c1_i32_382 : BitVec 32 := 1#32
  let arg26 : BitVec 32 := Scf.iv c1_i32_379 c1_i32_382 k0_t32
  let c1_i32_449 : BitVec 32 := 1#32
  let v898 : BitVec 32 := Scalar.addi arg26 c1_i32_449
  let c1_i32 : BitVec 32 := 1#32
  let v4 : BitVec 32 := Scalar.addi arg1 c1_i32
  let c1_i32_450 : BitVec 32 := 1#32
  let v899 : BitVec 32 := Scalar.subi v4 c1_i32_450
  let v900 : BitVec 32 := Scalar.minsi v898 v899
  let c1_i32_454 : BitVec 32 := 1#32
  let v905 : BitVec 32 := Scalar.addi v900 c1_i32_454
  let c512_i32_455 : BitVec 32 := 512#32
  let v906 : BitVec 32 := Scalar.muli v905 c512_i32_455
  let v907 : BitVec 32 := Scalar.subi v904 v906
  let c256_i32_456 : BitVec 32 := 256#32
  let v908 : BitVec 32 := Scalar.addi v907 c256_i32_456
  let v909 : BitVec 32 := v908
  let v910 : Index := Scalar.indexCast v909
  let c0_457 : Index := 0#32
  ![v910.toNat, 0]
@[reducible] def k0_t33_loop (i : grid0.Coords) : Scf.Loop 32 :=
  let c1_i32_379 : BitVec 32 := 1#32
  let arg1 : BitVec 32 := BitVec.ofNat 32 (i 1).val
  let c1_i32 : BitVec 32 := 1#32
  let v4 : BitVec 32 := Scalar.addi arg1 c1_i32
  let v790 : BitVec 32 := Scalar.subi v4 c1_i32_379
  let c1_i32_381 : BitVec 32 := 1#32
  let v792 : BitVec 32 := Scalar.divsi v790 c1_i32_381
  let v793 : BitVec 32 := Scalar.muli v792 c1_i32_381
  let v794 : BitVec 32 := Scalar.addi c1_i32_379 v793
  let v791 : BitVec 32 := Scalar.addi c1_i32_379 v790
  let c1_i32_383 : BitVec 32 := 1#32
  ⟨v794, v791, c1_i32_383⟩
def k0_mult31 (i : grid0.Coords) (k0_t22 : Fin k0_t22_loop.trips) (k0_t33 : Fin (k0_t33_loop i).trips) : BitVec 32 :=
  let c2_i32_384 : BitVec 32 := 2#32
  let arg1 : BitVec 32 := BitVec.ofNat 32 (i 1).val
  let v797 : BitVec 32 := Scalar.muli c2_i32_384 arg1
  let c0_i32_32 : BitVec 32 := 0#32
  let c1_i32_34 : BitVec 32 := 1#32
  let arg25 : BitVec 32 := Scf.iv c0_i32_32 c1_i32_34 k0_t22
  let v798 : BitVec 32 := Scalar.addi v797 arg25
  let c1_i32_385 : BitVec 32 := 1#32
  let v799 : BitVec 32 := Scalar.addi v798 c1_i32_385
  let c256_i32_386 : BitVec 32 := 256#32
  let v800 : BitVec 32 := Scalar.muli v799 c256_i32_386
  let c1_i32_379 : BitVec 32 := 1#32
  let c1_i32 : BitVec 32 := 1#32
  let v4 : BitVec 32 := Scalar.addi arg1 c1_i32
  let v790 : BitVec 32 := Scalar.subi v4 c1_i32_379
  let c1_i32_381 : BitVec 32 := 1#32
  let v792 : BitVec 32 := Scalar.divsi v790 c1_i32_381
  let v793 : BitVec 32 := Scalar.muli v792 c1_i32_381
  let v794 : BitVec 32 := Scalar.addi c1_i32_379 v793
  let c1_i32_383 : BitVec 32 := 1#32
  let arg26 : BitVec 32 := Scf.iv v794 c1_i32_383 k0_t33
  let c1_i32_387 : BitVec 32 := 1#32
  let v801 : BitVec 32 := Scalar.addi arg26 c1_i32_387
  let c512_i32_388 : BitVec 32 := 512#32
  let v802 : BitVec 32 := Scalar.muli v801 c512_i32_388
  let v803 : BitVec 32 := Scalar.subi v800 v802
  let c256_i32_389 : BitVec 32 := 256#32
  let v804 : BitVec 32 := Scalar.addi v803 c256_i32_389
  v804
def k0_off38 (i : grid0.Coords) (k0_t22 : Fin k0_t22_loop.trips) (k0_t33 : Fin (k0_t33_loop i).trips) : Fin 2 → Nat :=
  let c2_i32_384 : BitVec 32 := 2#32
  let arg1 : BitVec 32 := BitVec.ofNat 32 (i 1).val
  let v797 : BitVec 32 := Scalar.muli c2_i32_384 arg1
  let c0_i32_32 : BitVec 32 := 0#32
  let c1_i32_34 : BitVec 32 := 1#32
  let arg25 : BitVec 32 := Scf.iv c0_i32_32 c1_i32_34 k0_t22
  let v798 : BitVec 32 := Scalar.addi v797 arg25
  let c1_i32_385 : BitVec 32 := 1#32
  let v799 : BitVec 32 := Scalar.addi v798 c1_i32_385
  let c256_i32_386 : BitVec 32 := 256#32
  let v800 : BitVec 32 := Scalar.muli v799 c256_i32_386
  let c1_i32_379 : BitVec 32 := 1#32
  let c1_i32 : BitVec 32 := 1#32
  let v4 : BitVec 32 := Scalar.addi arg1 c1_i32
  let v790 : BitVec 32 := Scalar.subi v4 c1_i32_379
  let c1_i32_381 : BitVec 32 := 1#32
  let v792 : BitVec 32 := Scalar.divsi v790 c1_i32_381
  let v793 : BitVec 32 := Scalar.muli v792 c1_i32_381
  let v794 : BitVec 32 := Scalar.addi c1_i32_379 v793
  let c1_i32_383 : BitVec 32 := 1#32
  let arg26 : BitVec 32 := Scf.iv v794 c1_i32_383 k0_t33
  let c1_i32_387 : BitVec 32 := 1#32
  let v801 : BitVec 32 := Scalar.addi arg26 c1_i32_387
  let c512_i32_388 : BitVec 32 := 512#32
  let v802 : BitVec 32 := Scalar.muli v801 c512_i32_388
  let v803 : BitVec 32 := Scalar.subi v800 v802
  let c256_i32_389 : BitVec 32 := 256#32
  let v804 : BitVec 32 := Scalar.addi v803 c256_i32_389
  let v805 : BitVec 32 := v804
  let v806 : Index := Scalar.indexCast v805
  let c0_390 : Index := 0#32
  ![v806.toNat, 0]
def k0_mult32 (i : grid0.Coords) (k0_t22 : Fin k0_t22_loop.trips) (k0_t33 : Fin (k0_t33_loop i).trips) : BitVec 32 :=
  let c2_i32_391 : BitVec 32 := 2#32
  let arg1 : BitVec 32 := BitVec.ofNat 32 (i 1).val
  let v808 : BitVec 32 := Scalar.muli c2_i32_391 arg1
  let c0_i32_32 : BitVec 32 := 0#32
  let c1_i32_34 : BitVec 32 := 1#32
  let arg25 : BitVec 32 := Scf.iv c0_i32_32 c1_i32_34 k0_t22
  let v809 : BitVec 32 := Scalar.addi v808 arg25
  let c1_i32_392 : BitVec 32 := 1#32
  let v810 : BitVec 32 := Scalar.addi v809 c1_i32_392
  let c256_i32_393 : BitVec 32 := 256#32
  let v811 : BitVec 32 := Scalar.muli v810 c256_i32_393
  let c1_i32_379 : BitVec 32 := 1#32
  let c1_i32 : BitVec 32 := 1#32
  let v4 : BitVec 32 := Scalar.addi arg1 c1_i32
  let v790 : BitVec 32 := Scalar.subi v4 c1_i32_379
  let c1_i32_381 : BitVec 32 := 1#32
  let v792 : BitVec 32 := Scalar.divsi v790 c1_i32_381
  let v793 : BitVec 32 := Scalar.muli v792 c1_i32_381
  let v794 : BitVec 32 := Scalar.addi c1_i32_379 v793
  let c1_i32_383 : BitVec 32 := 1#32
  let arg26 : BitVec 32 := Scf.iv v794 c1_i32_383 k0_t33
  let c1_i32_394 : BitVec 32 := 1#32
  let v812 : BitVec 32 := Scalar.addi arg26 c1_i32_394
  let c512_i32_395 : BitVec 32 := 512#32
  let v813 : BitVec 32 := Scalar.muli v812 c512_i32_395
  let v814 : BitVec 32 := Scalar.subi v811 v813
  let c256_i32_396 : BitVec 32 := 256#32
  let v815 : BitVec 32 := Scalar.addi v814 c256_i32_396
  v815
def k0_off39 (i : grid0.Coords) (k0_t22 : Fin k0_t22_loop.trips) (k0_t33 : Fin (k0_t33_loop i).trips) : Fin 2 → Nat :=
  let c2_i32_391 : BitVec 32 := 2#32
  let arg1 : BitVec 32 := BitVec.ofNat 32 (i 1).val
  let v808 : BitVec 32 := Scalar.muli c2_i32_391 arg1
  let c0_i32_32 : BitVec 32 := 0#32
  let c1_i32_34 : BitVec 32 := 1#32
  let arg25 : BitVec 32 := Scf.iv c0_i32_32 c1_i32_34 k0_t22
  let v809 : BitVec 32 := Scalar.addi v808 arg25
  let c1_i32_392 : BitVec 32 := 1#32
  let v810 : BitVec 32 := Scalar.addi v809 c1_i32_392
  let c256_i32_393 : BitVec 32 := 256#32
  let v811 : BitVec 32 := Scalar.muli v810 c256_i32_393
  let c1_i32_379 : BitVec 32 := 1#32
  let c1_i32 : BitVec 32 := 1#32
  let v4 : BitVec 32 := Scalar.addi arg1 c1_i32
  let v790 : BitVec 32 := Scalar.subi v4 c1_i32_379
  let c1_i32_381 : BitVec 32 := 1#32
  let v792 : BitVec 32 := Scalar.divsi v790 c1_i32_381
  let v793 : BitVec 32 := Scalar.muli v792 c1_i32_381
  let v794 : BitVec 32 := Scalar.addi c1_i32_379 v793
  let c1_i32_383 : BitVec 32 := 1#32
  let arg26 : BitVec 32 := Scf.iv v794 c1_i32_383 k0_t33
  let c1_i32_394 : BitVec 32 := 1#32
  let v812 : BitVec 32 := Scalar.addi arg26 c1_i32_394
  let c512_i32_395 : BitVec 32 := 512#32
  let v813 : BitVec 32 := Scalar.muli v812 c512_i32_395
  let v814 : BitVec 32 := Scalar.subi v811 v813
  let c256_i32_396 : BitVec 32 := 256#32
  let v815 : BitVec 32 := Scalar.addi v814 c256_i32_396
  let v816 : BitVec 32 := v815
  let v817 : Index := Scalar.indexCast v816
  let c0_397 : Index := 0#32
  ![v817.toNat, 0]
def k0_off40 (i : grid0.Coords) (k0_t22 : Fin k0_t22_loop.trips) (k0_t33 : Fin (k0_t33_loop i).trips) : Fin 4 → Nat :=
  let c0_i32_32 : BitVec 32 := 0#32
  let c1_i32_34 : BitVec 32 := 1#32
  let arg25 : BitVec 32 := Scf.iv c0_i32_32 c1_i32_34 k0_t22
  let v819 : Index := Scalar.indexCast arg25
  let c1_i32_379 : BitVec 32 := 1#32
  let arg1 : BitVec 32 := BitVec.ofNat 32 (i 1).val
  let c1_i32 : BitVec 32 := 1#32
  let v4 : BitVec 32 := Scalar.addi arg1 c1_i32
  let v790 : BitVec 32 := Scalar.subi v4 c1_i32_379
  let c1_i32_381 : BitVec 32 := 1#32
  let v792 : BitVec 32 := Scalar.divsi v790 c1_i32_381
  let v793 : BitVec 32 := Scalar.muli v792 c1_i32_381
  let v794 : BitVec 32 := Scalar.addi c1_i32_379 v793
  let c1_i32_383 : BitVec 32 := 1#32
  let arg26 : BitVec 32 := Scf.iv v794 c1_i32_383 k0_t33
  let v820 : Index := Scalar.indexCast arg26
  let c0_398 : Index := 0#32
  let c0_399 : Index := 0#32
  ![v819.toNat, v820.toNat, 0, 0]
def k0_mult33 (i : grid0.Coords) (k0_t22 : Fin k0_t22_loop.trips) (k0_t33 : Fin (k0_t33_loop i).trips) : BitVec 32 :=
  let c2_i32_451 : BitVec 32 := 2#32
  let arg1 : BitVec 32 := BitVec.ofNat 32 (i 1).val
  let v901 : BitVec 32 := Scalar.muli c2_i32_451 arg1
  let c0_i32_32 : BitVec 32 := 0#32
  let c1_i32_34 : BitVec 32 := 1#32
  let arg25 : BitVec 32 := Scf.iv c0_i32_32 c1_i32_34 k0_t22
  let v902 : BitVec 32 := Scalar.addi v901 arg25
  let c1_i32_452 : BitVec 32 := 1#32
  let v903 : BitVec 32 := Scalar.addi v902 c1_i32_452
  let c256_i32_453 : BitVec 32 := 256#32
  let v904 : BitVec 32 := Scalar.muli v903 c256_i32_453
  let c1_i32_379 : BitVec 32 := 1#32
  let c1_i32 : BitVec 32 := 1#32
  let v4 : BitVec 32 := Scalar.addi arg1 c1_i32
  let v790 : BitVec 32 := Scalar.subi v4 c1_i32_379
  let c1_i32_381 : BitVec 32 := 1#32
  let v792 : BitVec 32 := Scalar.divsi v790 c1_i32_381
  let v793 : BitVec 32 := Scalar.muli v792 c1_i32_381
  let v794 : BitVec 32 := Scalar.addi c1_i32_379 v793
  let c1_i32_383 : BitVec 32 := 1#32
  let arg26 : BitVec 32 := Scf.iv v794 c1_i32_383 k0_t33
  let c1_i32_449 : BitVec 32 := 1#32
  let v898 : BitVec 32 := Scalar.addi arg26 c1_i32_449
  let c1_i32_450 : BitVec 32 := 1#32
  let v899 : BitVec 32 := Scalar.subi v4 c1_i32_450
  let v900 : BitVec 32 := Scalar.minsi v898 v899
  let c1_i32_454 : BitVec 32 := 1#32
  let v905 : BitVec 32 := Scalar.addi v900 c1_i32_454
  let c512_i32_455 : BitVec 32 := 512#32
  let v906 : BitVec 32 := Scalar.muli v905 c512_i32_455
  let v907 : BitVec 32 := Scalar.subi v904 v906
  let c256_i32_456 : BitVec 32 := 256#32
  let v908 : BitVec 32 := Scalar.addi v907 c256_i32_456
  v908
def k0_off41 (i : grid0.Coords) (k0_t22 : Fin k0_t22_loop.trips) (k0_t33 : Fin (k0_t33_loop i).trips) : Fin 2 → Nat :=
  let c2_i32_451 : BitVec 32 := 2#32
  let arg1 : BitVec 32 := BitVec.ofNat 32 (i 1).val
  let v901 : BitVec 32 := Scalar.muli c2_i32_451 arg1
  let c0_i32_32 : BitVec 32 := 0#32
  let c1_i32_34 : BitVec 32 := 1#32
  let arg25 : BitVec 32 := Scf.iv c0_i32_32 c1_i32_34 k0_t22
  let v902 : BitVec 32 := Scalar.addi v901 arg25
  let c1_i32_452 : BitVec 32 := 1#32
  let v903 : BitVec 32 := Scalar.addi v902 c1_i32_452
  let c256_i32_453 : BitVec 32 := 256#32
  let v904 : BitVec 32 := Scalar.muli v903 c256_i32_453
  let c1_i32_379 : BitVec 32 := 1#32
  let c1_i32 : BitVec 32 := 1#32
  let v4 : BitVec 32 := Scalar.addi arg1 c1_i32
  let v790 : BitVec 32 := Scalar.subi v4 c1_i32_379
  let c1_i32_381 : BitVec 32 := 1#32
  let v792 : BitVec 32 := Scalar.divsi v790 c1_i32_381
  let v793 : BitVec 32 := Scalar.muli v792 c1_i32_381
  let v794 : BitVec 32 := Scalar.addi c1_i32_379 v793
  let c1_i32_383 : BitVec 32 := 1#32
  let arg26 : BitVec 32 := Scf.iv v794 c1_i32_383 k0_t33
  let c1_i32_449 : BitVec 32 := 1#32
  let v898 : BitVec 32 := Scalar.addi arg26 c1_i32_449
  let c1_i32_450 : BitVec 32 := 1#32
  let v899 : BitVec 32 := Scalar.subi v4 c1_i32_450
  let v900 : BitVec 32 := Scalar.minsi v898 v899
  let c1_i32_454 : BitVec 32 := 1#32
  let v905 : BitVec 32 := Scalar.addi v900 c1_i32_454
  let c512_i32_455 : BitVec 32 := 512#32
  let v906 : BitVec 32 := Scalar.muli v905 c512_i32_455
  let v907 : BitVec 32 := Scalar.subi v904 v906
  let c256_i32_456 : BitVec 32 := 256#32
  let v908 : BitVec 32 := Scalar.addi v907 c256_i32_456
  let v909 : BitVec 32 := v908
  let v910 : Index := Scalar.indexCast v909
  let c0_457 : Index := 0#32
  ![v910.toNat, 0]
def k0_mult34 (i : grid0.Coords) (k0_t22 : Fin k0_t22_loop.trips) : BitVec 32 :=
  let c2_i32_269 : BitVec 32 := 2#32
  let arg1 : BitVec 32 := BitVec.ofNat 32 (i 1).val
  let v611 : BitVec 32 := Scalar.muli c2_i32_269 arg1
  let c0_i32_32 : BitVec 32 := 0#32
  let c1_i32_34 : BitVec 32 := 1#32
  let arg25 : BitVec 32 := Scf.iv c0_i32_32 c1_i32_34 k0_t22
  let v612 : BitVec 32 := Scalar.addi v611 arg25
  let c1_i32_270 : BitVec 32 := 1#32
  let v613 : BitVec 32 := Scalar.addi v612 c1_i32_270
  let c256_i32_271 : BitVec 32 := 256#32
  let v614 : BitVec 32 := Scalar.muli v613 c256_i32_271
  let c512_i32_272 : BitVec 32 := 512#32
  let v615 : BitVec 32 := Scalar.subi v614 c512_i32_272
  let c256_i32_273 : BitVec 32 := 256#32
  let v616 : BitVec 32 := Scalar.addi v615 c256_i32_273
  v616
def k0_off42 (i : grid0.Coords) (k0_t22 : Fin k0_t22_loop.trips) : Fin 2 → Nat :=
  let c2_i32_269 : BitVec 32 := 2#32
  let arg1 : BitVec 32 := BitVec.ofNat 32 (i 1).val
  let v611 : BitVec 32 := Scalar.muli c2_i32_269 arg1
  let c0_i32_32 : BitVec 32 := 0#32
  let c1_i32_34 : BitVec 32 := 1#32
  let arg25 : BitVec 32 := Scf.iv c0_i32_32 c1_i32_34 k0_t22
  let v612 : BitVec 32 := Scalar.addi v611 arg25
  let c1_i32_270 : BitVec 32 := 1#32
  let v613 : BitVec 32 := Scalar.addi v612 c1_i32_270
  let c256_i32_271 : BitVec 32 := 256#32
  let v614 : BitVec 32 := Scalar.muli v613 c256_i32_271
  let c512_i32_272 : BitVec 32 := 512#32
  let v615 : BitVec 32 := Scalar.subi v614 c512_i32_272
  let c256_i32_273 : BitVec 32 := 256#32
  let v616 : BitVec 32 := Scalar.addi v615 c256_i32_273
  let v617 : BitVec 32 := v616
  let v618 : Index := Scalar.indexCast v617
  let c0_274 : Index := 0#32
  ![v618.toNat, 0]
def k0_mult35 (i : grid0.Coords) (k0_t22 : Fin k0_t22_loop.trips) : BitVec 32 :=
  let c2_i32_275 : BitVec 32 := 2#32
  let arg1 : BitVec 32 := BitVec.ofNat 32 (i 1).val
  let v620 : BitVec 32 := Scalar.muli c2_i32_275 arg1
  let c0_i32_32 : BitVec 32 := 0#32
  let c1_i32_34 : BitVec 32 := 1#32
  let arg25 : BitVec 32 := Scf.iv c0_i32_32 c1_i32_34 k0_t22
  let v621 : BitVec 32 := Scalar.addi v620 arg25
  let c1_i32_276 : BitVec 32 := 1#32
  let v622 : BitVec 32 := Scalar.addi v621 c1_i32_276
  let c256_i32_277 : BitVec 32 := 256#32
  let v623 : BitVec 32 := Scalar.muli v622 c256_i32_277
  let c512_i32_278 : BitVec 32 := 512#32
  let v624 : BitVec 32 := Scalar.subi v623 c512_i32_278
  let c256_i32_279 : BitVec 32 := 256#32
  let v625 : BitVec 32 := Scalar.addi v624 c256_i32_279
  v625
def k0_off43 (i : grid0.Coords) (k0_t22 : Fin k0_t22_loop.trips) : Fin 2 → Nat :=
  let c2_i32_275 : BitVec 32 := 2#32
  let arg1 : BitVec 32 := BitVec.ofNat 32 (i 1).val
  let v620 : BitVec 32 := Scalar.muli c2_i32_275 arg1
  let c0_i32_32 : BitVec 32 := 0#32
  let c1_i32_34 : BitVec 32 := 1#32
  let arg25 : BitVec 32 := Scf.iv c0_i32_32 c1_i32_34 k0_t22
  let v621 : BitVec 32 := Scalar.addi v620 arg25
  let c1_i32_276 : BitVec 32 := 1#32
  let v622 : BitVec 32 := Scalar.addi v621 c1_i32_276
  let c256_i32_277 : BitVec 32 := 256#32
  let v623 : BitVec 32 := Scalar.muli v622 c256_i32_277
  let c512_i32_278 : BitVec 32 := 512#32
  let v624 : BitVec 32 := Scalar.subi v623 c512_i32_278
  let c256_i32_279 : BitVec 32 := 256#32
  let v625 : BitVec 32 := Scalar.addi v624 c256_i32_279
  let v626 : BitVec 32 := v625
  let v627 : Index := Scalar.indexCast v626
  let c0_280 : Index := 0#32
  ![v627.toNat, 0]
def k0_off44 (k0_t22 : Fin k0_t22_loop.trips) : Fin 4 → Nat :=
  let c0_i32_32 : BitVec 32 := 0#32
  let c1_i32_34 : BitVec 32 := 1#32
  let arg25 : BitVec 32 := Scf.iv c0_i32_32 c1_i32_34 k0_t22
  let v629 : Index := Scalar.indexCast arg25
  let c0_281 : Index := 0#32
  let c0_282 : Index := 0#32
  let c0_283 : Index := 0#32
  ![v629.toNat, 0, 0, 0]
def k0_mult36 (i : grid0.Coords) (k0_t22 : Fin k0_t22_loop.trips) : BitVec 32 :=
  let c2_i32_374 : BitVec 32 := 2#32
  let arg1 : BitVec 32 := BitVec.ofNat 32 (i 1).val
  let v790 : BitVec 32 := Scalar.muli c2_i32_374 arg1
  let c0_i32_32 : BitVec 32 := 0#32
  let c1_i32_34 : BitVec 32 := 1#32
  let arg25 : BitVec 32 := Scf.iv c0_i32_32 c1_i32_34 k0_t22
  let v791 : BitVec 32 := Scalar.addi v790 arg25
  let c1_i32_375 : BitVec 32 := 1#32
  let v792 : BitVec 32 := Scalar.addi v791 c1_i32_375
  let c256_i32_376 : BitVec 32 := 256#32
  let v793 : BitVec 32 := Scalar.muli v792 c256_i32_376
  let c1_i32_373 : BitVec 32 := 1#32
  let c1_i32 : BitVec 32 := 1#32
  let v4 : BitVec 32 := Scalar.addi arg1 c1_i32
  let c1_i32_372 : BitVec 32 := 1#32
  let v788 : BitVec 32 := Scalar.subi v4 c1_i32_372
  let v789 : BitVec 32 := Scalar.minsi c1_i32_373 v788
  let c1_i32_377 : BitVec 32 := 1#32
  let v794 : BitVec 32 := Scalar.addi v789 c1_i32_377
  let c512_i32_378 : BitVec 32 := 512#32
  let v795 : BitVec 32 := Scalar.muli v794 c512_i32_378
  let v796 : BitVec 32 := Scalar.subi v793 v795
  let c256_i32_379 : BitVec 32 := 256#32
  let v797 : BitVec 32 := Scalar.addi v796 c256_i32_379
  v797
def k0_off45 (i : grid0.Coords) (k0_t22 : Fin k0_t22_loop.trips) : Fin 2 → Nat :=
  let c2_i32_374 : BitVec 32 := 2#32
  let arg1 : BitVec 32 := BitVec.ofNat 32 (i 1).val
  let v790 : BitVec 32 := Scalar.muli c2_i32_374 arg1
  let c0_i32_32 : BitVec 32 := 0#32
  let c1_i32_34 : BitVec 32 := 1#32
  let arg25 : BitVec 32 := Scf.iv c0_i32_32 c1_i32_34 k0_t22
  let v791 : BitVec 32 := Scalar.addi v790 arg25
  let c1_i32_375 : BitVec 32 := 1#32
  let v792 : BitVec 32 := Scalar.addi v791 c1_i32_375
  let c256_i32_376 : BitVec 32 := 256#32
  let v793 : BitVec 32 := Scalar.muli v792 c256_i32_376
  let c1_i32_373 : BitVec 32 := 1#32
  let c1_i32 : BitVec 32 := 1#32
  let v4 : BitVec 32 := Scalar.addi arg1 c1_i32
  let c1_i32_372 : BitVec 32 := 1#32
  let v788 : BitVec 32 := Scalar.subi v4 c1_i32_372
  let v789 : BitVec 32 := Scalar.minsi c1_i32_373 v788
  let c1_i32_377 : BitVec 32 := 1#32
  let v794 : BitVec 32 := Scalar.addi v789 c1_i32_377
  let c512_i32_378 : BitVec 32 := 512#32
  let v795 : BitVec 32 := Scalar.muli v794 c512_i32_378
  let v796 : BitVec 32 := Scalar.subi v793 v795
  let c256_i32_379 : BitVec 32 := 256#32
  let v797 : BitVec 32 := Scalar.addi v796 c256_i32_379
  let v798 : BitVec 32 := v797
  let v799 : Index := Scalar.indexCast v798
  let c0_380 : Index := 0#32
  ![v799.toNat, 0]
@[reducible] def k0_t34_loop (i : grid0.Coords) : Scf.Loop 32 :=
  let c1_i32_411 : BitVec 32 := 1#32
  let arg1 : BitVec 32 := BitVec.ofNat 32 (i 1).val
  let c1_i32 : BitVec 32 := 1#32
  let v4 : BitVec 32 := Scalar.addi arg1 c1_i32
  let v854 : BitVec 32 := Scalar.subi v4 c1_i32_411
  let c1_i32_413 : BitVec 32 := 1#32
  let v856 : BitVec 32 := Scalar.divsi v854 c1_i32_413
  let v857 : BitVec 32 := Scalar.muli v856 c1_i32_413
  let v858 : BitVec 32 := Scalar.addi c1_i32_411 v857
  let c1_i32_414 : BitVec 32 := 1#32
  ⟨c1_i32_411, v858, c1_i32_414⟩
def k0_mult37 (i : grid0.Coords) (k0_t22 : Fin k0_t22_loop.trips) (k0_t34 : Fin (k0_t34_loop i).trips) : BitVec 32 :=
  let c2_i32_416 : BitVec 32 := 2#32
  let arg1 : BitVec 32 := BitVec.ofNat 32 (i 1).val
  let v861 : BitVec 32 := Scalar.muli c2_i32_416 arg1
  let c0_i32_32 : BitVec 32 := 0#32
  let c1_i32_34 : BitVec 32 := 1#32
  let arg25 : BitVec 32 := Scf.iv c0_i32_32 c1_i32_34 k0_t22
  let v862 : BitVec 32 := Scalar.addi v861 arg25
  let c1_i32_417 : BitVec 32 := 1#32
  let v863 : BitVec 32 := Scalar.addi v862 c1_i32_417
  let c256_i32_418 : BitVec 32 := 256#32
  let v864 : BitVec 32 := Scalar.muli v863 c256_i32_418
  let c1_i32_411 : BitVec 32 := 1#32
  let c1_i32_414 : BitVec 32 := 1#32
  let arg26 : BitVec 32 := Scf.iv c1_i32_411 c1_i32_414 k0_t34
  let c1_i32_419 : BitVec 32 := 1#32
  let v865 : BitVec 32 := Scalar.addi arg26 c1_i32_419
  let c512_i32_420 : BitVec 32 := 512#32
  let v866 : BitVec 32 := Scalar.muli v865 c512_i32_420
  let v867 : BitVec 32 := Scalar.subi v864 v866
  let c256_i32_421 : BitVec 32 := 256#32
  let v868 : BitVec 32 := Scalar.addi v867 c256_i32_421
  v868
def k0_off46 (i : grid0.Coords) (k0_t22 : Fin k0_t22_loop.trips) (k0_t34 : Fin (k0_t34_loop i).trips) : Fin 2 → Nat :=
  let c2_i32_416 : BitVec 32 := 2#32
  let arg1 : BitVec 32 := BitVec.ofNat 32 (i 1).val
  let v861 : BitVec 32 := Scalar.muli c2_i32_416 arg1
  let c0_i32_32 : BitVec 32 := 0#32
  let c1_i32_34 : BitVec 32 := 1#32
  let arg25 : BitVec 32 := Scf.iv c0_i32_32 c1_i32_34 k0_t22
  let v862 : BitVec 32 := Scalar.addi v861 arg25
  let c1_i32_417 : BitVec 32 := 1#32
  let v863 : BitVec 32 := Scalar.addi v862 c1_i32_417
  let c256_i32_418 : BitVec 32 := 256#32
  let v864 : BitVec 32 := Scalar.muli v863 c256_i32_418
  let c1_i32_411 : BitVec 32 := 1#32
  let c1_i32_414 : BitVec 32 := 1#32
  let arg26 : BitVec 32 := Scf.iv c1_i32_411 c1_i32_414 k0_t34
  let c1_i32_419 : BitVec 32 := 1#32
  let v865 : BitVec 32 := Scalar.addi arg26 c1_i32_419
  let c512_i32_420 : BitVec 32 := 512#32
  let v866 : BitVec 32 := Scalar.muli v865 c512_i32_420
  let v867 : BitVec 32 := Scalar.subi v864 v866
  let c256_i32_421 : BitVec 32 := 256#32
  let v868 : BitVec 32 := Scalar.addi v867 c256_i32_421
  let v869 : BitVec 32 := v868
  let v870 : Index := Scalar.indexCast v869
  let c0_422 : Index := 0#32
  ![v870.toNat, 0]
def k0_mult38 (i : grid0.Coords) (k0_t22 : Fin k0_t22_loop.trips) (k0_t34 : Fin (k0_t34_loop i).trips) : BitVec 32 :=
  let c2_i32_423 : BitVec 32 := 2#32
  let arg1 : BitVec 32 := BitVec.ofNat 32 (i 1).val
  let v872 : BitVec 32 := Scalar.muli c2_i32_423 arg1
  let c0_i32_32 : BitVec 32 := 0#32
  let c1_i32_34 : BitVec 32 := 1#32
  let arg25 : BitVec 32 := Scf.iv c0_i32_32 c1_i32_34 k0_t22
  let v873 : BitVec 32 := Scalar.addi v872 arg25
  let c1_i32_424 : BitVec 32 := 1#32
  let v874 : BitVec 32 := Scalar.addi v873 c1_i32_424
  let c256_i32_425 : BitVec 32 := 256#32
  let v875 : BitVec 32 := Scalar.muli v874 c256_i32_425
  let c1_i32_411 : BitVec 32 := 1#32
  let c1_i32_414 : BitVec 32 := 1#32
  let arg26 : BitVec 32 := Scf.iv c1_i32_411 c1_i32_414 k0_t34
  let c1_i32_426 : BitVec 32 := 1#32
  let v876 : BitVec 32 := Scalar.addi arg26 c1_i32_426
  let c512_i32_427 : BitVec 32 := 512#32
  let v877 : BitVec 32 := Scalar.muli v876 c512_i32_427
  let v878 : BitVec 32 := Scalar.subi v875 v877
  let c256_i32_428 : BitVec 32 := 256#32
  let v879 : BitVec 32 := Scalar.addi v878 c256_i32_428
  v879
def k0_off47 (i : grid0.Coords) (k0_t22 : Fin k0_t22_loop.trips) (k0_t34 : Fin (k0_t34_loop i).trips) : Fin 2 → Nat :=
  let c2_i32_423 : BitVec 32 := 2#32
  let arg1 : BitVec 32 := BitVec.ofNat 32 (i 1).val
  let v872 : BitVec 32 := Scalar.muli c2_i32_423 arg1
  let c0_i32_32 : BitVec 32 := 0#32
  let c1_i32_34 : BitVec 32 := 1#32
  let arg25 : BitVec 32 := Scf.iv c0_i32_32 c1_i32_34 k0_t22
  let v873 : BitVec 32 := Scalar.addi v872 arg25
  let c1_i32_424 : BitVec 32 := 1#32
  let v874 : BitVec 32 := Scalar.addi v873 c1_i32_424
  let c256_i32_425 : BitVec 32 := 256#32
  let v875 : BitVec 32 := Scalar.muli v874 c256_i32_425
  let c1_i32_411 : BitVec 32 := 1#32
  let c1_i32_414 : BitVec 32 := 1#32
  let arg26 : BitVec 32 := Scf.iv c1_i32_411 c1_i32_414 k0_t34
  let c1_i32_426 : BitVec 32 := 1#32
  let v876 : BitVec 32 := Scalar.addi arg26 c1_i32_426
  let c512_i32_427 : BitVec 32 := 512#32
  let v877 : BitVec 32 := Scalar.muli v876 c512_i32_427
  let v878 : BitVec 32 := Scalar.subi v875 v877
  let c256_i32_428 : BitVec 32 := 256#32
  let v879 : BitVec 32 := Scalar.addi v878 c256_i32_428
  let v880 : BitVec 32 := v879
  let v881 : Index := Scalar.indexCast v880
  let c0_429 : Index := 0#32
  ![v881.toNat, 0]
def k0_off48 (i : grid0.Coords) (k0_t22 : Fin k0_t22_loop.trips) (k0_t34 : Fin (k0_t34_loop i).trips) : Fin 4 → Nat :=
  let c0_i32_32 : BitVec 32 := 0#32
  let c1_i32_34 : BitVec 32 := 1#32
  let arg25 : BitVec 32 := Scf.iv c0_i32_32 c1_i32_34 k0_t22
  let v883 : Index := Scalar.indexCast arg25
  let c1_i32_411 : BitVec 32 := 1#32
  let c1_i32_414 : BitVec 32 := 1#32
  let arg26 : BitVec 32 := Scf.iv c1_i32_411 c1_i32_414 k0_t34
  let v884 : Index := Scalar.indexCast arg26
  let c0_430 : Index := 0#32
  let c0_431 : Index := 0#32
  ![v883.toNat, v884.toNat, 0, 0]
def k0_mult39 (i : grid0.Coords) (k0_t22 : Fin k0_t22_loop.trips) (k0_t34 : Fin (k0_t34_loop i).trips) : BitVec 32 :=
  let c2_i32_504 : BitVec 32 := 2#32
  let arg1 : BitVec 32 := BitVec.ofNat 32 (i 1).val
  let v1010 : BitVec 32 := Scalar.muli c2_i32_504 arg1
  let c0_i32_32 : BitVec 32 := 0#32
  let c1_i32_34 : BitVec 32 := 1#32
  let arg25 : BitVec 32 := Scf.iv c0_i32_32 c1_i32_34 k0_t22
  let v1011 : BitVec 32 := Scalar.addi v1010 arg25
  let c1_i32_505 : BitVec 32 := 1#32
  let v1012 : BitVec 32 := Scalar.addi v1011 c1_i32_505
  let c256_i32_506 : BitVec 32 := 256#32
  let v1013 : BitVec 32 := Scalar.muli v1012 c256_i32_506
  let c1_i32_411 : BitVec 32 := 1#32
  let c1_i32_414 : BitVec 32 := 1#32
  let arg26 : BitVec 32 := Scf.iv c1_i32_411 c1_i32_414 k0_t34
  let c1_i32_502 : BitVec 32 := 1#32
  let v1007 : BitVec 32 := Scalar.addi arg26 c1_i32_502
  let c1_i32 : BitVec 32 := 1#32
  let v4 : BitVec 32 := Scalar.addi arg1 c1_i32
  let c1_i32_503 : BitVec 32 := 1#32
  let v1008 : BitVec 32 := Scalar.subi v4 c1_i32_503
  let v1009 : BitVec 32 := Scalar.minsi v1007 v1008
  let c1_i32_507 : BitVec 32 := 1#32
  let v1014 : BitVec 32 := Scalar.addi v1009 c1_i32_507
  let c512_i32_508 : BitVec 32 := 512#32
  let v1015 : BitVec 32 := Scalar.muli v1014 c512_i32_508
  let v1016 : BitVec 32 := Scalar.subi v1013 v1015
  let c256_i32_509 : BitVec 32 := 256#32
  let v1017 : BitVec 32 := Scalar.addi v1016 c256_i32_509
  v1017
def k0_off49 (i : grid0.Coords) (k0_t22 : Fin k0_t22_loop.trips) (k0_t34 : Fin (k0_t34_loop i).trips) : Fin 2 → Nat :=
  let c2_i32_504 : BitVec 32 := 2#32
  let arg1 : BitVec 32 := BitVec.ofNat 32 (i 1).val
  let v1010 : BitVec 32 := Scalar.muli c2_i32_504 arg1
  let c0_i32_32 : BitVec 32 := 0#32
  let c1_i32_34 : BitVec 32 := 1#32
  let arg25 : BitVec 32 := Scf.iv c0_i32_32 c1_i32_34 k0_t22
  let v1011 : BitVec 32 := Scalar.addi v1010 arg25
  let c1_i32_505 : BitVec 32 := 1#32
  let v1012 : BitVec 32 := Scalar.addi v1011 c1_i32_505
  let c256_i32_506 : BitVec 32 := 256#32
  let v1013 : BitVec 32 := Scalar.muli v1012 c256_i32_506
  let c1_i32_411 : BitVec 32 := 1#32
  let c1_i32_414 : BitVec 32 := 1#32
  let arg26 : BitVec 32 := Scf.iv c1_i32_411 c1_i32_414 k0_t34
  let c1_i32_502 : BitVec 32 := 1#32
  let v1007 : BitVec 32 := Scalar.addi arg26 c1_i32_502
  let c1_i32 : BitVec 32 := 1#32
  let v4 : BitVec 32 := Scalar.addi arg1 c1_i32
  let c1_i32_503 : BitVec 32 := 1#32
  let v1008 : BitVec 32 := Scalar.subi v4 c1_i32_503
  let v1009 : BitVec 32 := Scalar.minsi v1007 v1008
  let c1_i32_507 : BitVec 32 := 1#32
  let v1014 : BitVec 32 := Scalar.addi v1009 c1_i32_507
  let c512_i32_508 : BitVec 32 := 512#32
  let v1015 : BitVec 32 := Scalar.muli v1014 c512_i32_508
  let v1016 : BitVec 32 := Scalar.subi v1013 v1015
  let c256_i32_509 : BitVec 32 := 256#32
  let v1017 : BitVec 32 := Scalar.addi v1016 c256_i32_509
  let v1018 : BitVec 32 := v1017
  let v1019 : Index := Scalar.indexCast v1018
  let c0_510 : Index := 0#32
  ![v1019.toNat, 0]
@[reducible] def k0_t35_loop (i : grid0.Coords) : Scf.Loop 32 :=
  let c1_i32_411 : BitVec 32 := 1#32
  let arg1 : BitVec 32 := BitVec.ofNat 32 (i 1).val
  let c1_i32 : BitVec 32 := 1#32
  let v4 : BitVec 32 := Scalar.addi arg1 c1_i32
  let v854 : BitVec 32 := Scalar.subi v4 c1_i32_411
  let c1_i32_413 : BitVec 32 := 1#32
  let v856 : BitVec 32 := Scalar.divsi v854 c1_i32_413
  let v857 : BitVec 32 := Scalar.muli v856 c1_i32_413
  let v858 : BitVec 32 := Scalar.addi c1_i32_411 v857
  let v855 : BitVec 32 := Scalar.addi c1_i32_411 v854
  let c1_i32_415 : BitVec 32 := 1#32
  ⟨v858, v855, c1_i32_415⟩
def k0_mult40 (i : grid0.Coords) (k0_t22 : Fin k0_t22_loop.trips) (k0_t35 : Fin (k0_t35_loop i).trips) : BitVec 32 :=
  let c2_i32_416 : BitVec 32 := 2#32
  let arg1 : BitVec 32 := BitVec.ofNat 32 (i 1).val
  let v861 : BitVec 32 := Scalar.muli c2_i32_416 arg1
  let c0_i32_32 : BitVec 32 := 0#32
  let c1_i32_34 : BitVec 32 := 1#32
  let arg25 : BitVec 32 := Scf.iv c0_i32_32 c1_i32_34 k0_t22
  let v862 : BitVec 32 := Scalar.addi v861 arg25
  let c1_i32_417 : BitVec 32 := 1#32
  let v863 : BitVec 32 := Scalar.addi v862 c1_i32_417
  let c256_i32_418 : BitVec 32 := 256#32
  let v864 : BitVec 32 := Scalar.muli v863 c256_i32_418
  let c1_i32_411 : BitVec 32 := 1#32
  let c1_i32 : BitVec 32 := 1#32
  let v4 : BitVec 32 := Scalar.addi arg1 c1_i32
  let v854 : BitVec 32 := Scalar.subi v4 c1_i32_411
  let c1_i32_413 : BitVec 32 := 1#32
  let v856 : BitVec 32 := Scalar.divsi v854 c1_i32_413
  let v857 : BitVec 32 := Scalar.muli v856 c1_i32_413
  let v858 : BitVec 32 := Scalar.addi c1_i32_411 v857
  let c1_i32_415 : BitVec 32 := 1#32
  let arg26 : BitVec 32 := Scf.iv v858 c1_i32_415 k0_t35
  let c1_i32_419 : BitVec 32 := 1#32
  let v865 : BitVec 32 := Scalar.addi arg26 c1_i32_419
  let c512_i32_420 : BitVec 32 := 512#32
  let v866 : BitVec 32 := Scalar.muli v865 c512_i32_420
  let v867 : BitVec 32 := Scalar.subi v864 v866
  let c256_i32_421 : BitVec 32 := 256#32
  let v868 : BitVec 32 := Scalar.addi v867 c256_i32_421
  v868
def k0_off50 (i : grid0.Coords) (k0_t22 : Fin k0_t22_loop.trips) (k0_t35 : Fin (k0_t35_loop i).trips) : Fin 2 → Nat :=
  let c2_i32_416 : BitVec 32 := 2#32
  let arg1 : BitVec 32 := BitVec.ofNat 32 (i 1).val
  let v861 : BitVec 32 := Scalar.muli c2_i32_416 arg1
  let c0_i32_32 : BitVec 32 := 0#32
  let c1_i32_34 : BitVec 32 := 1#32
  let arg25 : BitVec 32 := Scf.iv c0_i32_32 c1_i32_34 k0_t22
  let v862 : BitVec 32 := Scalar.addi v861 arg25
  let c1_i32_417 : BitVec 32 := 1#32
  let v863 : BitVec 32 := Scalar.addi v862 c1_i32_417
  let c256_i32_418 : BitVec 32 := 256#32
  let v864 : BitVec 32 := Scalar.muli v863 c256_i32_418
  let c1_i32_411 : BitVec 32 := 1#32
  let c1_i32 : BitVec 32 := 1#32
  let v4 : BitVec 32 := Scalar.addi arg1 c1_i32
  let v854 : BitVec 32 := Scalar.subi v4 c1_i32_411
  let c1_i32_413 : BitVec 32 := 1#32
  let v856 : BitVec 32 := Scalar.divsi v854 c1_i32_413
  let v857 : BitVec 32 := Scalar.muli v856 c1_i32_413
  let v858 : BitVec 32 := Scalar.addi c1_i32_411 v857
  let c1_i32_415 : BitVec 32 := 1#32
  let arg26 : BitVec 32 := Scf.iv v858 c1_i32_415 k0_t35
  let c1_i32_419 : BitVec 32 := 1#32
  let v865 : BitVec 32 := Scalar.addi arg26 c1_i32_419
  let c512_i32_420 : BitVec 32 := 512#32
  let v866 : BitVec 32 := Scalar.muli v865 c512_i32_420
  let v867 : BitVec 32 := Scalar.subi v864 v866
  let c256_i32_421 : BitVec 32 := 256#32
  let v868 : BitVec 32 := Scalar.addi v867 c256_i32_421
  let v869 : BitVec 32 := v868
  let v870 : Index := Scalar.indexCast v869
  let c0_422 : Index := 0#32
  ![v870.toNat, 0]
def k0_mult41 (i : grid0.Coords) (k0_t22 : Fin k0_t22_loop.trips) (k0_t35 : Fin (k0_t35_loop i).trips) : BitVec 32 :=
  let c2_i32_423 : BitVec 32 := 2#32
  let arg1 : BitVec 32 := BitVec.ofNat 32 (i 1).val
  let v872 : BitVec 32 := Scalar.muli c2_i32_423 arg1
  let c0_i32_32 : BitVec 32 := 0#32
  let c1_i32_34 : BitVec 32 := 1#32
  let arg25 : BitVec 32 := Scf.iv c0_i32_32 c1_i32_34 k0_t22
  let v873 : BitVec 32 := Scalar.addi v872 arg25
  let c1_i32_424 : BitVec 32 := 1#32
  let v874 : BitVec 32 := Scalar.addi v873 c1_i32_424
  let c256_i32_425 : BitVec 32 := 256#32
  let v875 : BitVec 32 := Scalar.muli v874 c256_i32_425
  let c1_i32_411 : BitVec 32 := 1#32
  let c1_i32 : BitVec 32 := 1#32
  let v4 : BitVec 32 := Scalar.addi arg1 c1_i32
  let v854 : BitVec 32 := Scalar.subi v4 c1_i32_411
  let c1_i32_413 : BitVec 32 := 1#32
  let v856 : BitVec 32 := Scalar.divsi v854 c1_i32_413
  let v857 : BitVec 32 := Scalar.muli v856 c1_i32_413
  let v858 : BitVec 32 := Scalar.addi c1_i32_411 v857
  let c1_i32_415 : BitVec 32 := 1#32
  let arg26 : BitVec 32 := Scf.iv v858 c1_i32_415 k0_t35
  let c1_i32_426 : BitVec 32 := 1#32
  let v876 : BitVec 32 := Scalar.addi arg26 c1_i32_426
  let c512_i32_427 : BitVec 32 := 512#32
  let v877 : BitVec 32 := Scalar.muli v876 c512_i32_427
  let v878 : BitVec 32 := Scalar.subi v875 v877
  let c256_i32_428 : BitVec 32 := 256#32
  let v879 : BitVec 32 := Scalar.addi v878 c256_i32_428
  v879
def k0_off51 (i : grid0.Coords) (k0_t22 : Fin k0_t22_loop.trips) (k0_t35 : Fin (k0_t35_loop i).trips) : Fin 2 → Nat :=
  let c2_i32_423 : BitVec 32 := 2#32
  let arg1 : BitVec 32 := BitVec.ofNat 32 (i 1).val
  let v872 : BitVec 32 := Scalar.muli c2_i32_423 arg1
  let c0_i32_32 : BitVec 32 := 0#32
  let c1_i32_34 : BitVec 32 := 1#32
  let arg25 : BitVec 32 := Scf.iv c0_i32_32 c1_i32_34 k0_t22
  let v873 : BitVec 32 := Scalar.addi v872 arg25
  let c1_i32_424 : BitVec 32 := 1#32
  let v874 : BitVec 32 := Scalar.addi v873 c1_i32_424
  let c256_i32_425 : BitVec 32 := 256#32
  let v875 : BitVec 32 := Scalar.muli v874 c256_i32_425
  let c1_i32_411 : BitVec 32 := 1#32
  let c1_i32 : BitVec 32 := 1#32
  let v4 : BitVec 32 := Scalar.addi arg1 c1_i32
  let v854 : BitVec 32 := Scalar.subi v4 c1_i32_411
  let c1_i32_413 : BitVec 32 := 1#32
  let v856 : BitVec 32 := Scalar.divsi v854 c1_i32_413
  let v857 : BitVec 32 := Scalar.muli v856 c1_i32_413
  let v858 : BitVec 32 := Scalar.addi c1_i32_411 v857
  let c1_i32_415 : BitVec 32 := 1#32
  let arg26 : BitVec 32 := Scf.iv v858 c1_i32_415 k0_t35
  let c1_i32_426 : BitVec 32 := 1#32
  let v876 : BitVec 32 := Scalar.addi arg26 c1_i32_426
  let c512_i32_427 : BitVec 32 := 512#32
  let v877 : BitVec 32 := Scalar.muli v876 c512_i32_427
  let v878 : BitVec 32 := Scalar.subi v875 v877
  let c256_i32_428 : BitVec 32 := 256#32
  let v879 : BitVec 32 := Scalar.addi v878 c256_i32_428
  let v880 : BitVec 32 := v879
  let v881 : Index := Scalar.indexCast v880
  let c0_429 : Index := 0#32
  ![v881.toNat, 0]
def k0_off52 (i : grid0.Coords) (k0_t22 : Fin k0_t22_loop.trips) (k0_t35 : Fin (k0_t35_loop i).trips) : Fin 4 → Nat :=
  let c0_i32_32 : BitVec 32 := 0#32
  let c1_i32_34 : BitVec 32 := 1#32
  let arg25 : BitVec 32 := Scf.iv c0_i32_32 c1_i32_34 k0_t22
  let v883 : Index := Scalar.indexCast arg25
  let c1_i32_411 : BitVec 32 := 1#32
  let arg1 : BitVec 32 := BitVec.ofNat 32 (i 1).val
  let c1_i32 : BitVec 32 := 1#32
  let v4 : BitVec 32 := Scalar.addi arg1 c1_i32
  let v854 : BitVec 32 := Scalar.subi v4 c1_i32_411
  let c1_i32_413 : BitVec 32 := 1#32
  let v856 : BitVec 32 := Scalar.divsi v854 c1_i32_413
  let v857 : BitVec 32 := Scalar.muli v856 c1_i32_413
  let v858 : BitVec 32 := Scalar.addi c1_i32_411 v857
  let c1_i32_415 : BitVec 32 := 1#32
  let arg26 : BitVec 32 := Scf.iv v858 c1_i32_415 k0_t35
  let v884 : Index := Scalar.indexCast arg26
  let c0_430 : Index := 0#32
  let c0_431 : Index := 0#32
  ![v883.toNat, v884.toNat, 0, 0]
def k0_mult42 (i : grid0.Coords) (k0_t22 : Fin k0_t22_loop.trips) (k0_t35 : Fin (k0_t35_loop i).trips) : BitVec 32 :=
  let c2_i32_504 : BitVec 32 := 2#32
  let arg1 : BitVec 32 := BitVec.ofNat 32 (i 1).val
  let v1010 : BitVec 32 := Scalar.muli c2_i32_504 arg1
  let c0_i32_32 : BitVec 32 := 0#32
  let c1_i32_34 : BitVec 32 := 1#32
  let arg25 : BitVec 32 := Scf.iv c0_i32_32 c1_i32_34 k0_t22
  let v1011 : BitVec 32 := Scalar.addi v1010 arg25
  let c1_i32_505 : BitVec 32 := 1#32
  let v1012 : BitVec 32 := Scalar.addi v1011 c1_i32_505
  let c256_i32_506 : BitVec 32 := 256#32
  let v1013 : BitVec 32 := Scalar.muli v1012 c256_i32_506
  let c1_i32_411 : BitVec 32 := 1#32
  let c1_i32 : BitVec 32 := 1#32
  let v4 : BitVec 32 := Scalar.addi arg1 c1_i32
  let v854 : BitVec 32 := Scalar.subi v4 c1_i32_411
  let c1_i32_413 : BitVec 32 := 1#32
  let v856 : BitVec 32 := Scalar.divsi v854 c1_i32_413
  let v857 : BitVec 32 := Scalar.muli v856 c1_i32_413
  let v858 : BitVec 32 := Scalar.addi c1_i32_411 v857
  let c1_i32_415 : BitVec 32 := 1#32
  let arg26 : BitVec 32 := Scf.iv v858 c1_i32_415 k0_t35
  let c1_i32_502 : BitVec 32 := 1#32
  let v1007 : BitVec 32 := Scalar.addi arg26 c1_i32_502
  let c1_i32_503 : BitVec 32 := 1#32
  let v1008 : BitVec 32 := Scalar.subi v4 c1_i32_503
  let v1009 : BitVec 32 := Scalar.minsi v1007 v1008
  let c1_i32_507 : BitVec 32 := 1#32
  let v1014 : BitVec 32 := Scalar.addi v1009 c1_i32_507
  let c512_i32_508 : BitVec 32 := 512#32
  let v1015 : BitVec 32 := Scalar.muli v1014 c512_i32_508
  let v1016 : BitVec 32 := Scalar.subi v1013 v1015
  let c256_i32_509 : BitVec 32 := 256#32
  let v1017 : BitVec 32 := Scalar.addi v1016 c256_i32_509
  v1017
def k0_off53 (i : grid0.Coords) (k0_t22 : Fin k0_t22_loop.trips) (k0_t35 : Fin (k0_t35_loop i).trips) : Fin 2 → Nat :=
  let c2_i32_504 : BitVec 32 := 2#32
  let arg1 : BitVec 32 := BitVec.ofNat 32 (i 1).val
  let v1010 : BitVec 32 := Scalar.muli c2_i32_504 arg1
  let c0_i32_32 : BitVec 32 := 0#32
  let c1_i32_34 : BitVec 32 := 1#32
  let arg25 : BitVec 32 := Scf.iv c0_i32_32 c1_i32_34 k0_t22
  let v1011 : BitVec 32 := Scalar.addi v1010 arg25
  let c1_i32_505 : BitVec 32 := 1#32
  let v1012 : BitVec 32 := Scalar.addi v1011 c1_i32_505
  let c256_i32_506 : BitVec 32 := 256#32
  let v1013 : BitVec 32 := Scalar.muli v1012 c256_i32_506
  let c1_i32_411 : BitVec 32 := 1#32
  let c1_i32 : BitVec 32 := 1#32
  let v4 : BitVec 32 := Scalar.addi arg1 c1_i32
  let v854 : BitVec 32 := Scalar.subi v4 c1_i32_411
  let c1_i32_413 : BitVec 32 := 1#32
  let v856 : BitVec 32 := Scalar.divsi v854 c1_i32_413
  let v857 : BitVec 32 := Scalar.muli v856 c1_i32_413
  let v858 : BitVec 32 := Scalar.addi c1_i32_411 v857
  let c1_i32_415 : BitVec 32 := 1#32
  let arg26 : BitVec 32 := Scf.iv v858 c1_i32_415 k0_t35
  let c1_i32_502 : BitVec 32 := 1#32
  let v1007 : BitVec 32 := Scalar.addi arg26 c1_i32_502
  let c1_i32_503 : BitVec 32 := 1#32
  let v1008 : BitVec 32 := Scalar.subi v4 c1_i32_503
  let v1009 : BitVec 32 := Scalar.minsi v1007 v1008
  let c1_i32_507 : BitVec 32 := 1#32
  let v1014 : BitVec 32 := Scalar.addi v1009 c1_i32_507
  let c512_i32_508 : BitVec 32 := 512#32
  let v1015 : BitVec 32 := Scalar.muli v1014 c512_i32_508
  let v1016 : BitVec 32 := Scalar.subi v1013 v1015
  let c256_i32_509 : BitVec 32 := 256#32
  let v1017 : BitVec 32 := Scalar.addi v1016 c256_i32_509
  let v1018 : BitVec 32 := v1017
  let v1019 : Index := Scalar.indexCast v1018
  let c0_510 : Index := 0#32
  ![v1019.toNat, 0]
def k0_mult43 (k0_t22 : Fin k0_t22_loop.trips) : BitVec 32 :=
  let c0_i32_32 : BitVec 32 := 0#32
  let c1_i32_34 : BitVec 32 := 1#32
  let arg25 : BitVec 32 := Scf.iv c0_i32_32 c1_i32_34 k0_t22
  let c256_i32_263 : BitVec 32 := 256#32
  let v603 : BitVec 32 := Scalar.muli arg25 c256_i32_263
  v603
def k0_off54 (k0_t22 : Fin k0_t22_loop.trips) : Fin 2 → Nat :=
  let c0_i32_32 : BitVec 32 := 0#32
  let c1_i32_34 : BitVec 32 := 1#32
  let arg25 : BitVec 32 := Scf.iv c0_i32_32 c1_i32_34 k0_t22
  let c256_i32_263 : BitVec 32 := 256#32
  let v603 : BitVec 32 := Scalar.muli arg25 c256_i32_263
  let v604 : BitVec 32 := v603
  let v605 : Index := Scalar.indexCast v604
  let c0_264 : Index := 0#32
  ![v605.toNat, 0]
def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_10 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S4096x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S8x384x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S2x8x1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Ffn.lean ====
abbrev S16x4096x1024 : Shape := ⟨3, ![16, 4096, 1024]⟩
abbrev S1024 : Shape := ⟨1, ![1024]⟩
abbrev S1024x5632 : Shape := ⟨2, ![1024, 5632]⟩
abbrev S2816x1024 : Shape := ⟨2, ![2816, 1024]⟩
abbrev S65536x1024 : Shape := ⟨2, ![65536, 1024]⟩
abbrev S1x1024 : Shape := ⟨2, ![1, 1024]⟩
abbrev S1024x2816 : Shape := ⟨2, ![1024, 2816]⟩
abbrev S512x1024 : Shape := ⟨2, ![512, 1024]⟩
abbrev S512x2816 : Shape := ⟨2, ![512, 2816]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩

abbrev nBuf : Space → Nat
  | .hbm => 14
  | .vmem => 10
  | .smem => 0
  | _ => 0

abbrev bufTy : (tb : Table) → Fin (tcTables nBuf tb) → BufTy
  | .hbm, ⟨0, _⟩ => ⟨S16x4096x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S1024, .f32⟩
  | .hbm, ⟨5, _⟩ => ⟨S65536x1024, .f32⟩
  | .hbm, ⟨6, _⟩ => ⟨S1x1024, .f32⟩
  | .hbm, ⟨7, _⟩ => ⟨S1024x2816, .f32⟩
  | .hbm, ⟨8, _⟩ => ⟨S1024x2816, .bf16⟩
  | .hbm, ⟨9, _⟩ => ⟨S1024x2816, .f32⟩
  | .hbm, ⟨10, _⟩ => ⟨S1024x2816, .bf16⟩
  | .hbm, ⟨11, _⟩ => ⟨S2816x1024, .bf16⟩
  | .hbm, ⟨12, _⟩ => ⟨S1x1024, .f32⟩
  | .hbm, ⟨13, _⟩ => ⟨S65536x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2816, .bf16⟩
  | .local _ .vmem, ⟨4, _⟩ => ⟨S1024x2816, .bf16⟩
  | .local _ .vmem, ⟨5, _⟩ => ⟨S2816x1024, .bf16⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x2816, .bf16⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== FfnRefIdeal.lean ====
abbrev S16x4096x1024 : Shape := ⟨3, ![16, 4096, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S16x4096 : Shape := ⟨2, ![16, 4096]⟩
abbrev S16x4096x1 : Shape := ⟨3, ![16, 4096, 1]⟩
abbrev S1x1x1024 : Shape := ⟨3, ![1, 1, 1024]⟩
abbrev S16x4096x5632 : Shape := ⟨3, ![16, 4096, 5632]⟩
abbrev S16x4096x2816 : Shape := ⟨3, ![16, 4096, 2816]⟩
abbrev S65536x1024 : Shape := ⟨2, ![65536, 1024]⟩

abbrev nBuf : Space → Nat
  | .hbm => 40
  | .vmem => 0
  | .smem => 0
  | _ => 0

abbrev bufTy : (tb : Table) → Fin (tcTables nBuf tb) → BufTy
  | .hbm, ⟨0, _⟩ => ⟨S16x4096x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S1024, .f32⟩
  | .hbm, ⟨5, _⟩ => ⟨S16x4096x1024, .f32⟩
  | .hbm, ⟨6, _⟩ => ⟨S_, .f32⟩
  | .hbm, ⟨7, _⟩ => ⟨S16x4096, .f32⟩
  | .hbm, ⟨8, _⟩ => ⟨S16x4096x1, .f32⟩
  | .hbm, ⟨9, _⟩ => ⟨S_, .f32⟩
  | .hbm, ⟨10, _⟩ => ⟨S16x4096x1, .f32⟩
  | .hbm, ⟨11, _⟩ => ⟨S16x4096x1, .f32⟩
  | .hbm, ⟨12, _⟩ => ⟨S_, .f32⟩
  | .hbm, ⟨13, _⟩ => ⟨S16x4096x1, .f32⟩
  | .hbm, ⟨14, _⟩ => ⟨S16x4096x1, .f32⟩
  | .hbm, ⟨15, _⟩ => ⟨S16x4096x1, .f32⟩
  | .hbm, ⟨16, _⟩ => ⟨S16x4096x1024, .f32⟩
  | .hbm, ⟨17, _⟩ => ⟨S16x4096x1024, .f32⟩
  | .hbm, ⟨18, _⟩ => ⟨S1x1x1024, .f32⟩
  | .hbm, ⟨19, _⟩ => ⟨S16x4096x1024, .f32⟩
  | .hbm, ⟨20, _⟩ => ⟨S16x4096x1024, .f32⟩
  | .hbm, ⟨21, _⟩ => ⟨S16x4096x5632, .f32⟩
  | .hbm, ⟨22, _⟩ => ⟨S16x4096x2816, .f32⟩
  | .hbm, ⟨23, _⟩ => ⟨S16x4096x2816, .f32⟩
  | .hbm, ⟨24, _⟩ => ⟨S16x4096x2816, .f32⟩
  | .hbm, ⟨25, _⟩ => ⟨S16x4096x2816, .f32⟩
  | .hbm, ⟨26, _⟩ => ⟨S_, .f32⟩
  | .hbm, ⟨27, _⟩ => ⟨S16x4096x2816, .f32⟩
  | .hbm, ⟨28, _⟩ => ⟨S16x4096x2816, .f32⟩
  | .hbm, ⟨29, _⟩ => ⟨S_, .f32⟩
  | .hbm, ⟨30, _⟩ => ⟨S16x4096x2816, .f32⟩
  | .hbm, ⟨31, _⟩ => ⟨S16x4096x2816, .f32⟩
  | .hbm, ⟨32, _⟩ => ⟨S16x4096x2816, .f32⟩
  | .hbm, ⟨33, _⟩ => ⟨S16x4096x2816, .f32⟩
  | .hbm, ⟨34, _⟩ => ⟨S16x4096x1024, .f32⟩
  | .hbm, ⟨35, _⟩ => ⟨S_, .f32⟩
  | .hbm, ⟨36, _⟩ => ⟨S16x4096x1024, .f32⟩
  | .hbm, ⟨37, _⟩ => ⟨S16x4096x1024, .f32⟩
  | .hbm, ⟨38, _⟩ => ⟨S16x4096x1024, .f32⟩
  | .hbm, ⟨39, _⟩ => ⟨S65536x1024, .f32⟩
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_2 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩

abbrev nD : Nat := 1
abbrev τ : Topo := Topo.v7x

variable {F : FTy → Type} [FloatOps F]
-- ==== FfnLast.lean ====
abbrev S16x4096x1024 : Shape := ⟨3, ![16, 4096, 1024]⟩
abbrev S1024 : Shape := ⟨1, ![1024]⟩
abbrev S1024x5632 : Shape := ⟨2, ![1024, 5632]⟩
abbrev S2816x1024 : Shape := ⟨2, ![2816, 1024]⟩
abbrev S65536x1024 : Shape := ⟨2, ![65536, 1024]⟩
abbrev S1x1024 : Shape := ⟨2, ![1, 1024]⟩
abbrev S1024x2816 : Shape := ⟨2, ![1024, 2816]⟩
abbrev S512x1024 : Shape := ⟨2, ![512, 1024]⟩
abbrev S512x2816 : Shape := ⟨2, ![512, 2816]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩

abbrev nBuf : Space → Nat
  | .hbm => 14
  | .vmem => 10
  | .smem => 0
  | _ => 0

abbrev bufTy : (tb : Table) → Fin (tcTables nBuf tb) → BufTy
  | .hbm, ⟨0, _⟩ => ⟨S16x4096x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S1024, .f32⟩
  | .hbm, ⟨5, _⟩ => ⟨S65536x1024, .f32⟩
  | .hbm, ⟨6, _⟩ => ⟨S1x1024, .f32⟩
  | .hbm, ⟨7, _⟩ => ⟨S1024x2816, .f32⟩
  | .hbm, ⟨8, _⟩ => ⟨S1024x2816, .bf16⟩
  | .hbm, ⟨9, _⟩ => ⟨S1024x2816, .f32⟩
  | .hbm, ⟨10, _⟩ => ⟨S1024x2816, .bf16⟩
  | .hbm, ⟨11, _⟩ => ⟨S2816x1024, .bf16⟩
  | .hbm, ⟨12, _⟩ => ⟨S1x1024, .f32⟩
  | .hbm, ⟨13, _⟩ => ⟨S65536x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2816, .bf16⟩
  | .local _ .vmem, ⟨4, _⟩ => ⟨S1024x2816, .bf16⟩
  | .local _ .vmem, ⟨5, _⟩ => ⟨S2816x1024, .bf16⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x2816, .bf16⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== FfnLastRefIdeal.lean ====
abbrev S16x4096x1024 : Shape := ⟨3, ![16, 4096, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S16x4096 : Shape := ⟨2, ![16, 4096]⟩
abbrev S16x4096x1 : Shape := ⟨3, ![16, 4096, 1]⟩
abbrev S1x1x1024 : Shape := ⟨3, ![1, 1, 1024]⟩
abbrev S16x4096x5632 : Shape := ⟨3, ![16, 4096, 5632]⟩
abbrev S16x4096x2816 : Shape := ⟨3, ![16, 4096, 2816]⟩
abbrev S65536x1024 : Shape := ⟨2, ![65536, 1024]⟩

abbrev nBuf : Space → Nat
  | .hbm => 56
  | .vmem => 0
  | .smem => 0
  | _ => 0

abbrev bufTy : (tb : Table) → Fin (tcTables nBuf tb) → BufTy
  | .hbm, ⟨0, _⟩ => ⟨S16x4096x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S1024, .f32⟩
  | .hbm, ⟨5, _⟩ => ⟨S16x4096x1024, .f32⟩
  | .hbm, ⟨6, _⟩ => ⟨S_, .f32⟩
  | .hbm, ⟨7, _⟩ => ⟨S16x4096, .f32⟩
  | .hbm, ⟨8, _⟩ => ⟨S16x4096x1, .f32⟩
  | .hbm, ⟨9, _⟩ => ⟨S_, .f32⟩
  | .hbm, ⟨10, _⟩ => ⟨S16x4096x1, .f32⟩
  | .hbm, ⟨11, _⟩ => ⟨S16x4096x1, .f32⟩
  | .hbm, ⟨12, _⟩ => ⟨S_, .f32⟩
  | .hbm, ⟨13, _⟩ => ⟨S16x4096x1, .f32⟩
  | .hbm, ⟨14, _⟩ => ⟨S16x4096x1, .f32⟩
  | .hbm, ⟨15, _⟩ => ⟨S16x4096x1, .f32⟩
  | .hbm, ⟨16, _⟩ => ⟨S16x4096x1024, .f32⟩
  | .hbm, ⟨17, _⟩ => ⟨S16x4096x1024, .f32⟩
  | .hbm, ⟨18, _⟩ => ⟨S1x1x1024, .f32⟩
  | .hbm, ⟨19, _⟩ => ⟨S16x4096x1024, .f32⟩
  | .hbm, ⟨20, _⟩ => ⟨S16x4096x1024, .f32⟩
  | .hbm, ⟨21, _⟩ => ⟨S16x4096x5632, .f32⟩
  | .hbm, ⟨22, _⟩ => ⟨S16x4096x2816, .f32⟩
  | .hbm, ⟨23, _⟩ => ⟨S16x4096x2816, .f32⟩
  | .hbm, ⟨24, _⟩ => ⟨S16x4096x2816, .f32⟩
  | .hbm, ⟨25, _⟩ => ⟨S16x4096x2816, .f32⟩
  | .hbm, ⟨26, _⟩ => ⟨S_, .f32⟩
  | .hbm, ⟨27, _⟩ => ⟨S16x4096x2816, .f32⟩
  | .hbm, ⟨28, _⟩ => ⟨S16x4096x2816, .f32⟩
  | .hbm, ⟨29, _⟩ => ⟨S_, .f32⟩
  | .hbm, ⟨30, _⟩ => ⟨S16x4096x2816, .f32⟩
  | .hbm, ⟨31, _⟩ => ⟨S16x4096x2816, .f32⟩
  | .hbm, ⟨32, _⟩ => ⟨S16x4096x2816, .f32⟩
  | .hbm, ⟨33, _⟩ => ⟨S16x4096x2816, .f32⟩
  | .hbm, ⟨34, _⟩ => ⟨S16x4096x1024, .f32⟩
  | .hbm, ⟨35, _⟩ => ⟨S_, .f32⟩
  | .hbm, ⟨36, _⟩ => ⟨S16x4096x1024, .f32⟩
  | .hbm, ⟨37, _⟩ => ⟨S16x4096x1024, .f32⟩
  | .hbm, ⟨38, _⟩ => ⟨S16x4096x1024, .f32⟩
  | .hbm, ⟨39, _⟩ => ⟨S16x4096x1024, .f32⟩
  | .hbm, ⟨40, _⟩ => ⟨S_, .f32⟩
  | .hbm, ⟨41, _⟩ => ⟨S16x4096, .f32⟩
  | .hbm, ⟨42, _⟩ => ⟨S16x4096x1, .f32⟩
  | .hbm, ⟨43, _⟩ => ⟨S_, .f32⟩
  | .hbm, ⟨44, _⟩ => ⟨S16x4096x1, .f32⟩
  | .hbm, ⟨45, _⟩ => ⟨S16x4096x1, .f32⟩
  | .hbm, ⟨46, _⟩ => ⟨S_, .f32⟩
  | .hbm, ⟨47, _⟩ => ⟨S16x4096x1, .f32⟩
  | .hbm, ⟨48, _⟩ => ⟨S16x4096x1, .f32⟩
  | .hbm, ⟨49, _⟩ => ⟨S16x4096x1, .f32⟩
  | .hbm, ⟨50, _⟩ => ⟨S16x4096x1024, .f32⟩
  | .hbm, ⟨51, _⟩ => ⟨S16x4096x1024, .f32⟩
  | .hbm, ⟨52, _⟩ => ⟨S1x1x1024, .f32⟩
  | .hbm, ⟨53, _⟩ => ⟨S16x4096x1024, .f32⟩
  | .hbm, ⟨54, _⟩ => ⟨S16x4096x1024, .f32⟩
  | .hbm, ⟨55, _⟩ => ⟨S65536x1024, .f32⟩
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_2 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_cst_3 : Ref sig .tc := ⟨.hbm, 40, rfl⟩
abbrev main_v23 : Ref sig .tc := ⟨.hbm, 41, rfl⟩
abbrev main_v24 : Ref sig .tc := ⟨.hbm, 42, rfl⟩
abbrev main_cst_4 : Ref sig .tc := ⟨.hbm, 43, rfl⟩
abbrev main_v25 : Ref sig .tc := ⟨.hbm, 44, rfl⟩
abbrev main_v26 : Ref sig .tc := ⟨.hbm, 45, rfl⟩
abbrev main_cst_5 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩

abbrev nD : Nat := 1
abbrev τ : Topo := Topo.v7x

variable {F : FTy → Type} [FloatOps F]
-- ==== Proj.lean ====
abbrev S16x4096x1024 : Shape := ⟨3, ![16, 4096, 1024]⟩
abbrev S1024 : Shape := ⟨1, ![1024]⟩
abbrev S1024x6864 : Shape := ⟨2, ![1024, 6864]⟩
abbrev S65536x1024 : Shape := ⟨2, ![65536, 1024]⟩
abbrev S1024x8 : Shape := ⟨2, ![1024, 8]⟩
abbrev S1024x16 : Shape := ⟨2, ![1024, 16]⟩
abbrev S_ : Shape := ⟨0, ![]⟩
abbrev S1024x128 : Shape := ⟨2, ![1024, 128]⟩
abbrev S1024x512 : Shape := ⟨2, ![1024, 512]⟩
abbrev S1024x64 : Shape := ⟨2, ![1024, 64]⟩
abbrev S1024x1024 : Shape := ⟨2, ![1024, 1024]⟩
abbrev S1024x6912 : Shape := ⟨2, ![1024, 6912]⟩
abbrev S1024x7040 : Shape := ⟨2, ![1024, 7040]⟩
abbrev S1x1024 : Shape := ⟨2, ![1, 1024]⟩
abbrev S65536x512 : Shape := ⟨2, ![65536, 512]⟩
abbrev S65536x128 : Shape := ⟨2, ![65536, 128]⟩
abbrev S65536x3072 : Shape := ⟨2, ![65536, 3072]⟩
abbrev S512x1024 : Shape := ⟨2, ![512, 1024]⟩
abbrev S512x512 : Shape := ⟨2, ![512, 512]⟩
abbrev S512x128 : Shape := ⟨2, ![512, 128]⟩
abbrev S512x3072 : Shape := ⟨2, ![512, 3072]⟩
abbrev S512 : Shape := ⟨1, ![512]⟩
abbrev S512x1 : Shape := ⟨2, ![512, 1]⟩
abbrev S512x384 : Shape := ⟨2, ![512, 384]⟩
abbrev S512x256 : Shape := ⟨2, ![512, 256]⟩
abbrev S1024x896 : Shape := ⟨2, ![1024, 896]⟩
abbrev S512x896 : Shape := ⟨2, ![512, 896]⟩
abbrev S512x768 : Shape := ⟨2, ![512, 768]⟩

abbrev nBuf : Space → Nat
  | .hbm => 41
  | .vmem => 24
  | .smem => 0
  | _ => 0

abbrev bufTy : (tb : Table) → Fin (tcTables nBuf tb) → BufTy
  | .hbm, ⟨0, _⟩ => ⟨S16x4096x1024, .f32⟩
  | .hbm, ⟨1, _⟩ => ⟨S1024, .f32⟩
  | .hbm, ⟨2, _⟩ => ⟨S1024x6864, .f32⟩
  | .hbm, ⟨3, _⟩ => ⟨S65536x1024, .f32⟩
  | .hbm, ⟨4, _⟩ => ⟨S1024x8, .f32⟩
  | .hbm, ⟨5, _⟩ => ⟨S1024x8, .f32⟩
  | .hbm, ⟨6, _⟩ => ⟨S1024x16, .f32⟩
  | .hbm, ⟨7, _⟩ => ⟨S_, .i32⟩
  | .hbm, ⟨8, _⟩ => ⟨S_, .f32⟩
  | .hbm, ⟨9, _⟩ => ⟨S1024x128, .f32⟩
  | .hbm, ⟨10, _⟩ => ⟨S1024x512, .f32⟩
  | .hbm, ⟨11, _⟩ => ⟨S1024x512, .f32⟩
  | .hbm, ⟨12, _⟩ => ⟨S1024x512, .f32⟩
  | .hbm, ⟨13, _⟩ => ⟨S1024x128, .f32⟩
  | .hbm, ⟨14, _⟩ => ⟨S1024x512, .f32⟩
  | .hbm, ⟨15, _⟩ => ⟨S1024x64, .f32⟩
  | .hbm, ⟨16, _⟩ => ⟨S1024x64, .f32⟩
  | .hbm, ⟨17, _⟩ => ⟨S1024x512, .f32⟩
  | .hbm, ⟨18, _⟩ => ⟨S_, .f32⟩
  | .hbm, ⟨19, _⟩ => ⟨S1024x512, .f32⟩
  | .hbm, ⟨20, _⟩ => ⟨S1024x512, .f32⟩
  | .hbm, ⟨21, _⟩ => ⟨S1024x512, .f32⟩
  | .hbm, ⟨22, _⟩ => ⟨S1024x512, .f32⟩
  | .hbm, ⟨23, _⟩ => ⟨S1024x1024, .f32⟩
  | .hbm, ⟨24, _⟩ => ⟨S1024x1024, .f32⟩
  | .hbm, ⟨25, _⟩ => ⟨S1024x1024, .f32⟩
  | .hbm, ⟨26, _⟩ => ⟨S1024x6912, .f32⟩
  | .hbm, ⟨27, _⟩ => ⟨S1024x6912, .bf16⟩
  | .hbm, ⟨28, _⟩ => ⟨S1024x128, .bf16⟩
  | .hbm, ⟨29, _⟩ => ⟨S1024x7040, .bf16⟩
  | .hbm, ⟨30, _⟩ => ⟨S1x1024, .f32⟩
  | .hbm, ⟨31, _⟩ => ⟨S65536x1024, .bf16⟩
  | .hbm, ⟨32, _⟩ => ⟨S65536x512, .bf16⟩
  | .hbm, ⟨33, _⟩ => ⟨S65536x128, .bf16⟩
  | .hbm, ⟨34, _⟩ => ⟨S65536x512, .bf16⟩
  | .hbm, ⟨35, _⟩ => ⟨S65536x128, .bf16⟩
  | .hbm, ⟨36, _⟩ => ⟨S65536x512, .bf16⟩
  | .hbm, ⟨37, _⟩ => ⟨S65536x512, .bf16⟩
  | .hbm, ⟨38, _⟩ => ⟨S65536x512, .bf16⟩
  | .hbm, ⟨39, _⟩ => ⟨S65536x3072, .bf16⟩
  | .hbm, ⟨40, _⟩ => ⟨S65536x128, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x7040, .bf16⟩
  | .local _ .vmem, ⟨4, _⟩ => ⟨S512x1024, .bf16⟩
  | .local _ .vmem, ⟨5, _⟩ => ⟨S512x1024, .bf16⟩
  | .local _ .vmem, ⟨6, _⟩ => ⟨S512x512, .bf16⟩
  | .local _ .vmem, ⟨7, _⟩ => ⟨S512x512, .bf16⟩
  | .local _ .vmem, ⟨8, _⟩ => ⟨S512x128, .bf16⟩
  | .local _ .vmem, ⟨9, _⟩ => ⟨S512x128, .bf16⟩
  | .local _ .vmem, ⟨10, _⟩ => ⟨S512x512, .bf16⟩
  | .local _ .vmem, ⟨11, _⟩ => ⟨S512x512, .bf16⟩
  | .local _ .vmem, ⟨12, _⟩ => ⟨S512x128, .bf16⟩
  | .local _ .vmem, ⟨13, _⟩ => ⟨S512x128, .bf16⟩
  | .local _ .vmem, ⟨14, _⟩ => ⟨S512x512, .bf16⟩
  | .local _ .vmem, ⟨15, _⟩ => ⟨S512x512, .bf16⟩
  | .local _ .vmem, ⟨16, _⟩ => ⟨S512x512, .bf16⟩
  | .local _ .vmem, ⟨17, _⟩ => ⟨S512x512, .bf16⟩
  | .local _ .vmem, ⟨18, _⟩ => ⟨S512x512, .bf16⟩
  | .local _ .vmem, ⟨19, _⟩ => ⟨S512x512, .bf16⟩
  | .local _ .vmem, ⟨20, _⟩ => ⟨S512x3072, .bf16⟩
  | .local _ .vmem, ⟨21, _⟩ => ⟨S512x3072, .bf16⟩
  | .local _ .vmem, ⟨22, _⟩ => ⟨S512x128, .f32⟩
  | .local _ .vmem, ⟨23, _⟩ => ⟨S512x128, .f32⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_call0_v0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25_0 : Ref sig .tc := ⟨.hbm, 31, rfl⟩
abbrev main_v25_1 : Ref sig .tc := ⟨.hbm, 32, rfl⟩
abbrev main_v25_2 : Ref sig .tc := ⟨.hbm, 33, rfl⟩
abbrev main_v25_3 : Ref sig .tc := ⟨.hbm, 34, rfl⟩
abbrev main_v25_4 : Ref sig .tc := ⟨.hbm, 35, rfl⟩
abbrev main_v25_5 : Ref sig .tc := ⟨.hbm, 36, rfl⟩
abbrev main_v25_6 : Ref sig .tc := ⟨.hbm, 37, rfl⟩
abbrev main_v25_7 : Ref sig .tc := ⟨.hbm, 38, rfl⟩
abbrev main_v25_8 : Ref sig .tc := ⟨.hbm, 39, rfl⟩
abbrev main_v25_9 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x7040 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x3072 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== ProjRefIdeal.lean ====
abbrev S16x4096x1024 : Shape := ⟨3, ![16, 4096, 1024]⟩
abbrev S1024 : Shape := ⟨1, ![1024]⟩
abbrev S1024x6864 : Shape := ⟨2, ![1024, 6864]⟩
abbrev S_ : Shape := ⟨0, ![]⟩
abbrev S16x4096 : Shape := ⟨2, ![16, 4096]⟩
abbrev S16x4096x1 : Shape := ⟨3, ![16, 4096, 1]⟩
abbrev S1x1x1024 : Shape := ⟨3, ![1, 1, 1024]⟩
abbrev S16x4096x6864 : Shape := ⟨3, ![16, 4096, 6864]⟩
abbrev S16x4096x512 : Shape := ⟨3, ![16, 4096, 512]⟩
abbrev S16x4096x128 : Shape := ⟨3, ![16, 4096, 128]⟩
abbrev S16x4096x64 : Shape := ⟨3, ![16, 4096, 64]⟩
abbrev S16x4096x8 : Shape := ⟨3, ![16, 4096, 8]⟩
abbrev S16x4096x112 : Shape := ⟨3, ![16, 4096, 112]⟩
abbrev S16x4096x3072 : Shape := ⟨3, ![16, 4096, 3072]⟩
abbrev S65536x1024 : Shape := ⟨2, ![65536, 1024]⟩
abbrev S65536x512 : Shape := ⟨2, ![65536, 512]⟩
abbrev S65536x128 : Shape := ⟨2, ![65536, 128]⟩
abbrev S65536x3072 : Shape := ⟨2, ![65536, 3072]⟩

abbrev nBuf : Space → Nat
  | .hbm => 62
  | .vmem => 0
  | .smem => 0
  | _ => 0

abbrev bufTy : (tb : Table) → Fin (tcTables nBuf tb) → BufTy
  | .hbm, ⟨0, _⟩ => ⟨S16x4096x1024, .f32⟩
  | .hbm, ⟨1, _⟩ => ⟨S1024, .f32⟩
  | .hbm, ⟨2, _⟩ => ⟨S1024x6864, .f32⟩
  | .hbm, ⟨3, _⟩ => ⟨S16x4096x1024, .f32⟩
  | .hbm, ⟨4, _⟩ => ⟨S_, .f32⟩
  | .hbm, ⟨5, _⟩ => ⟨S16x4096, .f32⟩
  | .hbm, ⟨6, _⟩ => ⟨S16x4096x1, .f32⟩
  | .hbm, ⟨7, _⟩ => ⟨S_, .f32⟩
  | .hbm, ⟨8, _⟩ => ⟨S16x4096x1, .f32⟩
  | .hbm, ⟨9, _⟩ => ⟨S16x4096x1, .f32⟩
  | .hbm, ⟨10, _⟩ => ⟨S_, .f32⟩
  | .hbm, ⟨11, _⟩ => ⟨S16x4096x1, .f32⟩
  | .hbm, ⟨12, _⟩ => ⟨S16x4096x1, .f32⟩
  | .hbm, ⟨13, _⟩ => ⟨S16x4096x1, .f32⟩
  | .hbm, ⟨14, _⟩ => ⟨S16x4096x1024, .f32⟩
  | .hbm, ⟨15, _⟩ => ⟨S16x4096x1024, .f32⟩
  | .hbm, ⟨16, _⟩ => ⟨S1x1x1024, .f32⟩
  | .hbm, ⟨17, _⟩ => ⟨S16x4096x1024, .f32⟩
  | .hbm, ⟨18, _⟩ => ⟨S16x4096x1024, .f32⟩
  | .hbm, ⟨19, _⟩ => ⟨S16x4096x6864, .f32⟩
  | .hbm, ⟨20, _⟩ => ⟨S16x4096x512, .f32⟩
  | .hbm, ⟨21, _⟩ => ⟨S16x4096x512, .f32⟩
  | .hbm, ⟨22, _⟩ => ⟨S16x4096x512, .f32⟩
  | .hbm, ⟨23, _⟩ => ⟨S16x4096x128, .f32⟩
  | .hbm, ⟨24, _⟩ => ⟨S16x4096x512, .f32⟩
  | .hbm, ⟨25, _⟩ => ⟨S16x4096x64, .f32⟩
  | .hbm, ⟨26, _⟩ => ⟨S16x4096x8, .f32⟩
  | .hbm, ⟨27, _⟩ => ⟨S16x4096x512, .f32⟩
  | .hbm, ⟨28, _⟩ => ⟨S16x4096x512, .f32⟩
  | .hbm, ⟨29, _⟩ => ⟨S16x4096x512, .f32⟩
  | .hbm, ⟨30, _⟩ => ⟨S16x4096x8, .f32⟩
  | .hbm, ⟨31, _⟩ => ⟨S16x4096x1024, .f32⟩
  | .hbm, ⟨32, _⟩ => ⟨S16x4096x1024, .f32⟩
  | .hbm, ⟨33, _⟩ => ⟨S16x4096x1024, .f32⟩
  | .hbm, ⟨34, _⟩ => ⟨S_, .f32⟩
  | .hbm, ⟨35, _⟩ => ⟨S16x4096x112, .f32⟩
  | .hbm, ⟨36, _⟩ => ⟨S16x4096x1024, .f32⟩
  | .hbm, ⟨37, _⟩ => ⟨S16x4096x128, .f32⟩
  | .hbm, ⟨38, _⟩ => ⟨S_, .f32⟩
  | .hbm, ⟨39, _⟩ => ⟨S16x4096x512, .f32⟩
  | .hbm, ⟨40, _⟩ => ⟨S16x4096x512, .f32⟩
  | .hbm, ⟨41, _⟩ => ⟨S16x4096x3072, .f32⟩
  | .hbm, ⟨42, _⟩ => ⟨S16x4096x128, .f32⟩
  | .hbm, ⟨43, _⟩ => ⟨S65536x1024, .f32⟩
  | .hbm, ⟨44, _⟩ => ⟨S65536x512, .f32⟩
  | .hbm, ⟨45, _⟩ => ⟨S65536x128, .f32⟩
  | .hbm, ⟨46, _⟩ => ⟨S65536x512, .f32⟩
  | .hbm, ⟨47, _⟩ => ⟨S65536x128, .f32⟩
  | .hbm, ⟨48, _⟩ => ⟨S65536x512, .f32⟩
  | .hbm, ⟨49, _⟩ => ⟨S65536x512, .f32⟩
  | .hbm, ⟨50, _⟩ => ⟨S65536x512, .f32⟩
  | .hbm, ⟨51, _⟩ => ⟨S65536x3072, .f32⟩
  | .hbm, ⟨52, _⟩ => ⟨S65536x128, .f32⟩
  | .hbm, ⟨53, _⟩ => ⟨S65536x1024, .bf16⟩
  | .hbm, ⟨54, _⟩ => ⟨S65536x512, .bf16⟩
  | .hbm, ⟨55, _⟩ => ⟨S65536x128, .bf16⟩
  | .hbm, ⟨56, _⟩ => ⟨S65536x512, .bf16⟩
  | .hbm, ⟨57, _⟩ => ⟨S65536x128, .bf16⟩
  | .hbm, ⟨58, _⟩ => ⟨S65536x512, .bf16⟩
  | .hbm, ⟨59, _⟩ => ⟨S65536x512, .bf16⟩
  | .hbm, ⟨60, _⟩ => ⟨S65536x512, .bf16⟩
  | .hbm, ⟨61, _⟩ => ⟨S65536x3072, .bf16⟩
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_cst_2 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_cst_3 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩

abbrev nD : Nat := 1
abbrev τ : Topo := Topo.v7x

variable {F : FTy → Type} [FloatOps F]
-- ==== Merge.lean ====
abbrev S16x4096x1024 : Shape := ⟨3, ![16, 4096, 1024]⟩
abbrev S65536x512 : Shape := ⟨2, ![65536, 512]⟩
abbrev S65536x3072 : Shape := ⟨2, ![65536, 3072]⟩
abbrev S3x512x1024 : Shape := ⟨3, ![3, 512, 1024]⟩
abbrev S1024x1024 : Shape := ⟨2, ![1024, 1024]⟩
abbrev S1024 : Shape := ⟨1, ![1024]⟩
abbrev S1024x512 : Shape := ⟨2, ![1024, 512]⟩
abbrev S4096x1024 : Shape := ⟨2, ![4096, 1024]⟩
abbrev S512x1024 : Shape := ⟨2, ![512, 1024]⟩
abbrev S65536x1024 : Shape := ⟨2, ![65536, 1024]⟩
abbrev S1x1024 : Shape := ⟨2, ![1, 1024]⟩
abbrev S512x512 : Shape := ⟨2, ![512, 512]⟩
abbrev S512x3072 : Shape := ⟨2, ![512, 3072]⟩
abbrev S256x1024 : Shape := ⟨2, ![256, 1024]⟩
abbrev S1x512x1024 : Shape := ⟨3, ![1, 512, 1024]⟩
abbrev S512 : Shape := ⟨1, ![512]⟩
abbrev S512x1 : Shape := ⟨2, ![512, 1]⟩
abbrev S512x128 : Shape := ⟨2, ![512, 128]⟩
abbrev S256x128 : Shape := ⟨2, ![256, 128]⟩
abbrev S512x256 : Shape := ⟨2, ![512, 256]⟩

abbrev nBuf : Space → Nat
  | .hbm => 18
  | .vmem => 19
  | .smem => 0
  | _ => 0

abbrev bufTy : (tb : Table) → Fin (tcTables nBuf tb) → BufTy
  | .hbm, ⟨0, _⟩ => ⟨S16x4096x1024, .f32⟩
  | .hbm, ⟨1, _⟩ => ⟨S65536x512, .bf16⟩
  | .hbm, ⟨2, _⟩ => ⟨S65536x512, .bf16⟩
  | .hbm, ⟨3, _⟩ => ⟨S65536x512, .bf16⟩
  | .hbm, ⟨4, _⟩ => ⟨S65536x3072, .bf16⟩
  | .hbm, ⟨5, _⟩ => ⟨S3x512x1024, .f32⟩
  | .hbm, ⟨6, _⟩ => ⟨S1024x1024, .f32⟩
  | .hbm, ⟨7, _⟩ => ⟨S1024, .f32⟩
  | .hbm, ⟨8, _⟩ => ⟨S1024x512, .f32⟩
  | .hbm, ⟨9, _⟩ => ⟨S4096x1024, .bf16⟩
  | .hbm, ⟨10, _⟩ => ⟨S512x1024, .f32⟩
  | .hbm, ⟨11, _⟩ => ⟨S65536x1024, .f32⟩
  | .hbm, ⟨12, _⟩ => ⟨S3x512x1024, .bf16⟩
  | .hbm, ⟨13, _⟩ => ⟨S1024x1024, .bf16⟩
  | .hbm, ⟨14, _⟩ => ⟨S1x1024, .f32⟩
  | .hbm, ⟨15, _⟩ => ⟨S1024x512, .bf16⟩
  | .hbm, ⟨16, _⟩ => ⟨S512x1024, .bf16⟩
  | .hbm, ⟨17, _⟩ => ⟨S65536x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x3072, .bf16⟩
  | .local _ .vmem, ⟨9, _⟩ => ⟨S512x3072, .bf16⟩
  | .local _ .vmem, ⟨10, _⟩ => ⟨S3x512x1024, .bf16⟩
  | .local _ .vmem, ⟨11, _⟩ => ⟨S1024x1024, .bf16⟩
  | .local _ .vmem, ⟨12, _⟩ => ⟨S1x1024, .f32⟩
  | .local _ .vmem, ⟨13, _⟩ => ⟨S1024x512, .bf16⟩
  | .local _ .vmem, ⟨14, _⟩ => ⟨S256x1024, .bf16⟩
  | .local _ .vmem, ⟨15, _⟩ => ⟨S256x1024, .bf16⟩
  | .local _ .vmem, ⟨16, _⟩ => ⟨S512x1024, .bf16⟩
  | .local _ .vmem, ⟨17, _⟩ => ⟨S512x1024, .f32⟩
  | .local _ .vmem, ⟨18, _⟩ => ⟨S512x1024, .f32⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg11_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x3072 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S3x512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 1 → Memref sig .tc .vmem S512x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== MergeRefIdeal.lean ====
abbrev S16x4096x1024 : Shape := ⟨3, ![16, 4096, 1024]⟩
abbrev S65536x512 : Shape := ⟨2, ![65536, 512]⟩
abbrev S65536x3072 : Shape := ⟨2, ![65536, 3072]⟩
abbrev S3x512x1024 : Shape := ⟨3, ![3, 512, 1024]⟩
abbrev S1024x1024 : Shape := ⟨2, ![1024, 1024]⟩
abbrev S1024 : Shape := ⟨1, ![1024]⟩
abbrev S1024x512 : Shape := ⟨2, ![1024, 512]⟩
abbrev S4096x1024 : Shape := ⟨2, ![4096, 1024]⟩
abbrev S512x1024 : Shape := ⟨2, ![512, 1024]⟩
abbrev S16x4096x512 : Shape := ⟨3, ![16, 4096, 512]⟩
abbrev S16x4096x3072 : Shape := ⟨3, ![16, 4096, 3072]⟩
abbrev S_ : Shape := ⟨0, ![]⟩
abbrev S1x512x1024 : Shape := ⟨3, ![1, 512, 1024]⟩
abbrev S16x4096 : Shape := ⟨2, ![16, 4096]⟩
abbrev S16x4096x1 : Shape := ⟨3, ![16, 4096, 1]⟩
abbrev S1x1x1024 : Shape := ⟨3, ![1, 1, 1024]⟩
abbrev S16x4096x4x128 : Shape := ⟨4, ![16, 4096, 4, 128]⟩
abbrev S16x256x1024 : Shape := ⟨3, ![16, 256, 1024]⟩
abbrev S16x256x512 : Shape := ⟨3, ![16, 256, 512]⟩
abbrev S16x256x4x128 : Shape := ⟨4, ![16, 256, 4, 128]⟩
abbrev S16x4x4096x256 : Shape := ⟨4, ![16, 4, 4096, 256]⟩
abbrev S16x4x4096 : Shape := ⟨3, ![16, 4, 4096]⟩
abbrev S16x4x4096x1 : Shape := ⟨4, ![16, 4, 4096, 1]⟩
abbrev S16x4x128x4096 : Shape := ⟨4, ![16, 4, 128, 4096]⟩
abbrev S65536x1024 : Shape := ⟨2, ![65536, 1024]⟩

abbrev nBuf : Space → Nat
  | .hbm => 110
  | .vmem => 0
  | .smem => 0
  | _ => 0

abbrev bufTy : (tb : Table) → Fin (tcTables nBuf tb) → BufTy
  | .hbm, ⟨0, _⟩ => ⟨S16x4096x1024, .f32⟩
  | .hbm, ⟨1, _⟩ => ⟨S65536x512, .bf16⟩
  | .hbm, ⟨2, _⟩ => ⟨S65536x512, .bf16⟩
  | .hbm, ⟨3, _⟩ => ⟨S65536x512, .bf16⟩
  | .hbm, ⟨4, _⟩ => ⟨S65536x3072, .bf16⟩
  | .hbm, ⟨5, _⟩ => ⟨S3x512x1024, .f32⟩
  | .hbm, ⟨6, _⟩ => ⟨S1024x1024, .f32⟩
  | .hbm, ⟨7, _⟩ => ⟨S1024, .f32⟩
  | .hbm, ⟨8, _⟩ => ⟨S1024x512, .f32⟩
  | .hbm, ⟨9, _⟩ => ⟨S4096x1024, .bf16⟩
  | .hbm, ⟨10, _⟩ => ⟨S512x1024, .f32⟩
  | .hbm, ⟨11, _⟩ => ⟨S65536x512, .f32⟩
  | .hbm, ⟨12, _⟩ => ⟨S16x4096x512, .f32⟩
  | .hbm, ⟨13, _⟩ => ⟨S65536x512, .f32⟩
  | .hbm, ⟨14, _⟩ => ⟨S16x4096x512, .f32⟩
  | .hbm, ⟨15, _⟩ => ⟨S65536x512, .f32⟩
  | .hbm, ⟨16, _⟩ => ⟨S16x4096x512, .f32⟩
  | .hbm, ⟨17, _⟩ => ⟨S65536x3072, .f32⟩
  | .hbm, ⟨18, _⟩ => ⟨S16x4096x3072, .f32⟩
  | .hbm, ⟨19, _⟩ => ⟨S16x4096x1024, .f32⟩
  | .hbm, ⟨20, _⟩ => ⟨S16x4096x1024, .f32⟩
  | .hbm, ⟨21, _⟩ => ⟨S16x4096x1024, .f32⟩
  | .hbm, ⟨22, _⟩ => ⟨S16x4096x1024, .f32⟩
  | .hbm, ⟨23, _⟩ => ⟨S16x4096x1024, .f32⟩
  | .hbm, ⟨24, _⟩ => ⟨S_, .f32⟩
  | .hbm, ⟨25, _⟩ => ⟨S16x4096x1024, .f32⟩
  | .hbm, ⟨26, _⟩ => ⟨S16x4096x1024, .f32⟩
  | .hbm, ⟨27, _⟩ => ⟨S_, .f32⟩
  | .hbm, ⟨28, _⟩ => ⟨S16x4096x1024, .f32⟩
  | .hbm, ⟨29, _⟩ => ⟨S16x4096x1024, .f32⟩
  | .hbm, ⟨30, _⟩ => ⟨S1x512x1024, .f32⟩
  | .hbm, ⟨31, _⟩ => ⟨S512x1024, .f32⟩
  | .hbm, ⟨32, _⟩ => ⟨S16x4096x1024, .f32⟩
  | .hbm, ⟨33, _⟩ => ⟨S16x4096x1024, .f32⟩
  | .hbm, ⟨34, _⟩ => ⟨S16x4096x1024, .f32⟩
  | .hbm, ⟨35, _⟩ => ⟨S16x4096x1024, .f32⟩
  | .hbm, ⟨36, _⟩ => ⟨S_, .f32⟩
  | .hbm, ⟨37, _⟩ => ⟨S16x4096x1024, .f32⟩
  | .hbm, ⟨38, _⟩ => ⟨S16x4096x1024, .f32⟩
  | .hbm, ⟨39, _⟩ => ⟨S_, .f32⟩
  | .hbm, ⟨40, _⟩ => ⟨S16x4096x1024, .f32⟩
  | .hbm, ⟨41, _⟩ => ⟨S16x4096x1024, .f32⟩
  | .hbm, ⟨42, _⟩ => ⟨S1x512x1024, .f32⟩
  | .hbm, ⟨43, _⟩ => ⟨S512x1024, .f32⟩
  | .hbm, ⟨44, _⟩ => ⟨S16x4096x1024, .f32⟩
  | .hbm, ⟨45, _⟩ => ⟨S16x4096x1024, .f32⟩
  | .hbm, ⟨46, _⟩ => ⟨S16x4096x1024, .f32⟩
  | .hbm, ⟨47, _⟩ => ⟨S16x4096x1024, .f32⟩
  | .hbm, ⟨48, _⟩ => ⟨S16x4096x1024, .f32⟩
  | .hbm, ⟨49, _⟩ => ⟨S_, .f32⟩
  | .hbm, ⟨50, _⟩ => ⟨S16x4096x1024, .f32⟩
  | .hbm, ⟨51, _⟩ => ⟨S16x4096x1024, .f32⟩
  | .hbm, ⟨52, _⟩ => ⟨S_, .f32⟩
  | .hbm, ⟨53, _⟩ => ⟨S16x4096x1024, .f32⟩
  | .hbm, ⟨54, _⟩ => ⟨S16x4096x1024, .f32⟩
  | .hbm, ⟨55, _⟩ => ⟨S1x512x1024, .f32⟩
  | .hbm, ⟨56, _⟩ => ⟨S512x1024, .f32⟩
  | .hbm, ⟨57, _⟩ => ⟨S16x4096x1024, .f32⟩
  | .hbm, ⟨58, _⟩ => ⟨S16x4096x1024, .f32⟩
  | .hbm, ⟨59, _⟩ => ⟨S16x4096x1024, .f32⟩
  | .hbm, ⟨60, _⟩ => ⟨S16x4096x1024, .f32⟩
  | .hbm, ⟨61, _⟩ => ⟨S16x4096x1024, .f32⟩
  | .hbm, ⟨62, _⟩ => ⟨S16x4096x1024, .f32⟩
  | .hbm, ⟨63, _⟩ => ⟨S_, .f32⟩
  | .hbm, ⟨64, _⟩ => ⟨S16x4096, .f32⟩
  | .hbm, ⟨65, _⟩ => ⟨S16x4096x1, .f32⟩
  | .hbm, ⟨66, _⟩ => ⟨S_, .f32⟩
  | .hbm, ⟨67, _⟩ => ⟨S16x4096x1, .f32⟩
  | .hbm, ⟨68, _⟩ => ⟨S16x4096x1, .f32⟩
  | .hbm, ⟨69, _⟩ => ⟨S_, .f32⟩
  | .hbm, ⟨70, _⟩ => ⟨S16x4096x1, .f32⟩
  | .hbm, ⟨71, _⟩ => ⟨S16x4096x1, .f32⟩
  | .hbm, ⟨72, _⟩ => ⟨S16x4096x1, .f32⟩
  | .hbm, ⟨73, _⟩ => ⟨S16x4096x1024, .f32⟩
  | .hbm, ⟨74, _⟩ => ⟨S16x4096x1024, .f32⟩
  | .hbm, ⟨75, _⟩ => ⟨S1x1x1024, .f32⟩
  | .hbm, ⟨76, _⟩ => ⟨S16x4096x1024, .f32⟩
  | .hbm, ⟨77, _⟩ => ⟨S16x4096x1024, .f32⟩
  | .hbm, ⟨78, _⟩ => ⟨S16x4096x512, .f32⟩
  | .hbm, ⟨79, _⟩ => ⟨S16x4096x4x128, .f32⟩
  | .hbm, ⟨80, _⟩ => ⟨S4096x1024, .f32⟩
  | .hbm, ⟨81, _⟩ => ⟨S16x256x1024, .f32⟩
  | .hbm, ⟨82, _⟩ => ⟨S16x256x512, .f32⟩
  | .hbm, ⟨83, _⟩ => ⟨S16x256x512, .f32⟩
  | .hbm, ⟨84, _⟩ => ⟨S16x256x4x128, .f32⟩
  | .hbm, ⟨85, _⟩ => ⟨S16x256x4x128, .f32⟩
  | .hbm, ⟨86, _⟩ => ⟨S16x4x4096x256, .f32⟩
  | .hbm, ⟨87, _⟩ => ⟨S_, .f32⟩
  | .hbm, ⟨88, _⟩ => ⟨S16x4x4096x256, .f32⟩
  | .hbm, ⟨89, _⟩ => ⟨S16x4x4096x256, .f32⟩
  | .hbm, ⟨90, _⟩ => ⟨S_, .f32⟩
  | .hbm, ⟨91, _⟩ => ⟨S16x4x4096, .f32⟩
  | .hbm, ⟨92, _⟩ => ⟨S_, .f32⟩
  | .hbm, ⟨93, _⟩ => ⟨S16x4x4096, .f32⟩
  | .hbm, ⟨94, _⟩ => ⟨S16x4x4096, .f32⟩
  | .hbm, ⟨95, _⟩ => ⟨S16x4x4096x1, .f32⟩
  | .hbm, ⟨96, _⟩ => ⟨S16x4x4096x256, .f32⟩
  | .hbm, ⟨97, _⟩ => ⟨S16x4x4096x256, .f32⟩
  | .hbm, ⟨98, _⟩ => ⟨S16x4x4096x256, .f32⟩
  | .hbm, ⟨99, _⟩ => ⟨S_, .f32⟩
  | .hbm, ⟨100, _⟩ => ⟨S16x4x4096, .f32⟩
  | .hbm, ⟨101, _⟩ => ⟨S16x4x4096x1, .f32⟩
  | .hbm, ⟨102, _⟩ => ⟨S16x4x4096x256, .f32⟩
  | .hbm, ⟨103, _⟩ => ⟨S16x4x4096x256, .f32⟩
  | .hbm, ⟨104, _⟩ => ⟨S16x4x128x4096, .f32⟩
  | .hbm, ⟨105, _⟩ => ⟨S16x4096x4x128, .f32⟩
  | .hbm, ⟨106, _⟩ => ⟨S16x4096x512, .f32⟩
  | .hbm, ⟨107, _⟩ => ⟨S16x4096x1024, .f32⟩
  | .hbm, ⟨108, _⟩ => ⟨S16x4096x1024, .f32⟩
  | .hbm, ⟨109, _⟩ => ⟨S65536x1024, .f32⟩
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst : Ref sig .tc := ⟨.hbm, 24, rfl⟩
abbrev main_v13 : Ref sig .tc := ⟨.hbm, 25, rfl⟩
abbrev main_v14 : Ref sig .tc := ⟨.hbm, 26, rfl⟩
abbrev main_cst_0 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_1 : Ref sig .tc := ⟨.hbm, 36, rfl⟩
abbrev main_v23 : Ref sig .tc := ⟨.hbm, 37, rfl⟩
abbrev main_v24 : Ref sig .tc := ⟨.hbm, 38, rfl⟩
abbrev main_cst_2 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_3 : Ref sig .tc := ⟨.hbm, 49, rfl⟩
abbrev main_v34 : Ref sig .tc := ⟨.hbm, 50, rfl⟩
abbrev main_v35 : Ref sig .tc := ⟨.hbm, 51, rfl⟩
abbrev main_cst_4 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_cst_5 : Ref sig .tc := ⟨.hbm, 63, rfl⟩
abbrev main_v46 : Ref sig .tc := ⟨.hbm, 64, rfl⟩
abbrev main_v47 : Ref sig .tc := ⟨.hbm, 65, rfl⟩
abbrev main_cst_6 : Ref sig .tc := ⟨.hbm, 66, rfl⟩
abbrev main_v48 : Ref sig .tc := ⟨.hbm, 67, rfl⟩
abbrev main_v49 : Ref sig .tc := ⟨.hbm, 68, rfl⟩
abbrev main_cst_7 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_cst_8 : Ref sig .tc := ⟨.hbm, 87, rfl⟩
abbrev main_v67 : Ref sig .tc := ⟨.hbm, 88, rfl⟩
abbrev main_v68 : Ref sig .tc := ⟨.hbm, 89, rfl⟩
abbrev main_cst_9 : Ref sig .tc := ⟨.hbm, 90, rfl⟩
abbrev main_v69 : Ref sig .tc := ⟨.hbm, 91, rfl⟩
abbrev main_cst_10 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_cst_11 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩

abbrev nD : Nat := 1
abbrev τ : Topo := Topo.v7x

variable {F : FTy → Type} [FloatOps F]
-- ==== Memory.lean ====
abbrev S16x256x1024 : Shape := ⟨3, ![16, 256, 1024]⟩
abbrev S1024 : Shape := ⟨1, ![1024]⟩
abbrev S1024x1024 : Shape := ⟨2, ![1024, 1024]⟩
abbrev S4096x1024 : Shape := ⟨2, ![4096, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 7
  | .vmem => 6
  | .smem => 0
  | _ => 0

abbrev bufTy : (tb : Table) → Fin (tcTables nBuf tb) → BufTy
  | .hbm, ⟨0, _⟩ => ⟨S16x256x1024, .f32⟩
  | .hbm, ⟨1, _⟩ => ⟨S1024, .f32⟩
  | .hbm, ⟨2, _⟩ => ⟨S1024x1024, .f32⟩
  | .hbm, ⟨3, _⟩ => ⟨S4096x1024, .f32⟩
  | .hbm, ⟨4, _⟩ => ⟨S1x1024, .f32⟩
  | .hbm, ⟨5, _⟩ => ⟨S1024x1024, .bf16⟩
  | .hbm, ⟨6, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1024, .bf16⟩
  | .local _ .vmem, ⟨4, _⟩ => ⟨S512x1024, .bf16⟩
  | .local _ .vmem, ⟨5, _⟩ => ⟨S512x1024, .bf16⟩
  | _, _ => ⟨S16x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== MemoryRefIdeal.lean ====
abbrev S16x256x1024 : Shape := ⟨3, ![16, 256, 1024]⟩
abbrev S1024 : Shape := ⟨1, ![1024]⟩
abbrev S1024x1024 : Shape := ⟨2, ![1024, 1024]⟩
abbrev S_ : Shape := ⟨0, ![]⟩
abbrev S16x256 : Shape := ⟨2, ![16, 256]⟩
abbrev S16x256x1 : Shape := ⟨3, ![16, 256, 1]⟩
abbrev S1x1x1024 : Shape := ⟨3, ![1, 1, 1024]⟩
abbrev S4096x1024 : Shape := ⟨2, ![4096, 1024]⟩

abbrev nBuf : Space → Nat
  | .hbm => 22
  | .vmem => 0
  | .smem => 0
  | _ => 0

abbrev bufTy : (tb : Table) → Fin (tcTables nBuf tb) → BufTy
  | .hbm, ⟨0, _⟩ => ⟨S16x256x1024, .f32⟩
  | .hbm, ⟨1, _⟩ => ⟨S1024, .f32⟩
  | .hbm, ⟨2, _⟩ => ⟨S1024x1024, .f32⟩
  | .hbm, ⟨3, _⟩ => ⟨S16x256x1024, .f32⟩
  | .hbm, ⟨4, _⟩ => ⟨S_, .f32⟩
  | .hbm, ⟨5, _⟩ => ⟨S16x256, .f32⟩
  | .hbm, ⟨6, _⟩ => ⟨S16x256x1, .f32⟩
  | .hbm, ⟨7, _⟩ => ⟨S_, .f32⟩
  | .hbm, ⟨8, _⟩ => ⟨S16x256x1, .f32⟩
  | .hbm, ⟨9, _⟩ => ⟨S16x256x1, .f32⟩
  | .hbm, ⟨10, _⟩ => ⟨S_, .f32⟩
  | .hbm, ⟨11, _⟩ => ⟨S16x256x1, .f32⟩
  | .hbm, ⟨12, _⟩ => ⟨S16x256x1, .f32⟩
  | .hbm, ⟨13, _⟩ => ⟨S16x256x1, .f32⟩
  | .hbm, ⟨14, _⟩ => ⟨S16x256x1024, .f32⟩
  | .hbm, ⟨15, _⟩ => ⟨S16x256x1024, .f32⟩
  | .hbm, ⟨16, _⟩ => ⟨S1x1x1024, .f32⟩
  | .hbm, ⟨17, _⟩ => ⟨S16x256x1024, .f32⟩
  | .hbm, ⟨18, _⟩ => ⟨S16x256x1024, .f32⟩
  | .hbm, ⟨19, _⟩ => ⟨S16x256x1024, .f32⟩
  | .hbm, ⟨20, _⟩ => ⟨S4096x1024, .f32⟩
  | .hbm, ⟨21, _⟩ => ⟨S4096x1024, .bf16⟩
  | _, _ => ⟨S16x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== Rglru.lean ====
abbrev S65536x1024 : Shape := ⟨2, ![65536, 1024]⟩
abbrev S4x512 : Shape := ⟨2, ![4, 512]⟩
abbrev S512 : Shape := ⟨1, ![512]⟩
abbrev S8x64x64 : Shape := ⟨3, ![8, 64, 64]⟩
abbrev S8x8 : Shape := ⟨2, ![8, 8]⟩
abbrev S_ : Shape := ⟨0, ![]⟩
abbrev S8x1x8x1 : Shape := ⟨4, ![8, 1, 8, 1]⟩
abbrev S8x64x1x64 : Shape := ⟨4, ![8, 64, 1, 64]⟩
abbrev S8x64x8x64 : Shape := ⟨4, ![8, 64, 8, 64]⟩
abbrev S512x512 : Shape := ⟨2, ![512, 512]⟩
abbrev S512x1024 : Shape := ⟨2, ![512, 1024]⟩
abbrev S1024 : Shape := ⟨1, ![1024]⟩
abbrev S1x1024 : Shape := ⟨2, ![1, 1024]⟩
abbrev S1x512 : Shape := ⟨2, ![1, 512]⟩
abbrev S65536x512 : Shape := ⟨2, ![65536, 512]⟩
abbrev S256x1024 : Shape := ⟨2, ![256, 1024]⟩
abbrev S256x512 : Shape := ⟨2, ![256, 512]⟩
abbrev S264x512 : Shape := ⟨2, ![264, 512]⟩
abbrev S8x512 : Shape := ⟨2, ![8, 512]⟩

abbrev nBuf : Space → Nat
  | .hbm => 41
  | .vmem => 11
  | .smem => 0
  | _ => 0

abbrev bufTy : (tb : Table) → Fin (tcTables nBuf tb) → BufTy
  | .hbm, ⟨0, _⟩ => ⟨S65536x1024, .bf16⟩
  | .hbm, ⟨1, _⟩ => ⟨S4x512, .f32⟩
  | .hbm, ⟨2, _⟩ => ⟨S512, .f32⟩
  | .hbm, ⟨3, _⟩ => ⟨S8x64x64, .f32⟩
  | .hbm, ⟨4, _⟩ => ⟨S512, .f32⟩
  | .hbm, ⟨5, _⟩ => ⟨S8x64x64, .f32⟩
  | .hbm, ⟨6, _⟩ => ⟨S512, .f32⟩
  | .hbm, ⟨7, _⟩ => ⟨S512, .f32⟩
  | .hbm, ⟨8, _⟩ => ⟨S8x8, .i32⟩
  | .hbm, ⟨9, _⟩ => ⟨S8x8, .i32⟩
  | .hbm, ⟨10, _⟩ => ⟨S_, .i32⟩
  | .hbm, ⟨11, _⟩ => ⟨S8x8, .i32⟩
  | .hbm, ⟨12, _⟩ => ⟨S8x8, .i32⟩
  | .hbm, ⟨13, _⟩ => ⟨S8x8, .i1⟩
  | .hbm, ⟨14, _⟩ => ⟨S8x8, .f32⟩
  | .hbm, ⟨15, _⟩ => ⟨S8x1x8x1, .f32⟩
  | .hbm, ⟨16, _⟩ => ⟨S8x64x1x64, .f32⟩
  | .hbm, ⟨17, _⟩ => ⟨S8x64x8x64, .f32⟩
  | .hbm, ⟨18, _⟩ => ⟨S8x64x8x64, .f32⟩
  | .hbm, ⟨19, _⟩ => ⟨S8x64x8x64, .f32⟩
  | .hbm, ⟨20, _⟩ => ⟨S512x512, .f32⟩
  | .hbm, ⟨21, _⟩ => ⟨S8x8, .i32⟩
  | .hbm, ⟨22, _⟩ => ⟨S8x8, .i32⟩
  | .hbm, ⟨23, _⟩ => ⟨S_, .i32⟩
  | .hbm, ⟨24, _⟩ => ⟨S8x8, .i32⟩
  | .hbm, ⟨25, _⟩ => ⟨S8x8, .i32⟩
  | .hbm, ⟨26, _⟩ => ⟨S8x8, .i1⟩
  | .hbm, ⟨27, _⟩ => ⟨S8x8, .f32⟩
  | .hbm, ⟨28, _⟩ => ⟨S8x1x8x1, .f32⟩
  | .hbm, ⟨29, _⟩ => ⟨S8x64x1x64, .f32⟩
  | .hbm, ⟨30, _⟩ => ⟨S8x64x8x64, .f32⟩
  | .hbm, ⟨31, _⟩ => ⟨S8x64x8x64, .f32⟩
  | .hbm, ⟨32, _⟩ => ⟨S8x64x8x64, .f32⟩
  | .hbm, ⟨33, _⟩ => ⟨S512x512, .f32⟩
  | .hbm, ⟨34, _⟩ => ⟨S512x1024, .f32⟩
  | .hbm, ⟨35, _⟩ => ⟨S512x1024, .bf16⟩
  | .hbm, ⟨36, _⟩ => ⟨S1024, .f32⟩
  | .hbm, ⟨37, _⟩ => ⟨S1x1024, .f32⟩
  | .hbm, ⟨38, _⟩ => ⟨S1x512, .f32⟩
  | .hbm, ⟨39, _⟩ => ⟨S1x512, .f32⟩
  | .hbm, ⟨40, _⟩ => ⟨S65536x512, .bf16⟩
  | .local _ .vmem, ⟨0, _⟩ => ⟨S256x1024, .bf16⟩
  | .local _ .vmem, ⟨1, _⟩ => ⟨S256x1024, .bf16⟩
  | .local _ .vmem, ⟨2, _⟩ => ⟨S4x512, .f32⟩
  | .local _ .vmem, ⟨3, _⟩ => ⟨S1x512, .f32⟩
  | .local _ .vmem, ⟨4, _⟩ => ⟨S512x1024, .bf16⟩
  | .local _ .vmem, ⟨5, _⟩ => ⟨S1x1024, .f32⟩
  | .local _ .vmem, ⟨6, _⟩ => ⟨S1x512, .f32⟩
  | .local _ .vmem, ⟨7, _⟩ => ⟨S256x512, .bf16⟩
  | .local _ .vmem, ⟨8, _⟩ => ⟨S256x512, .bf16⟩
  | .local _ .vmem, ⟨9, _⟩ => ⟨S264x512, .f32⟩
  | .local _ .vmem, ⟨10, _⟩ => ⟨S8x512, .f32⟩
  | _, _ => ⟨S65536x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_c_0 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨2, ![16, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S4x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Sums.lean ====
abbrev S65536x128 : Shape := ⟨2, ![65536, 128]⟩
abbrev S8 : Shape := ⟨1, ![8]⟩
abbrev S_ : Shape := ⟨0, ![]⟩
abbrev S16 : Shape := ⟨1, ![16]⟩
abbrev S1x16 : Shape := ⟨2, ![1, 16]⟩
abbrev S1x128 : Shape := ⟨2, ![1, 128]⟩
abbrev S3x65536x128 : Shape := ⟨3, ![3, 65536, 128]⟩
abbrev S4096x128 : Shape := ⟨2, ![4096, 128]⟩
abbrev S3x4096x128 : Shape := ⟨3, ![3, 4096, 128]⟩
abbrev S1x4096x128 : Shape := ⟨3, ![1, 4096, 128]⟩

abbrev nBuf : Space → Nat
  | .hbm => 10
  | .vmem => 5
  | .smem => 0
  | _ => 0

abbrev bufTy : (tb : Table) → Fin (tcTables nBuf tb) → BufTy
  | .hbm, ⟨0, _⟩ => ⟨S65536x128, .f32⟩
  | .hbm, ⟨1, _⟩ => ⟨S8, .f32⟩
  | .hbm, ⟨2, _⟩ => ⟨S_, .f32⟩
  | .hbm, ⟨3, _⟩ => ⟨S8, .f32⟩
  | .hbm, ⟨4, _⟩ => ⟨S16, .f32⟩
  | .hbm, ⟨5, _⟩ => ⟨S1x16, .f32⟩
  | .hbm, ⟨6, _⟩ => ⟨S_, .i32⟩
  | .hbm, ⟨7, _⟩ => ⟨S_, .f32⟩
  | .hbm, ⟨8, _⟩ => ⟨S1x128, .f32⟩
  | .hbm, ⟨9, _⟩ => ⟨S3x65536x128, .bf16⟩
  | .local _ .vmem, ⟨0, _⟩ => ⟨S4096x128, .f32⟩
  | .local _ .vmem, ⟨1, _⟩ => ⟨S4096x128, .f32⟩
  | .local _ .vmem, ⟨2, _⟩ => ⟨S1x128, .f32⟩
  | .local _ .vmem, ⟨3, _⟩ => ⟨S3x4096x128, .bf16⟩
  | .local _ .vmem, ⟨4, _⟩ => ⟨S3x4096x128, .bf16⟩
  | _, _ => ⟨S65536x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_call0_v0 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S3x4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Fox.lean ====
abbrev S65536x512 : Shape := ⟨2, ![65536, 512]⟩
abbrev S3x65536x128 : Shape := ⟨3, ![3, 65536, 128]⟩
abbrev S4x3x128x128 : Shape := ⟨4, ![4, 3, 128, 128]⟩
abbrev S512x512 : Shape := ⟨2, ![512, 512]⟩
abbrev S4096x512 : Shape := ⟨2, ![4096, 512]⟩
abbrev S3x4096x128 : Shape := ⟨3, ![3, 4096, 128]⟩
abbrev S4096x1024 : Shape := ⟨2, ![4096, 1024]⟩
abbrev S4x1024x256 : Shape := ⟨3, ![4, 1024, 256]⟩
abbrev S512x1024 : Shape := ⟨2, ![512, 1024]⟩
abbrev S8x1x128 : Shape := ⟨3, ![8, 1, 128]⟩
abbrev S4x1x1024 : Shape := ⟨3, ![4, 1, 1024]⟩
abbrev S4x128x1024 : Shape := ⟨3, ![4, 128, 1024]⟩
abbrev S1x128 : Shape := ⟨2, ![1, 128]⟩
abbrev S4096x128 : Shape := ⟨2, ![4096, 128]⟩
abbrev S1x4096x128 : Shape := ⟨3, ![1, 4096, 128]⟩
abbrev S1x1x128x128 : Shape := ⟨4, ![1, 1, 128, 128]⟩
abbrev S128x128 : Shape := ⟨2, ![128, 128]⟩
abbrev S4096 : Shape := ⟨1, ![4096]⟩
abbrev S4096x1 : Shape := ⟨2, ![4096, 1]⟩
abbrev S1 : Shape := ⟨1, ![1]⟩
abbrev S1x1 : Shape := ⟨2, ![1, 1]⟩
abbrev S1x1x128 : Shape := ⟨3, ![1, 1, 128]⟩
abbrev S1x512x128 : Shape := ⟨3, ![1, 512, 128]⟩
abbrev S512x128 : Shape := ⟨2, ![512, 128]⟩
abbrev S512x1 : Shape := ⟨2, ![512, 1]⟩
abbrev S512 : Shape := ⟨1, ![512]⟩
abbrev S1x512x1 : Shape := ⟨3, ![1, 512, 1]⟩
abbrev S1x1x1 : Shape := ⟨3, ![1, 1, 1]⟩
abbrev S512x256 : Shape := ⟨2, ![512, 256]⟩
abbrev S1x1024x256 : Shape := ⟨3, ![1, 1024, 256]⟩
abbrev S1024x256 : Shape := ⟨2, ![1024, 256]⟩
abbrev S1x1x1024 : Shape := ⟨3, ![1, 1, 1024]⟩
abbrev S1x1024 : Shape := ⟨2, ![1, 1024]⟩
abbrev S1024 : Shape := ⟨1, ![1024]⟩
abbrev S1x128x1024 : Shape := ⟨3, ![1, 128, 1024]⟩
abbrev S128x1024 : Shape := ⟨2, ![128, 1024]⟩
abbrev S128x512 : Shape := ⟨2, ![128, 512]⟩

abbrev nBuf : Space → Nat
  | .hbm => 6
  | .vmem => 18
  | .smem => 0
  | _ => 0

abbrev bufTy : (tb : Table) → Fin (tcTables nBuf tb) → BufTy
  | .hbm, ⟨0, _⟩ => ⟨S65536x512, .bf16⟩
  | .hbm, ⟨1, _⟩ => ⟨S65536x512, .bf16⟩
  | .hbm, ⟨2, _⟩ => ⟨S65536x512, .bf16⟩
  | .hbm, ⟨3, _⟩ => ⟨S3x65536x128, .bf16⟩
  | .hbm, ⟨4, _⟩ => ⟨S4x3x128x128, .bf16⟩
  | .hbm, ⟨5, _⟩ => ⟨S65536x512, .bf16⟩
  | .local _ .vmem, ⟨0, _⟩ => ⟨S512x512, .bf16⟩
  | .local _ .vmem, ⟨1, _⟩ => ⟨S512x512, .bf16⟩
  | .local _ .vmem, ⟨2, _⟩ => ⟨S4096x512, .bf16⟩
  | .local _ .vmem, ⟨3, _⟩ => ⟨S4096x512, .bf16⟩
  | .local _ .vmem, ⟨4, _⟩ => ⟨S4096x512, .bf16⟩
  | .local _ .vmem, ⟨5, _⟩ => ⟨S4096x512, .bf16⟩
  | .local _ .vmem, ⟨6, _⟩ => ⟨S3x4096x128, .bf16⟩
  | .local _ .vmem, ⟨7, _⟩ => ⟨S3x4096x128, .bf16⟩
  | .local _ .vmem, ⟨8, _⟩ => ⟨S4x3x128x128, .bf16⟩
  | .local _ .vmem, ⟨9, _⟩ => ⟨S512x512, .bf16⟩
  | .local _ .vmem, ⟨10, _⟩ => ⟨S512x512, .bf16⟩
  | .local _ .vmem, ⟨11, _⟩ => ⟨S4096x1024, .bf16⟩
  | .local _ .vmem, ⟨12, _⟩ => ⟨S4x1024x256, .bf16⟩
  | .local _ .vmem, ⟨13, _⟩ => ⟨S512x1024, .f32⟩
  | .local _ .vmem, ⟨14, _⟩ => ⟨S8x1x128, .f32⟩
  | .local _ .vmem, ⟨15, _⟩ => ⟨S4x1x1024, .f32⟩
  | .local _ .vmem, ⟨16, _⟩ => ⟨S4x1x1024, .f32⟩
  | .local _ .vmem, ⟨17, _⟩ => ⟨S4x128x1024, .f32⟩
  | _, _ => ⟨S65536x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_scratch3 : Ref sig .tc := ⟨.vmem, 14, rfl⟩
abbrev cc0_scratch4 : Ref sig .tc := ⟨.vmem, 15, rfl⟩
abbrev cc0_scratch5 : Ref sig .tc := ⟨.vmem, 16, rfl⟩
abbrev cc0_scratch6 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![16, 8], ![false, false]⟩

def k0_mult1 (i : grid0.Coords) : BitVec 32 :=
  let arg1 : BitVec 32 := BitVec.ofNat 32 (i 1).val
  let c512_i32 : BitVec 32 := 512#32
  let v4 : BitVec 32 := Scalar.muli arg1 c512_i32
  v4
def k0_off1 (i : grid0.Coords) : Fin 3 → Nat :=
  let c0 : Index := 0#32
  let arg1 : BitVec 32 := BitVec.ofNat 32 (i 1).val
  let c512_i32 : BitVec 32 := 512#32
  let v4 : BitVec 32 := Scalar.muli arg1 c512_i32
  let v5 : BitVec 32 := v4
  let v6 : Index := Scalar.indexCast v5
  let c0_1 : Index := 0#32
  ![0, v6.toNat, 0]
def k0_off2 (i : grid0.Coords) : Fin 3 → Nat :=
  let c1 : Index := 1#32
  let arg1 : BitVec 32 := BitVec.ofNat 32 (i 1).val
  let c512_i32 : BitVec 32 := 512#32
  let v4 : BitVec 32 := Scalar.muli arg1 c512_i32
  let v5 : BitVec 32 := v4
  let v10 : Index := Scalar.indexCast v5
  let c0_2 : Index := 0#32
  ![1, v10.toNat, 0]
def k0_off3 (i : grid0.Coords) : Fin 3 → Nat :=
  let c2 : Index := 2#32
  let arg1 : BitVec 32 := BitVec.ofNat 32 (i 1).val
  let c512_i32 : BitVec 32 := 512#32
  let v4 : BitVec 32 := Scalar.muli arg1 c512_i32
  let v5 : BitVec 32 := v4
  let v15 : Index := Scalar.indexCast v5
  let c0_3 : Index := 0#32
  ![2, v15.toNat, 0]
def k0_mult2 : BitVec 32 :=
  let c0_i32_176 : BitVec 32 := 0#32
  c0_i32_176
@[reducible] def k0_t1_loop (i : grid0.Coords) : Scf.Loop 32 :=
  let c0_i32_222 : BitVec 32 := 0#32
  let arg1 : BitVec 32 := BitVec.ofNat 32 (i 1).val
  let v675 : BitVec 32 := Scalar.subi arg1 c0_i32_222
  let c1_i32 : BitVec 32 := 1#32
  let v677 : BitVec 32 := Scalar.divsi v675 c1_i32
  let v678 : BitVec 32 := Scalar.muli v677 c1_i32
  let v679 : BitVec 32 := Scalar.addi c0_i32_222 v678
  let c1_i32_224 : BitVec 32 := 1#32
  ⟨c0_i32_222, v679, c1_i32_224⟩
def k0_mult3 (i : grid0.Coords) (k0_t1 : Fin (k0_t1_loop i).trips) : BitVec 32 :=
  let c0_i32_222 : BitVec 32 := 0#32
  let c1_i32_224 : BitVec 32 := 1#32
  let arg15 : BitVec 32 := Scf.iv c0_i32_222 c1_i32_224 k0_t1
  let c512_i32_319 : BitVec 32 := 512#32
  let v802 : BitVec 32 := Scalar.muli arg15 c512_i32_319
  v802
def k0_mult4 (i : grid0.Coords) (k0_t1 : Fin (k0_t1_loop i).trips) : BitVec 32 :=
  let c0_i32_222 : BitVec 32 := 0#32
  let c1_i32_224 : BitVec 32 := 1#32
  let arg15 : BitVec 32 := Scf.iv c0_i32_222 c1_i32_224 k0_t1
  let c512_i32_322 : BitVec 32 := 512#32
  let v805 : BitVec 32 := Scalar.muli arg15 c512_i32_322
  v805
def k0_off4 (i : grid0.Coords) (k0_t1 : Fin (k0_t1_loop i).trips) : Fin 2 → Nat :=
  let c0_i32_222 : BitVec 32 := 0#32
  let c1_i32_224 : BitVec 32 := 1#32
  let arg15 : BitVec 32 := Scf.iv c0_i32_222 c1_i32_224 k0_t1
  let c512_i32_322 : BitVec 32 := 512#32
  let v805 : BitVec 32 := Scalar.muli arg15 c512_i32_322
  let v806 : BitVec 32 := v805
  let v807 : Index := Scalar.indexCast v806
  let c256_323 : Index := 256#32
  ![v807.toNat, 256]
def k0_off5 (i : grid0.Coords) (k0_t1 : Fin (k0_t1_loop i).trips) : Fin 2 → Nat :=
  let c0_i32_222 : BitVec 32 := 0#32
  let c1_i32_224 : BitVec 32 := 1#32
  let arg15 : BitVec 32 := Scf.iv c0_i32_222 c1_i32_224 k0_t1
  let c512_i32_319 : BitVec 32 := 512#32
  let v802 : BitVec 32 := Scalar.muli arg15 c512_i32_319
  let v803 : BitVec 32 := v802
  let v812 : Index := Scalar.indexCast v803
  let c0_328 : Index := 0#32
  ![v812.toNat, 0]
def k0_mult5 (i : grid0.Coords) (k0_t1 : Fin (k0_t1_loop i).trips) : BitVec 32 :=
  let c0_i32_222 : BitVec 32 := 0#32
  let c1_i32_224 : BitVec 32 := 1#32
  let arg15 : BitVec 32 := Scf.iv c0_i32_222 c1_i32_224 k0_t1
  let c512_i32_343 : BitVec 32 := 512#32
  let v831 : BitVec 32 := Scalar.muli arg15 c512_i32_343
  v831
def k0_off6 (i : grid0.Coords) (k0_t1 : Fin (k0_t1_loop i).trips) : Fin 2 → Nat :=
  let c0_i32_222 : BitVec 32 := 0#32
  let c1_i32_224 : BitVec 32 := 1#32
  let arg15 : BitVec 32 := Scf.iv c0_i32_222 c1_i32_224 k0_t1
  let c512_i32_343 : BitVec 32 := 512#32
  let v831 : BitVec 32 := Scalar.muli arg15 c512_i32_343
  let v832 : BitVec 32 := v831
  let v833 : Index := Scalar.indexCast v832
  let c512_344 : Index := 512#32
  ![v833.toNat, 512]
def k0_off7 (i : grid0.Coords) (k0_t1 : Fin (k0_t1_loop i).trips) : Fin 2 → Nat :=
  let c0_i32_222 : BitVec 32 := 0#32
  let c1_i32_224 : BitVec 32 := 1#32
  let arg15 : BitVec 32 := Scf.iv c0_i32_222 c1_i32_224 k0_t1
  let c512_i32_319 : BitVec 32 := 512#32
  let v802 : BitVec 32 := Scalar.muli arg15 c512_i32_319
  let v803 : BitVec 32 := v802
  let v838 : Index := Scalar.indexCast v803
  let c128_349 : Index := 128#32
  ![v838.toNat, 128]
def k0_mult6 (i : grid0.Coords) (k0_t1 : Fin (k0_t1_loop i).trips) : BitVec 32 :=
  let c0_i32_222 : BitVec 32 := 0#32
  let c1_i32_224 : BitVec 32 := 1#32
  let arg15 : BitVec 32 := Scf.iv c0_i32_222 c1_i32_224 k0_t1
  let c512_i32_364 : BitVec 32 := 512#32
  let v857 : BitVec 32 := Scalar.muli arg15 c512_i32_364
  v857
def k0_off8 (i : grid0.Coords) (k0_t1 : Fin (k0_t1_loop i).trips) : Fin 2 → Nat :=
  let c0_i32_222 : BitVec 32 := 0#32
  let c1_i32_224 : BitVec 32 := 1#32
  let arg15 : BitVec 32 := Scf.iv c0_i32_222 c1_i32_224 k0_t1
  let c512_i32_364 : BitVec 32 := 512#32
  let v857 : BitVec 32 := Scalar.muli arg15 c512_i32_364
  let v858 : BitVec 32 := v857
  let v859 : Index := Scalar.indexCast v858
  let c768_365 : Index := 768#32
  ![v859.toNat, 768]
def k0_off9 (i : grid0.Coords) (k0_t1 : Fin (k0_t1_loop i).trips) : Fin 2 → Nat :=
  let c0_i32_222 : BitVec 32 := 0#32
  let c1_i32_224 : BitVec 32 := 1#32
  let arg15 : BitVec 32 := Scf.iv c0_i32_222 c1_i32_224 k0_t1
  let c512_i32_319 : BitVec 32 := 512#32
  let v802 : BitVec 32 := Scalar.muli arg15 c512_i32_319
  let v803 : BitVec 32 := v802
  let v864 : Index := Scalar.indexCast v803
  let c256_370 : Index := 256#32
  ![v864.toNat, 256]
def k0_mult7 (i : grid0.Coords) (k0_t1 : Fin (k0_t1_loop i).trips) : BitVec 32 :=
  let c0_i32_222 : BitVec 32 := 0#32
  let c1_i32_224 : BitVec 32 := 1#32
  let arg15 : BitVec 32 := Scf.iv c0_i32_222 c1_i32_224 k0_t1
  let c1_i32_385 : BitVec 32 := 1#32
  let v883 : BitVec 32 := Scalar.addi arg15 c1_i32_385
  let arg1 : BitVec 32 := BitVec.ofNat 32 (i 1).val
  let v884 : BitVec 32 := Scalar.minsi v883 arg1
  let c512_i32_386 : BitVec 32 := 512#32
  let v885 : BitVec 32 := Scalar.muli v884 c512_i32_386
  v885
def k0_off10 (i : grid0.Coords) (k0_t1 : Fin (k0_t1_loop i).trips) : Fin 2 → Nat :=
  let c0_i32_222 : BitVec 32 := 0#32
  let c1_i32_224 : BitVec 32 := 1#32
  let arg15 : BitVec 32 := Scf.iv c0_i32_222 c1_i32_224 k0_t1
  let c1_i32_385 : BitVec 32 := 1#32
  let v883 : BitVec 32 := Scalar.addi arg15 c1_i32_385
  let arg1 : BitVec 32 := BitVec.ofNat 32 (i 1).val
  let v884 : BitVec 32 := Scalar.minsi v883 arg1
  let c512_i32_386 : BitVec 32 := 512#32
  let v885 : BitVec 32 := Scalar.muli v884 c512_i32_386
  let v886 : BitVec 32 := v885
  let v887 : Index := Scalar.indexCast v886
  let c0_387 : Index := 0#32
  ![v887.toNat, 0]
def k0_off11 (i : grid0.Coords) (k0_t1 : Fin (k0_t1_loop i).trips) : Fin 2 → Nat :=
  let c0_i32_222 : BitVec 32 := 0#32
  let c1_i32_224 : BitVec 32 := 1#32
  let arg15 : BitVec 32 := Scf.iv c0_i32_222 c1_i32_224 k0_t1
  let c512_i32_319 : BitVec 32 := 512#32
  let v802 : BitVec 32 := Scalar.muli arg15 c512_i32_319
  let v803 : BitVec 32 := v802
  let v895 : Index := Scalar.indexCast v803
  let c384_394 : Index := 384#32
  ![v895.toNat, 384]
@[reducible] def k0_t2_loop (i : grid0.Coords) : Scf.Loop 32 :=
  let c0_i32_222 : BitVec 32 := 0#32
  let arg1 : BitVec 32 := BitVec.ofNat 32 (i 1).val
  let v675 : BitVec 32 := Scalar.subi arg1 c0_i32_222
  let c1_i32 : BitVec 32 := 1#32
  let v677 : BitVec 32 := Scalar.divsi v675 c1_i32
  let v678 : BitVec 32 := Scalar.muli v677 c1_i32
  let v679 : BitVec 32 := Scalar.addi c0_i32_222 v678
  let v676 : BitVec 32 := Scalar.addi c0_i32_222 v675
  let c1_i32_225 : BitVec 32 := 1#32
  ⟨v679, v676, c1_i32_225⟩
def k0_mult8 (i : grid0.Coords) (k0_t2 : Fin (k0_t2_loop i).trips) : BitVec 32 :=
  let c0_i32_222 : BitVec 32 := 0#32
  let arg1 : BitVec 32 := BitVec.ofNat 32 (i 1).val
  let v675 : BitVec 32 := Scalar.subi arg1 c0_i32_222
  let c1_i32 : BitVec 32 := 1#32
  let v677 : BitVec 32 := Scalar.divsi v675 c1_i32
  let v678 : BitVec 32 := Scalar.muli v677 c1_i32
  let v679 : BitVec 32 := Scalar.addi c0_i32_222 v678
  let c1_i32_225 : BitVec 32 := 1#32
  let arg15 : BitVec 32 := Scf.iv v679 c1_i32_225 k0_t2
  let c512_i32_319 : BitVec 32 := 512#32
  let v802 : BitVec 32 := Scalar.muli arg15 c512_i32_319
  v802
def k0_mult9 (i : grid0.Coords) (k0_t2 : Fin (k0_t2_loop i).trips) : BitVec 32 :=
  let c0_i32_222 : BitVec 32 := 0#32
  let arg1 : BitVec 32 := BitVec.ofNat 32 (i 1).val
  let v675 : BitVec 32 := Scalar.subi arg1 c0_i32_222
  let c1_i32 : BitVec 32 := 1#32
  let v677 : BitVec 32 := Scalar.divsi v675 c1_i32
  let v678 : BitVec 32 := Scalar.muli v677 c1_i32
  let v679 : BitVec 32 := Scalar.addi c0_i32_222 v678
  let c1_i32_225 : BitVec 32 := 1#32
  let arg15 : BitVec 32 := Scf.iv v679 c1_i32_225 k0_t2
  let c512_i32_322 : BitVec 32 := 512#32
  let v805 : BitVec 32 := Scalar.muli arg15 c512_i32_322
  v805
def k0_off12 (i : grid0.Coords) (k0_t2 : Fin (k0_t2_loop i).trips) : Fin 2 → Nat :=
  let c0_i32_222 : BitVec 32 := 0#32
  let arg1 : BitVec 32 := BitVec.ofNat 32 (i 1).val
  let v675 : BitVec 32 := Scalar.subi arg1 c0_i32_222
  let c1_i32 : BitVec 32 := 1#32
  let v677 : BitVec 32 := Scalar.divsi v675 c1_i32
  let v678 : BitVec 32 := Scalar.muli v677 c1_i32
  let v679 : BitVec 32 := Scalar.addi c0_i32_222 v678
  let c1_i32_225 : BitVec 32 := 1#32
  let arg15 : BitVec 32 := Scf.iv v679 c1_i32_225 k0_t2
  let c512_i32_322 : BitVec 32 := 512#32
  let v805 : BitVec 32 := Scalar.muli arg15 c512_i32_322
  let v806 : BitVec 32 := v805
  let v807 : Index := Scalar.indexCast v806
  let c256_323 : Index := 256#32
  ![v807.toNat, 256]
def k0_off13 (i : grid0.Coords) (k0_t2 : Fin (k0_t2_loop i).trips) : Fin 2 → Nat :=
  let c0_i32_222 : BitVec 32 := 0#32
  let arg1 : BitVec 32 := BitVec.ofNat 32 (i 1).val
  let v675 : BitVec 32 := Scalar.subi arg1 c0_i32_222
  let c1_i32 : BitVec 32 := 1#32
  let v677 : BitVec 32 := Scalar.divsi v675 c1_i32
  let v678 : BitVec 32 := Scalar.muli v677 c1_i32
  let v679 : BitVec 32 := Scalar.addi c0_i32_222 v678
  let c1_i32_225 : BitVec 32 := 1#32
  let arg15 : BitVec 32 := Scf.iv v679 c1_i32_225 k0_t2
  let c512_i32_319 : BitVec 32 := 512#32
  let v802 : BitVec 32 := Scalar.muli arg15 c512_i32_319
  let v803 : BitVec 32 := v802
  let v812 : Index := Scalar.indexCast v803
  let c0_328 : Index := 0#32
  ![v812.toNat, 0]
def k0_mult10 (i : grid0.Coords) (k0_t2 : Fin (k0_t2_loop i).trips) : BitVec 32 :=
  let c0_i32_222 : BitVec 32 := 0#32
  let arg1 : BitVec 32 := BitVec.ofNat 32 (i 1).val
  let v675 : BitVec 32 := Scalar.subi arg1 c0_i32_222
  let c1_i32 : BitVec 32 := 1#32
  let v677 : BitVec 32 := Scalar.divsi v675 c1_i32
  let v678 : BitVec 32 := Scalar.muli v677 c1_i32
  let v679 : BitVec 32 := Scalar.addi c0_i32_222 v678
  let c1_i32_225 : BitVec 32 := 1#32
  let arg15 : BitVec 32 := Scf.iv v679 c1_i32_225 k0_t2
  let c512_i32_343 : BitVec 32 := 512#32
  let v831 : BitVec 32 := Scalar.muli arg15 c512_i32_343
  v831
def k0_off14 (i : grid0.Coords) (k0_t2 : Fin (k0_t2_loop i).trips) : Fin 2 → Nat :=
  let c0_i32_222 : BitVec 32 := 0#32
  let arg1 : BitVec 32 := BitVec.ofNat 32 (i 1).val
  let v675 : BitVec 32 := Scalar.subi arg1 c0_i32_222
  let c1_i32 : BitVec 32 := 1#32
  let v677 : BitVec 32 := Scalar.divsi v675 c1_i32
  let v678 : BitVec 32 := Scalar.muli v677 c1_i32
  let v679 : BitVec 32 := Scalar.addi c0_i32_222 v678
  let c1_i32_225 : BitVec 32 := 1#32
  let arg15 : BitVec 32 := Scf.iv v679 c1_i32_225 k0_t2
  let c512_i32_343 : BitVec 32 := 512#32
  let v831 : BitVec 32 := Scalar.muli arg15 c512_i32_343
  let v832 : BitVec 32 := v831
  let v833 : Index := Scalar.indexCast v832
  let c512_344 : Index := 512#32
  ![v833.toNat, 512]
def k0_off15 (i : grid0.Coords) (k0_t2 : Fin (k0_t2_loop i).trips) : Fin 2 → Nat :=
  let c0_i32_222 : BitVec 32 := 0#32
  let arg1 : BitVec 32 := BitVec.ofNat 32 (i 1).val
  let v675 : BitVec 32 := Scalar.subi arg1 c0_i32_222
  let c1_i32 : BitVec 32 := 1#32
  let v677 : BitVec 32 := Scalar.divsi v675 c1_i32
  let v678 : BitVec 32 := Scalar.muli v677 c1_i32
  let v679 : BitVec 32 := Scalar.addi c0_i32_222 v678
  let c1_i32_225 : BitVec 32 := 1#32
  let arg15 : BitVec 32 := Scf.iv v679 c1_i32_225 k0_t2
  let c512_i32_319 : BitVec 32 := 512#32
  let v802 : BitVec 32 := Scalar.muli arg15 c512_i32_319
  let v803 : BitVec 32 := v802
  let v838 : Index := Scalar.indexCast v803
  let c128_349 : Index := 128#32
  ![v838.toNat, 128]
def k0_mult11 (i : grid0.Coords) (k0_t2 : Fin (k0_t2_loop i).trips) : BitVec 32 :=
  let c0_i32_222 : BitVec 32 := 0#32
  let arg1 : BitVec 32 := BitVec.ofNat 32 (i 1).val
  let v675 : BitVec 32 := Scalar.subi arg1 c0_i32_222
  let c1_i32 : BitVec 32 := 1#32
  let v677 : BitVec 32 := Scalar.divsi v675 c1_i32
  let v678 : BitVec 32 := Scalar.muli v677 c1_i32
  let v679 : BitVec 32 := Scalar.addi c0_i32_222 v678
  let c1_i32_225 : BitVec 32 := 1#32
  let arg15 : BitVec 32 := Scf.iv v679 c1_i32_225 k0_t2
  let c512_i32_364 : BitVec 32 := 512#32
  let v857 : BitVec 32 := Scalar.muli arg15 c512_i32_364
  v857
def k0_off16 (i : grid0.Coords) (k0_t2 : Fin (k0_t2_loop i).trips) : Fin 2 → Nat :=
  let c0_i32_222 : BitVec 32 := 0#32
  let arg1 : BitVec 32 := BitVec.ofNat 32 (i 1).val
  let v675 : BitVec 32 := Scalar.subi arg1 c0_i32_222
  let c1_i32 : BitVec 32 := 1#32
  let v677 : BitVec 32 := Scalar.divsi v675 c1_i32
  let v678 : BitVec 32 := Scalar.muli v677 c1_i32
  let v679 : BitVec 32 := Scalar.addi c0_i32_222 v678
  let c1_i32_225 : BitVec 32 := 1#32
  let arg15 : BitVec 32 := Scf.iv v679 c1_i32_225 k0_t2
  let c512_i32_364 : BitVec 32 := 512#32
  let v857 : BitVec 32 := Scalar.muli arg15 c512_i32_364
  let v858 : BitVec 32 := v857
  let v859 : Index := Scalar.indexCast v858
  let c768_365 : Index := 768#32
  ![v859.toNat, 768]
def k0_off17 (i : grid0.Coords) (k0_t2 : Fin (k0_t2_loop i).trips) : Fin 2 → Nat :=
  let c0_i32_222 : BitVec 32 := 0#32
  let arg1 : BitVec 32 := BitVec.ofNat 32 (i 1).val
  let v675 : BitVec 32 := Scalar.subi arg1 c0_i32_222
  let c1_i32 : BitVec 32 := 1#32
  let v677 : BitVec 32 := Scalar.divsi v675 c1_i32
  let v678 : BitVec 32 := Scalar.muli v677 c1_i32
  let v679 : BitVec 32 := Scalar.addi c0_i32_222 v678
  let c1_i32_225 : BitVec 32 := 1#32
  let arg15 : BitVec 32 := Scf.iv v679 c1_i32_225 k0_t2
  let c512_i32_319 : BitVec 32 := 512#32
  let v802 : BitVec 32 := Scalar.muli arg15 c512_i32_319
  let v803 : BitVec 32 := v802
  let v864 : Index := Scalar.indexCast v803
  let c256_370 : Index := 256#32
  ![v864.toNat, 256]
def k0_mult12 (i : grid0.Coords) (k0_t2 : Fin (k0_t2_loop i).trips) : BitVec 32 :=
  let c0_i32_222 : BitVec 32 := 0#32
  let arg1 : BitVec 32 := BitVec.ofNat 32 (i 1).val
  let v675 : BitVec 32 := Scalar.subi arg1 c0_i32_222
  let c1_i32 : BitVec 32 := 1#32
  let v677 : BitVec 32 := Scalar.divsi v675 c1_i32
  let v678 : BitVec 32 := Scalar.muli v677 c1_i32
  let v679 : BitVec 32 := Scalar.addi c0_i32_222 v678
  let c1_i32_225 : BitVec 32 := 1#32
  let arg15 : BitVec 32 := Scf.iv v679 c1_i32_225 k0_t2
  let c1_i32_385 : BitVec 32 := 1#32
  let v883 : BitVec 32 := Scalar.addi arg15 c1_i32_385
  let v884 : BitVec 32 := Scalar.minsi v883 arg1
  let c512_i32_386 : BitVec 32 := 512#32
  let v885 : BitVec 32 := Scalar.muli v884 c512_i32_386
  v885
def k0_off18 (i : grid0.Coords) (k0_t2 : Fin (k0_t2_loop i).trips) : Fin 2 → Nat :=
  let c0_i32_222 : BitVec 32 := 0#32
  let arg1 : BitVec 32 := BitVec.ofNat 32 (i 1).val
  let v675 : BitVec 32 := Scalar.subi arg1 c0_i32_222
  let c1_i32 : BitVec 32 := 1#32
  let v677 : BitVec 32 := Scalar.divsi v675 c1_i32
  let v678 : BitVec 32 := Scalar.muli v677 c1_i32
  let v679 : BitVec 32 := Scalar.addi c0_i32_222 v678
  let c1_i32_225 : BitVec 32 := 1#32
  let arg15 : BitVec 32 := Scf.iv v679 c1_i32_225 k0_t2
  let c1_i32_385 : BitVec 32 := 1#32
  let v883 : BitVec 32 := Scalar.addi arg15 c1_i32_385
  let v884 : BitVec 32 := Scalar.minsi v883 arg1
  let c512_i32_386 : BitVec 32 := 512#32
  let v885 : BitVec 32 := Scalar.muli v884 c512_i32_386
  let v886 : BitVec 32 := v885
  let v887 : Index := Scalar.indexCast v886
  let c0_387 : Index := 0#32
  ![v887.toNat, 0]
def k0_off19 (i : grid0.Coords) (k0_t2 : Fin (k0_t2_loop i).trips) : Fin 2 → Nat :=
  let c0_i32_222 : BitVec 32 := 0#32
  let arg1 : BitVec 32 := BitVec.ofNat 32 (i 1).val
  let v675 : BitVec 32 := Scalar.subi arg1 c0_i32_222
  let c1_i32 : BitVec 32 := 1#32
  let v677 : BitVec 32 := Scalar.divsi v675 c1_i32
  let v678 : BitVec 32 := Scalar.muli v677 c1_i32
  let v679 : BitVec 32 := Scalar.addi c0_i32_222 v678
  let c1_i32_225 : BitVec 32 := 1#32
  let arg15 : BitVec 32 := Scf.iv v679 c1_i32_225 k0_t2
  let c512_i32_319 : BitVec 32 := 512#32
  let v802 : BitVec 32 := Scalar.muli arg15 c512_i32_319
  let v803 : BitVec 32 := v802
  let v895 : Index := Scalar.indexCast v803
  let c384_394 : Index := 384#32
  ![v895.toNat, 384]
def k0_mult13 (i : grid0.Coords) : BitVec 32 :=
  let arg1 : BitVec 32 := BitVec.ofNat 32 (i 1).val
  let c512_i32_226 : BitVec 32 := 512#32
  let v682 : BitVec 32 := Scalar.muli arg1 c512_i32_226
  v682
def k0_mult14 (i : grid0.Coords) : BitVec 32 :=
  let arg1 : BitVec 32 := BitVec.ofNat 32 (i 1).val
  let c512_i32_229 : BitVec 32 := 512#32
  let v685 : BitVec 32 := Scalar.muli arg1 c512_i32_229
  v685
def k0_off20 (i : grid0.Coords) : Fin 2 → Nat :=
  let arg1 : BitVec 32 := BitVec.ofNat 32 (i 1).val
  let c512_i32_229 : BitVec 32 := 512#32
  let v685 : BitVec 32 := Scalar.muli arg1 c512_i32_229
  let v686 : BitVec 32 := v685
  let v687 : Index := Scalar.indexCast v686
  let c256_230 : Index := 256#32
  ![v687.toNat, 256]
def k0_off21 (i : grid0.Coords) : Fin 2 → Nat :=
  let arg1 : BitVec 32 := BitVec.ofNat 32 (i 1).val
  let c512_i32_226 : BitVec 32 := 512#32
  let v682 : BitVec 32 := Scalar.muli arg1 c512_i32_226
  let v683 : BitVec 32 := v682
  let v694 : Index := Scalar.indexCast v683
  let c0_236 : Index := 0#32
  ![v694.toNat, 0]
def k0_mult15 (i : grid0.Coords) : BitVec 32 :=
  let arg1 : BitVec 32 := BitVec.ofNat 32 (i 1).val
  let c512_i32_251 : BitVec 32 := 512#32
  let v713 : BitVec 32 := Scalar.muli arg1 c512_i32_251
  v713
def k0_off22 (i : grid0.Coords) : Fin 2 → Nat :=
  let arg1 : BitVec 32 := BitVec.ofNat 32 (i 1).val
  let c512_i32_251 : BitVec 32 := 512#32
  let v713 : BitVec 32 := Scalar.muli arg1 c512_i32_251
  let v714 : BitVec 32 := v713
  let v715 : Index := Scalar.indexCast v714
  let c512_252 : Index := 512#32
  ![v715.toNat, 512]
def k0_off23 (i : grid0.Coords) : Fin 2 → Nat :=
  let arg1 : BitVec 32 := BitVec.ofNat 32 (i 1).val
  let c512_i32_226 : BitVec 32 := 512#32
  let v682 : BitVec 32 := Scalar.muli arg1 c512_i32_226
  let v683 : BitVec 32 := v682
  let v722 : Index := Scalar.indexCast v683
  let c128_258 : Index := 128#32
  ![v722.toNat, 128]
def k0_mult16 (i : grid0.Coords) : BitVec 32 :=
  let arg1 : BitVec 32 := BitVec.ofNat 32 (i 1).val
  let c512_i32_273 : BitVec 32 := 512#32
  let v741 : BitVec 32 := Scalar.muli arg1 c512_i32_273
  v741
def k0_off24 (i : grid0.Coords) : Fin 2 → Nat :=
  let arg1 : BitVec 32 := BitVec.ofNat 32 (i 1).val
  let c512_i32_273 : BitVec 32 := 512#32
  let v741 : BitVec 32 := Scalar.muli arg1 c512_i32_273
  let v742 : BitVec 32 := v741
  let v743 : Index := Scalar.indexCast v742
  let c768 : Index := 768#32
  ![v743.toNat, 768]
def k0_off25 (i : grid0.Coords) : Fin 2 → Nat :=
  let arg1 : BitVec 32 := BitVec.ofNat 32 (i 1).val
  let c512_i32_226 : BitVec 32 := 512#32
  let v682 : BitVec 32 := Scalar.muli arg1 c512_i32_226
  let v683 : BitVec 32 := v682
  let v750 : Index := Scalar.indexCast v683
  let c256_279 : Index := 256#32
  ![v750.toNat, 256]
def k0_mult17 (i : grid0.Coords) : BitVec 32 :=
  let arg1 : BitVec 32 := BitVec.ofNat 32 (i 1).val
  let c1_i32_294 : BitVec 32 := 1#32
  let v769 : BitVec 32 := Scalar.addi arg1 c1_i32_294
  let v770 : BitVec 32 := Scalar.minsi v769 arg1
  let c512_i32_295 : BitVec 32 := 512#32
  let v771 : BitVec 32 := Scalar.muli v770 c512_i32_295
  v771
def k0_off26 (i : grid0.Coords) : Fin 2 → Nat :=
  let arg1 : BitVec 32 := BitVec.ofNat 32 (i 1).val
  let c1_i32_294 : BitVec 32 := 1#32
  let v769 : BitVec 32 := Scalar.addi arg1 c1_i32_294
  let v770 : BitVec 32 := Scalar.minsi v769 arg1
  let c512_i32_295 : BitVec 32 := 512#32
  let v771 : BitVec 32 := Scalar.muli v770 c512_i32_295
  let v772 : BitVec 32 := v771
  let v773 : Index := Scalar.indexCast v772
  let c0_296 : Index := 0#32
  ![v773.toNat, 0]
def k0_off27 (i : grid0.Coords) : Fin 2 → Nat :=
  let arg1 : BitVec 32 := BitVec.ofNat 32 (i 1).val
  let c512_i32_226 : BitVec 32 := 512#32
  let v682 : BitVec 32 := Scalar.muli arg1 c512_i32_226
  let v683 : BitVec 32 := v682
  let v783 : Index := Scalar.indexCast v683
  let c384_304 : Index := 384#32
  ![v783.toNat, 384]
@[reducible] def k0_t3_loop (i : grid0.Coords) : Scf.Loop 32 :=
  let c0_i32_226 : BitVec 32 := 0#32
  let arg1 : BitVec 32 := BitVec.ofNat 32 (i 1).val
  let v679 : BitVec 32 := Scalar.subi arg1 c0_i32_226
  let c1_i32 : BitVec 32 := 1#32
  let v681 : BitVec 32 := Scalar.divsi v679 c1_i32
  let v682 : BitVec 32 := Scalar.muli v681 c1_i32
  let v683 : BitVec 32 := Scalar.addi c0_i32_226 v682
  let c1_i32_228 : BitVec 32 := 1#32
  ⟨c0_i32_226, v683, c1_i32_228⟩
def k0_mult18 (i : grid0.Coords) (k0_t3 : Fin (k0_t3_loop i).trips) : BitVec 32 :=
  let c0_i32_226 : BitVec 32 := 0#32
  let c1_i32_228 : BitVec 32 := 1#32
  let arg15 : BitVec 32 := Scf.iv c0_i32_226 c1_i32_228 k0_t3
  let c512_i32_351 : BitVec 32 := 512#32
  let v866 : BitVec 32 := Scalar.muli arg15 c512_i32_351
  v866
def k0_mult19 (i : grid0.Coords) (k0_t3 : Fin (k0_t3_loop i).trips) : BitVec 32 :=
  let c0_i32_226 : BitVec 32 := 0#32
  let c1_i32_228 : BitVec 32 := 1#32
  let arg15 : BitVec 32 := Scf.iv c0_i32_226 c1_i32_228 k0_t3
  let c512_i32_354 : BitVec 32 := 512#32
  let v869 : BitVec 32 := Scalar.muli arg15 c512_i32_354
  v869
def k0_off28 (i : grid0.Coords) (k0_t3 : Fin (k0_t3_loop i).trips) : Fin 2 → Nat :=
  let c0_i32_226 : BitVec 32 := 0#32
  let c1_i32_228 : BitVec 32 := 1#32
  let arg15 : BitVec 32 := Scf.iv c0_i32_226 c1_i32_228 k0_t3
  let c512_i32_354 : BitVec 32 := 512#32
  let v869 : BitVec 32 := Scalar.muli arg15 c512_i32_354
  let v870 : BitVec 32 := v869
  let v871 : Index := Scalar.indexCast v870
  let c256_355 : Index := 256#32
  ![v871.toNat, 256]
def k0_off29 (i : grid0.Coords) (k0_t3 : Fin (k0_t3_loop i).trips) : Fin 2 → Nat :=
  let c0_i32_226 : BitVec 32 := 0#32
  let c1_i32_228 : BitVec 32 := 1#32
  let arg15 : BitVec 32 := Scf.iv c0_i32_226 c1_i32_228 k0_t3
  let c512_i32_351 : BitVec 32 := 512#32
  let v866 : BitVec 32 := Scalar.muli arg15 c512_i32_351
  let v867 : BitVec 32 := v866
  let v876 : Index := Scalar.indexCast v867
  let c0_360 : Index := 0#32
  ![v876.toNat, 0]
def k0_mult20 (i : grid0.Coords) (k0_t3 : Fin (k0_t3_loop i).trips) : BitVec 32 :=
  let c0_i32_226 : BitVec 32 := 0#32
  let c1_i32_228 : BitVec 32 := 1#32
  let arg15 : BitVec 32 := Scf.iv c0_i32_226 c1_i32_228 k0_t3
  let c512_i32_382 : BitVec 32 := 512#32
  let v910 : BitVec 32 := Scalar.muli arg15 c512_i32_382
  v910
def k0_off30 (i : grid0.Coords) (k0_t3 : Fin (k0_t3_loop i).trips) : Fin 2 → Nat :=
  let c0_i32_226 : BitVec 32 := 0#32
  let c1_i32_228 : BitVec 32 := 1#32
  let arg15 : BitVec 32 := Scf.iv c0_i32_226 c1_i32_228 k0_t3
  let c512_i32_382 : BitVec 32 := 512#32
  let v910 : BitVec 32 := Scalar.muli arg15 c512_i32_382
  let v911 : BitVec 32 := v910
  let v912 : Index := Scalar.indexCast v911
  let c512_383 : Index := 512#32
  ![v912.toNat, 512]
def k0_off31 (i : grid0.Coords) (k0_t3 : Fin (k0_t3_loop i).trips) : Fin 2 → Nat :=
  let c0_i32_226 : BitVec 32 := 0#32
  let c1_i32_228 : BitVec 32 := 1#32
  let arg15 : BitVec 32 := Scf.iv c0_i32_226 c1_i32_228 k0_t3
  let c512_i32_351 : BitVec 32 := 512#32
  let v866 : BitVec 32 := Scalar.muli arg15 c512_i32_351
  let v867 : BitVec 32 := v866
  let v917 : Index := Scalar.indexCast v867
  let c128_388 : Index := 128#32
  ![v917.toNat, 128]
def k0_mult21 (i : grid0.Coords) (k0_t3 : Fin (k0_t3_loop i).trips) : BitVec 32 :=
  let c0_i32_226 : BitVec 32 := 0#32
  let c1_i32_228 : BitVec 32 := 1#32
  let arg15 : BitVec 32 := Scf.iv c0_i32_226 c1_i32_228 k0_t3
  let c512_i32_410 : BitVec 32 := 512#32
  let v951 : BitVec 32 := Scalar.muli arg15 c512_i32_410
  v951
def k0_off32 (i : grid0.Coords) (k0_t3 : Fin (k0_t3_loop i).trips) : Fin 2 → Nat :=
  let c0_i32_226 : BitVec 32 := 0#32
  let c1_i32_228 : BitVec 32 := 1#32
  let arg15 : BitVec 32 := Scf.iv c0_i32_226 c1_i32_228 k0_t3
  let c512_i32_410 : BitVec 32 := 512#32
  let v951 : BitVec 32 := Scalar.muli arg15 c512_i32_410
  let v952 : BitVec 32 := v951
  let v953 : Index := Scalar.indexCast v952
  let c768_411 : Index := 768#32
  ![v953.toNat, 768]
def k0_off33 (i : grid0.Coords) (k0_t3 : Fin (k0_t3_loop i).trips) : Fin 2 → Nat :=
  let c0_i32_226 : BitVec 32 := 0#32
  let c1_i32_228 : BitVec 32 := 1#32
  let arg15 : BitVec 32 := Scf.iv c0_i32_226 c1_i32_228 k0_t3
  let c512_i32_351 : BitVec 32 := 512#32
  let v866 : BitVec 32 := Scalar.muli arg15 c512_i32_351
  let v867 : BitVec 32 := v866
  let v958 : Index := Scalar.indexCast v867
  let c256_416 : Index := 256#32
  ![v958.toNat, 256]
def k0_mult22 (i : grid0.Coords) (k0_t3 : Fin (k0_t3_loop i).trips) : BitVec 32 :=
  let c0_i32_226 : BitVec 32 := 0#32
  let c1_i32_228 : BitVec 32 := 1#32
  let arg15 : BitVec 32 := Scf.iv c0_i32_226 c1_i32_228 k0_t3
  let c1_i32_438 : BitVec 32 := 1#32
  let v992 : BitVec 32 := Scalar.addi arg15 c1_i32_438
  let arg1 : BitVec 32 := BitVec.ofNat 32 (i 1).val
  let v993 : BitVec 32 := Scalar.minsi v992 arg1
  let c512_i32_439 : BitVec 32 := 512#32
  let v994 : BitVec 32 := Scalar.muli v993 c512_i32_439
  v994
def k0_off34 (i : grid0.Coords) (k0_t3 : Fin (k0_t3_loop i).trips) : Fin 2 → Nat :=
  let c0_i32_226 : BitVec 32 := 0#32
  let c1_i32_228 : BitVec 32 := 1#32
  let arg15 : BitVec 32 := Scf.iv c0_i32_226 c1_i32_228 k0_t3
  let c1_i32_438 : BitVec 32 := 1#32
  let v992 : BitVec 32 := Scalar.addi arg15 c1_i32_438
  let arg1 : BitVec 32 := BitVec.ofNat 32 (i 1).val
  let v993 : BitVec 32 := Scalar.minsi v992 arg1
  let c512_i32_439 : BitVec 32 := 512#32
  let v994 : BitVec 32 := Scalar.muli v993 c512_i32_439
  let v995 : BitVec 32 := v994
  let v996 : Index := Scalar.indexCast v995
  let c0_440 : Index := 0#32
  ![v996.toNat, 0]
def k0_off35 (i : grid0.Coords) (k0_t3 : Fin (k0_t3_loop i).trips) : Fin 2 → Nat :=
  let c0_i32_226 : BitVec 32 := 0#32
  let c1_i32_228 : BitVec 32 := 1#32
  let arg15 : BitVec 32 := Scf.iv c0_i32_226 c1_i32_228 k0_t3
  let c512_i32_351 : BitVec 32 := 512#32
  let v866 : BitVec 32 := Scalar.muli arg15 c512_i32_351
  let v867 : BitVec 32 := v866
  let v1004 : Index := Scalar.indexCast v867
  let c384_447 : Index := 384#32
  ![v1004.toNat, 384]
@[reducible] def k0_t4_loop (i : grid0.Coords) : Scf.Loop 32 :=
  let c0_i32_226 : BitVec 32 := 0#32
  let arg1 : BitVec 32 := BitVec.ofNat 32 (i 1).val
  let v679 : BitVec 32 := Scalar.subi arg1 c0_i32_226
  let c1_i32 : BitVec 32 := 1#32
  let v681 : BitVec 32 := Scalar.divsi v679 c1_i32
  let v682 : BitVec 32 := Scalar.muli v681 c1_i32
  let v683 : BitVec 32 := Scalar.addi c0_i32_226 v682
  let v680 : BitVec 32 := Scalar.addi c0_i32_226 v679
  let c1_i32_229 : BitVec 32 := 1#32
  ⟨v683, v680, c1_i32_229⟩
def k0_mult23 (i : grid0.Coords) (k0_t4 : Fin (k0_t4_loop i).trips) : BitVec 32 :=
  let c0_i32_226 : BitVec 32 := 0#32
  let arg1 : BitVec 32 := BitVec.ofNat 32 (i 1).val
  let v679 : BitVec 32 := Scalar.subi arg1 c0_i32_226
  let c1_i32 : BitVec 32 := 1#32
  let v681 : BitVec 32 := Scalar.divsi v679 c1_i32
  let v682 : BitVec 32 := Scalar.muli v681 c1_i32
  let v683 : BitVec 32 := Scalar.addi c0_i32_226 v682
  let c1_i32_229 : BitVec 32 := 1#32
  let arg15 : BitVec 32 := Scf.iv v683 c1_i32_229 k0_t4
  let c512_i32_351 : BitVec 32 := 512#32
  let v866 : BitVec 32 := Scalar.muli arg15 c512_i32_351
  v866
def k0_mult24 (i : grid0.Coords) (k0_t4 : Fin (k0_t4_loop i).trips) : BitVec 32 :=
  let c0_i32_226 : BitVec 32 := 0#32
  let arg1 : BitVec 32 := BitVec.ofNat 32 (i 1).val
  let v679 : BitVec 32 := Scalar.subi arg1 c0_i32_226
  let c1_i32 : BitVec 32 := 1#32
  let v681 : BitVec 32 := Scalar.divsi v679 c1_i32
  let v682 : BitVec 32 := Scalar.muli v681 c1_i32
  let v683 : BitVec 32 := Scalar.addi c0_i32_226 v682
  let c1_i32_229 : BitVec 32 := 1#32
  let arg15 : BitVec 32 := Scf.iv v683 c1_i32_229 k0_t4
  let c512_i32_354 : BitVec 32 := 512#32
  let v869 : BitVec 32 := Scalar.muli arg15 c512_i32_354
  v869
def k0_off36 (i : grid0.Coords) (k0_t4 : Fin (k0_t4_loop i).trips) : Fin 2 → Nat :=
  let c0_i32_226 : BitVec 32 := 0#32
  let arg1 : BitVec 32 := BitVec.ofNat 32 (i 1).val
  let v679 : BitVec 32 := Scalar.subi arg1 c0_i32_226
  let c1_i32 : BitVec 32 := 1#32
  let v681 : BitVec 32 := Scalar.divsi v679 c1_i32
  let v682 : BitVec 32 := Scalar.muli v681 c1_i32
  let v683 : BitVec 32 := Scalar.addi c0_i32_226 v682
  let c1_i32_229 : BitVec 32 := 1#32
  let arg15 : BitVec 32 := Scf.iv v683 c1_i32_229 k0_t4
  let c512_i32_354 : BitVec 32 := 512#32
  let v869 : BitVec 32 := Scalar.muli arg15 c512_i32_354
  let v870 : BitVec 32 := v869
  let v871 : Index := Scalar.indexCast v870
  let c256_355 : Index := 256#32
  ![v871.toNat, 256]
def k0_off37 (i : grid0.Coords) (k0_t4 : Fin (k0_t4_loop i).trips) : Fin 2 → Nat :=
  let c0_i32_226 : BitVec 32 := 0#32
  let arg1 : BitVec 32 := BitVec.ofNat 32 (i 1).val
  let v679 : BitVec 32 := Scalar.subi arg1 c0_i32_226
  let c1_i32 : BitVec 32 := 1#32
  let v681 : BitVec 32 := Scalar.divsi v679 c1_i32
  let v682 : BitVec 32 := Scalar.muli v681 c1_i32
  let v683 : BitVec 32 := Scalar.addi c0_i32_226 v682
  let c1_i32_229 : BitVec 32 := 1#32
  let arg15 : BitVec 32 := Scf.iv v683 c1_i32_229 k0_t4
  let c512_i32_351 : BitVec 32 := 512#32
  let v866 : BitVec 32 := Scalar.muli arg15 c512_i32_351
  let v867 : BitVec 32 := v866
  let v876 : Index := Scalar.indexCast v867
  let c0_360 : Index := 0#32
  ![v876.toNat, 0]
def k0_mult25 (i : grid0.Coords) (k0_t4 : Fin (k0_t4_loop i).trips) : BitVec 32 :=
  let c0_i32_226 : BitVec 32 := 0#32
  let arg1 : BitVec 32 := BitVec.ofNat 32 (i 1).val
  let v679 : BitVec 32 := Scalar.subi arg1 c0_i32_226
  let c1_i32 : BitVec 32 := 1#32
  let v681 : BitVec 32 := Scalar.divsi v679 c1_i32
  let v682 : BitVec 32 := Scalar.muli v681 c1_i32
  let v683 : BitVec 32 := Scalar.addi c0_i32_226 v682
  let c1_i32_229 : BitVec 32 := 1#32
  let arg15 : BitVec 32 := Scf.iv v683 c1_i32_229 k0_t4
  let c512_i32_382 : BitVec 32 := 512#32
  let v910 : BitVec 32 := Scalar.muli arg15 c512_i32_382
  v910
def k0_off38 (i : grid0.Coords) (k0_t4 : Fin (k0_t4_loop i).trips) : Fin 2 → Nat :=
  let c0_i32_226 : BitVec 32 := 0#32
  let arg1 : BitVec 32 := BitVec.ofNat 32 (i 1).val
  let v679 : BitVec 32 := Scalar.subi arg1 c0_i32_226
  let c1_i32 : BitVec 32 := 1#32
  let v681 : BitVec 32 := Scalar.divsi v679 c1_i32
  let v682 : BitVec 32 := Scalar.muli v681 c1_i32
  let v683 : BitVec 32 := Scalar.addi c0_i32_226 v682
  let c1_i32_229 : BitVec 32 := 1#32
  let arg15 : BitVec 32 := Scf.iv v683 c1_i32_229 k0_t4
  let c512_i32_382 : BitVec 32 := 512#32
  let v910 : BitVec 32 := Scalar.muli arg15 c512_i32_382
  let v911 : BitVec 32 := v910
  let v912 : Index := Scalar.indexCast v911
  let c512_383 : Index := 512#32
  ![v912.toNat, 512]
def k0_off39 (i : grid0.Coords) (k0_t4 : Fin (k0_t4_loop i).trips) : Fin 2 → Nat :=
  let c0_i32_226 : BitVec 32 := 0#32
  let arg1 : BitVec 32 := BitVec.ofNat 32 (i 1).val
  let v679 : BitVec 32 := Scalar.subi arg1 c0_i32_226
  let c1_i32 : BitVec 32 := 1#32
  let v681 : BitVec 32 := Scalar.divsi v679 c1_i32
  let v682 : BitVec 32 := Scalar.muli v681 c1_i32
  let v683 : BitVec 32 := Scalar.addi c0_i32_226 v682
  let c1_i32_229 : BitVec 32 := 1#32
  let arg15 : BitVec 32 := Scf.iv v683 c1_i32_229 k0_t4
  let c512_i32_351 : BitVec 32 := 512#32
  let v866 : BitVec 32 := Scalar.muli arg15 c512_i32_351
  let v867 : BitVec 32 := v866
  let v917 : Index := Scalar.indexCast v867
  let c128_388 : Index := 128#32
  ![v917.toNat, 128]
def k0_mult26 (i : grid0.Coords) (k0_t4 : Fin (k0_t4_loop i).trips) : BitVec 32 :=
  let c0_i32_226 : BitVec 32 := 0#32
  let arg1 : BitVec 32 := BitVec.ofNat 32 (i 1).val
  let v679 : BitVec 32 := Scalar.subi arg1 c0_i32_226
  let c1_i32 : BitVec 32 := 1#32
  let v681 : BitVec 32 := Scalar.divsi v679 c1_i32
  let v682 : BitVec 32 := Scalar.muli v681 c1_i32
  let v683 : BitVec 32 := Scalar.addi c0_i32_226 v682
  let c1_i32_229 : BitVec 32 := 1#32
  let arg15 : BitVec 32 := Scf.iv v683 c1_i32_229 k0_t4
  let c512_i32_410 : BitVec 32 := 512#32
  let v951 : BitVec 32 := Scalar.muli arg15 c512_i32_410
  v951
def k0_off40 (i : grid0.Coords) (k0_t4 : Fin (k0_t4_loop i).trips) : Fin 2 → Nat :=
  let c0_i32_226 : BitVec 32 := 0#32
  let arg1 : BitVec 32 := BitVec.ofNat 32 (i 1).val
  let v679 : BitVec 32 := Scalar.subi arg1 c0_i32_226
  let c1_i32 : BitVec 32 := 1#32
  let v681 : BitVec 32 := Scalar.divsi v679 c1_i32
  let v682 : BitVec 32 := Scalar.muli v681 c1_i32
  let v683 : BitVec 32 := Scalar.addi c0_i32_226 v682
  let c1_i32_229 : BitVec 32 := 1#32
  let arg15 : BitVec 32 := Scf.iv v683 c1_i32_229 k0_t4
  let c512_i32_410 : BitVec 32 := 512#32
  let v951 : BitVec 32 := Scalar.muli arg15 c512_i32_410
  let v952 : BitVec 32 := v951
  let v953 : Index := Scalar.indexCast v952
  let c768_411 : Index := 768#32
  ![v953.toNat, 768]
def k0_off41 (i : grid0.Coords) (k0_t4 : Fin (k0_t4_loop i).trips) : Fin 2 → Nat :=
  let c0_i32_226 : BitVec 32 := 0#32
  let arg1 : BitVec 32 := BitVec.ofNat 32 (i 1).val
  let v679 : BitVec 32 := Scalar.subi arg1 c0_i32_226
  let c1_i32 : BitVec 32 := 1#32
  let v681 : BitVec 32 := Scalar.divsi v679 c1_i32
  let v682 : BitVec 32 := Scalar.muli v681 c1_i32
  let v683 : BitVec 32 := Scalar.addi c0_i32_226 v682
  let c1_i32_229 : BitVec 32 := 1#32
  let arg15 : BitVec 32 := Scf.iv v683 c1_i32_229 k0_t4
  let c512_i32_351 : BitVec 32 := 512#32
  let v866 : BitVec 32 := Scalar.muli arg15 c512_i32_351
  let v867 : BitVec 32 := v866
  let v958 : Index := Scalar.indexCast v867
  let c256_416 : Index := 256#32
  ![v958.toNat, 256]
def k0_mult27 (i : grid0.Coords) (k0_t4 : Fin (k0_t4_loop i).trips) : BitVec 32 :=
  let c0_i32_226 : BitVec 32 := 0#32
  let arg1 : BitVec 32 := BitVec.ofNat 32 (i 1).val
  let v679 : BitVec 32 := Scalar.subi arg1 c0_i32_226
  let c1_i32 : BitVec 32 := 1#32
  let v681 : BitVec 32 := Scalar.divsi v679 c1_i32
  let v682 : BitVec 32 := Scalar.muli v681 c1_i32
  let v683 : BitVec 32 := Scalar.addi c0_i32_226 v682
  let c1_i32_229 : BitVec 32 := 1#32
  let arg15 : BitVec 32 := Scf.iv v683 c1_i32_229 k0_t4
  let c1_i32_438 : BitVec 32 := 1#32
  let v992 : BitVec 32 := Scalar.addi arg15 c1_i32_438
  let v993 : BitVec 32 := Scalar.minsi v992 arg1
  let c512_i32_439 : BitVec 32 := 512#32
  let v994 : BitVec 32 := Scalar.muli v993 c512_i32_439
  v994
def k0_off42 (i : grid0.Coords) (k0_t4 : Fin (k0_t4_loop i).trips) : Fin 2 → Nat :=
  let c0_i32_226 : BitVec 32 := 0#32
  let arg1 : BitVec 32 := BitVec.ofNat 32 (i 1).val
  let v679 : BitVec 32 := Scalar.subi arg1 c0_i32_226
  let c1_i32 : BitVec 32 := 1#32
  let v681 : BitVec 32 := Scalar.divsi v679 c1_i32
  let v682 : BitVec 32 := Scalar.muli v681 c1_i32
  let v683 : BitVec 32 := Scalar.addi c0_i32_226 v682
  let c1_i32_229 : BitVec 32 := 1#32
  let arg15 : BitVec 32 := Scf.iv v683 c1_i32_229 k0_t4
  let c1_i32_438 : BitVec 32 := 1#32
  let v992 : BitVec 32 := Scalar.addi arg15 c1_i32_438
  let v993 : BitVec 32 := Scalar.minsi v992 arg1
  let c512_i32_439 : BitVec 32 := 512#32
  let v994 : BitVec 32 := Scalar.muli v993 c512_i32_439
  let v995 : BitVec 32 := v994
  let v996 : Index := Scalar.indexCast v995
  let c0_440 : Index := 0#32
  ![v996.toNat, 0]
def k0_off43 (i : grid0.Coords) (k0_t4 : Fin (k0_t4_loop i).trips) : Fin 2 → Nat :=
  let c0_i32_226 : BitVec 32 := 0#32
  let arg1 : BitVec 32 := BitVec.ofNat 32 (i 1).val
  let v679 : BitVec 32 := Scalar.subi arg1 c0_i32_226
  let c1_i32 : BitVec 32 := 1#32
  let v681 : BitVec 32 := Scalar.divsi v679 c1_i32
  let v682 : BitVec 32 := Scalar.muli v681 c1_i32
  let v683 : BitVec 32 := Scalar.addi c0_i32_226 v682
  let c1_i32_229 : BitVec 32 := 1#32
  let arg15 : BitVec 32 := Scf.iv v683 c1_i32_229 k0_t4
  let c512_i32_351 : BitVec 32 := 512#32
  let v866 : BitVec 32 := Scalar.muli arg15 c512_i32_351
  let v867 : BitVec 32 := v866
  let v1004 : Index := Scalar.indexCast v867
  let c384_447 : Index := 384#32
  ![v1004.toNat, 384]
def k0_mult28 (i : grid0.Coords) : BitVec 32 :=
  let arg1 : BitVec 32 := BitVec.ofNat 32 (i 1).val
  let c512_i32_230 : BitVec 32 := 512#32
  let v686 : BitVec 32 := Scalar.muli arg1 c512_i32_230
  v686
def k0_mult29 (i : grid0.Coords) : BitVec 32 :=
  let arg1 : BitVec 32 := BitVec.ofNat 32 (i 1).val
  let c512_i32_233 : BitVec 32 := 512#32
  let v689 : BitVec 32 := Scalar.muli arg1 c512_i32_233
  v689
def k0_off44 (i : grid0.Coords) : Fin 2 → Nat :=
  let arg1 : BitVec 32 := BitVec.ofNat 32 (i 1).val
  let c512_i32_233 : BitVec 32 := 512#32
  let v689 : BitVec 32 := Scalar.muli arg1 c512_i32_233
  let v690 : BitVec 32 := v689
  let v691 : Index := Scalar.indexCast v690
  let c256_234 : Index := 256#32
  ![v691.toNat, 256]
def k0_off45 (i : grid0.Coords) : Fin 2 → Nat :=
  let arg1 : BitVec 32 := BitVec.ofNat 32 (i 1).val
  let c512_i32_230 : BitVec 32 := 512#32
  let v686 : BitVec 32 := Scalar.muli arg1 c512_i32_230
  let v687 : BitVec 32 := v686
  let v698 : Index := Scalar.indexCast v687
  let c0_240 : Index := 0#32
  ![v698.toNat, 0]
def k0_mult30 (i : grid0.Coords) : BitVec 32 :=
  let arg1 : BitVec 32 := BitVec.ofNat 32 (i 1).val
  let c512_i32_262 : BitVec 32 := 512#32
  let v732 : BitVec 32 := Scalar.muli arg1 c512_i32_262
  v732
def k0_off46 (i : grid0.Coords) : Fin 2 → Nat :=
  let arg1 : BitVec 32 := BitVec.ofNat 32 (i 1).val
  let c512_i32_262 : BitVec 32 := 512#32
  let v732 : BitVec 32 := Scalar.muli arg1 c512_i32_262
  let v733 : BitVec 32 := v732
  let v734 : Index := Scalar.indexCast v733
  let c512_263 : Index := 512#32
  ![v734.toNat, 512]
def k0_off47 (i : grid0.Coords) : Fin 2 → Nat :=
  let arg1 : BitVec 32 := BitVec.ofNat 32 (i 1).val
  let c512_i32_230 : BitVec 32 := 512#32
  let v686 : BitVec 32 := Scalar.muli arg1 c512_i32_230
  let v687 : BitVec 32 := v686
  let v741 : Index := Scalar.indexCast v687
  let c128_269 : Index := 128#32
  ![v741.toNat, 128]
def k0_mult31 (i : grid0.Coords) : BitVec 32 :=
  let arg1 : BitVec 32 := BitVec.ofNat 32 (i 1).val
  let c512_i32_291 : BitVec 32 := 512#32
  let v775 : BitVec 32 := Scalar.muli arg1 c512_i32_291
  v775
def k0_off48 (i : grid0.Coords) : Fin 2 → Nat :=
  let arg1 : BitVec 32 := BitVec.ofNat 32 (i 1).val
  let c512_i32_291 : BitVec 32 := 512#32
  let v775 : BitVec 32 := Scalar.muli arg1 c512_i32_291
  let v776 : BitVec 32 := v775
  let v777 : Index := Scalar.indexCast v776
  let c768 : Index := 768#32
  ![v777.toNat, 768]
def k0_off49 (i : grid0.Coords) : Fin 2 → Nat :=
  let arg1 : BitVec 32 := BitVec.ofNat 32 (i 1).val
  let c512_i32_230 : BitVec 32 := 512#32
  let v686 : BitVec 32 := Scalar.muli arg1 c512_i32_230
  let v687 : BitVec 32 := v686
  let v784 : Index := Scalar.indexCast v687
  let c256_297 : Index := 256#32
  ![v784.toNat, 256]
def k0_mult32 (i : grid0.Coords) : BitVec 32 :=
  let arg1 : BitVec 32 := BitVec.ofNat 32 (i 1).val
  let c1_i32_319 : BitVec 32 := 1#32
  let v818 : BitVec 32 := Scalar.addi arg1 c1_i32_319
  let v819 : BitVec 32 := Scalar.minsi v818 arg1
  let c512_i32_320 : BitVec 32 := 512#32
  let v820 : BitVec 32 := Scalar.muli v819 c512_i32_320
  v820
def k0_off50 (i : grid0.Coords) : Fin 2 → Nat :=
  let arg1 : BitVec 32 := BitVec.ofNat 32 (i 1).val
  let c1_i32_319 : BitVec 32 := 1#32
  let v818 : BitVec 32 := Scalar.addi arg1 c1_i32_319
  let v819 : BitVec 32 := Scalar.minsi v818 arg1
  let c512_i32_320 : BitVec 32 := 512#32
  let v820 : BitVec 32 := Scalar.muli v819 c512_i32_320
  let v821 : BitVec 32 := v820
  let v822 : Index := Scalar.indexCast v821
  let c0_321 : Index := 0#32
  ![v822.toNat, 0]
def k0_off51 (i : grid0.Coords) : Fin 2 → Nat :=
  let arg1 : BitVec 32 := BitVec.ofNat 32 (i 1).val
  let c512_i32_230 : BitVec 32 := 512#32
  let v686 : BitVec 32 := Scalar.muli arg1 c512_i32_230
  let v687 : BitVec 32 := v686
  let v832 : Index := Scalar.indexCast v687
  let c384_329 : Index := 384#32
  ![v832.toNat, 384]
def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S3x4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S4x3x128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Proof.Forget.lean ====
/- Programs that keep what they hold, whatever is in it: the frame of a kernel whose buffers' contents nothing reads.
   `Holds P m` says that `P` has the elements of the memref `m` in it, at contents that may be replaced; `Keeps P p`
   says that the program `p`, started from `P`, ends with `P`. A program of loads, stores, branches and loops over held
   memrefs keeps `P`. -/
module

public import Idealize.ShloMosaic.Lib.Exec
public import Idealize.ShloMosaic.Lib.Scf
public import Idealize.ShloMosaic.Lib.Pipeline.FrameBody

@[expose] public section

noncomputable section

namespace Cert.Proof.Forget

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline

variable {nD : Nat} {τ : Topo} {sig : RefSig} {Val : EltTy → Type} {Λ : Labels}

local notation "𝕄" => MT nD τ sig Unit Val ℕ (UR sig nD τ) ℕ

variable {defs : Defs nD τ sig Val Λ} {𝒱 : Variants} {c : Thread nD τ} {bd : Option 𝒱.V}

/-- `P` holds the elements of `m`, and is `P` again whatever is written to them. -/
def Holds (c : Thread nD τ) (P : sProp 𝕄) {sp : Space} {sh : Shape} {e : EltTy} (m : Memref sig c.2.kind sp sh e) : Prop :=
  P ⊢ iprop(∃ f, (m.view.loc c ↦[m.view.set]{fullShare} f) ∗ (∀ g, (m.view.loc c ↦[m.view.set]{fullShare} g) -∗ P))

/-- The program `p`, started from `P`, ends with `P`. -/
def Keeps (defs : Defs nD τ sig Val Λ) (𝒱 : Variants) (c : Thread nD τ) (bd : Option 𝒱.V) (P : sProp 𝕄) {α : Type}
    (p : Prog (TpuEff nD τ sig Val Λ c.2) α) : Prop :=
  P ⊢ wp frame (wpE defs 𝒱 c bd) Set.univ p (fun _ => P)

variable {P : sProp (MT nD τ sig Unit Val ℕ (UR sig nD τ) ℕ)} {α β : Type}

theorem Keeps.pure (a : α) : Keeps defs 𝒱 c bd P (Pure.pure a) := by
  unfold Keeps; rw [wp_pure]; iintro H; imodintro; iexact H

theorem Keeps.bind {p : Prog (TpuEff nD τ sig Val Λ c.2) α} {k : α → Prog (TpuEff nD τ sig Val Λ c.2) β}
    (hp : Keeps defs 𝒱 c bd P p) (hk : ∀ a, Keeps defs 𝒱 c bd P (k a)) : Keeps defs 𝒱 c bd P (p >>= k) := by
  unfold Keeps at *; rw [wp_bind]; exact hp.trans (wp_mono _ _ _ hk)

theorem Keeps.load {cs : CoreSpace} {sh : Shape} {e : EltTy} {m : Memref sig c.2.kind cs sh e} (h : Holds c P m)
    {r : LoadRect sh} {hl : m.view.LoadsAt r} : Keeps defs 𝒱 c bd P (Prog.lift (.load m r hl)) := by
  unfold Keeps Prog.lift
  refine h.trans ?_
  iintro ⟨%f, H, Hk⟩
  iapply (wp_load 𝒱 c bd Set.univ (m.view.setOn_subset_set r.set)) $$ H
  iintro H
  rw [wp_ret]; imodintro
  iapply Hk; iexact H

theorem Keeps.store {cs : CoreSpace} {sh : Shape} {e : EltTy} {m : Memref sig c.2.kind cs sh e} (h : Holds c P m)
    {r : Rect sh} {w : r.shape.Idx → Val e} {M : Finset r.shape.Idx} {hx : (m.access r).Stores M}
    {hm : M = Finset.univ ∨ ∀ a, r.stride a = 1} : Keeps defs 𝒱 c bd P (Prog.lift (.store m r w M hx hm)) := by
  unfold Keeps Prog.lift
  refine h.trans ?_
  iintro ⟨%f, H, Hk⟩
  iapply (wp_store 𝒱 c bd Set.univ (((m.access r).setOn_subset_set M).trans (m.view.set_slice_subset r))) $$ H
  iintro H
  rw [wp_ret]; imodintro
  iapply Hk; iexact H

theorem Keeps.loop {w : ℕ} {σ : Type} {l : Scf.Loop w} {hok : l.OK} {init : σ}
    {body : Fin l.trips → σ → Prog (TpuEff nD τ sig Val Λ c.2) σ} (h : ∀ k a, Keeps defs 𝒱 c bd P (body k a)) :
    Keeps defs 𝒱 c bd P (Scf.Loop.for l hok init body) := by
  unfold Keeps
  refine .trans ?_ (Scf.wp_for frame (wpE defs 𝒱 c bd) Set.univ l.lb l.ub l.st hok init body (fun _ _ => P) h)
  iintro H; isplitl [H]
  · iexact H
  · iintro %a H; iexact H

theorem Keeps.dite {q : Prop} [Decidable q] {p : q → Prog (TpuEff nD τ sig Val Λ c.2) α} {p' : ¬ q → Prog (TpuEff nD τ sig Val Λ c.2) α}
    (h : ∀ hq, Keeps defs 𝒱 c bd P (p hq)) (h' : ∀ hq, Keeps defs 𝒱 c bd P (p' hq)) :
    Keeps defs 𝒱 c bd P (if hq : q then p hq else p' hq) := by
  split
  · exact h _
  · exact h' _

theorem Keeps.ite {q : Prop} [Decidable q] {p p' : Prog (TpuEff nD τ sig Val Λ c.2) α}
    (h : Keeps defs 𝒱 c bd P p) (h' : Keeps defs 𝒱 c bd P p') : Keeps defs 𝒱 c bd P (if q then p else p') := by
  split
  · exact h
  · exact h'

/-! ## What a conjunction of owned memrefs holds -/

variable {sp sp' : Space} {sh sh' : Shape} {e e' : EltTy}

theorem Holds.owns (m : Memref sig c.2.kind sp sh e) :
    Holds c iprop(∃ d, Idealize.ShloMosaic.owns (Val := Val) c m fullShare d) m := by
  unfold Holds Idealize.ShloMosaic.owns
  iintro ⟨%d, %f, -, H⟩
  iexists f
  isplitl [H]; · iexact H
  iintro %g H
  iexists _; iexists g
  isplitr; · ipureintro; rfl
  iexact H

theorem Holds.left {Q : sProp 𝕄} {m : Memref sig c.2.kind sp sh e} (h : Holds c P m) : Holds c iprop(P ∗ Q) m := by
  unfold Holds at *
  refine (sep_mono_left h).trans ?_
  iintro ⟨⟨%f, H, Hk⟩, HQ⟩
  iexists f
  isplitl [H]; · iexact H
  iintro %g H
  isplitl [H Hk]
  · iapply Hk; iexact H
  · iexact HQ

theorem Holds.right {Q : sProp 𝕄} {m : Memref sig c.2.kind sp sh e} (h : Holds c Q m) : Holds c iprop(P ∗ Q) m := by
  unfold Holds at *
  refine (sep_mono_right h).trans ?_
  iintro ⟨HP, ⟨%f, H, Hk⟩⟩
  iexists f
  isplitl [H]; · iexact H
  iintro %g H
  isplitl [HP]; · iexact HP
  iapply Hk; iexact H

end Cert.Proof.Forget

end
-- ==== Proof.DsaParts.lean ====
/- The body of the sparse attention's kernel keeps its buffers, whatever they hold: its thresholds' search by counting (the
   switch over the number of tiles), its loops and its stores are loads, stores, branches and loops over the 23 memrefs it
   is handed (`Forget`). The printed parts of many statements come first, each by itself. -/
module

public import proofs.«01_k».proof.Dsa
public import proofs.«01_k».proof.Proof.Forget

@[expose] public section

noncomputable section

namespace Cert.Proof.Dsa

open Cert.Dsa Cert.Dsa.Facts₀ Cert.Dsa.Facts
open Idealize.ShloMosaic Idealize.SL.Sem Idealize.SL.BI Cert.Proof.Forget Idealize.ShloMosaic.Pipeline

variable {F : FTy → Type} [BitOps F] [Cert.Dsa.Facts]
variable {defs : Defs nD τ sig (Elt F) Λ₀} {𝒱 : Variants} {c : Dev nD} {bd : Option 𝒱.V}
variable {P : sProp (MT nD τ sig Unit (Elt F) ℕ (UR sig nD τ) ℕ)} (i : grid0.Coords)
variable {arg2 : Memref sig .tc .vmem S512x512 .bf16} {harg2 : arg2.IsWhole} {arg3 : Memref sig .tc .vmem S512x512 .bf16} {harg3 : arg3.IsWhole} {arg4 : Memref sig .tc .vmem S512x128 .f32} {harg4 : arg4.IsWhole} {arg5 : Memref sig .tc .vmem S4096x128 .bf16} {harg5 : arg5.IsWhole} {arg6 : Memref sig .tc .vmem S4096x128 .bf16} {harg6 : arg6.IsWhole} {arg7 : Memref sig .tc .vmem S1x128 .f32} {harg7 : arg7.IsWhole} {arg8 : Memref sig .tc .vmem S1024x512 .bf16} {harg8 : arg8.IsWhole} {arg9 : Memref sig .tc .vmem S512x1024 .bf16} {harg9 : arg9.IsWhole} {arg10 : Memref sig .tc .vmem S8x384x256 .f32} {harg10 : arg10.IsWhole} {arg11 : Memref sig .tc .vmem S2x8x1x128 .f32} {harg11 : arg11.IsWhole} {arg12 : Memref sig .tc .vmem S512x512 .bf16} {harg12 : arg12.IsWhole} {arg13 : Memref sig .tc .vmem S4352x256 .bf16} {harg13 : arg13.IsWhole} {arg14 : Memref sig .tc .vmem S4352x128 .bf16} {harg14 : arg14.IsWhole} {arg15 : Memref sig .tc .vmem S2x8x512x256 .i32} {harg15 : arg15.IsWhole} {arg16 : Memref sig .tc .vmem S2x8x512x256 .i16} {harg16 : arg16.IsWhole} {arg17 : Memref sig .tc .vmem S2x1x256 .i32} {harg17 : arg17.IsWhole} {arg18 : Memref sig .tc .vmem S2048x128 .bf16} {harg18 : arg18.IsWhole} {arg19 : Memref sig .tc .vmem S512x512 .f32} {harg19 : arg19.IsWhole} {arg20 : Memref sig .tc .vmem S512x512 .f32} {harg20 : arg20.IsWhole} {arg21 : Memref sig .tc .vmem S1x128 .f32} {harg21 : arg21.IsWhole} {arg22 : Memref sig .tc .vmem S4x1x512 .f32} {harg22 : arg22.IsWhole} {arg23 : Memref sig .tc .vmem S4x1x512 .f32} {harg23 : arg23.IsWhole} {arg24 : Memref sig .tc .vmem S4x128x512 .f32} {harg24 : arg24.IsWhole}
variable (h2 : Holds (c, .tc) P arg2) (h3 : Holds (c, .tc) P arg3) (h4 : Holds (c, .tc) P arg4) (h5 : Holds (c, .tc) P arg5) (h6 : Holds (c, .tc) P arg6) (h7 : Holds (c, .tc) P arg7) (h8 : Holds (c, .tc) P arg8) (h9 : Holds (c, .tc) P arg9) (h10 : Holds (c, .tc) P arg10) (h11 : Holds (c, .tc) P arg11) (h12 : Holds (c, .tc) P arg12) (h13 : Holds (c, .tc) P arg13) (h14 : Holds (c, .tc) P arg14) (h15 : Holds (c, .tc) P arg15) (h16 : Holds (c, .tc) P arg16) (h17 : Holds (c, .tc) P arg17) (h18 : Holds (c, .tc) P arg18) (h19 : Holds (c, .tc) P arg19) (h20 : Holds (c, .tc) P arg20) (h21 : Holds (c, .tc) P arg21) (h22 : Holds (c, .tc) P arg22) (h23 : Holds (c, .tc) P arg23) (h24 : Holds (c, .tc) P arg24)
include h2 h3 h4 h5 h6 h7 h8 h9 h10 h11 h12 h13 h14 h15 h16 h17 h18 h19 h20 h21 h22 h23 h24

theorem part548 {c0_i32_39 : BitVec 32} {c1_i32_41 : BitVec 32} {k0_t10 : Fin k0_t10_loop.trips} {arg26 : IVec S1x256 32} {arg27 : IVec S1x256 32} :
    Keeps defs 𝒱 (c, .tc) bd P (k0_part548 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 c0_i32_39 c1_i32_41 k0_t10 arg26 arg27) := by
  unfold k0_part548
  repeat' first | (with_reducible first | refine Keeps.bind ?_ fun _ => ?_ | exact Keeps.load (by assumption) | exact Keeps.store (by assumption) | exact Keeps.pure _ | refine Keeps.loop fun _ _ => ?_ | refine Keeps.dite (fun _ => ?_) (fun _ => ?_) | refine Keeps.ite ?_ ?_) | refine Keeps.bind ?_ fun _ => ?_ | exact Keeps.pure _

theorem part1646 {c0_i32_39 : BitVec 32} {c1_i32_41 : BitVec 32} {k0_t20 : Fin k0_t20_loop.trips} {arg26 : IVec S1x256 32} {arg27 : IVec S1x256 32} :
    Keeps defs 𝒱 (c, .tc) bd P (k0_part1646 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 c0_i32_39 c1_i32_41 k0_t20 arg26 arg27) := by
  unfold k0_part1646
  repeat' first | (with_reducible first | refine Keeps.bind ?_ fun _ => ?_ | exact Keeps.load (by assumption) | exact Keeps.store (by assumption) | exact Keeps.pure _ | refine Keeps.loop fun _ _ => ?_ | refine Keeps.dite (fun _ => ?_) (fun _ => ?_) | refine Keeps.ite ?_ ?_) | refine Keeps.bind ?_ fun _ => ?_ | exact Keeps.pure _

theorem part1703 {arg1 : BitVec 32} {v4 : BitVec 32} {k0_t22 : Fin k0_t22_loop.trips} {arg25 : BitVec 32} {v66 : IVec S1x256 32} {v529 : FVec F S256x512 .bf16} {v530 : FVec F S256x512 .bf16} {v531 : FVec F S256x512 .bf16} {v532 : FVec F S256x512 .bf16} {v533 : FVec F S1x1x256 .f32} :
    Keeps defs 𝒱 (c, .tc) bd P (k0_part1703 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg1 v4 k0_t22 arg25 v66 v529 v530 v531 v532 v533) := by
  unfold k0_part1703
  repeat' first | (with_reducible first | refine Keeps.bind ?_ fun _ => ?_ | exact Keeps.load (by assumption) | exact Keeps.store (by assumption) | exact Keeps.pure _ | refine Keeps.loop fun _ _ => ?_ | refine Keeps.dite (fun _ => ?_) (fun _ => ?_) | refine Keeps.ite ?_ ?_) | refine Keeps.bind ?_ fun _ => ?_ | exact Keeps.pure _

theorem part243 {v7 : IVec S1x256 32} {arg26 : IVec S1x256 32} {arg27 : IVec S1x256 32} {v92 : IVec S1x256 32} {v96 : IVec S1x256 32} {v102 : IVec S1x256 16} {v1901 : IVec S1x256 32} {v2118 : IVec S16x256 16} {v2126 : IVec S16x256 16} {v2134 : IVec S16x256 16} {v2142 : IVec S16x256 16} {v2146 : IVec S16x256 1} {v2147 : IVec S16x256 16} {v2148 : IVec S16x256 16} :
    Keeps defs 𝒱 (c, .tc) bd P (k0_part243 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 v7 arg26 arg27 v92 v96 v102 v1901 v2118 v2126 v2134 v2142 v2146 v2147 v2148) := by
  unfold k0_part243
  repeat' first | (with_reducible first | refine Keeps.bind ?_ fun _ => ?_ | exact Keeps.load (by assumption) | exact Keeps.store (by assumption) | exact Keeps.pure _ | refine Keeps.loop fun _ _ => ?_ | refine Keeps.dite (fun _ => ?_) (fun _ => ?_) | refine Keeps.ite ?_ ?_) | refine Keeps.bind ?_ fun _ => ?_ | exact Keeps.pure _

theorem part517 {c0_i32_41 : BitVec 32} {c1_i32_43 : BitVec 32} {k0_t9 : Fin k0_t9_loop.trips} {arg26 : IVec S1x256 32} {arg27 : IVec S1x256 32} :
    Keeps defs 𝒱 (c, .tc) bd P (k0_part517 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 c0_i32_41 c1_i32_43 k0_t9 arg26 arg27) := by
  unfold k0_part517
  repeat' first | (with_reducible first | refine Keeps.bind ?_ fun _ => ?_ | exact Keeps.load (by assumption) | exact Keeps.store (by assumption) | exact Keeps.pure _ | refine Keeps.loop fun _ _ => ?_ | refine Keeps.dite (fun _ => ?_) (fun _ => ?_) | refine Keeps.ite ?_ ?_) | refine Keeps.bind ?_ fun _ => ?_ | exact Keeps.pure _

theorem part1065 {v12_0 : IVec S1x256 32} {v12_1 : IVec S1x256 32} :
    Keeps defs 𝒱 (c, .tc) bd P (k0_part1065 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 v12_0 v12_1) := by
  unfold k0_part1065
  repeat' first | (with_reducible first | refine Keeps.bind ?_ fun _ => ?_ | exact Keeps.load (by assumption) | exact Keeps.store (by assumption) | exact Keeps.pure _ | refine Keeps.loop fun _ _ => ?_ | refine Keeps.dite (fun _ => ?_) (fun _ => ?_) | refine Keeps.ite ?_ ?_) | refine Keeps.bind ?_ fun _ => ?_ | exact Keeps.pure _

theorem part1341 {v34 : IVec S1x256 32} {v36 : IVec S1x256 32} {arg26 : IVec S1x256 32} {arg27 : IVec S1x256 32} {v92 : IVec S1x256 32} {v96 : IVec S1x256 32} {v102 : IVec S1x256 16} {v1901 : IVec S1x256 32} {v2118 : IVec S16x256 16} {v2126 : IVec S16x256 16} {v2134 : IVec S16x256 16} {v2142 : IVec S16x256 16} {v2146 : IVec S16x256 1} {v2147 : IVec S16x256 16} {v2148 : IVec S16x256 16} :
    Keeps defs 𝒱 (c, .tc) bd P (k0_part1341 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 v34 v36 arg26 arg27 v92 v96 v102 v1901 v2118 v2126 v2134 v2142 v2146 v2147 v2148) := by
  unfold k0_part1341
  repeat' first | (with_reducible first | refine Keeps.bind ?_ fun _ => ?_ | exact Keeps.load (by assumption) | exact Keeps.store (by assumption) | exact Keeps.pure _ | refine Keeps.loop fun _ _ => ?_ | refine Keeps.dite (fun _ => ?_) (fun _ => ?_) | refine Keeps.ite ?_ ?_) | refine Keeps.bind ?_ fun _ => ?_ | exact Keeps.pure _

theorem part1615 {c0_i32_41 : BitVec 32} {c1_i32_43 : BitVec 32} {k0_t19 : Fin k0_t19_loop.trips} {arg26 : IVec S1x256 32} {arg27 : IVec S1x256 32} :
    Keeps defs 𝒱 (c, .tc) bd P (k0_part1615 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 c0_i32_41 c1_i32_43 k0_t19 arg26 arg27) := by
  unfold k0_part1615
  repeat' first | (with_reducible first | refine Keeps.bind ?_ fun _ => ?_ | exact Keeps.load (by assumption) | exact Keeps.store (by assumption) | exact Keeps.pure _ | refine Keeps.loop fun _ _ => ?_ | refine Keeps.dite (fun _ => ?_) (fun _ => ?_) | refine Keeps.ite ?_ ?_) | refine Keeps.bind ?_ fun _ => ?_ | exact Keeps.pure _

theorem part135 {c0_i32_49 : BitVec 32} {c1_i32_51 : BitVec 32} {k0_t4 : Fin k0_t4_loop.trips} {arg26 : IVec S1x256 32} {arg27 : IVec S1x256 32} :
    Keeps defs 𝒱 (c, .tc) bd P (k0_part135 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 c0_i32_49 c1_i32_51 k0_t4 arg26 arg27) := by
  unfold k0_part135
  repeat' first | (with_reducible first | refine Keeps.bind ?_ fun _ => ?_ | exact Keeps.load (by assumption) | exact Keeps.store (by assumption) | exact Keeps.pure _ | refine Keeps.loop fun _ _ => ?_ | refine Keeps.dite (fun _ => ?_) (fun _ => ?_) | refine Keeps.ite ?_ ?_) | refine Keeps.bind ?_ fun _ => ?_ | exact Keeps.pure _

theorem part136 {v102 : IVec S1x256 16} {v2119 : IVec S16x256 16} {v2127 : IVec S16x256 16} {v2135 : IVec S16x256 16} {v2143 : IVec S16x256 16} {v2145 : IVec S16x256 16} {v2146 : IVec S16x256 16} :
    Keeps defs 𝒱 (c, .tc) bd P (k0_part136 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 v102 v2119 v2127 v2135 v2143 v2145 v2146) := by
  unfold k0_part136
  repeat' first | (with_reducible first | refine Keeps.bind ?_ fun _ => ?_ | exact Keeps.load (by assumption) | exact Keeps.store (by assumption) | exact Keeps.pure _ | refine Keeps.loop fun _ _ => ?_ | refine Keeps.dite (fun _ => ?_) (fun _ => ?_) | refine Keeps.ite ?_ ?_) | refine Keeps.bind ?_ fun _ => ?_ | exact Keeps.pure _

theorem part242 {c0_i32_49 : BitVec 32} {c1_i32_51 : BitVec 32} {k0_t5 : Fin k0_t5_loop.trips} {arg26 : IVec S1x256 32} {arg27 : IVec S1x256 32} :
    Keeps defs 𝒱 (c, .tc) bd P (k0_part242 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 c0_i32_49 c1_i32_51 k0_t5 arg26 arg27) := by
  unfold k0_part242
  repeat' first | (with_reducible first | refine Keeps.bind ?_ fun _ => ?_ | exact Keeps.load (by assumption) | exact Keeps.store (by assumption) | exact Keeps.pure _ | refine Keeps.loop fun _ _ => ?_ | refine Keeps.dite (fun _ => ?_) (fun _ => ?_) | refine Keeps.ite ?_ ?_) | refine Keeps.bind ?_ fun _ => ?_ | exact Keeps.pure _

theorem part334 {c0_i32_47 : BitVec 32} {c1_i32_49 : BitVec 32} {k0_t6 : Fin k0_t6_loop.trips} {arg26 : IVec S1x256 32} {arg27 : IVec S1x256 32} :
    Keeps defs 𝒱 (c, .tc) bd P (k0_part334 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 c0_i32_47 c1_i32_49 k0_t6 arg26 arg27) := by
  unfold k0_part334
  repeat' first | (with_reducible first | refine Keeps.bind ?_ fun _ => ?_ | exact Keeps.load (by assumption) | exact Keeps.store (by assumption) | exact Keeps.pure _ | refine Keeps.loop fun _ _ => ?_ | refine Keeps.dite (fun _ => ?_) (fun _ => ?_) | refine Keeps.ite ?_ ?_) | refine Keeps.bind ?_ fun _ => ?_ | exact Keeps.pure _

theorem part410 {c0_i32_45 : BitVec 32} {c1_i32_47 : BitVec 32} {k0_t7 : Fin k0_t7_loop.trips} {arg26 : IVec S1x256 32} {arg27 : IVec S1x256 32} :
    Keeps defs 𝒱 (c, .tc) bd P (k0_part410 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 c0_i32_45 c1_i32_47 k0_t7 arg26 arg27) := by
  unfold k0_part410
  repeat' first | (with_reducible first | refine Keeps.bind ?_ fun _ => ?_ | exact Keeps.load (by assumption) | exact Keeps.store (by assumption) | exact Keeps.pure _ | refine Keeps.loop fun _ _ => ?_ | refine Keeps.dite (fun _ => ?_) (fun _ => ?_) | refine Keeps.ite ?_ ?_) | refine Keeps.bind ?_ fun _ => ?_ | exact Keeps.pure _

theorem part471 {c0_i32_43 : BitVec 32} {c1_i32_45 : BitVec 32} {k0_t8 : Fin k0_t8_loop.trips} {arg26 : IVec S1x256 32} {arg27 : IVec S1x256 32} :
    Keeps defs 𝒱 (c, .tc) bd P (k0_part471 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 c0_i32_43 c1_i32_45 k0_t8 arg26 arg27) := by
  unfold k0_part471
  repeat' first | (with_reducible first | refine Keeps.bind ?_ fun _ => ?_ | exact Keeps.load (by assumption) | exact Keeps.store (by assumption) | exact Keeps.pure _ | refine Keeps.loop fun _ _ => ?_ | refine Keeps.dite (fun _ => ?_) (fun _ => ?_) | refine Keeps.ite ?_ ?_) | refine Keeps.bind ?_ fun _ => ?_ | exact Keeps.pure _

theorem part684 {v12_0 : IVec S1x256 32} {v12_1 : IVec S1x256 32} :
    Keeps defs 𝒱 (c, .tc) bd P (k0_part684 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 v12_0 v12_1) := by
  unfold k0_part684
  repeat' first | (with_reducible first | refine Keeps.bind ?_ fun _ => ?_ | exact Keeps.load (by assumption) | exact Keeps.store (by assumption) | exact Keeps.pure _ | refine Keeps.loop fun _ _ => ?_ | refine Keeps.dite (fun _ => ?_) (fun _ => ?_) | refine Keeps.ite ?_ ?_) | refine Keeps.bind ?_ fun _ => ?_ | exact Keeps.pure _

theorem part685 {v91 : IVec S1x256 16} {v2116 : IVec S16x256 16} {v2124 : IVec S16x256 16} {v2132 : IVec S16x256 16} {v2140 : IVec S16x256 16} :
    Keeps defs 𝒱 (c, .tc) bd P (k0_part685 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 v91 v2116 v2124 v2132 v2140) := by
  unfold k0_part685
  repeat' first | (with_reducible first | refine Keeps.bind ?_ fun _ => ?_ | exact Keeps.load (by assumption) | exact Keeps.store (by assumption) | exact Keeps.pure _ | refine Keeps.loop fun _ _ => ?_ | refine Keeps.dite (fun _ => ?_) (fun _ => ?_) | refine Keeps.ite ?_ ?_) | refine Keeps.bind ?_ fun _ => ?_ | exact Keeps.pure _

theorem part791 {v12_0 : IVec S1x256 32} {v12_1 : IVec S1x256 32} :
    Keeps defs 𝒱 (c, .tc) bd P (k0_part791 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 v12_0 v12_1) := by
  unfold k0_part791
  repeat' first | (with_reducible first | refine Keeps.bind ?_ fun _ => ?_ | exact Keeps.load (by assumption) | exact Keeps.store (by assumption) | exact Keeps.pure _ | refine Keeps.loop fun _ _ => ?_ | refine Keeps.dite (fun _ => ?_) (fun _ => ?_) | refine Keeps.ite ?_ ?_) | refine Keeps.bind ?_ fun _ => ?_ | exact Keeps.pure _

theorem part882 {v12_0 : IVec S1x256 32} {v12_1 : IVec S1x256 32} :
    Keeps defs 𝒱 (c, .tc) bd P (k0_part882 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 v12_0 v12_1) := by
  unfold k0_part882
  repeat' first | (with_reducible first | refine Keeps.bind ?_ fun _ => ?_ | exact Keeps.load (by assumption) | exact Keeps.store (by assumption) | exact Keeps.pure _ | refine Keeps.loop fun _ _ => ?_ | refine Keeps.dite (fun _ => ?_) (fun _ => ?_) | refine Keeps.ite ?_ ?_) | refine Keeps.bind ?_ fun _ => ?_ | exact Keeps.pure _

theorem part958 {v12_0 : IVec S1x256 32} {v12_1 : IVec S1x256 32} :
    Keeps defs 𝒱 (c, .tc) bd P (k0_part958 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 v12_0 v12_1) := by
  unfold k0_part958
  repeat' first | (with_reducible first | refine Keeps.bind ?_ fun _ => ?_ | exact Keeps.load (by assumption) | exact Keeps.store (by assumption) | exact Keeps.pure _ | refine Keeps.loop fun _ _ => ?_ | refine Keeps.dite (fun _ => ?_) (fun _ => ?_) | refine Keeps.ite ?_ ?_) | refine Keeps.bind ?_ fun _ => ?_ | exact Keeps.pure _

theorem part1019 {v12_0 : IVec S1x256 32} {v12_1 : IVec S1x256 32} :
    Keeps defs 𝒱 (c, .tc) bd P (k0_part1019 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 v12_0 v12_1) := by
  unfold k0_part1019
  repeat' first | (with_reducible first | refine Keeps.bind ?_ fun _ => ?_ | exact Keeps.load (by assumption) | exact Keeps.store (by assumption) | exact Keeps.pure _ | refine Keeps.loop fun _ _ => ?_ | refine Keeps.dite (fun _ => ?_) (fun _ => ?_) | refine Keeps.ite ?_ ?_) | refine Keeps.bind ?_ fun _ => ?_ | exact Keeps.pure _

theorem part1233 {c0_i32_49 : BitVec 32} {c1_i32_51 : BitVec 32} {k0_t14 : Fin k0_t14_loop.trips} {arg26 : IVec S1x256 32} {arg27 : IVec S1x256 32} :
    Keeps defs 𝒱 (c, .tc) bd P (k0_part1233 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 c0_i32_49 c1_i32_51 k0_t14 arg26 arg27) := by
  unfold k0_part1233
  repeat' first | (with_reducible first | refine Keeps.bind ?_ fun _ => ?_ | exact Keeps.load (by assumption) | exact Keeps.store (by assumption) | exact Keeps.pure _ | refine Keeps.loop fun _ _ => ?_ | refine Keeps.dite (fun _ => ?_) (fun _ => ?_) | refine Keeps.ite ?_ ?_) | refine Keeps.bind ?_ fun _ => ?_ | exact Keeps.pure _

theorem part1234 {v102 : IVec S1x256 16} {v2119 : IVec S16x256 16} {v2127 : IVec S16x256 16} {v2135 : IVec S16x256 16} {v2143 : IVec S16x256 16} {v2145 : IVec S16x256 16} {v2146 : IVec S16x256 16} :
    Keeps defs 𝒱 (c, .tc) bd P (k0_part1234 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 v102 v2119 v2127 v2135 v2143 v2145 v2146) := by
  unfold k0_part1234
  repeat' first | (with_reducible first | refine Keeps.bind ?_ fun _ => ?_ | exact Keeps.load (by assumption) | exact Keeps.store (by assumption) | exact Keeps.pure _ | refine Keeps.loop fun _ _ => ?_ | refine Keeps.dite (fun _ => ?_) (fun _ => ?_) | refine Keeps.ite ?_ ?_) | refine Keeps.bind ?_ fun _ => ?_ | exact Keeps.pure _

theorem part1340 {c0_i32_49 : BitVec 32} {c1_i32_51 : BitVec 32} {k0_t15 : Fin k0_t15_loop.trips} {arg26 : IVec S1x256 32} {arg27 : IVec S1x256 32} :
    Keeps defs 𝒱 (c, .tc) bd P (k0_part1340 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 c0_i32_49 c1_i32_51 k0_t15 arg26 arg27) := by
  unfold k0_part1340
  repeat' first | (with_reducible first | refine Keeps.bind ?_ fun _ => ?_ | exact Keeps.load (by assumption) | exact Keeps.store (by assumption) | exact Keeps.pure _ | refine Keeps.loop fun _ _ => ?_ | refine Keeps.dite (fun _ => ?_) (fun _ => ?_) | refine Keeps.ite ?_ ?_) | refine Keeps.bind ?_ fun _ => ?_ | exact Keeps.pure _

theorem part1432 {c0_i32_47 : BitVec 32} {c1_i32_49 : BitVec 32} {k0_t16 : Fin k0_t16_loop.trips} {arg26 : IVec S1x256 32} {arg27 : IVec S1x256 32} :
    Keeps defs 𝒱 (c, .tc) bd P (k0_part1432 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 c0_i32_47 c1_i32_49 k0_t16 arg26 arg27) := by
  unfold k0_part1432
  repeat' first | (with_reducible first | refine Keeps.bind ?_ fun _ => ?_ | exact Keeps.load (by assumption) | exact Keeps.store (by assumption) | exact Keeps.pure _ | refine Keeps.loop fun _ _ => ?_ | refine Keeps.dite (fun _ => ?_) (fun _ => ?_) | refine Keeps.ite ?_ ?_) | refine Keeps.bind ?_ fun _ => ?_ | exact Keeps.pure _

theorem part1508 {c0_i32_45 : BitVec 32} {c1_i32_47 : BitVec 32} {k0_t17 : Fin k0_t17_loop.trips} {arg26 : IVec S1x256 32} {arg27 : IVec S1x256 32} :
    Keeps defs 𝒱 (c, .tc) bd P (k0_part1508 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 c0_i32_45 c1_i32_47 k0_t17 arg26 arg27) := by
  unfold k0_part1508
  repeat' first | (with_reducible first | refine Keeps.bind ?_ fun _ => ?_ | exact Keeps.load (by assumption) | exact Keeps.store (by assumption) | exact Keeps.pure _ | refine Keeps.loop fun _ _ => ?_ | refine Keeps.dite (fun _ => ?_) (fun _ => ?_) | refine Keeps.ite ?_ ?_) | refine Keeps.bind ?_ fun _ => ?_ | exact Keeps.pure _

theorem part1569 {c0_i32_43 : BitVec 32} {c1_i32_45 : BitVec 32} {k0_t18 : Fin k0_t18_loop.trips} {arg26 : IVec S1x256 32} {arg27 : IVec S1x256 32} :
    Keeps defs 𝒱 (c, .tc) bd P (k0_part1569 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 c0_i32_43 c1_i32_45 k0_t18 arg26 arg27) := by
  unfold k0_part1569
  repeat' first | (with_reducible first | refine Keeps.bind ?_ fun _ => ?_ | exact Keeps.load (by assumption) | exact Keeps.store (by assumption) | exact Keeps.pure _ | refine Keeps.loop fun _ _ => ?_ | refine Keeps.dite (fun _ => ?_) (fun _ => ?_) | refine Keeps.ite ?_ ?_) | refine Keeps.bind ?_ fun _ => ?_ | exact Keeps.pure _

end Cert.Proof.Dsa

end
-- ==== Proof.DsaBody.lean ====
/- The body of the sparse attention's kernel keeps its buffers, whatever they hold: its thresholds' search by counting (the
   switch over the number of tiles), its loops and its stores are loads, stores, branches and loops over the 23 memrefs it
   is handed (`Forget`). The printed parts of many statements come first, each by itself. -/
module

public import proofs.«01_k».proof.Proof.DsaParts
public import proofs.«01_k».proof.Proof.Forget

@[expose] public section

noncomputable section

namespace Cert.Proof.Dsa

open Cert.Dsa Cert.Dsa.Facts₀ Cert.Dsa.Facts
open Idealize.ShloMosaic Idealize.SL.Sem Idealize.SL.BI Cert.Proof.Forget Idealize.ShloMosaic.Pipeline

variable {F : FTy → Type} [BitOps F] [Cert.Dsa.Facts]
variable {defs : Defs nD τ sig (Elt F) Λ₀} {𝒱 : Variants} {c : Dev nD} {bd : Option 𝒱.V}
variable {P : sProp (MT nD τ sig Unit (Elt F) ℕ (UR sig nD τ) ℕ)} (i : grid0.Coords)
variable {arg2 : Memref sig .tc .vmem S512x512 .bf16} {harg2 : arg2.IsWhole} {arg3 : Memref sig .tc .vmem S512x512 .bf16} {harg3 : arg3.IsWhole} {arg4 : Memref sig .tc .vmem S512x128 .f32} {harg4 : arg4.IsWhole} {arg5 : Memref sig .tc .vmem S4096x128 .bf16} {harg5 : arg5.IsWhole} {arg6 : Memref sig .tc .vmem S4096x128 .bf16} {harg6 : arg6.IsWhole} {arg7 : Memref sig .tc .vmem S1x128 .f32} {harg7 : arg7.IsWhole} {arg8 : Memref sig .tc .vmem S1024x512 .bf16} {harg8 : arg8.IsWhole} {arg9 : Memref sig .tc .vmem S512x1024 .bf16} {harg9 : arg9.IsWhole} {arg10 : Memref sig .tc .vmem S8x384x256 .f32} {harg10 : arg10.IsWhole} {arg11 : Memref sig .tc .vmem S2x8x1x128 .f32} {harg11 : arg11.IsWhole} {arg12 : Memref sig .tc .vmem S512x512 .bf16} {harg12 : arg12.IsWhole} {arg13 : Memref sig .tc .vmem S4352x256 .bf16} {harg13 : arg13.IsWhole} {arg14 : Memref sig .tc .vmem S4352x128 .bf16} {harg14 : arg14.IsWhole} {arg15 : Memref sig .tc .vmem S2x8x512x256 .i32} {harg15 : arg15.IsWhole} {arg16 : Memref sig .tc .vmem S2x8x512x256 .i16} {harg16 : arg16.IsWhole} {arg17 : Memref sig .tc .vmem S2x1x256 .i32} {harg17 : arg17.IsWhole} {arg18 : Memref sig .tc .vmem S2048x128 .bf16} {harg18 : arg18.IsWhole} {arg19 : Memref sig .tc .vmem S512x512 .f32} {harg19 : arg19.IsWhole} {arg20 : Memref sig .tc .vmem S512x512 .f32} {harg20 : arg20.IsWhole} {arg21 : Memref sig .tc .vmem S1x128 .f32} {harg21 : arg21.IsWhole} {arg22 : Memref sig .tc .vmem S4x1x512 .f32} {harg22 : arg22.IsWhole} {arg23 : Memref sig .tc .vmem S4x1x512 .f32} {harg23 : arg23.IsWhole} {arg24 : Memref sig .tc .vmem S4x128x512 .f32} {harg24 : arg24.IsWhole}
variable (h2 : Holds (c, .tc) P arg2) (h3 : Holds (c, .tc) P arg3) (h4 : Holds (c, .tc) P arg4) (h5 : Holds (c, .tc) P arg5) (h6 : Holds (c, .tc) P arg6) (h7 : Holds (c, .tc) P arg7) (h8 : Holds (c, .tc) P arg8) (h9 : Holds (c, .tc) P arg9) (h10 : Holds (c, .tc) P arg10) (h11 : Holds (c, .tc) P arg11) (h12 : Holds (c, .tc) P arg12) (h13 : Holds (c, .tc) P arg13) (h14 : Holds (c, .tc) P arg14) (h15 : Holds (c, .tc) P arg15) (h16 : Holds (c, .tc) P arg16) (h17 : Holds (c, .tc) P arg17) (h18 : Holds (c, .tc) P arg18) (h19 : Holds (c, .tc) P arg19) (h20 : Holds (c, .tc) P arg20) (h21 : Holds (c, .tc) P arg21) (h22 : Holds (c, .tc) P arg22) (h23 : Holds (c, .tc) P arg23) (h24 : Holds (c, .tc) P arg24)
include h2 h3 h4 h5 h6 h7 h8 h9 h10 h11 h12 h13 h14 h15 h16 h17 h18 h19 h20 h21 h22 h23 h24

set_option maxHeartbeats 20000000 in
theorem part1705 :
    Keeps defs 𝒱 (c, .tc) bd P (k0_part1705 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24) := by
  unfold k0_part1705
  repeat' first | (with_reducible first | refine Keeps.bind ?_ fun _ => ?_ | exact Keeps.load (by assumption) | exact Keeps.store (by assumption) | exact Keeps.pure _ | refine Keeps.loop fun _ _ => ?_ | refine Keeps.dite (fun _ => ?_) (fun _ => ?_) | refine Keeps.ite ?_ ?_ | exact part135 i h2 h3 h4 h5 h6 h7 h8 h9 h10 h11 h12 h13 h14 h15 h16 h17 h18 h19 h20 h21 h22 h23 h24 | exact part136 i h2 h3 h4 h5 h6 h7 h8 h9 h10 h11 h12 h13 h14 h15 h16 h17 h18 h19 h20 h21 h22 h23 h24 | exact part242 i h2 h3 h4 h5 h6 h7 h8 h9 h10 h11 h12 h13 h14 h15 h16 h17 h18 h19 h20 h21 h22 h23 h24 | exact part243 i h2 h3 h4 h5 h6 h7 h8 h9 h10 h11 h12 h13 h14 h15 h16 h17 h18 h19 h20 h21 h22 h23 h24 | exact part334 i h2 h3 h4 h5 h6 h7 h8 h9 h10 h11 h12 h13 h14 h15 h16 h17 h18 h19 h20 h21 h22 h23 h24 | exact part410 i h2 h3 h4 h5 h6 h7 h8 h9 h10 h11 h12 h13 h14 h15 h16 h17 h18 h19 h20 h21 h22 h23 h24 | exact part471 i h2 h3 h4 h5 h6 h7 h8 h9 h10 h11 h12 h13 h14 h15 h16 h17 h18 h19 h20 h21 h22 h23 h24 | exact part517 i h2 h3 h4 h5 h6 h7 h8 h9 h10 h11 h12 h13 h14 h15 h16 h17 h18 h19 h20 h21 h22 h23 h24 | exact part548 i h2 h3 h4 h5 h6 h7 h8 h9 h10 h11 h12 h13 h14 h15 h16 h17 h18 h19 h20 h21 h22 h23 h24 | exact part684 i h2 h3 h4 h5 h6 h7 h8 h9 h10 h11 h12 h13 h14 h15 h16 h17 h18 h19 h20 h21 h22 h23 h24 | exact part685 i h2 h3 h4 h5 h6 h7 h8 h9 h10 h11 h12 h13 h14 h15 h16 h17 h18 h19 h20 h21 h22 h23 h24 | exact part791 i h2 h3 h4 h5 h6 h7 h8 h9 h10 h11 h12 h13 h14 h15 h16 h17 h18 h19 h20 h21 h22 h23 h24 | exact part882 i h2 h3 h4 h5 h6 h7 h8 h9 h10 h11 h12 h13 h14 h15 h16 h17 h18 h19 h20 h21 h22 h23 h24 | exact part958 i h2 h3 h4 h5 h6 h7 h8 h9 h10 h11 h12 h13 h14 h15 h16 h17 h18 h19 h20 h21 h22 h23 h24 | exact part1019 i h2 h3 h4 h5 h6 h7 h8 h9 h10 h11 h12 h13 h14 h15 h16 h17 h18 h19 h20 h21 h22 h23 h24 | exact part1065 i h2 h3 h4 h5 h6 h7 h8 h9 h10 h11 h12 h13 h14 h15 h16 h17 h18 h19 h20 h21 h22 h23 h24) | refine Keeps.bind ?_ fun _ => ?_ | exact Keeps.pure _

set_option maxHeartbeats 20000000 in
theorem body :
    Keeps defs 𝒱 (c, .tc) bd P (cc0_dsa i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24) := by
  unfold cc0_dsa
  repeat' first | (with_reducible first | refine Keeps.bind ?_ fun _ => ?_ | exact Keeps.load (by assumption) | exact Keeps.store (by assumption) | exact Keeps.pure _ | refine Keeps.loop fun _ _ => ?_ | refine Keeps.dite (fun _ => ?_) (fun _ => ?_) | refine Keeps.ite ?_ ?_ | exact part1705 i h2 h3 h4 h5 h6 h7 h8 h9 h10 h11 h12 h13 h14 h15 h16 h17 h18 h19 h20 h21 h22 h23 h24 | exact part1233 i h2 h3 h4 h5 h6 h7 h8 h9 h10 h11 h12 h13 h14 h15 h16 h17 h18 h19 h20 h21 h22 h23 h24 | exact part1234 i h2 h3 h4 h5 h6 h7 h8 h9 h10 h11 h12 h13 h14 h15 h16 h17 h18 h19 h20 h21 h22 h23 h24 | exact part1340 i h2 h3 h4 h5 h6 h7 h8 h9 h10 h11 h12 h13 h14 h15 h16 h17 h18 h19 h20 h21 h22 h23 h24 | exact part1341 i h2 h3 h4 h5 h6 h7 h8 h9 h10 h11 h12 h13 h14 h15 h16 h17 h18 h19 h20 h21 h22 h23 h24 | exact part1432 i h2 h3 h4 h5 h6 h7 h8 h9 h10 h11 h12 h13 h14 h15 h16 h17 h18 h19 h20 h21 h22 h23 h24 | exact part1508 i h2 h3 h4 h5 h6 h7 h8 h9 h10 h11 h12 h13 h14 h15 h16 h17 h18 h19 h20 h21 h22 h23 h24 | exact part1569 i h2 h3 h4 h5 h6 h7 h8 h9 h10 h11 h12 h13 h14 h15 h16 h17 h18 h19 h20 h21 h22 h23 h24 | exact part1615 i h2 h3 h4 h5 h6 h7 h8 h9 h10 h11 h12 h13 h14 h15 h16 h17 h18 h19 h20 h21 h22 h23 h24 | exact part1646 i h2 h3 h4 h5 h6 h7 h8 h9 h10 h11 h12 h13 h14 h15 h16 h17 h18 h19 h20 h21 h22 h23 h24 | exact part1703 i h2 h3 h4 h5 h6 h7 h8 h9 h10 h11 h12 h13 h14 h15 h16 h17 h18 h19 h20 h21 h22 h23 h24) | refine Keeps.bind ?_ fun _ => ?_ | exact Keeps.pure _

end Cert.Proof.Dsa

end
-- ==== Proof.DsaFrame.lean ====
/- The frame of the sparse attention's call. Nothing is read of what its kernel leaves in any buffer: every window is handed to
   the body at arbitrary contents and taken back at arbitrary contents, and so is every scratch operand (`DsaBody.body`). -/
module

public import proofs.«01_k».proof.Proof.Gen.Dsa.Frame
public import proofs.«01_k».proof.Proof.DsaBody

@[expose] public section

set_option maxRecDepth 16384

noncomputable section

namespace Cert.Proof.Dsa

open Cert.Dsa Cert.Dsa.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Proof.Forget

variable {F : FTy → Type} [BitOps F]

local notation "𝕄" => MT nD τ sig Unit (Elt F) ℕ (UR sig nD τ) ℕ

variable (m : (ℓ : Loc nD τ sig) → Buf (Elt F) ℓ) (ρ : Dev nD → PrngReg)

/-- Every window is forgotten. -/
def forgets : Fin 11 → Bool := fun _ => true

/-- The arrays as the region finds them; nothing named of what the body leaves; the scratch operands and the generator register
    as the invariant; nothing owed; full shares. -/
def dats (_ : Fin 1) (c : Dev nD) : Dat τ (Elt F) Unit ℕ (UR sig nD τ) ℕ cfg0 c where
  A w := V m c (Pipeline.arrRef spec0 w)
  after w t := Pipeline.Dat.unnamed (cfg := cfg0) w t
  Φ _ := Pipeline.ΦA spec0 c
  q _ := fullShare
  owed _ := 0

theorem A_eq (c : Dev nD) (w : Fin cfg0.W) : (dats m 0 c).A w = V m c (Pipeline.arrRef spec0 w) := by
  dsimp only [dats]

/-- The scratch operands and the generator register, at some contents. -/
def scratch (c : Dev nD) : sProp 𝕄 :=
  iprop(((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d) ∗ (∃ d, owns (c : Thread nD τ) (Memref.whole cc0_scratch5) fullShare d) ∗ (∃ d, owns (c : Thread nD τ) (Memref.whole cc0_scratch6) fullShare d) ∗ (∃ d, owns (c : Thread nD τ) (Memref.whole cc0_scratch7) fullShare d) ∗ (∃ d, owns (c : Thread nD τ) (Memref.whole cc0_scratch8) fullShare d) ∗ (∃ d, owns (c : Thread nD τ) (Memref.whole cc0_scratch9) fullShare d) ∗ (∃ d, owns (c : Thread nD τ) (Memref.whole cc0_scratch10) fullShare d) ∗ (∃ d, owns (c : Thread nD τ) (Memref.whole cc0_scratch11) fullShare d))
    ∗ (∃ r, prngReg c r))

theorem scratch_eq (c : Dev nD) : (Pipeline.ΦA spec0 c : sProp 𝕄) = scratch c := by
  unfold Pipeline.ΦA scratch; rw [scopedRest0_eq]; simp only [owns_whole]; try rfl

/-- What the body is called with at point `t`, and what it returns. -/
def held (c : Dev nD) (t : Fin cfg0.N) : sProp 𝕄 :=
  iprop(scratch c ∗ (dats m 0 c).owesAt () t.castSucc
    ∗ (∃ d, owns (c : Thread nD τ) ((cfg0.win 0).stage (cfg0.slots t 0)) fullShare d)
    ∗ (∃ d, owns (c : Thread nD τ) ((cfg0.win 1).stage (cfg0.slots t 1)) fullShare d)
    ∗ (∃ d, owns (c : Thread nD τ) ((cfg0.win 2).stage (cfg0.slots t 2)) fullShare d)
    ∗ (∃ d, owns (c : Thread nD τ) ((cfg0.win 3).stage (cfg0.slots t 3)) fullShare d)
    ∗ (∃ d, owns (c : Thread nD τ) ((cfg0.win 4).stage (cfg0.slots t 4)) fullShare d)
    ∗ (∃ d, owns (c : Thread nD τ) ((cfg0.win 5).stage (cfg0.slots t 5)) fullShare d)
    ∗ (∃ d, owns (c : Thread nD τ) ((cfg0.win 6).stage (cfg0.slots t 6)) fullShare d)
    ∗ (∃ d, owns (c : Thread nD τ) ((cfg0.win 7).stage (cfg0.slots t 7)) fullShare d)
    ∗ (∃ d, owns (c : Thread nD τ) ((cfg0.win 8).stage (cfg0.slots t 8)) fullShare d)
    ∗ (∃ d, owns (c : Thread nD τ) ((cfg0.win 9).stage (cfg0.slots t 9)) fullShare d)
    ∗ (∃ d, owns (c : Thread nD τ) ((cfg0.win 10).stage (cfg0.slots t 10)) fullShare d))

theorem sound_body (c : Dev nD) (t : Fin cfg0.N) :
    held m c t ⊢ wp frame (wpE (defs₀ (F := F)) Variants.none c none) Set.univ (bodyAt0 t) (fun _ => held m c t) := by
  unfold held scratch bodyAt0
  exact body (grid0.coords t)
    (.right (.right (.left (Holds.owns _))))
    (.right (.right (.right (.left (Holds.owns _)))))
    (.right (.right (.right (.right (.left (Holds.owns _))))))
    (.right (.right (.right (.right (.right (.left (Holds.owns _)))))))
    (.right (.right (.right (.right (.right (.right (.left (Holds.owns _))))))))
    (.right (.right (.right (.right (.right (.right (.right (.left (Holds.owns _)))))))))
    (.right (.right (.right (.right (.right (.right (.right (.right (.left (Holds.owns _))))))))))
    (.right (.right (.right (.right (.right (.right (.right (.right (.right (.left (Holds.owns _)))))))))))
    (.right (.right (.right (.right (.right (.right (.right (.right (.right (.right (.left (Holds.owns _))))))))))))
    (.right (.right (.right (.right (.right (.right (.right (.right (.right (.right (.right (.left (Holds.owns _)))))))))))))
    (.right (.right (.right (.right (.right (.right (.right (.right (.right (.right (.right (.right (Holds.owns _)))))))))))))
    (.left (.left (.left (Holds.owns _))))
    (.left (.left (.right (.left (Holds.owns _)))))
    (.left (.left (.right (.right (.left (Holds.owns _))))))
    (.left (.left (.right (.right (.right (.left (Holds.owns _)))))))
    (.left (.left (.right (.right (.right (.right (.left (Holds.owns _))))))))
    (.left (.left (.right (.right (.right (.right (.right (.left (Holds.owns _)))))))))
    (.left (.left (.right (.right (.right (.right (.right (.right (.left (Holds.owns _))))))))))
    (.left (.left (.right (.right (.right (.right (.right (.right (.right (.left (Holds.owns _)))))))))))
    (.left (.left (.right (.right (.right (.right (.right (.right (.right (.right (.left (Holds.owns _))))))))))))
    (.left (.left (.right (.right (.right (.right (.right (.right (.right (.right (.right (.left (Holds.owns _)))))))))))))
    (.left (.left (.right (.right (.right (.right (.right (.right (.right (.right (.right (.right (.left (Holds.owns _))))))))))))))
    (.left (.left (.right (.right (.right (.right (.right (.right (.right (.right (.right (.right (.right (Holds.owns _))))))))))))))

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ forgets := fun t => by
  rw [bigSep_W0, bigSep_W0, defs₀_row]
  refine triple_restated (sound_body m c t) rfl ?_ fun _ => ?_
  · unfold held; rw [← scratch_eq]; exact .rfl
  · unfold held; rw [← scratch_eq]; exact .rfl

set_option backward.isDefEq.respectTransparency.types false in
theorem run_main : θ_run defs (onTc (τ := τ) (main (F := F))) (s₀ m ρ) (fun r => (Pipeline.RDat.FramePost (cfgs 0) (fun c => (dats m 0 c).toRForget forgets) (V m)) r ∧ r.2.sem = fun _ => 0) :=
  Pipeline.θ_run_frame_forget (Q' := _) cfgs (dats m) (0 : Fin 1) launch0 defs₀ Variants.none forgets m ρ main
    (hbody := fun c => (body_obligation m c).loose) (hshare := fun c => (dats m 0 c).share_full fun _ => rfl)
    (howed := fun _ _ => rfl) (V := V m) (hmain := hmain m Variants.none) (hA := A_eq m) (hΦ := fun _ _ => rfl)

set_option maxHeartbeats 2000000 in
/-- Every argument array ends as launched, and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  (θ_run defs _ _).mono (fun _ h => ⟨fun c => ⟨(h.1.arr_in c 0 rfl).trans ((A_eq m c 0).trans (V_main_arg0 m c)),
      (h.1.arr_in c 1 rfl).trans ((A_eq m c 1).trans (V_main_arg1 m c)),
      (h.1.arr_in c 2 rfl).trans ((A_eq m c 2).trans (V_main_arg2 m c)),
      (h.1.arr_in c 3 rfl).trans ((A_eq m c 3).trans (V_main_arg3 m c)),
      (h.1.arr_in c 4 rfl).trans ((A_eq m c 4).trans (V_main_arg4 m c)),
      ((h.1 c).2 main_arg5 (Pipeline.mem_restRefs_of main_arg5 (by decide) (by decide))).trans (V_main_arg5 m c),
      ((h.1 c).2 main_arg6 (Pipeline.mem_restRefs_of main_arg6 (by decide) (by decide))).trans (V_main_arg6 m c),
      ((h.1 c).2 main_arg7 (Pipeline.mem_restRefs_of main_arg7 (by decide) (by decide))).trans (V_main_arg7 m c),
      ((h.1 c).2 main_arg8 (Pipeline.mem_restRefs_of main_arg8 (by decide) (by decide))).trans (V_main_arg8 m c),
      ((h.1 c).2 main_arg9 (Pipeline.mem_restRefs_of main_arg9 (by decide) (by decide))).trans (V_main_arg9 m c)⟩, h.2⟩) (run_main m ρ)

end Cert.Proof.Dsa

end
-- ==== Proof.FoxBody.lean ====
/- The body of the forgetting attention's kernel keeps its buffers, whatever they hold: its branches (one of them on a value
   read back from a scratch buffer), its loops and its stores are loads, stores, branches and loops over the 13 memrefs
   it is handed (`Forget`). -/
module

public import proofs.«01_k».proof.Fox
public import proofs.«01_k».proof.Proof.Forget

@[expose] public section

noncomputable section

namespace Cert.Proof.Fox

open Cert.Fox Cert.Fox.Facts₀ Cert.Fox.Facts
open Idealize.ShloMosaic Idealize.SL.Sem Idealize.SL.BI Cert.Proof.Forget Idealize.ShloMosaic.Pipeline

variable {F : FTy → Type} [FloatOps F] [Cert.Fox.Facts]
variable {defs : Defs nD τ sig (Elt F) Λ₀} {𝒱 : Variants} {c : Dev nD} {bd : Option 𝒱.V}
variable {P : sProp (MT nD τ sig Unit (Elt F) ℕ (UR sig nD τ) ℕ)} (i : grid0.Coords)
variable {arg2 : Memref sig .tc .vmem S512x512 .bf16} {harg2 : arg2.IsWhole} {arg3 : Memref sig .tc .vmem S4096x512 .bf16} {harg3 : arg3.IsWhole} {arg4 : Memref sig .tc .vmem S4096x512 .bf16} {harg4 : arg4.IsWhole} {arg5 : Memref sig .tc .vmem S3x4096x128 .bf16} {harg5 : arg5.IsWhole} {arg6 : Memref sig .tc .vmem S4x3x128x128 .bf16} {harg6 : arg6.IsWhole} {arg7 : Memref sig .tc .vmem S512x512 .bf16} {harg7 : arg7.IsWhole} {arg8 : Memref sig .tc .vmem S4096x1024 .bf16} {harg8 : arg8.IsWhole} {arg9 : Memref sig .tc .vmem S4x1024x256 .bf16} {harg9 : arg9.IsWhole} {arg10 : Memref sig .tc .vmem S512x1024 .f32} {harg10 : arg10.IsWhole} {arg11 : Memref sig .tc .vmem S8x1x128 .f32} {harg11 : arg11.IsWhole} {arg12 : Memref sig .tc .vmem S4x1x1024 .f32} {harg12 : arg12.IsWhole} {arg13 : Memref sig .tc .vmem S4x1x1024 .f32} {harg13 : arg13.IsWhole} {arg14 : Memref sig .tc .vmem S4x128x1024 .f32} {harg14 : arg14.IsWhole}
variable (h2 : Holds (c, .tc) P arg2) (h3 : Holds (c, .tc) P arg3) (h4 : Holds (c, .tc) P arg4) (h5 : Holds (c, .tc) P arg5) (h6 : Holds (c, .tc) P arg6) (h7 : Holds (c, .tc) P arg7) (h8 : Holds (c, .tc) P arg8) (h9 : Holds (c, .tc) P arg9) (h10 : Holds (c, .tc) P arg10) (h11 : Holds (c, .tc) P arg11) (h12 : Holds (c, .tc) P arg12) (h13 : Holds (c, .tc) P arg13) (h14 : Holds (c, .tc) P arg14)
include h2 h3 h4 h5 h6 h7 h8 h9 h10 h11 h12 h13 h14

set_option maxHeartbeats 20000000 in
theorem body : Keeps defs 𝒱 (c, .tc) bd P (cc0_fox i arg2 harg2 arg3 harg3 arg4 harg4 arg5 harg5 arg6 harg6 arg7 harg7 arg8 harg8 arg9 harg9 arg10 harg10 arg11 harg11 arg12 harg12 arg13 harg13 arg14 harg14) := by
  unfold cc0_fox
  repeat' first | (with_reducible first | refine Keeps.bind ?_ fun _ => ?_ | exact Keeps.load (by assumption) | exact Keeps.store (by assumption) | exact Keeps.pure _ | refine Keeps.loop fun _ _ => ?_ | refine Keeps.dite (fun _ => ?_) (fun _ => ?_) | refine Keeps.ite ?_ ?_) | refine Keeps.bind ?_ fun _ => ?_ | refine Keeps.dite (fun _ => ?_) (fun _ => ?_) | exact Keeps.pure _

end Cert.Proof.Fox

end
-- ==== Proof.FoxFrame.lean ====
/- The frame of the forgetting attention's call. Nothing is read of what its kernel leaves in any buffer: every window is handed to
   the body at arbitrary contents and taken back at arbitrary contents, and so is every scratch operand (`FoxBody.body`). -/
module

public import proofs.«01_k».proof.Proof.Gen.Fox.Frame
public import proofs.«01_k».proof.Proof.FoxBody

@[expose] public section

set_option maxRecDepth 16384

noncomputable section

namespace Cert.Proof.Fox

open Cert.Fox Cert.Fox.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Proof.Forget

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Every window is forgotten. -/
def forgets : Fin 6 → Bool := fun _ => true

/-- The arrays as the region finds them; nothing named of what the body leaves; the scratch operands and the generator register
    as the invariant; nothing owed; full shares. -/
def dats (_ : Fin 1) (c : Dev nD) : Dat τ (Elt F) Unit ℕ (UR sig nD τ) ℕ cfg0 c where
  A w := V m c (Pipeline.arrRef spec0 w)
  after w t := Pipeline.Dat.unnamed (cfg := cfg0) w t
  Φ _ := Pipeline.ΦA spec0 c
  q _ := fullShare
  owed _ := 0

theorem A_eq (c : Dev nD) (w : Fin cfg0.W) : (dats m 0 c).A w = V m c (Pipeline.arrRef spec0 w) := by
  dsimp only [dats]

/-- The scratch operands and the generator register, at some contents. -/
def scratch (c : Dev nD) : sProp 𝕄 :=
  iprop(((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d) ∗ (∃ d, owns (c : Thread nD τ) (Memref.whole cc0_scratch5) fullShare d) ∗ (∃ d, owns (c : Thread nD τ) (Memref.whole cc0_scratch6) fullShare d))
    ∗ (∃ r, prngReg c r))

theorem scratch_eq (c : Dev nD) : (Pipeline.ΦA spec0 c : sProp 𝕄) = scratch c := by
  unfold Pipeline.ΦA scratch; rw [scopedRest0_eq]; simp only [owns_whole]; try rfl

/-- What the body is called with at point `t`, and what it returns. -/
def held (c : Dev nD) (t : Fin cfg0.N) : sProp 𝕄 :=
  iprop(scratch c ∗ (dats m 0 c).owesAt () t.castSucc
    ∗ (∃ d, owns (c : Thread nD τ) ((cfg0.win 0).stage (cfg0.slots t 0)) fullShare d)
    ∗ (∃ d, owns (c : Thread nD τ) ((cfg0.win 1).stage (cfg0.slots t 1)) fullShare d)
    ∗ (∃ d, owns (c : Thread nD τ) ((cfg0.win 2).stage (cfg0.slots t 2)) fullShare d)
    ∗ (∃ d, owns (c : Thread nD τ) ((cfg0.win 3).stage (cfg0.slots t 3)) fullShare d)
    ∗ (∃ d, owns (c : Thread nD τ) ((cfg0.win 4).stage (cfg0.slots t 4)) fullShare d)
    ∗ (∃ d, owns (c : Thread nD τ) ((cfg0.win 5).stage (cfg0.slots t 5)) fullShare d))

theorem sound_body (c : Dev nD) (t : Fin cfg0.N) :
    held m c t ⊢ wp frame (wpE (defs₀ (F := F)) Variants.none c none) Set.univ (bodyAt0 t) (fun _ => held m c t) := by
  unfold held scratch bodyAt0
  exact body (grid0.coords t)
    (.right (.right (.left (Holds.owns _))))
    (.right (.right (.right (.left (Holds.owns _)))))
    (.right (.right (.right (.right (.left (Holds.owns _))))))
    (.right (.right (.right (.right (.right (.left (Holds.owns _)))))))
    (.right (.right (.right (.right (.right (.right (.left (Holds.owns _))))))))
    (.right (.right (.right (.right (.right (.right (.right (Holds.owns _))))))))
    (.left (.left (.left (Holds.owns _))))
    (.left (.left (.right (.left (Holds.owns _)))))
    (.left (.left (.right (.right (.left (Holds.owns _))))))
    (.left (.left (.right (.right (.right (.left (Holds.owns _)))))))
    (.left (.left (.right (.right (.right (.right (.left (Holds.owns _))))))))
    (.left (.left (.right (.right (.right (.right (.right (.left (Holds.owns _)))))))))
    (.left (.left (.right (.right (.right (.right (.right (.right (Holds.owns _)))))))))

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ forgets := fun t => by
  rw [bigSep_W0, bigSep_W0, defs₀_row]
  refine triple_restated (sound_body m c t) rfl ?_ fun _ => ?_
  · unfold held; rw [← scratch_eq]; exact .rfl
  · unfold held; rw [← scratch_eq]; exact .rfl

set_option backward.isDefEq.respectTransparency.types false in
theorem run_main : θ_run defs (onTc (τ := τ) (main (F := F))) (s₀ m ρ) (fun r => (Pipeline.RDat.FramePost (cfgs 0) (fun c => (dats m 0 c).toRForget forgets) (V m)) r ∧ r.2.sem = fun _ => 0) :=
  Pipeline.θ_run_frame_forget (Q' := _) cfgs (dats m) (0 : Fin 1) launch0 defs₀ Variants.none forgets m ρ main
    (hbody := fun c => (body_obligation m c).loose) (hshare := fun c => (dats m 0 c).share_full fun _ => rfl)
    (howed := fun _ _ => rfl) (V := V m) (hmain := hmain m Variants.none) (hA := A_eq m) (hΦ := fun _ _ => rfl)

set_option maxHeartbeats 2000000 in
/-- Every argument array ends as launched, and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => ⟨(h.1.arr_in c 0 rfl).trans ((A_eq m c 0).trans (V_main_arg0 m c)),
      (h.1.arr_in c 1 rfl).trans ((A_eq m c 1).trans (V_main_arg1 m c)),
      (h.1.arr_in c 2 rfl).trans ((A_eq m c 2).trans (V_main_arg2 m c)),
      (h.1.arr_in c 3 rfl).trans ((A_eq m c 3).trans (V_main_arg3 m c))⟩, h.2⟩) (run_main m ρ)

end Cert.Proof.Fox

end
-- ==== Proof.Rows.lean ====
/- The layer's row arithmetic over the extended reals: the norm of one row, the product of a row with a matrix, the gated unit
   of the feed-forward block. A row of a program's array is a function of the column; each program's proof reads both its
   kernel and its reference, at an index, as one of these. -/
module

public import Idealize.ShloMosaic.Lib.Pointwise
public import Idealize.ShloMosaic.Lib.Pipeline.Value

@[expose] public section

noncomputable section

namespace Cert.Proof.Rows

open Idealize.ShloMosaic

/-- A row of 1024 elements. -/
abbrev Row : Type := Fin 1024 → EReal

/-- The reciprocal root of the row's mean square plus epsilon. -/
def scale (x : Row) : EReal :=
  Ideal.rsqrt (Ideal.div (∑ k, x k * x k) (Ideal.ofBits .f32 0x44800000#32) + Ideal.ofBits .f32 0x358637BD#32)

/-- The row scaled, times the weights. -/
def norm (x w : Row) : Row := fun k => x k * scale x * w k

/-- One element of the product of a row with a matrix. -/
def dot {n K : Nat} (x : Fin K → EReal) (w : Fin K → Fin n → EReal) (j : Fin n) : EReal := ∑ k, x k * w k j

/-- The gated unit: `g` times its logistic, times `u`. -/
def gated (g u : EReal) : EReal := g * Ideal.logistic g * u

/-- The hidden row of the feed-forward block. -/
def hidden (x w : Row) (wg wu : Fin 1024 → Fin 2816 → EReal) : Fin 2816 → EReal :=
  fun n => gated (dot (norm x w) wg n) (dot (norm x w) wu n)

/-- The feed-forward half-step of a row. -/
def ffn (x w : Row) (wg wu : Fin 1024 → Fin 2816 → EReal) (wo : Fin 2816 → Fin 1024 → EReal) : Row :=
  fun j => x j + Ideal.ofBits .f32 0x3F000000#32 * dot (hidden x w wg wu) wo j

/-- Row `r` of an array of rows. -/
def row {R C : Nat} (x : (⟨2, ![R, C]⟩ : Shape).Idx → EReal) (r : Fin R) : Fin C → EReal := fun k => x (ix2 r k)

end Cert.Proof.Rows

end
-- ==== Proof.FfnValue.lean ====
module

public import proofs.«01_k».proof.Proof.Gen.FfnIdeal.Value
public import proofs.«01_k».proof.Proof.Rows

@[expose] public section

set_option maxRecDepth 16384

noncomputable section

namespace Cert.Proof.FfnValue

open Cert.FfnIdeal Cert.FfnIdeal.Gen Cert.FfnIdeal.Value Idealize.ShloMosaic Idealize.ShloMosaic.TcCoe Idealize.SL.Sem
open Cert.Proof.Rows

open Idealize.ShloMosaic.Pipeline (Dat)

theorem hz : (![0, 0] : Fin 2 → Nat) = fun _ => 0 := funext fun a => by fin_cases a <;> rfl

variable (x0 : Vec Ideal S512x1024 .f32) (x1 : Vec Ideal S1x1024 .f32) (x2 : Vec Ideal S1024x2816 .bf16)
  (x3 : Vec Ideal S1024x2816 .bf16) (x4 : Vec Ideal S2816x1024 .bf16) (x5 : Vec Ideal S1x1024 .f32)

/-- The block of hidden rows. -/
def hid : Vec Ideal S512x2816 .bf16 := fun y => hidden (row x0 (y 0)) (row x1 0) (row x2) (row x3) (y 1)

theorem hid_emb (o : Nat) (h : o + 256 ≤ 2816) (inb : ∀ a, ![0, o] a + ![512, 256] a ≤ S512x2816.size a) (r : Fin 512) (n : Fin 256) :
    hid x0 x1 x2 x3 ((Rect.unit (s := S512x2816) ![0, o] ![512, 256] inb).emb (ix2 r n))
      = hidden (row x0 r) (row x1 0) (row x2) (row x3) ⟨o + n.val, by omega⟩ := by
  have e0 : (Rect.unit (s := S512x2816) ![0, o] ![512, 256] inb).emb (ix2 r n) 0 = r :=
    Fin.ext (by show 0 + 1 * r.val = r.val; omega)
  have e1 : (Rect.unit (s := S512x2816) ![0, o] ![512, 256] inb).emb (ix2 r n) 1 = ⟨o + n.val, by show o + n.val < 2816; omega⟩ :=
    Fin.ext (by show o + 1 * n.val = o + n.val; omega)
  unfold hid
  rw [e0, e1]; rfl

theorem pay5_apply (r : Fin 512) (k : Fin 1024) : k0_pay5 x0 x1 (ix2 r k) = norm (row x0 r) (row x1 0) k := by
  pointwise [k0_pay5, k0_pay4]
  rfl

theorem out_eq (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1024x2816 .bf16) (harg3 : arg3.IsWhole) (arg4 : Memref sig .tc .vmem S1024x2816 .bf16) (harg4 : arg4.IsWhole) (arg5 : Memref sig .tc .vmem S2816x1024 .bf16) (harg5 : arg5.IsWhole) (arg6 : Memref sig .tc .vmem S1x1024 .f32) (harg6 : arg6.IsWhole) (arg7 : Memref sig .tc .vmem S512x1024 .f32) (harg7 : arg7.IsWhole) (arg8 : Memref sig .tc .vmem S512x2816 .bf16) (harg8 : arg8.IsWhole) :
    out0_A_6 c i arg1 harg1 arg2 harg2 arg3 harg3 arg4 harg4 arg5 harg5 arg6 harg6 arg7 harg7 arg8 harg8 x0 x1 x2 x3 x4 x5
      = k0_pay3 (k0_pay4 x0) (hid x0 x1 x2 x3) x4 := by
  unfold out0_A_6
  rw [View.read_writes_junk_eq_canon]
  unfold kernelRun0_A
  dsimp only
  sl_unfold_words
  simp only [View.readAt_eq_ld, harg1.read_unread, harg2.read_unread, harg3.read_unread, harg4.read_unread, harg5.read_unread]
  rw [View.canon_unit_zero hz, View.ld_unit_zero (S := S512x1024) hz, View.ld_unit_zero (S := S1x1024) hz, View.ld_unit_zero (S := S2816x1024) hz,
    View.readCov_eq_canon_ld _ _ (Rect.unit ![0, 0] S512x2816.size inb_S512x2816_S512x2816_0_0) (View.cover_of_tiled _ ![512, 256] (by rfl)),
    View.ld_unit_zero (S := S512x2816) hz]
  congr 1
  funext y
  refine View.canon_apply_of_pieces (hid x0 x1 x2 x3) _ (fun p hp j => ?_) y (View.cover_of_tiled _ ![512, 256] (by rfl) y)
  simp only [List.mem_cons, List.mem_nil_iff, or_false] at hp
  rcases hp with rfl | rfl | rfl | rfl | rfl | rfl | rfl | rfl | rfl | rfl | rfl
  all_goals idx_vars j
  all_goals unfold_payloads
  all_goals refine Eq.trans ?_ (hid_emb x0 x1 x2 x3 _ (by omega) _ j0 j1).symm
  all_goals pointwise
  all_goals rfl

/-- What the body leaves in the result's block, at an index: the half-step of that row. -/
theorem pay3_apply (r : Fin 512) (j : Fin 1024) :
    k0_pay3 (k0_pay4 x0) (hid x0 x1 x2 x3) x4 (ix2 r j) = ffn (row x0 r) (row x1 0) (row x2) (row x3) (row x4) j := by
  pointwise [k0_pay3, k0_pay4]
  rfl

variable (m : (ℓ : Loc nD τ sig) → Buf (Elt Ideal) ℓ) (ρ : Dev nD → PrngReg)

/-- The result array as one function of the arrays as the region finds them. -/
def G (c : Dev nD) : FVec Ideal S65536x1024 .f32 := fun y =>
  ffn (row (R := 65536) (C := 1024) (V m c main_v0) (y 0)) (row (R := 1) (C := 1024) (V m c main_v1) 0) (row (R := 1024) (C := 2816) (V m c main_v3))
    (row (R := 1024) (C := 2816) (V m c main_v5)) (row (R := 2816) (C := 1024) (V m c main_v6)) (y 1)

theorem G_apply (c : Dev nD) (r : Fin 65536) (j : Fin 1024) : G m c (ix2 r j) =
    ffn (row (R := 65536) (C := 1024) (V m c main_v0) r) (row (R := 1) (C := 1024) (V m c main_v1) 0) (row (R := 1024) (C := 2816) (V m c main_v3))
      (row (R := 1024) (C := 2816) (V m c main_v5)) (row (R := 2816) (C := 1024) (V m c main_v6)) j := rfl

theorem idx_facts : ∀ t : Fin cfg0.N, (win0_0.index t (0 : Fin 2) = t.val ∧ win0_0.index t (1 : Fin 2) = 0)
    ∧ (win0_1.index t (0 : Fin 2) = 0 ∧ win0_1.index t (1 : Fin 2) = 0) ∧ (win0_2.index t (0 : Fin 2) = 0 ∧ win0_2.index t (1 : Fin 2) = 0)
    ∧ (win0_3.index t (0 : Fin 2) = 0 ∧ win0_3.index t (1 : Fin 2) = 0) ∧ (win0_4.index t (0 : Fin 2) = 0 ∧ win0_4.index t (1 : Fin 2) = 0)
    ∧ (win0_6.index t (0 : Fin 2) = t.val ∧ win0_6.index t (1 : Fin 2) = 0) :=
  (by decide +kernel : ∀ t : Fin grid0.N, _)

theorem row_lt (t : Fin cfg0.N) (r : Fin 512) : t.val * 512 + r.val < 65536 := by
  have h := t.isLt
  have hN : cfg0.N = 128 := N_0
  omega

theorem row0 (c : Dev nD) (t : Fin cfg0.N) (r : Fin 512) :
    row (R := 512) (C := 1024) (iblk m c 0 t) r = row (R := 65536) (C := 1024) (V m c main_v0) ⟨t.val * 512 + r.val, row_lt t r⟩ := by
  obtain ⟨⟨e0, e1⟩, -⟩ := idx_facts t
  funext k
  refine congrArg (V m c main_v0) (funext fun a => Fin.ext ?_)
  match a with
  | ⟨0, _⟩ => show win0_0.index t (0 : Fin 2) * 512 + 1 * r.val = t.val * 512 + r.val; rw [e0]; omega
  | ⟨1, _⟩ => show win0_0.index t (1 : Fin 2) * 1024 + 1 * k.val = k.val; rw [e1]; omega

theorem iblk1 (c : Dev nD) (t : Fin cfg0.N) : iblk m c 1 t = V m c main_v1 := by
  obtain ⟨-, ⟨e0, e1⟩, -⟩ := idx_facts t
  funext j
  refine congrArg (V m c main_v1) (funext fun a => Fin.ext ?_)
  match a with
  | ⟨0, _⟩ => show win0_1.index t (0 : Fin 2) * 1 + 1 * (j 0).val = (j 0).val; rw [e0]; omega
  | ⟨1, _⟩ => show win0_1.index t (1 : Fin 2) * 1024 + 1 * (j 1).val = (j 1).val; rw [e1]; omega

theorem iblk2 (c : Dev nD) (t : Fin cfg0.N) : iblk m c 2 t = V m c main_v3 := by
  obtain ⟨-, -, ⟨e0, e1⟩, -⟩ := idx_facts t
  funext j
  refine congrArg (V m c main_v3) (funext fun a => Fin.ext ?_)
  match a with
  | ⟨0, _⟩ => show win0_2.index t (0 : Fin 2) * 1024 + 1 * (j 0).val = (j 0).val; rw [e0]; omega
  | ⟨1, _⟩ => show win0_2.index t (1 : Fin 2) * 2816 + 1 * (j 1).val = (j 1).val; rw [e1]; omega

theorem iblk3 (c : Dev nD) (t : Fin cfg0.N) : iblk m c 3 t = V m c main_v5 := by
  obtain ⟨-, -, -, ⟨e0, e1⟩, -⟩ := idx_facts t
  funext j
  refine congrArg (V m c main_v5) (funext fun a => Fin.ext ?_)
  match a with
  | ⟨0, _⟩ => show win0_3.index t (0 : Fin 2) * 1024 + 1 * (j 0).val = (j 0).val; rw [e0]; omega
  | ⟨1, _⟩ => show win0_3.index t (1 : Fin 2) * 2816 + 1 * (j 1).val = (j 1).val; rw [e1]; omega

theorem iblk4 (c : Dev nD) (t : Fin cfg0.N) : iblk m c 4 t = V m c main_v6 := by
  obtain ⟨-, -, -, -, ⟨e0, e1⟩, -⟩ := idx_facts t
  funext j
  refine congrArg (V m c main_v6) (funext fun a => Fin.ext ?_)
  match a with
  | ⟨0, _⟩ => show win0_4.index t (0 : Fin 2) * 2816 + 1 * (j 0).val = (j 0).val; rw [e0]; omega
  | ⟨1, _⟩ => show win0_4.index t (1 : Fin 2) * 1024 + 1 * (j 1).val = (j 1).val; rw [e1]; omega

/-- What a grid point writes back is its block of `G`. -/
theorem flushed_eq (c : Dev nD) (t : Fin cfg0.N) :
    (dats m 0 c).flushed 6 t = ((cfg0.win 6).blk t).view.read (Elt Ideal) (G m c) := by
  rw [flushed6_A, out_eq, iblk1, iblk2, iblk3, iblk4]
  obtain ⟨-, -, -, -, -, e0, e1⟩ := idx_facts t
  funext j
  idx_vars j
  have e : ((cfg0.win 6).blk t).view.emb (ix2 j0 j1) = (ix2 ⟨t.val * 512 + j0.val, row_lt t j0⟩ j1 : S65536x1024.Idx) := by
    refine funext fun a => Fin.ext ?_
    match a with
    | ⟨0, _⟩ => show win0_6.index t (0 : Fin 2) * 512 + 1 * j0.val = t.val * 512 + j0.val; rw [e0]; omega
    | ⟨1, _⟩ => show win0_6.index t (1 : Fin 2) * 1024 + 1 * j1.val = j1.val; rw [e1]; omega
  refine Eq.trans ?_ (congrArg (G m c) e).symm
  refine (pay3_apply (iblk m c 0 t) (V m c main_v1) (V m c main_v3) (V m c main_v5) (V m c main_v6) j0 j1).trans ?_
  rw [row0]
  rfl

/-- A row's index lies in the block of its grid point. -/
theorem mem_blk (t : Fin cfg0.N) (i : S65536x1024.Idx) (h : t.val * 512 ≤ (i 0).val ∧ (i 0).val < t.val * 512 + 512) :
    i ∈ ((cfg0.win 6).blk t).view.set := by
  show i ∈ ((View.whole main_v8).slice (win0_6.rect t)).set
  rw [View.set_slice_whole, Rect.mem_set_unit]
  obtain ⟨-, -, -, -, -, e0, e1⟩ := idx_facts t
  have h1 : (i 1).val < 1024 := (i 1).isLt
  intro a
  match a with
  | ⟨0, _⟩ =>
    show win0_6.index t (0 : Fin 2) * 512 ≤ (i 0).val ∧ (i 0).val < win0_6.index t (0 : Fin 2) * 512 + 512
    rw [e0]; exact h
  | ⟨1, _⟩ =>
    show win0_6.index t (1 : Fin 2) * 1024 ≤ (i 1).val ∧ (i 1).val < win0_6.index t (1 : Fin 2) * 1024 + 1024
    rw [e1, Nat.zero_mul, Nat.zero_add]; exact ⟨Nat.zero_le _, h1⟩

/-- The blocks cover the result array. -/
theorem cover (i : S65536x1024.Idx) : ∃ t : Fin cfg0.N, (cfg0.win 6).flush t = true ∧ i ∈ ((cfg0.win 6).blk t).view.set := by
  have h0 : (i 0).val < 65536 := (i 0).isLt
  have hN : cfg0.N = 128 := N_0
  obtain ⟨t, ht⟩ : ∃ t : Fin cfg0.N, t.val = (i 0).val / 512 := ⟨⟨_, by omega⟩, rfl⟩
  exact ⟨t, flush0_6 t, mem_blk t i (by rw [ht]; omega)⟩

theorem final (c : Dev nD) : (dats m 0 c).arrAt 6 cfg0.N = G m c :=
  (dats m 0 c).arrAt_eq_of_cover 6 (G m c) (fun t _ => flushed_eq m c t) cover

/-- The arrays that the region finds are the arguments, cast and reshaped. -/
theorem V0 (c : Dev nD) : V m c main_v0 = shapeCast S65536x1024 (m ((c : Thread nD τ).loc main_arg0)) shapeCasts_S16x4096x1024_S65536x1024 := by
  unfold V hostOps0
  after_results_simp
  rfl

theorem V1 (c : Dev nD) : V m c main_v1 = shapeCast S1x1024 (m ((c : Thread nD τ).loc main_arg1)) shapeCasts_S1024_S1x1024 := by
  unfold V hostOps0
  after_results_simp
  rfl

theorem V3 (c : Dev nD) : V m c main_v3 = truncf (F := Ideal) .bf16 (extractStridedSlice S1024x2816 ![0, 0] (m ((c : Thread nD τ).loc main_arg2)) slices_S1024x5632_S1024x2816_0_0) bitsLt_bf16_f32 := by
  unfold V hostOps0
  after_results_simp

theorem V5 (c : Dev nD) : V m c main_v5 = truncf (F := Ideal) .bf16 (extractStridedSlice S1024x2816 ![0, 2816] (m ((c : Thread nD τ).loc main_arg2)) slices_S1024x5632_S1024x2816_0_2816) bitsLt_bf16_f32 := by
  unfold V hostOps0
  after_results_simp

theorem V6 (c : Dev nD) : V m c main_v6 = truncf (F := Ideal) .bf16 (m ((c : Thread nD τ).loc main_arg3)) bitsLt_bf16_f32 := by
  unfold V hostOps0
  after_results_simp

end Cert.Proof.FfnValue

end
-- ==== Proof.FfnRefValue.lean ====
module

public import proofs.«01_k».proof.Proof.Gen.FfnRefIdeal.Run
public import proofs.«01_k».proof.Proof.Rows

@[expose] public section

set_option maxRecDepth 16384

noncomputable section

namespace Cert.Proof.FfnRef

open Cert.FfnRefIdeal Cert.FfnRefIdeal.Facts Cert.FfnRefIdeal.Gen Cert.FfnRefIdeal.Value Idealize.ShloMosaic Idealize.ShloMosaic.TcCoe Idealize.SL.Sem
open Cert.Proof.Rows

variable (x : FVec Ideal S16x4096x1024 .f32) (w : FVec Ideal S1024 .f32) (wgu : FVec Ideal S1024x5632 .f32)
    (wo : FVec Ideal S2816x1024 .f32)

/-- The normed activations. -/
def normed : FVec Ideal S16x4096x1024 .f32 :=
  mulf (mulf x (broadcastInDim S16x4096x1024 ![0, 1, 2] bcast_S16x4096x1_S16x4096x1024_0_1_2 (Host.rsqrt (addf (Host.divf (broadcastInDim S16x4096x1 ![0, 1] bcast_S16x4096_S16x4096x1_0_1 (Host.reduceAdd (mulf x x) (constant S_ .f32 0x00000000#32) reducesTo_S16x4096x1024_S16x4096_d2 h_S_)) (broadcastInDim S16x4096x1 ![] bcast_S_S16x4096x1 (constant S_ .f32 0x44800000#32))) (broadcastInDim S16x4096x1 ![] bcast_S_S16x4096x1 (constant S_ .f32 0x358637BD#32)))))) (broadcastInDim S16x4096x1024 ![0, 1, 2] bcast_S1x1x1024_S16x4096x1024_0_1_2 (broadcastInDim S1x1x1024 ![2] bcast_S1024_S1x1x1024_2 w))

def gu : FVec Ideal S16x4096x5632 .f32 := Host.dotGeneral dot_S16x4096x1024_S1024x5632_S16x4096x5632_2_0_01_1_n_n none (normed x w) wgu

theorem normed_apply (a : Fin 16) (b : Fin 4096) (k : Fin 1024) :
    normed x w (ix3 a b k) = norm (fun k => x (ix3 a b k)) (fun k => w (ix1 k)) k := by
  unfold normed
  pointwise
  rfl

theorem gu_apply (a : Fin 16) (b : Fin 4096) (n : Fin 5632) :
    gu x w wgu (ix3 a b n) = dot (norm (fun k => x (ix3 a b k)) (fun k => w (ix1 k))) (fun k n => wgu (ix2 k n)) n := by
  unfold gu
  pointwise
  simp only [normed_apply]
  rfl

/-- The gated hidden activations, -/
def hid : FVec Ideal S16x4096x2816 .f32 :=
  mulf (mulf (extractStridedSlice S16x4096x2816 ![0, 0, 0] (gu x w wgu) slices_S16x4096x5632_S16x4096x2816_0_0_0)
    (Host.divf (broadcastInDim S16x4096x2816 ![] bcast_S_S16x4096x2816 (constant S_ .f32 0x3F800000#32))
      (addf (broadcastInDim S16x4096x2816 ![] bcast_S_S16x4096x2816 (constant S_ .f32 0x3F800000#32))
        (Host.exp (Host.negf (extractStridedSlice S16x4096x2816 ![0, 0, 0] (gu x w wgu) slices_S16x4096x5632_S16x4096x2816_0_0_0))))))
    (extractStridedSlice S16x4096x2816 ![0, 0, 2816] (gu x w wgu) slices_S16x4096x5632_S16x4096x2816_0_0_2816)

theorem hid_apply (a : Fin 16) (b : Fin 4096) (n : Fin 2816) :
    hid x w wgu (ix3 a b n) = hidden (fun k => x (ix3 a b k)) (fun k => w (ix1 k)) (fun k n => wgu (ix2 k ⟨n.val, by omega⟩))
      (fun k n => wgu (ix2 k ⟨2816 + n.val, by omega⟩)) n := by
  unfold hid
  pointwise
  simp only [gu_apply]
  rfl

/-- and the half-step. -/
def out : FVec Ideal S16x4096x1024 .f32 :=
  addf x (mulf (broadcastInDim S16x4096x1024 ![] bcast_S_S16x4096x1024 (constant S_ .f32 0x3F000000#32))
    (Host.dotGeneral dot_S16x4096x2816_S2816x1024_S16x4096x1024_2_0_01_1_n_n none (hid x w wgu) wo))

theorem out_apply (a : Fin 16) (b : Fin 4096) (j : Fin 1024) :
    out x w wgu wo (ix3 a b j) = ffn (fun k => x (ix3 a b k)) (fun k => w (ix1 k)) (fun k n => wgu (ix2 k ⟨n.val, by omega⟩))
      (fun k n => wgu (ix2 k ⟨2816 + n.val, by omega⟩)) (row wo) j := by
  unfold out
  pointwise
  simp only [hid_apply]
  rfl

theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v22) = shapeCast S65536x1024 (out (m ((c.tc : Thread nD τ).loc main_arg0)) (m ((c.tc : Thread nD τ).loc main_arg1))
        (m ((c.tc : Thread nD τ).loc main_arg2)) (m ((c.tc : Thread nD τ).loc main_arg3))) shapeCasts_S16x4096x1024_S65536x1024
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  Value.run m ρ

end Cert.Proof.FfnRef

end
-- ==== Proof.FfnClaim.lean ====
/- The feed-forward half-step: kernel and reference end with the same array. -/
module

public import proofs.«01_k».proof.Defs
public import proofs.«01_k».proof.Proof.FfnValue
public import proofs.«01_k».proof.Proof.FfnRefValue

@[expose] public section

set_option maxRecDepth 16384

noncomputable section

namespace Cert.Proof.FfnClaim

open Idealize.ShloMosaic Idealize.ShloMosaic.TcCoe Idealize.SL.Sem
open Cert.Proof.Rows
open Cert.FfnIdeal Cert.FfnIdeal.Facts Cert.FfnIdeal.Gen

/-- Row `r` of the flattened activations is row `r % 4096` of batch `r / 4096`. -/
theorem row_flat (x : FVec Ideal S16x4096x1024 .f32) (r : Fin 65536) :
    row (shapeCast S65536x1024 x shapeCasts_S16x4096x1024_S65536x1024) r
      = fun k => x (ix3 ⟨r.val / 4096, by omega⟩ ⟨r.val % 4096, by omega⟩ k) := by
  funext k
  unfold row
  pointwise

theorem row_weight (w : FVec Ideal S1024 .f32) : row (shapeCast S1x1024 w shapeCasts_S1024_S1x1024) 0 = fun k => w (ix1 k) := by
  funext k
  unfold row
  pointwise

theorem row_gate (w : FVec Ideal S1024x5632 .f32) :
    row (truncf (F := Ideal) .bf16 (extractStridedSlice S1024x2816 ![0, 0] w slices_S1024x5632_S1024x2816_0_0) bitsLt_bf16_f32)
      = fun k n => w (ix2 k ⟨n.val, by omega⟩) := by
  funext k n
  unfold row
  pointwise

theorem row_up (w : FVec Ideal S1024x5632 .f32) :
    row (truncf (F := Ideal) .bf16 (extractStridedSlice S1024x2816 ![0, 2816] w slices_S1024x5632_S1024x2816_0_2816) bitsLt_bf16_f32)
      = fun k n => w (ix2 k ⟨2816 + n.val, by omega⟩) := by
  funext k n
  unfold row
  pointwise

variable (m : (ℓ : Loc nD τ sig) → Buf (Elt Ideal) ℓ)

/-- The kernel's result is the reference's term of the same arguments. -/
theorem G_eq (c : Dev nD) : FfnValue.G m c = shapeCast S65536x1024 (FfnRef.out (m ((c : Thread nD τ).loc main_arg0))
    (m ((c : Thread nD τ).loc main_arg1)) (m ((c : Thread nD τ).loc main_arg2)) (m ((c : Thread nD τ).loc main_arg3)))
    shapeCasts_S16x4096x1024_S65536x1024 := by
  funext y
  obtain ⟨r, j, rfl⟩ : ∃ (r : Fin 65536) (j : Fin 1024), y = ix2 r j := ⟨y 0, y 1, eq_ix2 y⟩
  refine Eq.trans ?_ (congrFun (row_flat (FfnRef.out _ _ _ _) r) j).symm
  rw [FfnRef.out_apply]
  rw [FfnValue.G_apply, FfnValue.V0, FfnValue.V1, FfnValue.V3, FfnValue.V5, FfnValue.V6, row_weight, row_gate, row_up, row_flat]
  rfl

theorem algebraic : Cert.algebraic_FfnIdeal_FfnRefIdeal := by
  intro m g m' g' _ h
  refine ⟨fun c => FfnValue.G m c, ?_, ?_⟩
  · exact (θ_run Cert.FfnIdeal.defs _ _).mono (fun _ h c => ⟨(h c).1.trans (FfnValue.final m c), (h c).2⟩)
      (Cert.FfnIdeal.Value.run_blocks m g)
  · refine (θ_run Cert.FfnRefIdeal.defs _ _).mono (fun _ k c => ⟨(k c).1.trans ?_, (k c).2⟩) (FfnRef.run m' g')
    obtain ⟨h0, h1, h2, h3, -⟩ := h c
    rw [h0, h1, h2, h3]
    exact (G_eq m c).symm

end Cert.Proof.FfnClaim

end
-- ==== Proof.FfnLastValue.lean ====
module

public import proofs.«01_k».proof.Proof.Gen.FfnLastIdeal.Value
public import proofs.«01_k».proof.Proof.FfnValue

@[expose] public section

set_option maxRecDepth 16384

noncomputable section

namespace Cert.Proof.FfnLastValue

open Cert.FfnLastIdeal Cert.FfnLastIdeal.Gen Cert.FfnLastIdeal.Value Idealize.ShloMosaic Idealize.ShloMosaic.TcCoe Idealize.SL.Sem
open Cert.Proof.Rows
open Cert.Proof.FfnValue (hz hid hid_emb)

open Idealize.ShloMosaic.Pipeline (Dat)

variable (x0 : Vec Ideal S512x1024 .f32) (x1 : Vec Ideal S1x1024 .f32) (x2 : Vec Ideal S1024x2816 .bf16)
  (x3 : Vec Ideal S1024x2816 .bf16) (x4 : Vec Ideal S2816x1024 .bf16) (x5 : Vec Ideal S1x1024 .f32)

theorem out_eq (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1024x2816 .bf16) (harg3 : arg3.IsWhole) (arg4 : Memref sig .tc .vmem S1024x2816 .bf16) (harg4 : arg4.IsWhole) (arg5 : Memref sig .tc .vmem S2816x1024 .bf16) (harg5 : arg5.IsWhole) (arg6 : Memref sig .tc .vmem S1x1024 .f32) (harg6 : arg6.IsWhole) (arg7 : Memref sig .tc .vmem S512x1024 .f32) (harg7 : arg7.IsWhole) (arg8 : Memref sig .tc .vmem S512x2816 .bf16) (harg8 : arg8.IsWhole) :
    out0_A_6 c i arg1 harg1 arg2 harg2 arg3 harg3 arg4 harg4 arg5 harg5 arg6 harg6 arg7 harg7 arg8 harg8 x0 x1 x2 x3 x4 x5
      = k0_pay19 (k0_pay1 x0) (hid x0 x1 x2 x3) x4 x5 := by
  unfold out0_A_6
  rw [View.read_writes_junk_eq_canon]
  unfold kernelRun0_A
  dsimp only
  sl_unfold_words
  simp only [View.readAt_eq_ld, harg1.read_unread, harg2.read_unread, harg3.read_unread, harg4.read_unread, harg5.read_unread, harg6.read_unread]
  rw [View.canon_unit_zero hz, View.ld_unit_zero (S := S512x1024) hz, View.ld_unit_zero (S := S1x1024) hz, View.ld_unit_zero (S := S1x1024) hz, View.ld_unit_zero (S := S2816x1024) hz,
    View.readCov_eq_canon_ld _ _ (Rect.unit ![0, 0] S512x2816.size inb_S512x2816_S512x2816_0_0) (View.cover_of_tiled _ ![512, 256] (by rfl)),
    View.ld_unit_zero (S := S512x2816) hz]
  congr 1
  funext y
  refine View.canon_apply_of_pieces (hid x0 x1 x2 x3) _ (fun p hp j => ?_) y (View.cover_of_tiled _ ![512, 256] (by rfl) y)
  simp only [List.mem_cons, List.mem_nil_iff, or_false] at hp
  rcases hp with rfl | rfl | rfl | rfl | rfl | rfl | rfl | rfl | rfl | rfl | rfl
  all_goals idx_vars j
  all_goals unfold_payloads
  all_goals refine Eq.trans ?_ (hid_emb x0 x1 x2 x3 _ (by omega) _ j0 j1).symm
  all_goals pointwise
  all_goals rfl

/-- What the body leaves in the result's block, at an index: the norm of that row's half-step. -/
theorem pay19_apply (r : Fin 512) (j : Fin 1024) : k0_pay19 (k0_pay1 x0) (hid x0 x1 x2 x3) x4 x5 (ix2 r j)
    = norm (ffn (row x0 r) (row x1 0) (row x2) (row x3) (row x4)) (row x5 0) j := by
  pointwise [k0_pay19, k0_pay1]
  rfl

variable (m : (ℓ : Loc nD τ sig) → Buf (Elt Ideal) ℓ) (ρ : Dev nD → PrngReg)

/-- The result array as one function of the arrays as the region finds them. -/
def G (c : Dev nD) : FVec Ideal S65536x1024 .f32 := fun y =>
  norm (ffn (row (R := 65536) (C := 1024) (V m c main_v0) (y 0)) (row (R := 1) (C := 1024) (V m c main_v1) 0) (row (R := 1024) (C := 2816) (V m c main_v3))
    (row (R := 1024) (C := 2816) (V m c main_v5)) (row (R := 2816) (C := 1024) (V m c main_v6))) (row (R := 1) (C := 1024) (V m c main_v7) 0) (y 1)

theorem G_apply (c : Dev nD) (r : Fin 65536) (j : Fin 1024) : G m c (ix2 r j) =
    norm (ffn (row (R := 65536) (C := 1024) (V m c main_v0) r) (row (R := 1) (C := 1024) (V m c main_v1) 0) (row (R := 1024) (C := 2816) (V m c main_v3))
      (row (R := 1024) (C := 2816) (V m c main_v5)) (row (R := 2816) (C := 1024) (V m c main_v6))) (row (R := 1) (C := 1024) (V m c main_v7) 0) j := rfl

theorem idx_facts : ∀ t : Fin cfg0.N, (win0_0.index t (0 : Fin 2) = t.val ∧ win0_0.index t (1 : Fin 2) = 0)
    ∧ (win0_1.index t (0 : Fin 2) = 0 ∧ win0_1.index t (1 : Fin 2) = 0) ∧ (win0_2.index t (0 : Fin 2) = 0 ∧ win0_2.index t (1 : Fin 2) = 0)
    ∧ (win0_3.index t (0 : Fin 2) = 0 ∧ win0_3.index t (1 : Fin 2) = 0) ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = t.val ∧ win0_6.index t (1 : Fin 2) = 0) :=
  (by decide +kernel : ∀ t : Fin grid0.N, _)

theorem row_lt (t : Fin cfg0.N) (r : Fin 512) : t.val * 512 + r.val < 65536 := by
  have h := t.isLt
  have hN : cfg0.N = 128 := N_0
  omega

theorem row0 (c : Dev nD) (t : Fin cfg0.N) (r : Fin 512) :
    row (R := 512) (C := 1024) (iblk m c 0 t) r = row (R := 65536) (C := 1024) (V m c main_v0) ⟨t.val * 512 + r.val, row_lt t r⟩ := by
  obtain ⟨⟨e0, e1⟩, -⟩ := idx_facts t
  funext k
  refine congrArg (V m c main_v0) (funext fun a => Fin.ext ?_)
  match a with
  | ⟨0, _⟩ => show win0_0.index t (0 : Fin 2) * 512 + 1 * r.val = t.val * 512 + r.val; rw [e0]; omega
  | ⟨1, _⟩ => show win0_0.index t (1 : Fin 2) * 1024 + 1 * k.val = k.val; rw [e1]; omega

theorem iblk1 (c : Dev nD) (t : Fin cfg0.N) : iblk m c 1 t = V m c main_v1 := by
  obtain ⟨-, ⟨e0, e1⟩, -⟩ := idx_facts t
  funext j
  refine congrArg (V m c main_v1) (funext fun a => Fin.ext ?_)
  match a with
  | ⟨0, _⟩ => show win0_1.index t (0 : Fin 2) * 1 + 1 * (j 0).val = (j 0).val; rw [e0]; omega
  | ⟨1, _⟩ => show win0_1.index t (1 : Fin 2) * 1024 + 1 * (j 1).val = (j 1).val; rw [e1]; omega

theorem iblk2 (c : Dev nD) (t : Fin cfg0.N) : iblk m c 2 t = V m c main_v3 := by
  obtain ⟨-, -, ⟨e0, e1⟩, -⟩ := idx_facts t
  funext j
  refine congrArg (V m c main_v3) (funext fun a => Fin.ext ?_)
  match a with
  | ⟨0, _⟩ => show win0_2.index t (0 : Fin 2) * 1024 + 1 * (j 0).val = (j 0).val; rw [e0]; omega
  | ⟨1, _⟩ => show win0_2.index t (1 : Fin 2) * 2816 + 1 * (j 1).val = (j 1).val; rw [e1]; omega

theorem iblk3 (c : Dev nD) (t : Fin cfg0.N) : iblk m c 3 t = V m c main_v5 := by
  obtain ⟨-, -, -, ⟨e0, e1⟩, -⟩ := idx_facts t
  funext j
  refine congrArg (V m c main_v5) (funext fun a => Fin.ext ?_)
  match a with
  | ⟨0, _⟩ => show win0_3.index t (0 : Fin 2) * 1024 + 1 * (j 0).val = (j 0).val; rw [e0]; omega
  | ⟨1, _⟩ => show win0_3.index t (1 : Fin 2) * 2816 + 1 * (j 1).val = (j 1).val; rw [e1]; omega

theorem iblk4 (c : Dev nD) (t : Fin cfg0.N) : iblk m c 4 t = V m c main_v6 := by
  obtain ⟨-, -, -, -, ⟨e0, e1⟩, -⟩ := idx_facts t
  funext j
  refine congrArg (V m c main_v6) (funext fun a => Fin.ext ?_)
  match a with
  | ⟨0, _⟩ => show win0_4.index t (0 : Fin 2) * 2816 + 1 * (j 0).val = (j 0).val; rw [e0]; omega
  | ⟨1, _⟩ => show win0_4.index t (1 : Fin 2) * 1024 + 1 * (j 1).val = (j 1).val; rw [e1]; omega

theorem iblk5 (c : Dev nD) (t : Fin cfg0.N) : iblk m c 5 t = V m c main_v7 := by
  obtain ⟨-, -, -, -, -, ⟨e0, e1⟩, -⟩ := idx_facts t
  funext j
  refine congrArg (V m c main_v7) (funext fun a => Fin.ext ?_)
  match a with
  | ⟨0, _⟩ => show win0_5.index t (0 : Fin 2) * 1 + 1 * (j 0).val = (j 0).val; rw [e0]; omega
  | ⟨1, _⟩ => show win0_5.index t (1 : Fin 2) * 1024 + 1 * (j 1).val = (j 1).val; rw [e1]; omega

/-- What a grid point writes back is its block of `G`. -/
theorem flushed_eq (c : Dev nD) (t : Fin cfg0.N) :
    (dats m 0 c).flushed 6 t = ((cfg0.win 6).blk t).view.read (Elt Ideal) (G m c) := by
  rw [flushed6_A, out_eq, iblk1, iblk2, iblk3, iblk4, iblk5]
  obtain ⟨-, -, -, -, -, -, e0, e1⟩ := idx_facts t
  funext j
  idx_vars j
  have e : ((cfg0.win 6).blk t).view.emb (ix2 j0 j1) = (ix2 ⟨t.val * 512 + j0.val, row_lt t j0⟩ j1 : S65536x1024.Idx) := by
    refine funext fun a => Fin.ext ?_
    match a with
    | ⟨0, _⟩ => show win0_6.index t (0 : Fin 2) * 512 + 1 * j0.val = t.val * 512 + j0.val; rw [e0]; omega
    | ⟨1, _⟩ => show win0_6.index t (1 : Fin 2) * 1024 + 1 * j1.val = j1.val; rw [e1]; omega
  refine Eq.trans ?_ (congrArg (G m c) e).symm
  refine (pay19_apply (iblk m c 0 t) (V m c main_v1) (V m c main_v3) (V m c main_v5) (V m c main_v6) (V m c main_v7) j0 j1).trans ?_
  rw [row0]
  rfl

/-- A row's index lies in the block of its grid point. -/
theorem mem_blk (t : Fin cfg0.N) (i : S65536x1024.Idx) (h : t.val * 512 ≤ (i 0).val ∧ (i 0).val < t.val * 512 + 512) :
    i ∈ ((cfg0.win 6).blk t).view.set := by
  show i ∈ ((View.whole main_v8).slice (win0_6.rect t)).set
  rw [View.set_slice_whole, Rect.mem_set_unit]
  obtain ⟨-, -, -, -, -, -, e0, e1⟩ := idx_facts t
  have h1 : (i 1).val < 1024 := (i 1).isLt
  intro a
  match a with
  | ⟨0, _⟩ =>
    show win0_6.index t (0 : Fin 2) * 512 ≤ (i 0).val ∧ (i 0).val < win0_6.index t (0 : Fin 2) * 512 + 512
    rw [e0]; exact h
  | ⟨1, _⟩ =>
    show win0_6.index t (1 : Fin 2) * 1024 ≤ (i 1).val ∧ (i 1).val < win0_6.index t (1 : Fin 2) * 1024 + 1024
    rw [e1, Nat.zero_mul, Nat.zero_add]; exact ⟨Nat.zero_le _, h1⟩

/-- The blocks cover the result array. -/
theorem cover (i : S65536x1024.Idx) : ∃ t : Fin cfg0.N, (cfg0.win 6).flush t = true ∧ i ∈ ((cfg0.win 6).blk t).view.set := by
  have h0 : (i 0).val < 65536 := (i 0).isLt
  have hN : cfg0.N = 128 := N_0
  obtain ⟨t, ht⟩ : ∃ t : Fin cfg0.N, t.val = (i 0).val / 512 := ⟨⟨_, by omega⟩, rfl⟩
  exact ⟨t, flush0_6 t, mem_blk t i (by rw [ht]; omega)⟩

theorem final (c : Dev nD) : (dats m 0 c).arrAt 6 cfg0.N = G m c :=
  (dats m 0 c).arrAt_eq_of_cover 6 (G m c) (fun t _ => flushed_eq m c t) cover

/-- The arrays that the region finds are the arguments, cast and reshaped. -/
theorem V0 (c : Dev nD) : V m c main_v0 = shapeCast S65536x1024 (m ((c : Thread nD τ).loc main_arg0)) shapeCasts_S16x4096x1024_S65536x1024 := by
  unfold V hostOps0
  after_results_simp
  rfl

theorem V1 (c : Dev nD) : V m c main_v1 = shapeCast S1x1024 (m ((c : Thread nD τ).loc main_arg1)) shapeCasts_S1024_S1x1024 := by
  unfold V hostOps0
  after_results_simp
  rfl

theorem V3 (c : Dev nD) : V m c main_v3 = truncf (F := Ideal) .bf16 (extractStridedSlice S1024x2816 ![0, 0] (m ((c : Thread nD τ).loc main_arg2)) slices_S1024x5632_S1024x2816_0_0) bitsLt_bf16_f32 := by
  unfold V hostOps0
  after_results_simp

theorem V5 (c : Dev nD) : V m c main_v5 = truncf (F := Ideal) .bf16 (extractStridedSlice S1024x2816 ![0, 2816] (m ((c : Thread nD τ).loc main_arg2)) slices_S1024x5632_S1024x2816_0_2816) bitsLt_bf16_f32 := by
  unfold V hostOps0
  after_results_simp

theorem V6 (c : Dev nD) : V m c main_v6 = truncf (F := Ideal) .bf16 (m ((c : Thread nD τ).loc main_arg3)) bitsLt_bf16_f32 := by
  unfold V hostOps0
  after_results_simp

theorem V7 (c : Dev nD) : V m c main_v7 = shapeCast S1x1024 (m ((c : Thread nD τ).loc main_arg4)) shapeCasts_S1024_S1x1024 := by
  unfold V hostOps0
  after_results_simp
  rfl

end Cert.Proof.FfnLastValue

end
-- ==== Proof.FfnLastRefValue.lean ====
module

public import proofs.«01_k».proof.Proof.Gen.FfnLastRefIdeal.Run
public import proofs.«01_k».proof.Proof.FfnRefValue

@[expose] public section

set_option maxRecDepth 16384

noncomputable section

namespace Cert.Proof.FfnLastRef

open Cert.FfnLastRefIdeal Cert.FfnLastRefIdeal.Facts Cert.FfnLastRefIdeal.Gen Cert.FfnLastRefIdeal.Value Idealize.ShloMosaic Idealize.ShloMosaic.TcCoe Idealize.SL.Sem
open Cert.Proof.Rows
open Cert.Proof.FfnRef (normed normed_apply out out_apply)

variable (x : FVec Ideal S16x4096x1024 .f32) (w : FVec Ideal S1024 .f32) (wgu : FVec Ideal S1024x5632 .f32)
    (wo : FVec Ideal S2816x1024 .f32) (w4 : FVec Ideal S1024 .f32)

/-- The half-step (`FfnRef.out`), normed once more. -/
def last : FVec Ideal S16x4096x1024 .f32 := normed (out x w wgu wo) w4

theorem last_apply (a : Fin 16) (b : Fin 4096) (j : Fin 1024) : last x w wgu wo w4 (ix3 a b j)
    = norm (ffn (fun k => x (ix3 a b k)) (fun k => w (ix1 k)) (fun k n => wgu (ix2 k ⟨n.val, by omega⟩))
      (fun k n => wgu (ix2 k ⟨2816 + n.val, by omega⟩)) (row wo)) (fun k => w4 (ix1 k)) j := by
  unfold last
  rw [normed_apply]
  simp only [out_apply]

theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v35) = shapeCast S65536x1024 (last (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))) shapeCasts_S16x4096x1024_S65536x1024
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  Value.run m ρ

end Cert.Proof.FfnLastRef

end
-- ==== Proof.FfnLastClaim.lean ====
/- The last feed-forward half-step and the layer's last norm: kernel and reference end with the same array. -/
module

public import proofs.«01_k».proof.Defs
public import proofs.«01_k».proof.Proof.FfnLastValue
public import proofs.«01_k».proof.Proof.FfnLastRefValue
public import proofs.«01_k».proof.Proof.FfnClaim

@[expose] public section

set_option maxRecDepth 16384

noncomputable section

namespace Cert.Proof.FfnLastClaim

open Idealize.ShloMosaic Idealize.ShloMosaic.TcCoe Idealize.SL.Sem
open Cert.Proof.Rows
open Cert.Proof.FfnClaim (row_flat row_weight row_gate row_up)
open Cert.FfnLastIdeal Cert.FfnLastIdeal.Facts Cert.FfnLastIdeal.Gen

variable (m : (ℓ : Loc nD τ sig) → Buf (Elt Ideal) ℓ)

/-- The kernel's result is the reference's term of the same arguments. -/
theorem G_eq (c : Dev nD) : FfnLastValue.G m c = shapeCast S65536x1024 (FfnLastRef.last (m ((c : Thread nD τ).loc main_arg0))
    (m ((c : Thread nD τ).loc main_arg1)) (m ((c : Thread nD τ).loc main_arg2)) (m ((c : Thread nD τ).loc main_arg3)) (m ((c : Thread nD τ).loc main_arg4)))
    shapeCasts_S16x4096x1024_S65536x1024 := by
  funext y
  obtain ⟨r, j, rfl⟩ : ∃ (r : Fin 65536) (j : Fin 1024), y = ix2 r j := ⟨y 0, y 1, eq_ix2 y⟩
  refine Eq.trans ?_ (congrFun (row_flat (FfnLastRef.last _ _ _ _ _) r) j).symm
  rw [FfnLastRef.last_apply]
  rw [FfnLastValue.G_apply, FfnLastValue.V0, FfnLastValue.V1, FfnLastValue.V3, FfnLastValue.V5, FfnLastValue.V6, FfnLastValue.V7, row_weight, row_weight, row_gate, row_up, row_flat]
  rfl

theorem algebraic : Cert.algebraic_FfnLastIdeal_FfnLastRefIdeal := by
  intro m g m' g' _ h
  refine ⟨fun c => FfnLastValue.G m c, ?_, ?_⟩
  · exact (θ_run Cert.FfnLastIdeal.defs _ _).mono (fun _ h c => ⟨(h c).1.trans (FfnLastValue.final m c), (h c).2⟩)
      (Cert.FfnLastIdeal.Value.run_blocks m g)
  · refine (θ_run Cert.FfnLastRefIdeal.defs _ _).mono (fun _ k c => ⟨(k c).1.trans ?_, (k c).2⟩) (FfnLastRef.run m' g')
    obtain ⟨h0, h1, h2, h3, h4⟩ := h c
    rw [h0, h1, h2, h3, h4]
    exact (G_eq m c).symm

end Cert.Proof.FfnLastClaim

end
-- ==== Proof.ProjBlock.lean ====
/- The input projection's block: what the body leaves in each result's block is the columns of the product of the normed rows
   with the weights that the result takes. -/
module

public import proofs.«01_k».proof.Proof.Gen.ProjIdeal.Value
public import proofs.«01_k».proof.Proof.Rows

@[expose] public section

set_option maxRecDepth 16384

noncomputable section

namespace Cert.Proof.ProjBlock

open Cert.ProjIdeal Cert.ProjIdeal.Gen Cert.ProjIdeal.Value Idealize.ShloMosaic Idealize.ShloMosaic.TcCoe Idealize.SL.Sem
open Cert.Proof.Rows

theorem hz : (![0, 0] : Fin 2 → Nat) = fun _ => 0 := funext fun a => by fin_cases a <;> rfl

variable (x0 : Vec Ideal S512x1024 .f32) (x1 : Vec Ideal S1x1024 .f32) (x2 : Vec Ideal S1024x7040 .bf16)

/-- An element of the product, by its row and column. -/
def prod (r : Fin 512) (n : Fin 7040) : EReal := dot (norm (row x0 r) (row x1 0)) (row x2) n

theorem prod_eq (r : Fin 512) (n n' : Fin 7040) (h : n.val = n'.val) :
    (∑ k : Fin 1024, x0 (ix2 r k) * Ideal.rsqrt (Ideal.div (∑ k : Fin 1024, x0 (ix2 r k) * x0 (ix2 r k)) (Ideal.ofBits .f32 0x44800000#32)
      + Ideal.ofBits .f32 0x358637BD#32) * x1 (ix2 0 k) * x2 (ix2 k n)) = prod x0 x1 x2 r n' := by
  rw [Fin.ext h]; rfl

/-- The `W` columns of the product that start at column `o`. -/
def cols (o W : Nat) (h : o + W ≤ 7040) : (⟨2, ![512, W]⟩ : Shape).Idx → EReal :=
  fun y => prod x0 x1 x2 (y 0) ⟨o + (y 1).val, by have : (y 1).val < W := (y 1).isLt; omega⟩

theorem cols_apply (o W : Nat) (h : o + W ≤ 7040) (r : Fin 512) (n : Fin W) :
    cols x0 x1 x2 o W h (ix2 r n) = prod x0 x1 x2 r ⟨o + n.val, by omega⟩ := rfl

/-- The columns, at an index of a piece that starts at the block's column `a`. -/
theorem cols_emb (o W a w : Nat) (h : o + W ≤ 7040) (ha : a + w ≤ W) (inb : ∀ d, ![0, a] d + ![512, w] d ≤ (⟨2, ![512, W]⟩ : Shape).size d)
    (r : Fin 512) (n : Fin w) : cols x0 x1 x2 o W h ((Rect.unit (s := ⟨2, ![512, W]⟩) ![0, a] ![512, w] inb).emb (ix2 r n))
      = prod x0 x1 x2 r ⟨o + a + n.val, by omega⟩ := by
  have e : (Rect.unit (s := ⟨2, ![512, W]⟩) ![0, a] ![512, w] inb).emb (ix2 r n) = ix2 r ⟨a + n.val, by omega⟩ := by
    refine funext fun d => Fin.ext ?_
    match d with
    | ⟨0, _⟩ => show 0 + 1 * r.val = r.val; omega
    | ⟨1, _⟩ => show a + 1 * n.val = a + n.val; omega
  rw [e, cols_apply]
  exact congrArg _ (Fin.ext (by show o + (a + n.val) = o + a + n.val; omega))

theorem out3 (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1024x7040 .bf16) (harg3 : arg3.IsWhole) (arg4 : Memref sig .tc .vmem S512x1024 .bf16) (harg4 : arg4.IsWhole) (arg5 : Memref sig .tc .vmem S512x512 .bf16) (harg5 : arg5.IsWhole) (arg6 : Memref sig .tc .vmem S512x128 .bf16) (harg6 : arg6.IsWhole) (arg7 : Memref sig .tc .vmem S512x512 .bf16) (harg7 : arg7.IsWhole) (arg8 : Memref sig .tc .vmem S512x128 .bf16) (harg8 : arg8.IsWhole) (arg9 : Memref sig .tc .vmem S512x512 .bf16) (harg9 : arg9.IsWhole) (arg10 : Memref sig .tc .vmem S512x512 .bf16) (harg10 : arg10.IsWhole) (arg11 : Memref sig .tc .vmem S512x512 .bf16) (harg11 : arg11.IsWhole) (arg12 : Memref sig .tc .vmem S512x3072 .bf16) (harg12 : arg12.IsWhole) (arg13 : Memref sig .tc .vmem S512x128 .f32) (harg13 : arg13.IsWhole) :
    out0_A_3 c i arg1 harg1 arg2 harg2 arg3 harg3 arg4 harg4 arg5 harg5 arg6 harg6 arg7 harg7 arg8 harg8 arg9 harg9 arg10 harg10 arg11 harg11 arg12 harg12 arg13 harg13 x0 x1 x2 = cols x0 x1 x2 0 1024 (by omega) := by
  unfold out0_A_3
  rw [View.read_writes_junk_eq_canon]
  unfold kernelRun0_A
  dsimp only
  sl_unfold_words
  simp only [View.readAt_eq_ld, harg1.read_unread, harg2.read_unread, harg3.read_unread]
  rw [View.ld_unit_zero (S := S512x1024) hz, View.ld_unit_zero (S := S1x1024) hz]
  funext y
  refine View.canon_apply_of_pieces (S := S512x1024) (Val := Elt Ideal) (e := .bf16) (cols x0 x1 x2 0 1024 (by omega)) _ (fun p hp j => ?_) y (View.cover_of_tiledBy _ ![512, 1024] (by sl_kernel_rfl) y)
  simp only [List.mem_cons, List.mem_nil_iff, or_false] at hp
  rcases hp with rfl
  all_goals idx_vars j
  all_goals unfold_payloads
  all_goals refine Eq.trans ?_ (cols_emb x0 x1 x2 0 1024 _ _ (by omega) (by omega) _ j0 j1).symm
  all_goals pointwise
  all_goals exact prod_eq x0 x1 x2 j0 _ _ (by first | rfl | (dsimp only; omega))

theorem out4 (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1024x7040 .bf16) (harg3 : arg3.IsWhole) (arg4 : Memref sig .tc .vmem S512x1024 .bf16) (harg4 : arg4.IsWhole) (arg5 : Memref sig .tc .vmem S512x512 .bf16) (harg5 : arg5.IsWhole) (arg6 : Memref sig .tc .vmem S512x128 .bf16) (harg6 : arg6.IsWhole) (arg7 : Memref sig .tc .vmem S512x512 .bf16) (harg7 : arg7.IsWhole) (arg8 : Memref sig .tc .vmem S512x128 .bf16) (harg8 : arg8.IsWhole) (arg9 : Memref sig .tc .vmem S512x512 .bf16) (harg9 : arg9.IsWhole) (arg10 : Memref sig .tc .vmem S512x512 .bf16) (harg10 : arg10.IsWhole) (arg11 : Memref sig .tc .vmem S512x512 .bf16) (harg11 : arg11.IsWhole) (arg12 : Memref sig .tc .vmem S512x3072 .bf16) (harg12 : arg12.IsWhole) (arg13 : Memref sig .tc .vmem S512x128 .f32) (harg13 : arg13.IsWhole) :
    out0_A_4 c i arg1 harg1 arg2 harg2 arg3 harg3 arg4 harg4 arg5 harg5 arg6 harg6 arg7 harg7 arg8 harg8 arg9 harg9 arg10 harg10 arg11 harg11 arg12 harg12 arg13 harg13 x0 x1 x2 = cols x0 x1 x2 1024 512 (by omega) := by
  unfold out0_A_4
  rw [View.read_writes_junk_eq_canon]
  unfold kernelRun0_A
  dsimp only
  sl_unfold_words
  simp only [View.readAt_eq_ld, harg1.read_unread, harg2.read_unread, harg3.read_unread]
  rw [View.ld_unit_zero (S := S512x1024) hz, View.ld_unit_zero (S := S1x1024) hz]
  funext y
  refine View.canon_apply_of_pieces (S := S512x512) (Val := Elt Ideal) (e := .bf16) (cols x0 x1 x2 1024 512 (by omega)) _ (fun p hp j => ?_) y (View.cover_of_tiledBy _ ![512, 512] (by sl_kernel_rfl) y)
  simp only [List.mem_cons, List.mem_nil_iff, or_false] at hp
  rcases hp with rfl
  all_goals idx_vars j
  all_goals unfold_payloads
  all_goals refine Eq.trans ?_ (cols_emb x0 x1 x2 1024 512 _ _ (by omega) (by omega) _ j0 j1).symm
  all_goals pointwise
  all_goals exact prod_eq x0 x1 x2 j0 _ _ (by first | rfl | (dsimp only; omega))

theorem out5 (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1024x7040 .bf16) (harg3 : arg3.IsWhole) (arg4 : Memref sig .tc .vmem S512x1024 .bf16) (harg4 : arg4.IsWhole) (arg5 : Memref sig .tc .vmem S512x512 .bf16) (harg5 : arg5.IsWhole) (arg6 : Memref sig .tc .vmem S512x128 .bf16) (harg6 : arg6.IsWhole) (arg7 : Memref sig .tc .vmem S512x512 .bf16) (harg7 : arg7.IsWhole) (arg8 : Memref sig .tc .vmem S512x128 .bf16) (harg8 : arg8.IsWhole) (arg9 : Memref sig .tc .vmem S512x512 .bf16) (harg9 : arg9.IsWhole) (arg10 : Memref sig .tc .vmem S512x512 .bf16) (harg10 : arg10.IsWhole) (arg11 : Memref sig .tc .vmem S512x512 .bf16) (harg11 : arg11.IsWhole) (arg12 : Memref sig .tc .vmem S512x3072 .bf16) (harg12 : arg12.IsWhole) (arg13 : Memref sig .tc .vmem S512x128 .f32) (harg13 : arg13.IsWhole) :
    out0_A_5 c i arg1 harg1 arg2 harg2 arg3 harg3 arg4 harg4 arg5 harg5 arg6 harg6 arg7 harg7 arg8 harg8 arg9 harg9 arg10 harg10 arg11 harg11 arg12 harg12 arg13 harg13 x0 x1 x2 = cols x0 x1 x2 1536 128 (by omega) := by
  unfold out0_A_5
  rw [View.read_writes_junk_eq_canon]
  unfold kernelRun0_A
  dsimp only
  sl_unfold_words
  simp only [View.readAt_eq_ld, harg1.read_unread, harg2.read_unread, harg3.read_unread]
  rw [View.ld_unit_zero (S := S512x1024) hz, View.ld_unit_zero (S := S1x1024) hz]
  funext y
  refine View.canon_apply_of_pieces (S := S512x128) (Val := Elt Ideal) (e := .bf16) (cols x0 x1 x2 1536 128 (by omega)) _ (fun p hp j => ?_) y (View.cover_of_tiledBy _ ![512, 128] (by sl_kernel_rfl) y)
  simp only [List.mem_cons, List.mem_nil_iff, or_false] at hp
  rcases hp with rfl
  all_goals idx_vars j
  all_goals unfold_payloads
  all_goals refine Eq.trans ?_ (cols_emb x0 x1 x2 1536 128 _ _ (by omega) (by omega) _ j0 j1).symm
  all_goals pointwise
  all_goals exact prod_eq x0 x1 x2 j0 _ _ (by first | rfl | (dsimp only; omega))

theorem out6 (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1024x7040 .bf16) (harg3 : arg3.IsWhole) (arg4 : Memref sig .tc .vmem S512x1024 .bf16) (harg4 : arg4.IsWhole) (arg5 : Memref sig .tc .vmem S512x512 .bf16) (harg5 : arg5.IsWhole) (arg6 : Memref sig .tc .vmem S512x128 .bf16) (harg6 : arg6.IsWhole) (arg7 : Memref sig .tc .vmem S512x512 .bf16) (harg7 : arg7.IsWhole) (arg8 : Memref sig .tc .vmem S512x128 .bf16) (harg8 : arg8.IsWhole) (arg9 : Memref sig .tc .vmem S512x512 .bf16) (harg9 : arg9.IsWhole) (arg10 : Memref sig .tc .vmem S512x512 .bf16) (harg10 : arg10.IsWhole) (arg11 : Memref sig .tc .vmem S512x512 .bf16) (harg11 : arg11.IsWhole) (arg12 : Memref sig .tc .vmem S512x3072 .bf16) (harg12 : arg12.IsWhole) (arg13 : Memref sig .tc .vmem S512x128 .f32) (harg13 : arg13.IsWhole) :
    out0_A_6 c i arg1 harg1 arg2 harg2 arg3 harg3 arg4 harg4 arg5 harg5 arg6 harg6 arg7 harg7 arg8 harg8 arg9 harg9 arg10 harg10 arg11 harg11 arg12 harg12 arg13 harg13 x0 x1 x2 = cols x0 x1 x2 1664 512 (by omega) := by
  unfold out0_A_6
  rw [View.read_writes_junk_eq_canon]
  unfold kernelRun0_A
  dsimp only
  sl_unfold_words
  simp only [View.readAt_eq_ld, harg1.read_unread, harg2.read_unread, harg3.read_unread]
  rw [View.ld_unit_zero (S := S512x1024) hz, View.ld_unit_zero (S := S1x1024) hz]
  funext y
  refine View.canon_apply_of_pieces (S := S512x512) (Val := Elt Ideal) (e := .bf16) (cols x0 x1 x2 1664 512 (by omega)) _ (fun p hp j => ?_) y (View.cover_of_tiledBy _ ![512, 128] (by sl_kernel_rfl) y)
  simp only [List.mem_cons, List.mem_nil_iff, or_false] at hp
  rcases hp with rfl | rfl
  all_goals idx_vars j
  all_goals unfold_payloads
  all_goals refine Eq.trans ?_ (cols_emb x0 x1 x2 1664 512 _ _ (by omega) (by omega) _ j0 j1).symm
  all_goals pointwise
  all_goals exact prod_eq x0 x1 x2 j0 _ _ (by first | rfl | (dsimp only; omega))

theorem out7 (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1024x7040 .bf16) (harg3 : arg3.IsWhole) (arg4 : Memref sig .tc .vmem S512x1024 .bf16) (harg4 : arg4.IsWhole) (arg5 : Memref sig .tc .vmem S512x512 .bf16) (harg5 : arg5.IsWhole) (arg6 : Memref sig .tc .vmem S512x128 .bf16) (harg6 : arg6.IsWhole) (arg7 : Memref sig .tc .vmem S512x512 .bf16) (harg7 : arg7.IsWhole) (arg8 : Memref sig .tc .vmem S512x128 .bf16) (harg8 : arg8.IsWhole) (arg9 : Memref sig .tc .vmem S512x512 .bf16) (harg9 : arg9.IsWhole) (arg10 : Memref sig .tc .vmem S512x512 .bf16) (harg10 : arg10.IsWhole) (arg11 : Memref sig .tc .vmem S512x512 .bf16) (harg11 : arg11.IsWhole) (arg12 : Memref sig .tc .vmem S512x3072 .bf16) (harg12 : arg12.IsWhole) (arg13 : Memref sig .tc .vmem S512x128 .f32) (harg13 : arg13.IsWhole) :
    out0_A_7 c i arg1 harg1 arg2 harg2 arg3 harg3 arg4 harg4 arg5 harg5 arg6 harg6 arg7 harg7 arg8 harg8 arg9 harg9 arg10 harg10 arg11 harg11 arg12 harg12 arg13 harg13 x0 x1 x2 = cols x0 x1 x2 2176 128 (by omega) := by
  unfold out0_A_7
  rw [View.read_writes_junk_eq_canon]
  unfold kernelRun0_A
  dsimp only
  sl_unfold_words
  simp only [View.readAt_eq_ld, harg1.read_unread, harg2.read_unread, harg3.read_unread]
  rw [View.ld_unit_zero (S := S512x1024) hz, View.ld_unit_zero (S := S1x1024) hz]
  funext y
  refine View.canon_apply_of_pieces (S := S512x128) (Val := Elt Ideal) (e := .bf16) (cols x0 x1 x2 2176 128 (by omega)) _ (fun p hp j => ?_) y (View.cover_of_tiledBy _ ![512, 128] (by sl_kernel_rfl) y)
  simp only [List.mem_cons, List.mem_nil_iff, or_false] at hp
  rcases hp with rfl
  all_goals idx_vars j
  all_goals unfold_payloads
  all_goals refine Eq.trans ?_ (cols_emb x0 x1 x2 2176 128 _ _ (by omega) (by omega) _ j0 j1).symm
  all_goals pointwise
  all_goals exact prod_eq x0 x1 x2 j0 _ _ (by first | rfl | (dsimp only; omega))

theorem out8 (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1024x7040 .bf16) (harg3 : arg3.IsWhole) (arg4 : Memref sig .tc .vmem S512x1024 .bf16) (harg4 : arg4.IsWhole) (arg5 : Memref sig .tc .vmem S512x512 .bf16) (harg5 : arg5.IsWhole) (arg6 : Memref sig .tc .vmem S512x128 .bf16) (harg6 : arg6.IsWhole) (arg7 : Memref sig .tc .vmem S512x512 .bf16) (harg7 : arg7.IsWhole) (arg8 : Memref sig .tc .vmem S512x128 .bf16) (harg8 : arg8.IsWhole) (arg9 : Memref sig .tc .vmem S512x512 .bf16) (harg9 : arg9.IsWhole) (arg10 : Memref sig .tc .vmem S512x512 .bf16) (harg10 : arg10.IsWhole) (arg11 : Memref sig .tc .vmem S512x512 .bf16) (harg11 : arg11.IsWhole) (arg12 : Memref sig .tc .vmem S512x3072 .bf16) (harg12 : arg12.IsWhole) (arg13 : Memref sig .tc .vmem S512x128 .f32) (harg13 : arg13.IsWhole) :
    out0_A_8 c i arg1 harg1 arg2 harg2 arg3 harg3 arg4 harg4 arg5 harg5 arg6 harg6 arg7 harg7 arg8 harg8 arg9 harg9 arg10 harg10 arg11 harg11 arg12 harg12 arg13 harg13 x0 x1 x2 = cols x0 x1 x2 2304 512 (by omega) := by
  unfold out0_A_8
  rw [View.read_writes_junk_eq_canon]
  unfold kernelRun0_A
  dsimp only
  sl_unfold_words
  simp only [View.readAt_eq_ld, harg1.read_unread, harg2.read_unread, harg3.read_unread]
  rw [View.ld_unit_zero (S := S512x1024) hz, View.ld_unit_zero (S := S1x1024) hz]
  funext y
  refine View.canon_apply_of_pieces (S := S512x512) (Val := Elt Ideal) (e := .bf16) (cols x0 x1 x2 2304 512 (by omega)) _ (fun p hp j => ?_) y (View.cover_of_tiledBy _ ![512, 512] (by sl_kernel_rfl) y)
  simp only [List.mem_cons, List.mem_nil_iff, or_false] at hp
  rcases hp with rfl
  all_goals idx_vars j
  all_goals unfold_payloads
  all_goals refine Eq.trans ?_ (cols_emb x0 x1 x2 2304 512 _ _ (by omega) (by omega) _ j0 j1).symm
  all_goals pointwise
  all_goals exact prod_eq x0 x1 x2 j0 _ _ (by first | rfl | (dsimp only; omega))

theorem out9 (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1024x7040 .bf16) (harg3 : arg3.IsWhole) (arg4 : Memref sig .tc .vmem S512x1024 .bf16) (harg4 : arg4.IsWhole) (arg5 : Memref sig .tc .vmem S512x512 .bf16) (harg5 : arg5.IsWhole) (arg6 : Memref sig .tc .vmem S512x128 .bf16) (harg6 : arg6.IsWhole) (arg7 : Memref sig .tc .vmem S512x512 .bf16) (harg7 : arg7.IsWhole) (arg8 : Memref sig .tc .vmem S512x128 .bf16) (harg8 : arg8.IsWhole) (arg9 : Memref sig .tc .vmem S512x512 .bf16) (harg9 : arg9.IsWhole) (arg10 : Memref sig .tc .vmem S512x512 .bf16) (harg10 : arg10.IsWhole) (arg11 : Memref sig .tc .vmem S512x512 .bf16) (harg11 : arg11.IsWhole) (arg12 : Memref sig .tc .vmem S512x3072 .bf16) (harg12 : arg12.IsWhole) (arg13 : Memref sig .tc .vmem S512x128 .f32) (harg13 : arg13.IsWhole) :
    out0_A_9 c i arg1 harg1 arg2 harg2 arg3 harg3 arg4 harg4 arg5 harg5 arg6 harg6 arg7 harg7 arg8 harg8 arg9 harg9 arg10 harg10 arg11 harg11 arg12 harg12 arg13 harg13 x0 x1 x2 = cols x0 x1 x2 2816 512 (by omega) := by
  unfold out0_A_9
  rw [View.read_writes_junk_eq_canon]
  unfold kernelRun0_A
  dsimp only
  sl_unfold_words
  simp only [View.readAt_eq_ld, harg1.read_unread, harg2.read_unread, harg3.read_unread]
  rw [View.ld_unit_zero (S := S512x1024) hz, View.ld_unit_zero (S := S1x1024) hz]
  funext y
  refine View.canon_apply_of_pieces (S := S512x512) (Val := Elt Ideal) (e := .bf16) (cols x0 x1 x2 2816 512 (by omega)) _ (fun p hp j => ?_) y (View.cover_of_tiledBy _ ![512, 256] (by sl_kernel_rfl) y)
  simp only [List.mem_cons, List.mem_nil_iff, or_false] at hp
  rcases hp with rfl | rfl
  all_goals idx_vars j
  all_goals unfold_payloads
  all_goals refine Eq.trans ?_ (cols_emb x0 x1 x2 2816 512 _ _ (by omega) (by omega) _ j0 j1).symm
  all_goals pointwise
  all_goals exact prod_eq x0 x1 x2 j0 _ _ (by first | rfl | (dsimp only; omega))

theorem out10 (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1024x7040 .bf16) (harg3 : arg3.IsWhole) (arg4 : Memref sig .tc .vmem S512x1024 .bf16) (harg4 : arg4.IsWhole) (arg5 : Memref sig .tc .vmem S512x512 .bf16) (harg5 : arg5.IsWhole) (arg6 : Memref sig .tc .vmem S512x128 .bf16) (harg6 : arg6.IsWhole) (arg7 : Memref sig .tc .vmem S512x512 .bf16) (harg7 : arg7.IsWhole) (arg8 : Memref sig .tc .vmem S512x128 .bf16) (harg8 : arg8.IsWhole) (arg9 : Memref sig .tc .vmem S512x512 .bf16) (harg9 : arg9.IsWhole) (arg10 : Memref sig .tc .vmem S512x512 .bf16) (harg10 : arg10.IsWhole) (arg11 : Memref sig .tc .vmem S512x512 .bf16) (harg11 : arg11.IsWhole) (arg12 : Memref sig .tc .vmem S512x3072 .bf16) (harg12 : arg12.IsWhole) (arg13 : Memref sig .tc .vmem S512x128 .f32) (harg13 : arg13.IsWhole) :
    out0_A_10 c i arg1 harg1 arg2 harg2 arg3 harg3 arg4 harg4 arg5 harg5 arg6 harg6 arg7 harg7 arg8 harg8 arg9 harg9 arg10 harg10 arg11 harg11 arg12 harg12 arg13 harg13 x0 x1 x2 = cols x0 x1 x2 3328 512 (by omega) := by
  unfold out0_A_10
  rw [View.read_writes_junk_eq_canon]
  unfold kernelRun0_A
  dsimp only
  sl_unfold_words
  simp only [View.readAt_eq_ld, harg1.read_unread, harg2.read_unread, harg3.read_unread]
  rw [View.ld_unit_zero (S := S512x1024) hz, View.ld_unit_zero (S := S1x1024) hz]
  funext y
  refine View.canon_apply_of_pieces (S := S512x512) (Val := Elt Ideal) (e := .bf16) (cols x0 x1 x2 3328 512 (by omega)) _ (fun p hp j => ?_) y (View.cover_of_tiledBy _ ![512, 512] (by sl_kernel_rfl) y)
  simp only [List.mem_cons, List.mem_nil_iff, or_false] at hp
  rcases hp with rfl
  all_goals idx_vars j
  all_goals unfold_payloads
  all_goals refine Eq.trans ?_ (cols_emb x0 x1 x2 3328 512 _ _ (by omega) (by omega) _ j0 j1).symm
  all_goals pointwise
  all_goals exact prod_eq x0 x1 x2 j0 _ _ (by first | rfl | (dsimp only; omega))

theorem out11 (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1024x7040 .bf16) (harg3 : arg3.IsWhole) (arg4 : Memref sig .tc .vmem S512x1024 .bf16) (harg4 : arg4.IsWhole) (arg5 : Memref sig .tc .vmem S512x512 .bf16) (harg5 : arg5.IsWhole) (arg6 : Memref sig .tc .vmem S512x128 .bf16) (harg6 : arg6.IsWhole) (arg7 : Memref sig .tc .vmem S512x512 .bf16) (harg7 : arg7.IsWhole) (arg8 : Memref sig .tc .vmem S512x128 .bf16) (harg8 : arg8.IsWhole) (arg9 : Memref sig .tc .vmem S512x512 .bf16) (harg9 : arg9.IsWhole) (arg10 : Memref sig .tc .vmem S512x512 .bf16) (harg10 : arg10.IsWhole) (arg11 : Memref sig .tc .vmem S512x512 .bf16) (harg11 : arg11.IsWhole) (arg12 : Memref sig .tc .vmem S512x3072 .bf16) (harg12 : arg12.IsWhole) (arg13 : Memref sig .tc .vmem S512x128 .f32) (harg13 : arg13.IsWhole) :
    out0_A_11 c i arg1 harg1 arg2 harg2 arg3 harg3 arg4 harg4 arg5 harg5 arg6 harg6 arg7 harg7 arg8 harg8 arg9 harg9 arg10 harg10 arg11 harg11 arg12 harg12 arg13 harg13 x0 x1 x2 = cols x0 x1 x2 3840 3072 (by omega) := by
  unfold out0_A_11
  rw [View.read_writes_junk_eq_canon]
  unfold kernelRun0_A
  dsimp only
  sl_unfold_words
  simp only [View.readAt_eq_ld, harg1.read_unread, harg2.read_unread, harg3.read_unread]
  rw [View.ld_unit_zero (S := S512x1024) hz, View.ld_unit_zero (S := S1x1024) hz]
  funext y
  refine View.canon_apply_of_pieces (S := S512x3072) (Val := Elt Ideal) (e := .bf16) (cols x0 x1 x2 3840 3072 (by omega)) _ (fun p hp j => ?_) y (View.cover_of_tiledBy _ ![512, 256] (by sl_kernel_rfl) y)
  simp only [List.mem_cons, List.mem_nil_iff, or_false] at hp
  rcases hp with rfl | rfl | rfl | rfl
  all_goals idx_vars j
  all_goals unfold_payloads
  all_goals refine Eq.trans ?_ (cols_emb x0 x1 x2 3840 3072 _ _ (by omega) (by omega) _ j0 j1).symm
  all_goals pointwise
  all_goals exact prod_eq x0 x1 x2 j0 _ _ (by first | rfl | (dsimp only; omega))

theorem out12 (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1024x7040 .bf16) (harg3 : arg3.IsWhole) (arg4 : Memref sig .tc .vmem S512x1024 .bf16) (harg4 : arg4.IsWhole) (arg5 : Memref sig .tc .vmem S512x512 .bf16) (harg5 : arg5.IsWhole) (arg6 : Memref sig .tc .vmem S512x128 .bf16) (harg6 : arg6.IsWhole) (arg7 : Memref sig .tc .vmem S512x512 .bf16) (harg7 : arg7.IsWhole) (arg8 : Memref sig .tc .vmem S512x128 .bf16) (harg8 : arg8.IsWhole) (arg9 : Memref sig .tc .vmem S512x512 .bf16) (harg9 : arg9.IsWhole) (arg10 : Memref sig .tc .vmem S512x512 .bf16) (harg10 : arg10.IsWhole) (arg11 : Memref sig .tc .vmem S512x512 .bf16) (harg11 : arg11.IsWhole) (arg12 : Memref sig .tc .vmem S512x3072 .bf16) (harg12 : arg12.IsWhole) (arg13 : Memref sig .tc .vmem S512x128 .f32) (harg13 : arg13.IsWhole) :
    out0_A_12 c i arg1 harg1 arg2 harg2 arg3 harg3 arg4 harg4 arg5 harg5 arg6 harg6 arg7 harg7 arg8 harg8 arg9 harg9 arg10 harg10 arg11 harg11 arg12 harg12 arg13 harg13 x0 x1 x2 = cols x0 x1 x2 6912 128 (by omega) := by
  unfold out0_A_12
  rw [View.read_writes_junk_eq_canon]
  unfold kernelRun0_A
  dsimp only
  sl_unfold_words
  simp only [View.readAt_eq_ld, harg1.read_unread, harg2.read_unread, harg3.read_unread]
  rw [View.ld_unit_zero (S := S512x1024) hz, View.ld_unit_zero (S := S1x1024) hz]
  funext y
  refine View.canon_apply_of_pieces (S := S512x128) (Val := Elt Ideal) (e := .f32) (cols x0 x1 x2 6912 128 (by omega)) _ (fun p hp j => ?_) y (View.cover_of_tiledBy _ ![512, 128] (by sl_kernel_rfl) y)
  simp only [List.mem_cons, List.mem_nil_iff, or_false] at hp
  rcases hp with rfl
  all_goals idx_vars j
  all_goals unfold_payloads
  all_goals refine Eq.trans ?_ (cols_emb x0 x1 x2 6912 128 _ _ (by omega) (by omega) _ j0 j1).symm
  all_goals pointwise
  all_goals exact prod_eq x0 x1 x2 j0 _ _ (by first | rfl | (dsimp only; omega))

end Cert.Proof.ProjBlock

end
-- ==== Proof.ProjValue.lean ====
/- The input projection's results: each is the columns that it takes of the product of the normed rows with the prepared weights. -/
module

public import proofs.«01_k».proof.Proof.ProjBlock

@[expose] public section

set_option maxRecDepth 16384

noncomputable section

namespace Cert.Proof.ProjValue

open Cert.ProjIdeal Cert.ProjIdeal.Gen Cert.ProjIdeal.Value Idealize.ShloMosaic Idealize.ShloMosaic.TcCoe Idealize.SL.Sem
open Cert.Proof.Rows Cert.Proof.ProjBlock

open Idealize.ShloMosaic.Pipeline (Dat)

variable (m : (ℓ : Loc nD τ sig) → Buf (Elt Ideal) ℓ)

/-- An element of the product over the arrays as the region finds them. -/
def full (c : Dev nD) (r : Fin 65536) (n : Fin 7040) : EReal :=
  dot (norm (row (R := 65536) (C := 1024) (V m c main_v0) r) (row (R := 1) (C := 1024) (V m c main_v24) 0)) (row (R := 1024) (C := 7040) (V m c main_v23)) n

/-- The `W` columns of it that start at column `o`. -/
def part (c : Dev nD) (o W : Nat) (h : o + W ≤ 7040) : (⟨2, ![65536, W]⟩ : Shape).Idx → EReal :=
  fun y => full m c (y 0) ⟨o + (y 1).val, by have : (y 1).val < W := (y 1).isLt; omega⟩

theorem part_apply (c : Dev nD) (o W : Nat) (h : o + W ≤ 7040) (r : Fin 65536) (n : Fin W) :
    part m c o W h (ix2 r n) = full m c r ⟨o + n.val, by omega⟩ := rfl

theorem row_lt (t : Fin cfg0.N) (r : Fin 512) : t.val * 512 + r.val < 65536 := by
  have h := t.isLt
  have hN : cfg0.N = 128 := N_0
  omega

theorem idx_in : ∀ t : Fin cfg0.N, (win0_0.index t (0 : Fin 2) = t.val ∧ win0_0.index t (1 : Fin 2) = 0)
    ∧ (win0_1.index t (0 : Fin 2) = 0 ∧ win0_1.index t (1 : Fin 2) = 0) ∧ (win0_2.index t (0 : Fin 2) = 0 ∧ win0_2.index t (1 : Fin 2) = 0) :=
  (by decide +kernel : ∀ t : Fin grid0.N, _)

theorem row0 (c : Dev nD) (t : Fin cfg0.N) (r : Fin 512) :
    row (R := 512) (C := 1024) (iblk m c 0 t) r = row (R := 65536) (C := 1024) (V m c main_v0) ⟨t.val * 512 + r.val, row_lt t r⟩ := by
  obtain ⟨⟨e0, e1⟩, -⟩ := idx_in t
  funext k
  refine congrArg (V m c main_v0) (funext fun a => Fin.ext ?_)
  match a with
  | ⟨0, _⟩ => show win0_0.index t (0 : Fin 2) * 512 + 1 * r.val = t.val * 512 + r.val; rw [e0]; omega
  | ⟨1, _⟩ => show win0_0.index t (1 : Fin 2) * 1024 + 1 * k.val = k.val; rw [e1]; omega

theorem iblk1 (c : Dev nD) (t : Fin cfg0.N) : iblk m c 1 t = V m c main_v24 := by
  obtain ⟨-, ⟨e0, e1⟩, -⟩ := idx_in t
  funext j
  refine congrArg (V m c main_v24) (funext fun a => Fin.ext ?_)
  match a with
  | ⟨0, _⟩ => show win0_1.index t (0 : Fin 2) * 1 + 1 * (j 0).val = (j 0).val; rw [e0]; omega
  | ⟨1, _⟩ => show win0_1.index t (1 : Fin 2) * 1024 + 1 * (j 1).val = (j 1).val; rw [e1]; omega

theorem iblk2 (c : Dev nD) (t : Fin cfg0.N) : iblk m c 2 t = V m c main_v23 := by
  obtain ⟨-, -, e0, e1⟩ := idx_in t
  funext j
  refine congrArg (V m c main_v23) (funext fun a => Fin.ext ?_)
  match a with
  | ⟨0, _⟩ => show win0_2.index t (0 : Fin 2) * 1024 + 1 * (j 0).val = (j 0).val; rw [e0]; omega
  | ⟨1, _⟩ => show win0_2.index t (1 : Fin 2) * 7040 + 1 * (j 1).val = (j 1).val; rw [e1]; omega

/-- A block's columns are the array's, at the block's rows. -/
theorem cols_eq (c : Dev nD) (t : Fin cfg0.N) (o W : Nat) (h : o + W ≤ 7040) (r : Fin 512) (n : Fin W) :
    cols (iblk m c 0 t) (V m c main_v24) (V m c main_v23) o W h (ix2 r n) = part m c o W h (ix2 ⟨t.val * 512 + r.val, row_lt t r⟩ n) := by
  rw [cols_apply, part_apply]
  unfold prod full
  rw [row0]

/-- The array index of a block's index, from the window's place. -/
theorem place (t : Fin cfg0.N) (W : Nat) (y : (⟨2, ![65536, W]⟩ : Shape).Idx) (r : Fin 512) (n : Fin W)
    (h0 : (y 0).val = t.val * 512 + 1 * r.val) (h1 : (y 1).val = 0 * W + 1 * n.val) : y = ix2 ⟨t.val * 512 + r.val, row_lt t r⟩ n := by
  refine funext fun a => Fin.ext ?_
  match a with
  | ⟨0, _⟩ => show (y 0).val = t.val * 512 + r.val; omega
  | ⟨1, _⟩ => show (y 1).val = n.val; omega

/-- Every row lies in some grid point's rows. -/
theorem point (n : Nat) (h : n < 65536) : ∃ t : Fin cfg0.N, t.val * 512 ≤ n ∧ n < t.val * 512 + 512 := by
  have hN : cfg0.N = 128 := N_0
  exact ⟨⟨n / 512, by omega⟩, by show n / 512 * 512 ≤ n; omega, by show n < n / 512 * 512 + 512; omega⟩

/-! Result 0: columns 0 to 1024. -/

theorem idx3 : ∀ t : Fin cfg0.N, win0_3.index t (0 : Fin 2) = t.val ∧ win0_3.index t (1 : Fin 2) = 0 :=
  (by decide +kernel : ∀ t : Fin grid0.N, _)

theorem flushed_eq3 (c : Dev nD) (t : Fin cfg0.N) :
    (dats m 0 c).flushed 3 t = ((cfg0.win 3).blk t).view.read (Elt Ideal) (part m c 0 1024 (by omega)) := by
  rw [flushed3_A, out3, iblk1, iblk2]
  funext j
  idx_vars j
  refine (cols_eq m c t 0 1024 (by omega) j0 j1).trans (congrArg (part m c 0 1024 (by omega)) ?_).symm
  refine place t 1024 _ j0 j1 ?_ ?_
  · show win0_3.index t (0 : Fin 2) * 512 + 1 * j0.val = _; rw [(idx3 t).1]
  · show win0_3.index t (1 : Fin 2) * 1024 + 1 * j1.val = _; rw [(idx3 t).2]

theorem mem_blk3 (t : Fin cfg0.N) (i : S65536x1024.Idx) (h : t.val * 512 ≤ (i 0).val ∧ (i 0).val < t.val * 512 + 512) :
    i ∈ ((cfg0.win 3).blk t).view.set := by
  show i ∈ ((View.whole main_v25_0).slice (win0_3.rect t)).set
  rw [View.set_slice_whole, Rect.mem_set_unit]
  have h1 : (i 1).val < 1024 := (i 1).isLt
  intro a
  match a with
  | ⟨0, _⟩ =>
    show win0_3.index t (0 : Fin 2) * 512 ≤ (i 0).val ∧ (i 0).val < win0_3.index t (0 : Fin 2) * 512 + 512
    rw [(idx3 t).1]; exact h
  | ⟨1, _⟩ =>
    show win0_3.index t (1 : Fin 2) * 1024 ≤ (i 1).val ∧ (i 1).val < win0_3.index t (1 : Fin 2) * 1024 + 1024
    rw [(idx3 t).2, Nat.zero_mul, Nat.zero_add]; exact ⟨Nat.zero_le _, h1⟩

theorem final3 (c : Dev nD) : (dats m 0 c).arrAt 3 cfg0.N = part m c 0 1024 (by omega) :=
  (dats m 0 c).arrAt_eq_of_cover 3 (part m c 0 1024 (by omega)) (fun t _ => flushed_eq3 m c t) fun i => by
    obtain ⟨t, ht⟩ := point (i 0).val (i 0).isLt
    exact ⟨t, flush0_3 t, mem_blk3 t i ht⟩

/-! Result 1: columns 1024 to 1536. -/

theorem idx4 : ∀ t : Fin cfg0.N, win0_4.index t (0 : Fin 2) = t.val ∧ win0_4.index t (1 : Fin 2) = 0 :=
  (by decide +kernel : ∀ t : Fin grid0.N, _)

theorem flushed_eq4 (c : Dev nD) (t : Fin cfg0.N) :
    (dats m 0 c).flushed 4 t = ((cfg0.win 4).blk t).view.read (Elt Ideal) (part m c 1024 512 (by omega)) := by
  rw [flushed4_A, out4, iblk1, iblk2]
  funext j
  idx_vars j
  refine (cols_eq m c t 1024 512 (by omega) j0 j1).trans (congrArg (part m c 1024 512 (by omega)) ?_).symm
  refine place t 512 _ j0 j1 ?_ ?_
  · show win0_4.index t (0 : Fin 2) * 512 + 1 * j0.val = _; rw [(idx4 t).1]
  · show win0_4.index t (1 : Fin 2) * 512 + 1 * j1.val = _; rw [(idx4 t).2]

theorem mem_blk4 (t : Fin cfg0.N) (i : S65536x512.Idx) (h : t.val * 512 ≤ (i 0).val ∧ (i 0).val < t.val * 512 + 512) :
    i ∈ ((cfg0.win 4).blk t).view.set := by
  show i ∈ ((View.whole main_v25_1).slice (win0_4.rect t)).set
  rw [View.set_slice_whole, Rect.mem_set_unit]
  have h1 : (i 1).val < 512 := (i 1).isLt
  intro a
  match a with
  | ⟨0, _⟩ =>
    show win0_4.index t (0 : Fin 2) * 512 ≤ (i 0).val ∧ (i 0).val < win0_4.index t (0 : Fin 2) * 512 + 512
    rw [(idx4 t).1]; exact h
  | ⟨1, _⟩ =>
    show win0_4.index t (1 : Fin 2) * 512 ≤ (i 1).val ∧ (i 1).val < win0_4.index t (1 : Fin 2) * 512 + 512
    rw [(idx4 t).2, Nat.zero_mul, Nat.zero_add]; exact ⟨Nat.zero_le _, h1⟩

theorem final4 (c : Dev nD) : (dats m 0 c).arrAt 4 cfg0.N = part m c 1024 512 (by omega) :=
  (dats m 0 c).arrAt_eq_of_cover 4 (part m c 1024 512 (by omega)) (fun t _ => flushed_eq4 m c t) fun i => by
    obtain ⟨t, ht⟩ := point (i 0).val (i 0).isLt
    exact ⟨t, flush0_4 t, mem_blk4 t i ht⟩

/-! Result 2: columns 1536 to 1664. -/

theorem idx5 : ∀ t : Fin cfg0.N, win0_5.index t (0 : Fin 2) = t.val ∧ win0_5.index t (1 : Fin 2) = 0 :=
  (by decide +kernel : ∀ t : Fin grid0.N, _)

theorem flushed_eq5 (c : Dev nD) (t : Fin cfg0.N) :
    (dats m 0 c).flushed 5 t = ((cfg0.win 5).blk t).view.read (Elt Ideal) (part m c 1536 128 (by omega)) := by
  rw [flushed5_A, out5, iblk1, iblk2]
  funext j
  idx_vars j
  refine (cols_eq m c t 1536 128 (by omega) j0 j1).trans (congrArg (part m c 1536 128 (by omega)) ?_).symm
  refine place t 128 _ j0 j1 ?_ ?_
  · show win0_5.index t (0 : Fin 2) * 512 + 1 * j0.val = _; rw [(idx5 t).1]
  · show win0_5.index t (1 : Fin 2) * 128 + 1 * j1.val = _; rw [(idx5 t).2]

theorem mem_blk5 (t : Fin cfg0.N) (i : S65536x128.Idx) (h : t.val * 512 ≤ (i 0).val ∧ (i 0).val < t.val * 512 + 512) :
    i ∈ ((cfg0.win 5).blk t).view.set := by
  show i ∈ ((View.whole main_v25_2).slice (win0_5.rect t)).set
  rw [View.set_slice_whole, Rect.mem_set_unit]
  have h1 : (i 1).val < 128 := (i 1).isLt
  intro a
  match a with
  | ⟨0, _⟩ =>
    show win0_5.index t (0 : Fin 2) * 512 ≤ (i 0).val ∧ (i 0).val < win0_5.index t (0 : Fin 2) * 512 + 512
    rw [(idx5 t).1]; exact h
  | ⟨1, _⟩ =>
    show win0_5.index t (1 : Fin 2) * 128 ≤ (i 1).val ∧ (i 1).val < win0_5.index t (1 : Fin 2) * 128 + 128
    rw [(idx5 t).2, Nat.zero_mul, Nat.zero_add]; exact ⟨Nat.zero_le _, h1⟩

theorem final5 (c : Dev nD) : (dats m 0 c).arrAt 5 cfg0.N = part m c 1536 128 (by omega) :=
  (dats m 0 c).arrAt_eq_of_cover 5 (part m c 1536 128 (by omega)) (fun t _ => flushed_eq5 m c t) fun i => by
    obtain ⟨t, ht⟩ := point (i 0).val (i 0).isLt
    exact ⟨t, flush0_5 t, mem_blk5 t i ht⟩

/-! Result 3: columns 1664 to 2176. -/

theorem idx6 : ∀ t : Fin cfg0.N, win0_6.index t (0 : Fin 2) = t.val ∧ win0_6.index t (1 : Fin 2) = 0 :=
  (by decide +kernel : ∀ t : Fin grid0.N, _)

theorem flushed_eq6 (c : Dev nD) (t : Fin cfg0.N) :
    (dats m 0 c).flushed 6 t = ((cfg0.win 6).blk t).view.read (Elt Ideal) (part m c 1664 512 (by omega)) := by
  rw [flushed6_A, out6, iblk1, iblk2]
  funext j
  idx_vars j
  refine (cols_eq m c t 1664 512 (by omega) j0 j1).trans (congrArg (part m c 1664 512 (by omega)) ?_).symm
  refine place t 512 _ j0 j1 ?_ ?_
  · show win0_6.index t (0 : Fin 2) * 512 + 1 * j0.val = _; rw [(idx6 t).1]
  · show win0_6.index t (1 : Fin 2) * 512 + 1 * j1.val = _; rw [(idx6 t).2]

theorem mem_blk6 (t : Fin cfg0.N) (i : S65536x512.Idx) (h : t.val * 512 ≤ (i 0).val ∧ (i 0).val < t.val * 512 + 512) :
    i ∈ ((cfg0.win 6).blk t).view.set := by
  show i ∈ ((View.whole main_v25_3).slice (win0_6.rect t)).set
  rw [View.set_slice_whole, Rect.mem_set_unit]
  have h1 : (i 1).val < 512 := (i 1).isLt
  intro a
  match a with
  | ⟨0, _⟩ =>
    show win0_6.index t (0 : Fin 2) * 512 ≤ (i 0).val ∧ (i 0).val < win0_6.index t (0 : Fin 2) * 512 + 512
    rw [(idx6 t).1]; exact h
  | ⟨1, _⟩ =>
    show win0_6.index t (1 : Fin 2) * 512 ≤ (i 1).val ∧ (i 1).val < win0_6.index t (1 : Fin 2) * 512 + 512
    rw [(idx6 t).2, Nat.zero_mul, Nat.zero_add]; exact ⟨Nat.zero_le _, h1⟩

theorem final6 (c : Dev nD) : (dats m 0 c).arrAt 6 cfg0.N = part m c 1664 512 (by omega) :=
  (dats m 0 c).arrAt_eq_of_cover 6 (part m c 1664 512 (by omega)) (fun t _ => flushed_eq6 m c t) fun i => by
    obtain ⟨t, ht⟩ := point (i 0).val (i 0).isLt
    exact ⟨t, flush0_6 t, mem_blk6 t i ht⟩

/-! Result 4: columns 2176 to 2304. -/

theorem idx7 : ∀ t : Fin cfg0.N, win0_7.index t (0 : Fin 2) = t.val ∧ win0_7.index t (1 : Fin 2) = 0 :=
  (by decide +kernel : ∀ t : Fin grid0.N, _)

theorem flushed_eq7 (c : Dev nD) (t : Fin cfg0.N) :
    (dats m 0 c).flushed 7 t = ((cfg0.win 7).blk t).view.read (Elt Ideal) (part m c 2176 128 (by omega)) := by
  rw [flushed7_A, out7, iblk1, iblk2]
  funext j
  idx_vars j
  refine (cols_eq m c t 2176 128 (by omega) j0 j1).trans (congrArg (part m c 2176 128 (by omega)) ?_).symm
  refine place t 128 _ j0 j1 ?_ ?_
  · show win0_7.index t (0 : Fin 2) * 512 + 1 * j0.val = _; rw [(idx7 t).1]
  · show win0_7.index t (1 : Fin 2) * 128 + 1 * j1.val = _; rw [(idx7 t).2]

theorem mem_blk7 (t : Fin cfg0.N) (i : S65536x128.Idx) (h : t.val * 512 ≤ (i 0).val ∧ (i 0).val < t.val * 512 + 512) :
    i ∈ ((cfg0.win 7).blk t).view.set := by
  show i ∈ ((View.whole main_v25_4).slice (win0_7.rect t)).set
  rw [View.set_slice_whole, Rect.mem_set_unit]
  have h1 : (i 1).val < 128 := (i 1).isLt
  intro a
  match a with
  | ⟨0, _⟩ =>
    show win0_7.index t (0 : Fin 2) * 512 ≤ (i 0).val ∧ (i 0).val < win0_7.index t (0 : Fin 2) * 512 + 512
    rw [(idx7 t).1]; exact h
  | ⟨1, _⟩ =>
    show win0_7.index t (1 : Fin 2) * 128 ≤ (i 1).val ∧ (i 1).val < win0_7.index t (1 : Fin 2) * 128 + 128
    rw [(idx7 t).2, Nat.zero_mul, Nat.zero_add]; exact ⟨Nat.zero_le _, h1⟩

theorem final7 (c : Dev nD) : (dats m 0 c).arrAt 7 cfg0.N = part m c 2176 128 (by omega) :=
  (dats m 0 c).arrAt_eq_of_cover 7 (part m c 2176 128 (by omega)) (fun t _ => flushed_eq7 m c t) fun i => by
    obtain ⟨t, ht⟩ := point (i 0).val (i 0).isLt
    exact ⟨t, flush0_7 t, mem_blk7 t i ht⟩

/-! Result 5: columns 2304 to 2816. -/

theorem idx8 : ∀ t : Fin cfg0.N, win0_8.index t (0 : Fin 2) = t.val ∧ win0_8.index t (1 : Fin 2) = 0 :=
  (by decide +kernel : ∀ t : Fin grid0.N, _)

theorem flushed_eq8 (c : Dev nD) (t : Fin cfg0.N) :
    (dats m 0 c).flushed 8 t = ((cfg0.win 8).blk t).view.read (Elt Ideal) (part m c 2304 512 (by omega)) := by
  rw [flushed8_A, out8, iblk1, iblk2]
  funext j
  idx_vars j
  refine (cols_eq m c t 2304 512 (by omega) j0 j1).trans (congrArg (part m c 2304 512 (by omega)) ?_).symm
  refine place t 512 _ j0 j1 ?_ ?_
  · show win0_8.index t (0 : Fin 2) * 512 + 1 * j0.val = _; rw [(idx8 t).1]
  · show win0_8.index t (1 : Fin 2) * 512 + 1 * j1.val = _; rw [(idx8 t).2]

theorem mem_blk8 (t : Fin cfg0.N) (i : S65536x512.Idx) (h : t.val * 512 ≤ (i 0).val ∧ (i 0).val < t.val * 512 + 512) :
    i ∈ ((cfg0.win 8).blk t).view.set := by
  show i ∈ ((View.whole main_v25_5).slice (win0_8.rect t)).set
  rw [View.set_slice_whole, Rect.mem_set_unit]
  have h1 : (i 1).val < 512 := (i 1).isLt
  intro a
  match a with
  | ⟨0, _⟩ =>
    show win0_8.index t (0 : Fin 2) * 512 ≤ (i 0).val ∧ (i 0).val < win0_8.index t (0 : Fin 2) * 512 + 512
    rw [(idx8 t).1]; exact h
  | ⟨1, _⟩ =>
    show win0_8.index t (1 : Fin 2) * 512 ≤ (i 1).val ∧ (i 1).val < win0_8.index t (1 : Fin 2) * 512 + 512
    rw [(idx8 t).2, Nat.zero_mul, Nat.zero_add]; exact ⟨Nat.zero_le _, h1⟩

theorem final8 (c : Dev nD) : (dats m 0 c).arrAt 8 cfg0.N = part m c 2304 512 (by omega) :=
  (dats m 0 c).arrAt_eq_of_cover 8 (part m c 2304 512 (by omega)) (fun t _ => flushed_eq8 m c t) fun i => by
    obtain ⟨t, ht⟩ := point (i 0).val (i 0).isLt
    exact ⟨t, flush0_8 t, mem_blk8 t i ht⟩

/-! Result 6: columns 2816 to 3328. -/

theorem idx9 : ∀ t : Fin cfg0.N, win0_9.index t (0 : Fin 2) = t.val ∧ win0_9.index t (1 : Fin 2) = 0 :=
  (by decide +kernel : ∀ t : Fin grid0.N, _)

theorem flushed_eq9 (c : Dev nD) (t : Fin cfg0.N) :
    (dats m 0 c).flushed 9 t = ((cfg0.win 9).blk t).view.read (Elt Ideal) (part m c 2816 512 (by omega)) := by
  rw [flushed9_A, out9, iblk1, iblk2]
  funext j
  idx_vars j
  refine (cols_eq m c t 2816 512 (by omega) j0 j1).trans (congrArg (part m c 2816 512 (by omega)) ?_).symm
  refine place t 512 _ j0 j1 ?_ ?_
  · show win0_9.index t (0 : Fin 2) * 512 + 1 * j0.val = _; rw [(idx9 t).1]
  · show win0_9.index t (1 : Fin 2) * 512 + 1 * j1.val = _; rw [(idx9 t).2]

theorem mem_blk9 (t : Fin cfg0.N) (i : S65536x512.Idx) (h : t.val * 512 ≤ (i 0).val ∧ (i 0).val < t.val * 512 + 512) :
    i ∈ ((cfg0.win 9).blk t).view.set := by
  show i ∈ ((View.whole main_v25_6).slice (win0_9.rect t)).set
  rw [View.set_slice_whole, Rect.mem_set_unit]
  have h1 : (i 1).val < 512 := (i 1).isLt
  intro a
  match a with
  | ⟨0, _⟩ =>
    show win0_9.index t (0 : Fin 2) * 512 ≤ (i 0).val ∧ (i 0).val < win0_9.index t (0 : Fin 2) * 512 + 512
    rw [(idx9 t).1]; exact h
  | ⟨1, _⟩ =>
    show win0_9.index t (1 : Fin 2) * 512 ≤ (i 1).val ∧ (i 1).val < win0_9.index t (1 : Fin 2) * 512 + 512
    rw [(idx9 t).2, Nat.zero_mul, Nat.zero_add]; exact ⟨Nat.zero_le _, h1⟩

theorem final9 (c : Dev nD) : (dats m 0 c).arrAt 9 cfg0.N = part m c 2816 512 (by omega) :=
  (dats m 0 c).arrAt_eq_of_cover 9 (part m c 2816 512 (by omega)) (fun t _ => flushed_eq9 m c t) fun i => by
    obtain ⟨t, ht⟩ := point (i 0).val (i 0).isLt
    exact ⟨t, flush0_9 t, mem_blk9 t i ht⟩

/-! Result 7: columns 3328 to 3840. -/

theorem idx10 : ∀ t : Fin cfg0.N, win0_10.index t (0 : Fin 2) = t.val ∧ win0_10.index t (1 : Fin 2) = 0 :=
  (by decide +kernel : ∀ t : Fin grid0.N, _)

theorem flushed_eq10 (c : Dev nD) (t : Fin cfg0.N) :
    (dats m 0 c).flushed 10 t = ((cfg0.win 10).blk t).view.read (Elt Ideal) (part m c 3328 512 (by omega)) := by
  rw [flushed10_A, out10, iblk1, iblk2]
  funext j
  idx_vars j
  refine (cols_eq m c t 3328 512 (by omega) j0 j1).trans (congrArg (part m c 3328 512 (by omega)) ?_).symm
  refine place t 512 _ j0 j1 ?_ ?_
  · show win0_10.index t (0 : Fin 2) * 512 + 1 * j0.val = _; rw [(idx10 t).1]
  · show win0_10.index t (1 : Fin 2) * 512 + 1 * j1.val = _; rw [(idx10 t).2]

theorem mem_blk10 (t : Fin cfg0.N) (i : S65536x512.Idx) (h : t.val * 512 ≤ (i 0).val ∧ (i 0).val < t.val * 512 + 512) :
    i ∈ ((cfg0.win 10).blk t).view.set := by
  show i ∈ ((View.whole main_v25_7).slice (win0_10.rect t)).set
  rw [View.set_slice_whole, Rect.mem_set_unit]
  have h1 : (i 1).val < 512 := (i 1).isLt
  intro a
  match a with
  | ⟨0, _⟩ =>
    show win0_10.index t (0 : Fin 2) * 512 ≤ (i 0).val ∧ (i 0).val < win0_10.index t (0 : Fin 2) * 512 + 512
    rw [(idx10 t).1]; exact h
  | ⟨1, _⟩ =>
    show win0_10.index t (1 : Fin 2) * 512 ≤ (i 1).val ∧ (i 1).val < win0_10.index t (1 : Fin 2) * 512 + 512
    rw [(idx10 t).2, Nat.zero_mul, Nat.zero_add]; exact ⟨Nat.zero_le _, h1⟩

theorem final10 (c : Dev nD) : (dats m 0 c).arrAt 10 cfg0.N = part m c 3328 512 (by omega) :=
  (dats m 0 c).arrAt_eq_of_cover 10 (part m c 3328 512 (by omega)) (fun t _ => flushed_eq10 m c t) fun i => by
    obtain ⟨t, ht⟩ := point (i 0).val (i 0).isLt
    exact ⟨t, flush0_10 t, mem_blk10 t i ht⟩

/-! Result 8: columns 3840 to 6912. -/

theorem idx11 : ∀ t : Fin cfg0.N, win0_11.index t (0 : Fin 2) = t.val ∧ win0_11.index t (1 : Fin 2) = 0 :=
  (by decide +kernel : ∀ t : Fin grid0.N, _)

theorem flushed_eq11 (c : Dev nD) (t : Fin cfg0.N) :
    (dats m 0 c).flushed 11 t = ((cfg0.win 11).blk t).view.read (Elt Ideal) (part m c 3840 3072 (by omega)) := by
  rw [flushed11_A, out11, iblk1, iblk2]
  funext j
  idx_vars j
  refine (cols_eq m c t 3840 3072 (by omega) j0 j1).trans (congrArg (part m c 3840 3072 (by omega)) ?_).symm
  refine place t 3072 _ j0 j1 ?_ ?_
  · show win0_11.index t (0 : Fin 2) * 512 + 1 * j0.val = _; rw [(idx11 t).1]
  · show win0_11.index t (1 : Fin 2) * 3072 + 1 * j1.val = _; rw [(idx11 t).2]

theorem mem_blk11 (t : Fin cfg0.N) (i : S65536x3072.Idx) (h : t.val * 512 ≤ (i 0).val ∧ (i 0).val < t.val * 512 + 512) :
    i ∈ ((cfg0.win 11).blk t).view.set := by
  show i ∈ ((View.whole main_v25_8).slice (win0_11.rect t)).set
  rw [View.set_slice_whole, Rect.mem_set_unit]
  have h1 : (i 1).val < 3072 := (i 1).isLt
  intro a
  match a with
  | ⟨0, _⟩ =>
    show win0_11.index t (0 : Fin 2) * 512 ≤ (i 0).val ∧ (i 0).val < win0_11.index t (0 : Fin 2) * 512 + 512
    rw [(idx11 t).1]; exact h
  | ⟨1, _⟩ =>
    show win0_11.index t (1 : Fin 2) * 3072 ≤ (i 1).val ∧ (i 1).val < win0_11.index t (1 : Fin 2) * 3072 + 3072
    rw [(idx11 t).2, Nat.zero_mul, Nat.zero_add]; exact ⟨Nat.zero_le _, h1⟩

theorem final11 (c : Dev nD) : (dats m 0 c).arrAt 11 cfg0.N = part m c 3840 3072 (by omega) :=
  (dats m 0 c).arrAt_eq_of_cover 11 (part m c 3840 3072 (by omega)) (fun t _ => flushed_eq11 m c t) fun i => by
    obtain ⟨t, ht⟩ := point (i 0).val (i 0).isLt
    exact ⟨t, flush0_11 t, mem_blk11 t i ht⟩

/-! Result 9: columns 6912 to 7040. -/

theorem idx12 : ∀ t : Fin cfg0.N, win0_12.index t (0 : Fin 2) = t.val ∧ win0_12.index t (1 : Fin 2) = 0 :=
  (by decide +kernel : ∀ t : Fin grid0.N, _)

theorem flushed_eq12 (c : Dev nD) (t : Fin cfg0.N) :
    (dats m 0 c).flushed 12 t = ((cfg0.win 12).blk t).view.read (Elt Ideal) (part m c 6912 128 (by omega)) := by
  rw [flushed12_A, out12, iblk1, iblk2]
  funext j
  idx_vars j
  refine (cols_eq m c t 6912 128 (by omega) j0 j1).trans (congrArg (part m c 6912 128 (by omega)) ?_).symm
  refine place t 128 _ j0 j1 ?_ ?_
  · show win0_12.index t (0 : Fin 2) * 512 + 1 * j0.val = _; rw [(idx12 t).1]
  · show win0_12.index t (1 : Fin 2) * 128 + 1 * j1.val = _; rw [(idx12 t).2]

theorem mem_blk12 (t : Fin cfg0.N) (i : S65536x128.Idx) (h : t.val * 512 ≤ (i 0).val ∧ (i 0).val < t.val * 512 + 512) :
    i ∈ ((cfg0.win 12).blk t).view.set := by
  show i ∈ ((View.whole main_v25_9).slice (win0_12.rect t)).set
  rw [View.set_slice_whole, Rect.mem_set_unit]
  have h1 : (i 1).val < 128 := (i 1).isLt
  intro a
  match a with
  | ⟨0, _⟩ =>
    show win0_12.index t (0 : Fin 2) * 512 ≤ (i 0).val ∧ (i 0).val < win0_12.index t (0 : Fin 2) * 512 + 512
    rw [(idx12 t).1]; exact h
  | ⟨1, _⟩ =>
    show win0_12.index t (1 : Fin 2) * 128 ≤ (i 1).val ∧ (i 1).val < win0_12.index t (1 : Fin 2) * 128 + 128
    rw [(idx12 t).2, Nat.zero_mul, Nat.zero_add]; exact ⟨Nat.zero_le _, h1⟩

theorem final12 (c : Dev nD) : (dats m 0 c).arrAt 12 cfg0.N = part m c 6912 128 (by omega) :=
  (dats m 0 c).arrAt_eq_of_cover 12 (part m c 6912 128 (by omega)) (fun t _ => flushed_eq12 m c t) fun i => by
    obtain ⟨t, ht⟩ := point (i 0).val (i 0).isLt
    exact ⟨t, flush0_12 t, mem_blk12 t i ht⟩

end Cert.Proof.ProjValue

end
-- ==== Proof.ProjWeights.lean ====
/- The weights that the input projection's region reads: the columns of the given matrix in the order of the results. -/
module

public import proofs.«01_k».proof.Proof.ProjValue

@[expose] public section

set_option maxRecDepth 16384

noncomputable section

namespace Cert.Proof.ProjValue

open Cert.ProjIdeal Cert.ProjIdeal.Facts Cert.ProjIdeal.Gen Cert.ProjIdeal.Value Idealize.ShloMosaic Idealize.ShloMosaic.TcCoe Idealize.SL.Sem
open Cert.Proof.Rows

/-- The columns in the order of the results, -/
def wide (w : FVec Ideal S1024x6864 .f32) : FVec Ideal S1024x6912 .f32 :=
  concatenate S1024x6912 1 [⟨S1024x512, extractStridedSlice S1024x512 ![0, 0] w slices_S1024x6864_S1024x512_0_0⟩,
    ⟨S1024x512, extractStridedSlice S1024x512 ![0, 512] w slices_S1024x6864_S1024x512_0_512⟩,
    ⟨S1024x512, extractStridedSlice S1024x512 ![0, 1024] w slices_S1024x6864_S1024x512_0_1024⟩,
    ⟨S1024x128, extractStridedSlice S1024x128 ![0, 1536] w slices_S1024x6864_S1024x128_0_1536⟩,
    ⟨S1024x512, extractStridedSlice S1024x512 ![0, 1664] w slices_S1024x6864_S1024x512_0_1664⟩,
    ⟨S1024x64, extractStridedSlice S1024x64 ![0, 2176] w slices_S1024x6864_S1024x64_0_2176⟩,
    ⟨S1024x64, extractStridedSlice S1024x64 ![0, 2176] w slices_S1024x6864_S1024x64_0_2176⟩,
    ⟨S1024x512, mulf (extractStridedSlice S1024x512 ![0, 2248] w slices_S1024x6864_S1024x512_0_2248)
      (broadcastInDim S1024x512 ![] bcast_S_S1024x512 (constant S_ .f32 0x3E38AA3B#32))⟩,
    ⟨S1024x512, extractStridedSlice S1024x512 ![0, 2760] w slices_S1024x6864_S1024x512_0_2760⟩,
    ⟨S1024x512, extractStridedSlice S1024x512 ![0, 3272] w slices_S1024x6864_S1024x512_0_3272⟩,
    ⟨S1024x1024, extractStridedSlice S1024x1024 ![0, 3792] w slices_S1024x6864_S1024x1024_0_3792⟩,
    ⟨S1024x1024, extractStridedSlice S1024x1024 ![0, 4816] w slices_S1024x6864_S1024x1024_0_4816⟩,
    ⟨S1024x1024, extractStridedSlice S1024x1024 ![0, 5840] w slices_S1024x6864_S1024x1024_0_5840⟩]
    concatenates_S1024x512_S1024x512_S1024x512_S1024x128_S1024x512_S1024x64_S1024x64_S1024x512_S1024x512_S1024x512_S1024x1024_S1024x1024_S1024x1024_S1024x6912_d1

/-- the narrow columns, zero beyond them, -/
def narrow (w : FVec Ideal S1024x6864 .f32) : FVec Ideal S1024x128 .f32 :=
  pad S1024x128 ![0, 0] ![0, 112] ![0, 0] (concatenate S1024x16 1
    [⟨S1024x8, extractStridedSlice S1024x8 ![0, 2240] w slices_S1024x6864_S1024x8_0_2240⟩,
      ⟨S1024x8, extractStridedSlice S1024x8 ![0, 3784] w slices_S1024x6864_S1024x8_0_3784⟩] concatenates_S1024x8_S1024x8_S1024x16_d1)
    (sitofp (F := Ideal) .f32 (constantI S_ 32 0#32)) pads_S1024x16_S1024x128_000_01120 h_S_

/-- and the two side by side. -/
def weights (w : FVec Ideal S1024x6864 .f32) : FVec Ideal S1024x7040 .bf16 :=
  concatenate S1024x7040 1 [⟨S1024x6912, truncf (F := Ideal) .bf16 (wide w) bitsLt_bf16_f32⟩,
    ⟨S1024x128, truncf (F := Ideal) .bf16 (narrow w) bitsLt_bf16_f32⟩] concatenates_S1024x6912_S1024x128_S1024x7040_d1

variable (m : (ℓ : Loc nD τ sig) → Buf (Elt Ideal) ℓ)

theorem V0 (c : Dev nD) : V m c main_v0 = shapeCast S65536x1024 (m ((c : Thread nD τ).loc main_arg0)) shapeCasts_S16x4096x1024_S65536x1024 := by
  unfold V
  simp only [hostOps0, hostOps0_1, hostOps0_2, List.flatten_cons, List.flatten_nil, List.append_nil, List.cons_append, List.nil_append]
  after_results_simp
  rfl

theorem V24 (c : Dev nD) : V m c main_v24 = shapeCast S1x1024 (m ((c : Thread nD τ).loc main_arg1)) shapeCasts_S1024_S1x1024 := by
  unfold V
  simp only [hostOps0, hostOps0_1, hostOps0_2, List.flatten_cons, List.flatten_nil, List.append_nil, List.cons_append, List.nil_append]
  after_results_simp
  rfl

theorem V23 (c : Dev nD) : V m c main_v23 = weights (m ((c : Thread nD τ).loc main_arg2)) := by
  unfold V
  simp only [hostOps0, hostOps0_1, hostOps0_2, List.flatten_cons, List.flatten_nil, List.append_nil, List.cons_append, List.nil_append]
  after_results_simp
  (try dsimp only [Matrix.cons_val]) <;> (try after_results_simp)
  rfl

/-- A concatenation of two-dimensional arrays along the columns, read in the piece whose columns start at `p`. -/
theorem piece {R W T : Nat} (xs : List ((s : Shape) × (s.Idx → EReal))) (h : Shape.Concatenates (xs.map (·.1)) ⟨2, ![R, T]⟩ 1)
    (K : Nat) (hK : K < xs.length) (x : (⟨2, ![R, W]⟩ : Shape).Idx → EReal) (hx : xs[K] = ⟨⟨2, ![R, W]⟩, x⟩) (p : Nat)
    (hp : (((xs.take K).map (·.1)).map fun s => if h : s.rank = (⟨2, ![R, T]⟩ : Shape).rank then s.size ((1 : Fin 2).cast h.symm) else 0).sum = p)
    (r : Fin R) (n : Fin W) (hn : p + n.val < T) : concatenate ⟨2, ![R, T]⟩ 1 xs h (ix2 r ⟨p + n.val, hn⟩) = x (ix2 r n) := by
  refine concatenate_apply_piece (t := ⟨2, ![R, T]⟩) 1 xs h _ K hK _ x hx rfl p hp (ix2 r n) (fun b hb => ?_) rfl
  match b, hb with
  | ⟨0, _⟩, _ => rfl
  | ⟨1, _⟩, hb => exact absurd rfl hb

theorem weights_wide (w : FVec Ideal S1024x6864 .f32) (k : Fin 1024) (n : Fin 6912) : weights w (ix2 k ⟨0 + n.val, by omega⟩) = wide w (ix2 k n) := by
  unfold weights
  exact piece (T := 7040) _ _ 0 (by simp) _ rfl 0 (by sl_kernel_rfl) k n (by omega)

theorem weights_narrow (w : FVec Ideal S1024x6864 .f32) (k : Fin 1024) (n : Fin 128) :
    weights w (ix2 k ⟨6912 + n.val, by omega⟩) = narrow w (ix2 k n) := by
  unfold weights
  exact piece (T := 7040) _ _ 1 (by simp) _ rfl 6912 (by sl_kernel_rfl) k n (by omega)

theorem wide0 (w : FVec Ideal S1024x6864 .f32) (k : Fin 1024) (n : Fin 512) :
    wide w (ix2 k ⟨0 + n.val, by omega⟩) = w (ix2 k ⟨0 + n.val, by omega⟩) := by
  refine (piece (T := 6912) _ _ 0 (by simp) _ rfl 0 (by sl_kernel_rfl) k n (by omega)).trans ?_
  pointwise

theorem wide1 (w : FVec Ideal S1024x6864 .f32) (k : Fin 1024) (n : Fin 512) :
    wide w (ix2 k ⟨512 + n.val, by omega⟩) = w (ix2 k ⟨512 + n.val, by omega⟩) := by
  refine (piece (T := 6912) _ _ 1 (by simp) _ rfl 512 (by sl_kernel_rfl) k n (by omega)).trans ?_
  pointwise

theorem wide2 (w : FVec Ideal S1024x6864 .f32) (k : Fin 1024) (n : Fin 512) :
    wide w (ix2 k ⟨1024 + n.val, by omega⟩) = w (ix2 k ⟨1024 + n.val, by omega⟩) := by
  refine (piece (T := 6912) _ _ 2 (by simp) _ rfl 1024 (by sl_kernel_rfl) k n (by omega)).trans ?_
  pointwise

theorem wide3 (w : FVec Ideal S1024x6864 .f32) (k : Fin 1024) (n : Fin 128) :
    wide w (ix2 k ⟨1536 + n.val, by omega⟩) = w (ix2 k ⟨1536 + n.val, by omega⟩) := by
  refine (piece (T := 6912) _ _ 3 (by simp) _ rfl 1536 (by sl_kernel_rfl) k n (by omega)).trans ?_
  pointwise

theorem wide4 (w : FVec Ideal S1024x6864 .f32) (k : Fin 1024) (n : Fin 512) :
    wide w (ix2 k ⟨1664 + n.val, by omega⟩) = w (ix2 k ⟨1664 + n.val, by omega⟩) := by
  refine (piece (T := 6912) _ _ 4 (by simp) _ rfl 1664 (by sl_kernel_rfl) k n (by omega)).trans ?_
  pointwise

theorem wide5 (w : FVec Ideal S1024x6864 .f32) (k : Fin 1024) (n : Fin 64) :
    wide w (ix2 k ⟨2176 + n.val, by omega⟩) = w (ix2 k ⟨2176 + n.val, by omega⟩) := by
  refine (piece (T := 6912) _ _ 5 (by simp) _ rfl 2176 (by sl_kernel_rfl) k n (by omega)).trans ?_
  pointwise

theorem wide6 (w : FVec Ideal S1024x6864 .f32) (k : Fin 1024) (n : Fin 64) :
    wide w (ix2 k ⟨2240 + n.val, by omega⟩) = w (ix2 k ⟨2176 + n.val, by omega⟩) := by
  refine (piece (T := 6912) _ _ 6 (by simp) _ rfl 2240 (by sl_kernel_rfl) k n (by omega)).trans ?_
  pointwise

theorem wide7 (w : FVec Ideal S1024x6864 .f32) (k : Fin 1024) (n : Fin 512) :
    wide w (ix2 k ⟨2304 + n.val, by omega⟩) = w (ix2 k ⟨2248 + n.val, by omega⟩) * Ideal.ofBits .f32 0x3E38AA3B#32 := by
  refine (piece (T := 6912) _ _ 7 (by simp) _ rfl 2304 (by sl_kernel_rfl) k n (by omega)).trans ?_
  pointwise

theorem wide8 (w : FVec Ideal S1024x6864 .f32) (k : Fin 1024) (n : Fin 512) :
    wide w (ix2 k ⟨2816 + n.val, by omega⟩) = w (ix2 k ⟨2760 + n.val, by omega⟩) := by
  refine (piece (T := 6912) _ _ 8 (by simp) _ rfl 2816 (by sl_kernel_rfl) k n (by omega)).trans ?_
  pointwise

theorem wide9 (w : FVec Ideal S1024x6864 .f32) (k : Fin 1024) (n : Fin 512) :
    wide w (ix2 k ⟨3328 + n.val, by omega⟩) = w (ix2 k ⟨3272 + n.val, by omega⟩) := by
  refine (piece (T := 6912) _ _ 9 (by simp) _ rfl 3328 (by sl_kernel_rfl) k n (by omega)).trans ?_
  pointwise

theorem wide10 (w : FVec Ideal S1024x6864 .f32) (k : Fin 1024) (n : Fin 1024) :
    wide w (ix2 k ⟨3840 + n.val, by omega⟩) = w (ix2 k ⟨3792 + n.val, by omega⟩) := by
  refine (piece (T := 6912) _ _ 10 (by simp) _ rfl 3840 (by sl_kernel_rfl) k n (by omega)).trans ?_
  pointwise

theorem wide11 (w : FVec Ideal S1024x6864 .f32) (k : Fin 1024) (n : Fin 1024) :
    wide w (ix2 k ⟨4864 + n.val, by omega⟩) = w (ix2 k ⟨4816 + n.val, by omega⟩) := by
  refine (piece (T := 6912) _ _ 11 (by simp) _ rfl 4864 (by sl_kernel_rfl) k n (by omega)).trans ?_
  pointwise

theorem wide12 (w : FVec Ideal S1024x6864 .f32) (k : Fin 1024) (n : Fin 1024) :
    wide w (ix2 k ⟨5888 + n.val, by omega⟩) = w (ix2 k ⟨5840 + n.val, by omega⟩) := by
  refine (piece (T := 6912) _ _ 12 (by simp) _ rfl 5888 (by sl_kernel_rfl) k n (by omega)).trans ?_
  pointwise

theorem narrow_left (w : FVec Ideal S1024x6864 .f32) (k : Fin 1024) (n : Fin 8) :
    narrow w (ix2 k ⟨n.val, by omega⟩) = w (ix2 k ⟨2240 + n.val, by omega⟩) := by
  unfold narrow
  pointwise
  exact dif_pos (by omega)

theorem narrow_right (w : FVec Ideal S1024x6864 .f32) (k : Fin 1024) (n : Fin 8) :
    narrow w (ix2 k ⟨8 + n.val, by omega⟩) = w (ix2 k ⟨3784 + n.val, by omega⟩) := by
  unfold narrow
  pointwise
  exact dif_pos (by omega)

theorem narrow_zero (w : FVec Ideal S1024x6864 .f32) (k : Fin 1024) (n : Fin 112) :
    narrow w (ix2 k ⟨16 + n.val, by omega⟩) = 0 := by
  unfold narrow
  pointwise
  show (((0#32 : BitVec 32).toInt : ℝ) : EReal) = 0
  simp

end Cert.Proof.ProjValue

end
-- ==== Proof.ProjRefValue.lean ====
/- The input projection's reference: each result, at an index, as an element of the product of the normed rows with the weights. -/
module

public import proofs.«01_k».proof.Proof.Gen.ProjRefIdeal.Run
public import proofs.«01_k».proof.Proof.Rows

@[expose] public section

set_option maxRecDepth 16384

noncomputable section

namespace Cert.Proof.ProjRef

open Cert.ProjRefIdeal Cert.ProjRefIdeal.Facts Cert.ProjRefIdeal.Gen Cert.ProjRefIdeal.Value Idealize.ShloMosaic Idealize.ShloMosaic.TcCoe Idealize.SL.Sem
open Cert.Proof.Rows

/-- Column `n` of the product, for the token `b` of batch `a`. -/
def elt (x : FVec Ideal S16x4096x1024 .f32) (w : FVec Ideal S1024 .f32) (wi : FVec Ideal S1024x6864 .f32) (a : Fin 16) (b : Fin 4096)
    (n : Fin 6864) : EReal :=
  dot (norm (fun k => x (ix3 a b k)) (fun k => w (ix1 k))) (fun k n => wi (ix2 k n)) n

variable (x : FVec Ideal S16x4096x1024 .f32) (w : FVec Ideal S1024 .f32) (wi : FVec Ideal S1024x6864 .f32)

/-- The normed activations, -/
def normed : FVec Ideal S16x4096x1024 .f32 :=
  mulf (mulf x (broadcastInDim S16x4096x1024 ![0, 1, 2] bcast_S16x4096x1_S16x4096x1024_0_1_2 (Host.rsqrt (addf (Host.divf (broadcastInDim S16x4096x1 ![0, 1] bcast_S16x4096_S16x4096x1_0_1 (Host.reduceAdd (mulf x x) (constant S_ .f32 0x00000000#32) reducesTo_S16x4096x1024_S16x4096_d2 h_S_)) (broadcastInDim S16x4096x1 ![] bcast_S_S16x4096x1 (constant S_ .f32 0x44800000#32))) (broadcastInDim S16x4096x1 ![] bcast_S_S16x4096x1 (constant S_ .f32 0x358637BD#32)))))) (broadcastInDim S16x4096x1024 ![0, 1, 2] bcast_S1x1x1024_S16x4096x1024_0_1_2 (broadcastInDim S1x1x1024 ![2] bcast_S1024_S1x1x1024_2 w))

theorem normed_apply (a : Fin 16) (b : Fin 4096) (k : Fin 1024) :
    normed x w (ix3 a b k) = norm (fun k => x (ix3 a b k)) (fun k => w (ix1 k)) k := by
  unfold normed
  pointwise
  rfl

/-- their product with the weights, -/
def prod : FVec Ideal S16x4096x6864 .f32 :=
  Host.dotGeneral dot_S16x4096x1024_S1024x6864_S16x4096x6864_2_0_01_1_n_n none (normed x w) wi

theorem prod_apply (a : Fin 16) (b : Fin 4096) (n : Fin 6864) : prod x w wi (ix3 a b n) = elt x w wi a b n := by
  unfold prod
  pointwise
  simp only [normed_apply]
  rfl

/-- A concatenation along the columns, read in the piece whose columns start at `p`. -/
theorem piece {W T : Nat} (xs : List ((s : Shape) × (s.Idx → EReal))) (h : Shape.Concatenates (xs.map (·.1)) ⟨3, ![16, 4096, T]⟩ 2)
    (K : Nat) (hK : K < xs.length) (y : (⟨3, ![16, 4096, W]⟩ : Shape).Idx → EReal) (hx : xs[K] = ⟨⟨3, ![16, 4096, W]⟩, y⟩) (p : Nat)
    (hp : (((xs.take K).map (·.1)).map fun s => if h : s.rank = (⟨3, ![16, 4096, T]⟩ : Shape).rank then s.size ((2 : Fin 3).cast h.symm) else 0).sum = p)
    (a : Fin 16) (b : Fin 4096) (n : Fin W) (m : Fin T) (hn : m.val = p + n.val) :
    concatenate ⟨3, ![16, 4096, T]⟩ 2 xs h (ix3 a b m) = y (ix3 a b n) := by
  refine concatenate_apply_piece (t := ⟨3, ![16, 4096, T]⟩) 2 xs h _ K hK _ y hx rfl p hp (ix3 a b n) (fun d hd => ?_) hn.symm
  match d, hd with
  | ⟨0, _⟩, _ => rfl
  | ⟨1, _⟩, _ => rfl
  | ⟨2, _⟩, hd => exact absurd rfl hd

/-! The results before they are flattened. -/

def res0 : FVec Ideal S16x4096x1024 .f32 :=
  concatenate S16x4096x1024 2 [⟨S16x4096x512, (extractStridedSlice S16x4096x512 ![0, 0, 0] (prod x w wi) slices_S16x4096x6864_S16x4096x512_0_0_0)⟩, ⟨S16x4096x512, (extractStridedSlice S16x4096x512 ![0, 0, 512] (prod x w wi) slices_S16x4096x6864_S16x4096x512_0_0_512)⟩] concatenates_S16x4096x512_S16x4096x512_S16x4096x1024_d2

def res1 : FVec Ideal S16x4096x512 .f32 :=
  (extractStridedSlice S16x4096x512 ![0, 0, 1024] (prod x w wi) slices_S16x4096x6864_S16x4096x512_0_0_1024)

def res2 : FVec Ideal S16x4096x128 .f32 :=
  (extractStridedSlice S16x4096x128 ![0, 0, 1536] (prod x w wi) slices_S16x4096x6864_S16x4096x128_0_0_1536)

def res3 : FVec Ideal S16x4096x512 .f32 :=
  (extractStridedSlice S16x4096x512 ![0, 0, 1664] (prod x w wi) slices_S16x4096x6864_S16x4096x512_0_0_1664)

def res4 : FVec Ideal S16x4096x128 .f32 :=
  concatenate S16x4096x128 2 [⟨S16x4096x64, (extractStridedSlice S16x4096x64 ![0, 0, 2176] (prod x w wi) slices_S16x4096x6864_S16x4096x64_0_0_2176)⟩, ⟨S16x4096x64, (extractStridedSlice S16x4096x64 ![0, 0, 2176] (prod x w wi) slices_S16x4096x6864_S16x4096x64_0_0_2176)⟩] concatenates_S16x4096x64_S16x4096x64_S16x4096x128_d2

def res5 : FVec Ideal S16x4096x512 .f32 :=
  mulf (extractStridedSlice S16x4096x512 ![0, 0, 2248] (prod x w wi) slices_S16x4096x6864_S16x4096x512_0_0_2248) (broadcastInDim S16x4096x512 ![] bcast_S_S16x4096x512 (constant S_ .f32 0x3E38AA3B#32))

def res6 : FVec Ideal S16x4096x512 .f32 :=
  (extractStridedSlice S16x4096x512 ![0, 0, 2760] (prod x w wi) slices_S16x4096x6864_S16x4096x512_0_0_2760)

def res7 : FVec Ideal S16x4096x512 .f32 :=
  (extractStridedSlice S16x4096x512 ![0, 0, 3272] (prod x w wi) slices_S16x4096x6864_S16x4096x512_0_0_3272)

def res8 : FVec Ideal S16x4096x3072 .f32 :=
  concatenate S16x4096x3072 2 [⟨S16x4096x1024, (extractStridedSlice S16x4096x1024 ![0, 0, 3792] (prod x w wi) slices_S16x4096x6864_S16x4096x1024_0_0_3792)⟩, ⟨S16x4096x1024, (extractStridedSlice S16x4096x1024 ![0, 0, 4816] (prod x w wi) slices_S16x4096x6864_S16x4096x1024_0_0_4816)⟩, ⟨S16x4096x1024, (extractStridedSlice S16x4096x1024 ![0, 0, 5840] (prod x w wi) slices_S16x4096x6864_S16x4096x1024_0_0_5840)⟩] concatenates_S16x4096x1024_S16x4096x1024_S16x4096x1024_S16x4096x3072_d2

def res9 : FVec Ideal S16x4096x128 .f32 :=
  concatenate S16x4096x128 2 [⟨S16x4096x8, (extractStridedSlice S16x4096x8 ![0, 0, 2240] (prod x w wi) slices_S16x4096x6864_S16x4096x8_0_0_2240)⟩, ⟨S16x4096x8, (extractStridedSlice S16x4096x8 ![0, 0, 3784] (prod x w wi) slices_S16x4096x6864_S16x4096x8_0_0_3784)⟩, ⟨S16x4096x112, broadcastInDim S16x4096x112 ![] bcast_S_S16x4096x112 (constant S_ .f32 0x00000000#32)⟩] concatenates_S16x4096x8_S16x4096x8_S16x4096x112_S16x4096x128_d2

theorem res1_apply (a : Fin 16) (b : Fin 4096) (n : Fin 512) : res1 x w wi (ix3 a b n) = elt x w wi a b ⟨1024 + n.val, by omega⟩ := by
  unfold res1
  pointwise
  rw [prod_apply]

theorem res2_apply (a : Fin 16) (b : Fin 4096) (n : Fin 128) : res2 x w wi (ix3 a b n) = elt x w wi a b ⟨1536 + n.val, by omega⟩ := by
  unfold res2
  pointwise
  rw [prod_apply]

theorem res3_apply (a : Fin 16) (b : Fin 4096) (n : Fin 512) : res3 x w wi (ix3 a b n) = elt x w wi a b ⟨1664 + n.val, by omega⟩ := by
  unfold res3
  pointwise
  rw [prod_apply]

theorem res6_apply (a : Fin 16) (b : Fin 4096) (n : Fin 512) : res6 x w wi (ix3 a b n) = elt x w wi a b ⟨2760 + n.val, by omega⟩ := by
  unfold res6
  pointwise
  rw [prod_apply]

theorem res7_apply (a : Fin 16) (b : Fin 4096) (n : Fin 512) : res7 x w wi (ix3 a b n) = elt x w wi a b ⟨3272 + n.val, by omega⟩ := by
  unfold res7
  pointwise
  rw [prod_apply]

theorem res5_apply (a : Fin 16) (b : Fin 4096) (n : Fin 512) :
    res5 x w wi (ix3 a b n) = elt x w wi a b ⟨2248 + n.val, by omega⟩ * Ideal.ofBits .f32 0x3E38AA3B#32 := by
  unfold res5
  pointwise
  rw [prod_apply]

theorem res0_piece0 (a : Fin 16) (b : Fin 4096) (n : Fin 1024) (n' : Fin 512) (h : n.val = 0 + n'.val) :
    res0 x w wi (ix3 a b n) = elt x w wi a b ⟨0 + n'.val, by omega⟩ := by
  unfold res0
  refine (piece (T := 1024) _ _ 0 (by simp) _ rfl 0 (by simp) a b n' n h).trans ?_
  pointwise
  rw [prod_apply]

theorem res0_piece1 (a : Fin 16) (b : Fin 4096) (n : Fin 1024) (n' : Fin 512) (h : n.val = 512 + n'.val) :
    res0 x w wi (ix3 a b n) = elt x w wi a b ⟨512 + n'.val, by omega⟩ := by
  unfold res0
  refine (piece (T := 1024) _ _ 1 (by simp) _ rfl 512 (by simp) a b n' n h).trans ?_
  pointwise
  rw [prod_apply]

theorem res4_piece0 (a : Fin 16) (b : Fin 4096) (n : Fin 128) (n' : Fin 64) (h : n.val = 0 + n'.val) :
    res4 x w wi (ix3 a b n) = elt x w wi a b ⟨2176 + n'.val, by omega⟩ := by
  unfold res4
  refine (piece (T := 128) _ _ 0 (by simp) _ rfl 0 (by simp) a b n' n h).trans ?_
  pointwise
  rw [prod_apply]

theorem res4_piece1 (a : Fin 16) (b : Fin 4096) (n : Fin 128) (n' : Fin 64) (h : n.val = 64 + n'.val) :
    res4 x w wi (ix3 a b n) = elt x w wi a b ⟨2176 + n'.val, by omega⟩ := by
  unfold res4
  refine (piece (T := 128) _ _ 1 (by simp) _ rfl 64 (by simp) a b n' n h).trans ?_
  pointwise
  rw [prod_apply]

theorem res8_piece0 (a : Fin 16) (b : Fin 4096) (n : Fin 3072) (n' : Fin 1024) (h : n.val = 0 + n'.val) :
    res8 x w wi (ix3 a b n) = elt x w wi a b ⟨3792 + n'.val, by omega⟩ := by
  unfold res8
  refine (piece (T := 3072) _ _ 0 (by simp) _ rfl 0 (by simp) a b n' n h).trans ?_
  pointwise
  rw [prod_apply]

theorem res8_piece1 (a : Fin 16) (b : Fin 4096) (n : Fin 3072) (n' : Fin 1024) (h : n.val = 1024 + n'.val) :
    res8 x w wi (ix3 a b n) = elt x w wi a b ⟨4816 + n'.val, by omega⟩ := by
  unfold res8
  refine (piece (T := 3072) _ _ 1 (by simp) _ rfl 1024 (by simp) a b n' n h).trans ?_
  pointwise
  rw [prod_apply]

theorem res8_piece2 (a : Fin 16) (b : Fin 4096) (n : Fin 3072) (n' : Fin 1024) (h : n.val = 2048 + n'.val) :
    res8 x w wi (ix3 a b n) = elt x w wi a b ⟨5840 + n'.val, by omega⟩ := by
  unfold res8
  refine (piece (T := 3072) _ _ 2 (by simp) _ rfl 2048 (by simp) a b n' n h).trans ?_
  pointwise
  rw [prod_apply]

theorem res9_piece0 (a : Fin 16) (b : Fin 4096) (n : Fin 128) (n' : Fin 8) (h : n.val = 0 + n'.val) :
    res9 x w wi (ix3 a b n) = elt x w wi a b ⟨2240 + n'.val, by omega⟩ := by
  unfold res9
  refine (piece (T := 128) _ _ 0 (by simp) _ rfl 0 (by simp) a b n' n h).trans ?_
  pointwise
  rw [prod_apply]

theorem res9_piece1 (a : Fin 16) (b : Fin 4096) (n : Fin 128) (n' : Fin 8) (h : n.val = 8 + n'.val) :
    res9 x w wi (ix3 a b n) = elt x w wi a b ⟨3784 + n'.val, by omega⟩ := by
  unfold res9
  refine (piece (T := 128) _ _ 1 (by simp) _ rfl 8 (by simp) a b n' n h).trans ?_
  pointwise
  rw [prod_apply]

theorem res9_piece2 (a : Fin 16) (b : Fin 4096) (n : Fin 128) (n' : Fin 112) (h : n.val = 16 + n'.val) : res9 x w wi (ix3 a b n) = 0 := by
  unfold res9
  refine (piece (T := 128) _ _ 2 (by simp) _ rfl 16 (by simp) a b n' n h).trans ?_
  pointwise

theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v45) = truncf (F := Ideal) .bf16 (shapeCast S65536x1024 (res0 (m ((c.tc : Thread nD τ).loc main_arg0)) (m ((c.tc : Thread nD τ).loc main_arg1)) (m ((c.tc : Thread nD τ).loc main_arg2))) shapeCasts_S16x4096x1024_S65536x1024) bitsLt_bf16_f32
      ∧ r.2.mem ((c.tc : Thread nD τ).loc main_v46) = truncf (F := Ideal) .bf16 (shapeCast S65536x512 (res1 (m ((c.tc : Thread nD τ).loc main_arg0)) (m ((c.tc : Thread nD τ).loc main_arg1)) (m ((c.tc : Thread nD τ).loc main_arg2))) shapeCasts_S16x4096x512_S65536x512) bitsLt_bf16_f32
      ∧ r.2.mem ((c.tc : Thread nD τ).loc main_v47) = truncf (F := Ideal) .bf16 (shapeCast S65536x128 (res2 (m ((c.tc : Thread nD τ).loc main_arg0)) (m ((c.tc : Thread nD τ).loc main_arg1)) (m ((c.tc : Thread nD τ).loc main_arg2))) shapeCasts_S16x4096x128_S65536x128) bitsLt_bf16_f32
      ∧ r.2.mem ((c.tc : Thread nD τ).loc main_v48) = truncf (F := Ideal) .bf16 (shapeCast S65536x512 (res3 (m ((c.tc : Thread nD τ).loc main_arg0)) (m ((c.tc : Thread nD τ).loc main_arg1)) (m ((c.tc : Thread nD τ).loc main_arg2))) shapeCasts_S16x4096x512_S65536x512) bitsLt_bf16_f32
      ∧ r.2.mem ((c.tc : Thread nD τ).loc main_v49) = truncf (F := Ideal) .bf16 (shapeCast S65536x128 (res4 (m ((c.tc : Thread nD τ).loc main_arg0)) (m ((c.tc : Thread nD τ).loc main_arg1)) (m ((c.tc : Thread nD τ).loc main_arg2))) shapeCasts_S16x4096x128_S65536x128) bitsLt_bf16_f32
      ∧ r.2.mem ((c.tc : Thread nD τ).loc main_v50) = truncf (F := Ideal) .bf16 (shapeCast S65536x512 (res5 (m ((c.tc : Thread nD τ).loc main_arg0)) (m ((c.tc : Thread nD τ).loc main_arg1)) (m ((c.tc : Thread nD τ).loc main_arg2))) shapeCasts_S16x4096x512_S65536x512) bitsLt_bf16_f32
      ∧ r.2.mem ((c.tc : Thread nD τ).loc main_v51) = truncf (F := Ideal) .bf16 (shapeCast S65536x512 (res6 (m ((c.tc : Thread nD τ).loc main_arg0)) (m ((c.tc : Thread nD τ).loc main_arg1)) (m ((c.tc : Thread nD τ).loc main_arg2))) shapeCasts_S16x4096x512_S65536x512) bitsLt_bf16_f32
      ∧ r.2.mem ((c.tc : Thread nD τ).loc main_v52) = truncf (F := Ideal) .bf16 (shapeCast S65536x512 (res7 (m ((c.tc : Thread nD τ).loc main_arg0)) (m ((c.tc : Thread nD τ).loc main_arg1)) (m ((c.tc : Thread nD τ).loc main_arg2))) shapeCasts_S16x4096x512_S65536x512) bitsLt_bf16_f32
      ∧ r.2.mem ((c.tc : Thread nD τ).loc main_v53) = truncf (F := Ideal) .bf16 (shapeCast S65536x3072 (res8 (m ((c.tc : Thread nD τ).loc main_arg0)) (m ((c.tc : Thread nD τ).loc main_arg1)) (m ((c.tc : Thread nD τ).loc main_arg2))) shapeCasts_S16x4096x3072_S65536x3072) bitsLt_bf16_f32
      ∧ r.2.mem ((c.tc : Thread nD τ).loc main_v44) = shapeCast S65536x128 (res9 (m ((c.tc : Thread nD τ).loc main_arg0)) (m ((c.tc : Thread nD τ).loc main_arg1)) (m ((c.tc : Thread nD τ).loc main_arg2))) shapeCasts_S16x4096x128_S65536x128
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  Value.run m ρ

end Cert.Proof.ProjRef

end
-- ==== Proof.ProjClaim.lean ====
/- The input projection: kernel and reference end with the same arrays. -/
module

public import proofs.«01_k».proof.Defs
public import proofs.«01_k».proof.Proof.ProjWeights
public import proofs.«01_k».proof.Proof.ProjRefValue

@[expose] public section

set_option maxRecDepth 16384

noncomputable section

namespace Cert.Proof.ProjClaim

open Idealize.ShloMosaic Idealize.ShloMosaic.TcCoe Idealize.SL.Sem
open Cert.Proof.Rows Cert.Proof.ProjValue
open Cert.ProjIdeal Cert.ProjIdeal.Facts Cert.ProjIdeal.Gen
open Cert.Proof.ProjRef (elt)

/-- A factor that is a nonnegative real comes out of a sum of products. -/
theorem sum_mul_const (f : Fin 1024 → EReal) (q : EReal) (h0 : 0 ≤ q) (ht : q ≠ ⊤) : ∑ k, f k * q = (∑ k, f k) * q := by
  induction (Finset.univ : Finset (Fin 1024)) using Finset.induction_on with
  | empty => simp
  | insert a s ha ih => rw [Finset.sum_insert ha, Finset.sum_insert ha, ih, EReal.right_distrib_of_nonneg_of_ne_top h0 ht]

theorem factor_real : ∃ q : ℝ, 0 ≤ q ∧ Ideal.ofBits .f32 0x3E38AA3B#32 = (q : EReal) := by
  refine ⟨_, ?_, by simp [Ideal.ofBits, Ideal.ieee]; rfl⟩
  positivity

theorem dot_scaled {n n' : Nat} (x : Fin 1024 → EReal) (v : Fin 1024 → Fin n → EReal) (w : Fin 1024 → Fin n' → EReal) (j : Fin n) (i : Fin n')
    (h : ∀ k, v k j = w k i * Ideal.ofBits .f32 0x3E38AA3B#32) : dot x v j = dot x w i * Ideal.ofBits .f32 0x3E38AA3B#32 := by
  obtain ⟨q, h0, e⟩ := factor_real
  unfold dot
  rw [← sum_mul_const _ _ (by rw [e]; exact_mod_cast h0) (by rw [e]; exact EReal.coe_ne_top q)]
  exact Finset.sum_congr rfl fun k _ => by rw [h, mul_assoc]

/-- Row `r` of the flattened activations is row `r % 4096` of batch `r / 4096`. -/
theorem row_flat (x : FVec Ideal S16x4096x1024 .f32) (r : Fin 65536) :
    row (shapeCast S65536x1024 x shapeCasts_S16x4096x1024_S65536x1024) r
      = fun k => x (ix3 ⟨r.val / 4096, by omega⟩ ⟨r.val % 4096, by omega⟩ k) := by
  funext k
  unfold row
  pointwise

theorem row_weight (w : FVec Ideal S1024 .f32) : row (shapeCast S1x1024 w shapeCasts_S1024_S1x1024) 0 = fun k => w (ix1 k) := by
  funext k
  unfold row
  pointwise

variable (m : (ℓ : Loc nD τ sig) → Buf (Elt Ideal) ℓ)

/-- The reference's element of the kernel's arguments. -/
abbrev at' (c : Dev nD) (r : Fin 65536) (n : Fin 6864) : EReal :=
  elt (m ((c : Thread nD τ).loc main_arg0)) (m ((c : Thread nD τ).loc main_arg1)) (m ((c : Thread nD τ).loc main_arg2))
    ⟨r.val / 4096, by omega⟩ ⟨r.val % 4096, by omega⟩ n

theorem full_eq (c : Dev nD) (r : Fin 65536) (n : Fin 7040) :
    full m c r n = dot (norm (fun k => (m ((c : Thread nD τ).loc main_arg0) : FVec Ideal S16x4096x1024 .f32) (ix3 ⟨r.val / 4096, by omega⟩ ⟨r.val % 4096, by omega⟩ k))
      (fun k => (m ((c : Thread nD τ).loc main_arg1) : FVec Ideal S1024 .f32) (ix1 k))) (row (weights (m ((c : Thread nD τ).loc main_arg2)))) n := by
  unfold full
  rw [V0, V24, V23, row_flat, row_weight]

theorem weights_at (w : FVec Ideal S1024x6864 .f32) (k : Fin 1024) (n : Fin 7040) (q : Fin 6912) (hq : n.val = q.val) :
    row (weights w) k n = wide w (ix2 k q) := by
  rw [← weights_wide]
  exact congrArg (fun n => weights w (ix2 k n)) (Fin.ext (by show n.val = 0 + q.val; omega))

/-- A column of the product that is a column of the given matrix, -/
theorem full_wide (c : Dev nD) (r : Fin 65536) (n : Fin 7040) (q : Fin 6912) (hq : n.val = q.val) (s : Fin 6864)
    (h : ∀ k, wide (m ((c : Thread nD τ).loc main_arg2)) (ix2 k q) = (m ((c : Thread nD τ).loc main_arg2) : FVec Ideal S1024x6864 .f32) (ix2 k s)) :
    full m c r n = at' m c r s := by
  rw [full_eq]
  unfold at' elt dot
  exact Finset.sum_congr rfl fun k _ => by rw [weights_at _ k n q hq, h]

/-- one that is such a column scaled, -/
theorem full_scaled (c : Dev nD) (r : Fin 65536) (n : Fin 7040) (q : Fin 6912) (hq : n.val = q.val) (s : Fin 6864)
    (h : ∀ k, wide (m ((c : Thread nD τ).loc main_arg2)) (ix2 k q)
      = row (R := 1024) (C := 6864) (m ((c : Thread nD τ).loc main_arg2)) k s * Ideal.ofBits .f32 0x3E38AA3B#32) :
    full m c r n = at' m c r s * Ideal.ofBits .f32 0x3E38AA3B#32 := by
  rw [full_eq]
  exact dot_scaled _ _ _ n s fun k => (weights_at _ k n q hq).trans (h k)

theorem narrow_at (w : FVec Ideal S1024x6864 .f32) (k : Fin 1024) (n : Fin 7040) (q : Fin 128) (hq : n.val = 6912 + q.val) :
    row (weights w) k n = narrow w (ix2 k q) := by
  rw [← weights_narrow]
  exact congrArg (fun n => weights w (ix2 k n)) (Fin.ext hq)

/-- one of the narrow ones, -/
theorem full_narrow (c : Dev nD) (r : Fin 65536) (n : Fin 7040) (q : Fin 128) (hq : n.val = 6912 + q.val) (s : Fin 6864)
    (h : ∀ k, narrow (m ((c : Thread nD τ).loc main_arg2)) (ix2 k q) = (m ((c : Thread nD τ).loc main_arg2) : FVec Ideal S1024x6864 .f32) (ix2 k s)) :
    full m c r n = at' m c r s := by
  rw [full_eq]
  unfold at' elt dot
  exact Finset.sum_congr rfl fun k _ => by rw [narrow_at _ k n q hq, h]

/-- and one of those beyond them. -/
theorem full_zero (c : Dev nD) (r : Fin 65536) (n : Fin 7040) (q : Fin 128) (hq : n.val = 6912 + q.val)
    (h : ∀ k, narrow (m ((c : Thread nD τ).loc main_arg2)) (ix2 k q) = 0) : full m c r n = 0 := by
  rw [full_eq]
  unfold dot
  exact Finset.sum_eq_zero fun k _ => by rw [narrow_at _ k n q hq, h, mul_zero]

/-- An index is in the first `A` columns or in those after them. -/
theorem split (A B : Nat) {T : Nat} (hT : T ≤ A + B) (n : Fin T) :
    (∃ n' : Fin A, n.val = 0 + n'.val) ∨ ∃ n' : Fin B, n.val = A + n'.val := by
  by_cases h : n.val < A
  · exact .inl ⟨⟨n.val, h⟩, by simp⟩
  · exact .inr ⟨⟨n.val - A, by omega⟩, by show n.val = A + (n.val - A); omega⟩

theorem res0_eq (c : Dev nD) : part m c 0 1024 (by omega) = truncf (F := Ideal) .bf16 (shapeCast S65536x1024 (ProjRef.res0 (m ((c : Thread nD τ).loc main_arg0)) (m ((c : Thread nD τ).loc main_arg1)) (m ((c : Thread nD τ).loc main_arg2))) Cert.ProjRefIdeal.Facts₀.shapeCasts_S16x4096x1024_S65536x1024) bitsLt_bf16_f32 := by
  funext y
  obtain ⟨r, n, rfl⟩ : ∃ (r : Fin 65536) (n : Fin 1024), y = ix2 r n := ⟨y 0, y 1, eq_ix2 y⟩
  rw [part_apply]
  pointwise
  rcases split 512 512 (by omega) n with ⟨n', h⟩ | ⟨n', h⟩
  · rw [ProjRef.res0_piece0 _ _ _ _ _ n n' h]; exact full_wide m c r _ ⟨0 + n'.val, by omega⟩ (by show n.val = 0 + n'.val; omega) ⟨0 + n'.val, by omega⟩ fun k => wide0 _ k n'
  · rw [ProjRef.res0_piece1 _ _ _ _ _ n n' h]; exact full_wide m c r _ ⟨512 + n'.val, by omega⟩ (by show n.val = 512 + n'.val; omega) ⟨512 + n'.val, by omega⟩ fun k => wide1 _ k n'

theorem res1_eq (c : Dev nD) : part m c 1024 512 (by omega) = truncf (F := Ideal) .bf16 (shapeCast S65536x512 (ProjRef.res1 (m ((c : Thread nD τ).loc main_arg0)) (m ((c : Thread nD τ).loc main_arg1)) (m ((c : Thread nD τ).loc main_arg2))) Cert.ProjRefIdeal.Facts₀.shapeCasts_S16x4096x512_S65536x512) bitsLt_bf16_f32 := by
  funext y
  obtain ⟨r, n, rfl⟩ : ∃ (r : Fin 65536) (n : Fin 512), y = ix2 r n := ⟨y 0, y 1, eq_ix2 y⟩
  rw [part_apply]
  pointwise
  rw [ProjRef.res1_apply]
  exact full_wide m c r _ ⟨1024 + n.val, by omega⟩ rfl ⟨1024 + n.val, by omega⟩ fun k => wide2 _ k n

theorem res2_eq (c : Dev nD) : part m c 1536 128 (by omega) = truncf (F := Ideal) .bf16 (shapeCast S65536x128 (ProjRef.res2 (m ((c : Thread nD τ).loc main_arg0)) (m ((c : Thread nD τ).loc main_arg1)) (m ((c : Thread nD τ).loc main_arg2))) Cert.ProjRefIdeal.Facts₀.shapeCasts_S16x4096x128_S65536x128) bitsLt_bf16_f32 := by
  funext y
  obtain ⟨r, n, rfl⟩ : ∃ (r : Fin 65536) (n : Fin 128), y = ix2 r n := ⟨y 0, y 1, eq_ix2 y⟩
  rw [part_apply]
  pointwise
  rw [ProjRef.res2_apply]
  exact full_wide m c r _ ⟨1536 + n.val, by omega⟩ rfl ⟨1536 + n.val, by omega⟩ fun k => wide3 _ k n

theorem res3_eq (c : Dev nD) : part m c 1664 512 (by omega) = truncf (F := Ideal) .bf16 (shapeCast S65536x512 (ProjRef.res3 (m ((c : Thread nD τ).loc main_arg0)) (m ((c : Thread nD τ).loc main_arg1)) (m ((c : Thread nD τ).loc main_arg2))) Cert.ProjRefIdeal.Facts₀.shapeCasts_S16x4096x512_S65536x512) bitsLt_bf16_f32 := by
  funext y
  obtain ⟨r, n, rfl⟩ : ∃ (r : Fin 65536) (n : Fin 512), y = ix2 r n := ⟨y 0, y 1, eq_ix2 y⟩
  rw [part_apply]
  pointwise
  rw [ProjRef.res3_apply]
  exact full_wide m c r _ ⟨1664 + n.val, by omega⟩ rfl ⟨1664 + n.val, by omega⟩ fun k => wide4 _ k n

theorem res4_eq (c : Dev nD) : part m c 2176 128 (by omega) = truncf (F := Ideal) .bf16 (shapeCast S65536x128 (ProjRef.res4 (m ((c : Thread nD τ).loc main_arg0)) (m ((c : Thread nD τ).loc main_arg1)) (m ((c : Thread nD τ).loc main_arg2))) Cert.ProjRefIdeal.Facts₀.shapeCasts_S16x4096x128_S65536x128) bitsLt_bf16_f32 := by
  funext y
  obtain ⟨r, n, rfl⟩ : ∃ (r : Fin 65536) (n : Fin 128), y = ix2 r n := ⟨y 0, y 1, eq_ix2 y⟩
  rw [part_apply]
  pointwise
  rcases split 64 64 (by omega) n with ⟨n', h⟩ | ⟨n', h⟩
  · rw [ProjRef.res4_piece0 _ _ _ _ _ n n' h]; exact full_wide m c r _ ⟨2176 + n'.val, by omega⟩ (by show 2176 + n.val = 2176 + n'.val; omega) ⟨2176 + n'.val, by omega⟩ fun k => wide5 _ k n'
  · rw [ProjRef.res4_piece1 _ _ _ _ _ n n' h]; exact full_wide m c r _ ⟨2240 + n'.val, by omega⟩ (by show 2176 + n.val = 2240 + n'.val; omega) ⟨2176 + n'.val, by omega⟩ fun k => wide6 _ k n'

theorem res5_eq (c : Dev nD) : part m c 2304 512 (by omega) = truncf (F := Ideal) .bf16 (shapeCast S65536x512 (ProjRef.res5 (m ((c : Thread nD τ).loc main_arg0)) (m ((c : Thread nD τ).loc main_arg1)) (m ((c : Thread nD τ).loc main_arg2))) Cert.ProjRefIdeal.Facts₀.shapeCasts_S16x4096x512_S65536x512) bitsLt_bf16_f32 := by
  funext y
  obtain ⟨r, n, rfl⟩ : ∃ (r : Fin 65536) (n : Fin 512), y = ix2 r n := ⟨y 0, y 1, eq_ix2 y⟩
  rw [part_apply]
  pointwise
  rw [ProjRef.res5_apply]
  exact full_scaled m c r _ ⟨2304 + n.val, by omega⟩ rfl ⟨2248 + n.val, by omega⟩ fun k => wide7 _ k n

theorem res6_eq (c : Dev nD) : part m c 2816 512 (by omega) = truncf (F := Ideal) .bf16 (shapeCast S65536x512 (ProjRef.res6 (m ((c : Thread nD τ).loc main_arg0)) (m ((c : Thread nD τ).loc main_arg1)) (m ((c : Thread nD τ).loc main_arg2))) Cert.ProjRefIdeal.Facts₀.shapeCasts_S16x4096x512_S65536x512) bitsLt_bf16_f32 := by
  funext y
  obtain ⟨r, n, rfl⟩ : ∃ (r : Fin 65536) (n : Fin 512), y = ix2 r n := ⟨y 0, y 1, eq_ix2 y⟩
  rw [part_apply]
  pointwise
  rw [ProjRef.res6_apply]
  exact full_wide m c r _ ⟨2816 + n.val, by omega⟩ rfl ⟨2760 + n.val, by omega⟩ fun k => wide8 _ k n

theorem res7_eq (c : Dev nD) : part m c 3328 512 (by omega) = truncf (F := Ideal) .bf16 (shapeCast S65536x512 (ProjRef.res7 (m ((c : Thread nD τ).loc main_arg0)) (m ((c : Thread nD τ).loc main_arg1)) (m ((c : Thread nD τ).loc main_arg2))) Cert.ProjRefIdeal.Facts₀.shapeCasts_S16x4096x512_S65536x512) bitsLt_bf16_f32 := by
  funext y
  obtain ⟨r, n, rfl⟩ : ∃ (r : Fin 65536) (n : Fin 512), y = ix2 r n := ⟨y 0, y 1, eq_ix2 y⟩
  rw [part_apply]
  pointwise
  rw [ProjRef.res7_apply]
  exact full_wide m c r _ ⟨3328 + n.val, by omega⟩ rfl ⟨3272 + n.val, by omega⟩ fun k => wide9 _ k n

theorem res8_eq (c : Dev nD) : part m c 3840 3072 (by omega) = truncf (F := Ideal) .bf16 (shapeCast S65536x3072 (ProjRef.res8 (m ((c : Thread nD τ).loc main_arg0)) (m ((c : Thread nD τ).loc main_arg1)) (m ((c : Thread nD τ).loc main_arg2))) Cert.ProjRefIdeal.Facts₀.shapeCasts_S16x4096x3072_S65536x3072) bitsLt_bf16_f32 := by
  funext y
  obtain ⟨r, n, rfl⟩ : ∃ (r : Fin 65536) (n : Fin 3072), y = ix2 r n := ⟨y 0, y 1, eq_ix2 y⟩
  rw [part_apply]
  pointwise
  rcases split 1024 2048 (by omega) n with ⟨n', h⟩ | ⟨n₁, h₁⟩
  · rw [ProjRef.res8_piece0 _ _ _ _ _ n n' h]; exact full_wide m c r _ ⟨3840 + n'.val, by omega⟩ (by show 3840 + n.val = 3840 + n'.val; omega) ⟨3792 + n'.val, by omega⟩ fun k => wide10 _ k n'
  rcases split 1024 1024 (by omega) n₁ with ⟨n', h'⟩ | ⟨n', h'⟩
  · have h : n.val = 1024 + n'.val := by omega
    rw [ProjRef.res8_piece1 _ _ _ _ _ n n' h]; exact full_wide m c r _ ⟨4864 + n'.val, by omega⟩ (by show 3840 + n.val = 4864 + n'.val; omega) ⟨4816 + n'.val, by omega⟩ fun k => wide11 _ k n'
  · have h : n.val = 2048 + n'.val := by omega
    rw [ProjRef.res8_piece2 _ _ _ _ _ n n' h]; exact full_wide m c r _ ⟨5888 + n'.val, by omega⟩ (by show 3840 + n.val = 5888 + n'.val; omega) ⟨5840 + n'.val, by omega⟩ fun k => wide12 _ k n'

theorem res9_eq (c : Dev nD) : part m c 6912 128 (by omega) = shapeCast S65536x128 (ProjRef.res9 (m ((c : Thread nD τ).loc main_arg0)) (m ((c : Thread nD τ).loc main_arg1)) (m ((c : Thread nD τ).loc main_arg2))) Cert.ProjRefIdeal.Facts₀.shapeCasts_S16x4096x128_S65536x128 := by
  funext y
  obtain ⟨r, n, rfl⟩ : ∃ (r : Fin 65536) (n : Fin 128), y = ix2 r n := ⟨y 0, y 1, eq_ix2 y⟩
  rw [part_apply]
  pointwise
  rcases split 8 120 (by omega) n with ⟨n', h⟩ | ⟨n₁, h₁⟩
  · rw [ProjRef.res9_piece0 _ _ _ _ _ n n' h]; exact full_narrow m c r _ ⟨n'.val, by omega⟩ (by show 6912 + n.val = 6912 + (n'.val); omega) ⟨2240 + n'.val, by omega⟩ fun k => narrow_left _ k n'
  rcases split 8 112 (by omega) n₁ with ⟨n', h'⟩ | ⟨n', h'⟩
  · have h : n.val = 8 + n'.val := by omega
    rw [ProjRef.res9_piece1 _ _ _ _ _ n n' h]; exact full_narrow m c r _ ⟨8 + n'.val, by omega⟩ (by show 6912 + n.val = 6912 + (8 + n'.val); omega) ⟨3784 + n'.val, by omega⟩ fun k => narrow_right _ k n'
  · have h : n.val = 16 + n'.val := by omega
    rw [ProjRef.res9_piece2 _ _ _ _ _ n n' h]; exact full_zero m c r _ ⟨16 + n'.val, by omega⟩ (by show 6912 + n.val = 6912 + (16 + n'.val); omega) fun k => narrow_zero _ k n'

theorem algebraic : Cert.algebraic_ProjIdeal_ProjRefIdeal := by
  intro m g m' g' _ h
  refine ⟨fun c => part m c 0 1024 (by omega), fun c => part m c 1024 512 (by omega), fun c => part m c 1536 128 (by omega), fun c => part m c 1664 512 (by omega), fun c => part m c 2176 128 (by omega), fun c => part m c 2304 512 (by omega), fun c => part m c 2816 512 (by omega), fun c => part m c 3328 512 (by omega), fun c => part m c 3840 3072 (by omega), fun c => part m c 6912 128 (by omega), ?_, ?_⟩
  · refine (θ_run Cert.ProjIdeal.defs _ _).mono (fun _ h c => ?_) (Cert.ProjIdeal.Value.run_blocks m g)
    obtain ⟨h0, h1, h2, h3, h4, h5, h6, h7, h8, h9, hk⟩ := h c
    exact ⟨h0.trans (final3 m c), h1.trans (final4 m c), h2.trans (final5 m c), h3.trans (final6 m c), h4.trans (final7 m c), h5.trans (final8 m c), h6.trans (final9 m c), h7.trans (final10 m c), h8.trans (final11 m c), h9.trans (final12 m c), hk⟩
  · refine (θ_run Cert.ProjRefIdeal.defs _ _).mono (fun _ k c => ?_) (ProjRef.run m' g')
    obtain ⟨k0, k1, k2, k3, k4, k5, k6, k7, k8, k9, kk⟩ := k c
    obtain ⟨e0, e1, e2⟩ := h c
    rw [e0, e1, e2] at k0 k1 k2 k3 k4 k5 k6 k7 k8 k9
    exact ⟨k0.trans (res0_eq m c).symm, k1.trans (res1_eq m c).symm, k2.trans (res2_eq m c).symm, k3.trans (res3_eq m c).symm, k4.trans (res4_eq m c).symm, k5.trans (res5_eq m c).symm, k6.trans (res6_eq m c).symm, k7.trans (res7_eq m c).symm, k8.trans (res8_eq m c).symm, k9.trans (res9_eq m c).symm, kk⟩

end Cert.Proof.ProjClaim

end
-- ==== Proof.MergeRows.lean ====
/- The row arithmetic of the gated merge and of the memory's attention, over the extended reals. -/
module

public import proofs.«01_k».proof.Proof.Rows

@[expose] public section

noncomputable section

namespace Cert.Proof.MergeRows

open Idealize.ShloMosaic Cert.Proof.Rows

/-- A query's logit with a key. -/
def logit (q : Fin 128 → EReal) (k : Fin 256 → Fin 128 → EReal) (s : Fin 256) : EReal := (∑ d, q d * k s d) * Ideal.ofBits .f32 0x3DB504F3#32

/-- The largest of a row of logits. -/
def top (l : Fin 256 → EReal) : EReal := (Finset.univ : Finset (Fin 256)).fold max (Ideal.ofBits .f32 0xFF800000#32) l

/-- The softmax of a row of logits. -/
def softmax (l : Fin 256 → EReal) (s : Fin 256) : EReal := Ideal.div (Ideal.exp (l s - top l)) (∑ t, Ideal.exp (l t - top l))

/-- Attention of one query to 256 keys and values. -/
def attend (q : Fin 128 → EReal) (k v : Fin 256 → Fin 128 → EReal) (d : Fin 128) : EReal := ∑ s, softmax (logit q k) s * v s d

/-- Head `h` of the attention of a row of queries to a batch's memory, whose columns are the heads' keys, then their values. -/
def head (q : Fin 512 → EReal) (kv : Fin 256 → Fin 1024 → EReal) (h : Fin 4) (d : Fin 128) : EReal :=
  attend (fun d => q ⟨128 * h.val + d.val, by omega⟩) (fun s d => kv s ⟨128 * h.val + d.val, by omega⟩)
    (fun s d => kv s ⟨512 + 128 * h.val + d.val, by omega⟩) d

/-- The heads side by side. -/
def heads (q : Fin 512 → EReal) (kv : Fin 256 → Fin 1024 → EReal) (n : Fin 512) : EReal :=
  head q kv ⟨n.val / 128, by omega⟩ ⟨n.val % 128, by omega⟩

/-- The branches' outputs, each times its weights and gated, added up. -/
def mixed (a b c : Fin 512 → EReal) (g : Fin 3072 → EReal) (w : Fin 3 → Fin 512 → Fin 1024 → EReal) : Row := fun k =>
  Ideal.logistic (g ⟨k.val, by omega⟩) * dot a (w 0) k + Ideal.logistic (g ⟨1024 + k.val, by omega⟩) * dot b (w 1) k
    + Ideal.logistic (g ⟨2048 + k.val, by omega⟩) * dot c (w 2) k

/-- The residual row after the merge, -/
def merged (x : Row) (y : Row) (wo : Fin 1024 → Fin 1024 → EReal) : Row := fun j => x j + dot y wo j

/-- and after the memory's attention. -/
def recalled (x w : Row) (wq : Fin 1024 → Fin 512 → EReal) (kv : Fin 256 → Fin 1024 → EReal) (wo : Fin 512 → Fin 1024 → EReal) : Row :=
  fun j => x j + dot (heads (dot (norm x w) wq) kv) wo j

theorem heads_at (q : Fin 512 → EReal) (kv : Fin 256 → Fin 1024 → EReal) (h : Fin 4) (d : Fin 128) (n : Fin 512) (e : n.val = 128 * h.val + d.val) :
    heads q kv n = head q kv h d := by
  unfold heads
  congr 1 <;> exact Fin.ext (by dsimp only; omega)

end Cert.Proof.MergeRows

end
-- ==== Proof.MergeBlock.lean ====
/- The merge's block: what the body leaves in the result's block, at an index, is the row arithmetic of that row. -/
module

public import proofs.«01_k».proof.Proof.Gen.MergeIdeal.Value
public import proofs.«01_k».proof.Proof.MergeRows

@[expose] public section

set_option maxRecDepth 16384

noncomputable section

namespace Cert.Proof.MergeBlock

open Cert.MergeIdeal Cert.MergeIdeal.Gen Cert.MergeIdeal.Value Idealize.ShloMosaic Idealize.ShloMosaic.TcCoe Idealize.SL.Sem
open Cert.Proof.Rows Cert.Proof.MergeRows

theorem hz : (![0, 0] : Fin 2 → Nat) = fun _ => 0 := funext fun a => by fin_cases a <;> rfl

variable (x0 : Vec Ideal S512x1024 .f32) (x1 x2 x3 : Vec Ideal S512x512 .bf16) (x4 : Vec Ideal S512x3072 .bf16)
  (x5 : Vec Ideal S3x512x1024 .bf16) (x6 : Vec Ideal S1024x1024 .bf16) (x7 : Vec Ideal S1x1024 .f32) (x8 : Vec Ideal S1024x512 .bf16)
  (x9 : Vec Ideal S256x1024 .bf16) (x10 : Vec Ideal S512x1024 .bf16)

/-- The gated sum of the branches, -/
theorem pay12_apply (r : Fin 512) (k : Fin 1024) : k0_pay12 x0 x1 x2 x3 x4 x5 x6 x7 x8 x9 x10 (ix2 r k)
    = mixed (row (R := 512) (C := 512) x1 r) (row (R := 512) (C := 512) x2 r) (row (R := 512) (C := 512) x3 r) (row (R := 512) (C := 3072) x4 r)
      (fun a s n => x5 (ix3 a s n)) k := by
  unfold k0_pay12 r0_0 r0_1 r0_2 r0_3 r0_4 r0_5 r0_6
  pointwise [k0_pay3]
  rfl

/-- the residual row after it, -/
def y (r : Fin 512) : Row :=
  merged (row (R := 512) (C := 1024) x0 r) (mixed (row (R := 512) (C := 512) x1 r) (row (R := 512) (C := 512) x2 r) (row (R := 512) (C := 512) x3 r)
    (row (R := 512) (C := 3072) x4 r) (fun a s n => x5 (ix3 a s n))) (row (R := 1024) (C := 1024) x6)

theorem pay4_apply (r : Fin 512) (j : Fin 1024) :
    k0_pay4 (k0_pay11 x0 x1 x2 x3 x4 x5 x6 x7 x8 x9 x10) (k0_pay12 x0 x1 x2 x3 x4 x5 x6 x7 x8 x9 x10) (View.ld x6 r0_8) (ix2 r j)
      = y x0 x1 x2 x3 x4 x5 x6 r j := by
  unfold k0_pay11 r0_7 r0_8
  rw [View.ld_unit_zero (S := S512x1024) hz, View.ld_unit_zero (S := S1024x1024) hz]
  pointwise [k0_pay4, k0_pay2]
  simp only [pay12_apply]
  rfl

/-- its query row, -/
theorem pay5_apply (r : Fin 512) (n : Fin 512) : k0_pay13 x0 x1 x2 x3 x4 x5 x6 x7 x8 x9 x10 (ix2 r n)
    = dot (norm (y x0 x1 x2 x3 x4 x5 x6 r) (row (R := 1) (C := 1024) x7 0)) (row (R := 1024) (C := 512) x8) n := by
  unfold k0_pay13 k0_pay5 r0_9 r0_10
  rw [View.ld_unit_zero (S := S1x1024) hz, View.ld_unit_zero (S := S1024x512) hz]
  pointwise
  simp only [pay4_apply]
  rfl

/-- The heads' outputs. -/
theorem pay6_apply (r : Fin 512) (d : Fin 128) (a : FVec Ideal S512x1024 .f32) (b : FVec Ideal S512x1024 .bf16) (w : Vec Ideal S1024x1024 .bf16)
    (g : Vec Ideal S1x1024 .f32) (u : Vec Ideal S1024x512 .bf16) :
    k0_pay6 a b w g u (View.ld x9 r0_11) (View.ld x9 r0_12) (ix2 r d)
      = head (row (R := 512) (C := 512) (k0_pay5 a b w g u) r) (row (R := 256) (C := 1024) x9) 0 d := by
  unfold k0_pay6 r0_11 r0_12
  generalize k0_pay5 a b w g u = q
  pointwise
  rfl

theorem pay7_apply (q : FVec Ideal S512x512 .bf16) (r : Fin 512) (d : Fin 128) :
    k0_pay7 q (View.ld x9 r0_13) (View.ld x9 r0_14) (ix2 r d) = head (row (R := 512) (C := 512) q r) (row (R := 256) (C := 1024) x9) 1 d := by
  unfold r0_13 r0_14
  pointwise [k0_pay7]
  rfl

theorem pay8_apply (q : FVec Ideal S512x512 .bf16) (r : Fin 512) (d : Fin 128) :
    k0_pay8 q (View.ld x9 r0_15) (View.ld x9 r0_16) (ix2 r d) = head (row (R := 512) (C := 512) q r) (row (R := 256) (C := 1024) x9) 2 d := by
  unfold r0_15 r0_16
  pointwise [k0_pay8]
  rfl

/-- The last head, from its products of queries and keys. -/
def last (p s : FVec Ideal S512x256 .f32) (v : FVec Ideal S256x128 .bf16) : FVec Ideal S512x128 .f32 :=
  let l : FVec Ideal S512x256 .f32 := mulf p s
  let e : FVec Ideal S512x256 .f32 := exp (subf l (broadcastTo S512x256 (shapeCast S512x1 (multiReduction .maximumf [1] S512 l 0xFF800000#32 reduces_S512x256_S512 (.inl rfl) rfl) shapeCasts_S512_S512x1) broadcasts_S512x1_S512x256))
  matmul dot_S512x256_S256x128_S512x128_1_0_0_1_n_n none (truncf (F := Ideal) .bf16 (divf e (broadcastTo S512x256 (shapeCast S512x1 (multiReduction .add [1] S512 e 0x00000000#32 reduces_S512x256_S512 (.inl rfl) rfl) shapeCasts_S512_S512x1) broadcasts_S512x1_S512x256)) bitsLt_bf16_f32)
    v (constant S512x128 .f32 0x00000000#32)

theorem last_apply (q : FVec Ideal S512x512 .bf16) (r : Fin 512) (d : Fin 128) :
    last (k0_pay9 q (View.ld x9 r0_17)) k0_pay10 (View.ld x9 r0_18) (ix2 r d) = head (row (R := 512) (C := 512) q r) (row (R := 256) (C := 1024) x9) 3 d := by
  unfold last r0_17 r0_18
  pointwise [k0_pay9, k0_pay10]
  rfl

/-- Four heads side by side. -/
def four (a b c d : FVec Ideal S512x128 .f32) : FVec Ideal S512x512 .f32 :=
  concatenate S512x512 1 [⟨S512x128, a⟩, ⟨S512x128, b⟩, ⟨S512x128, c⟩, ⟨S512x128, d⟩] concatenates_S512x128_S512x128_S512x128_S512x128_S512x512_d1

/-- A concatenation along the columns, read in the piece whose columns start at `p`. -/
theorem piece {R W T : Nat} (xs : List ((s : Shape) × (s.Idx → EReal))) (h : Shape.Concatenates (xs.map (·.1)) ⟨2, ![R, T]⟩ 1)
    (K : Nat) (hK : K < xs.length) (x : (⟨2, ![R, W]⟩ : Shape).Idx → EReal) (hx : xs[K] = ⟨⟨2, ![R, W]⟩, x⟩) (p : Nat)
    (hp : (((xs.take K).map (·.1)).map fun s => if h : s.rank = (⟨2, ![R, T]⟩ : Shape).rank then s.size ((1 : Fin 2).cast h.symm) else 0).sum = p)
    (r : Fin R) (n : Fin W) (m : Fin T) (hn : m.val = p + n.val) : concatenate ⟨2, ![R, T]⟩ 1 xs h (ix2 r m) = x (ix2 r n) := by
  refine concatenate_apply_piece (t := ⟨2, ![R, T]⟩) 1 xs h _ K hK _ x hx rfl p hp (ix2 r n) (fun b hb => ?_) hn.symm
  match b, hb with
  | ⟨0, _⟩, _ => rfl
  | ⟨1, _⟩, hb => exact absurd rfl hb

theorem four_apply (a b c d : FVec Ideal S512x128 .f32) (f : Fin 4 → Fin 128 → EReal) (r : Fin 512) (n : Fin 512)
    (ha : ∀ k, a (ix2 r k) = f 0 k) (hb : ∀ k, b (ix2 r k) = f 1 k) (hc : ∀ k, c (ix2 r k) = f 2 k) (hd : ∀ k, d (ix2 r k) = f 3 k) :
    four a b c d (ix2 r n) = f ⟨n.val / 128, by omega⟩ ⟨n.val % 128, by omega⟩ := by
  unfold four
  obtain ⟨h, k, e⟩ : ∃ (h : Fin 4) (k : Fin 128), n.val = h.val * 128 + k.val := ⟨⟨n.val / 128, by omega⟩, ⟨n.val % 128, by omega⟩, by dsimp only; omega⟩
  have eh : (⟨n.val / 128, by omega⟩ : Fin 4) = h := Fin.ext (by dsimp only; omega)
  have ek : (⟨n.val % 128, by omega⟩ : Fin 128) = k := Fin.ext (by dsimp only; omega)
  rw [eh, ek]
  match h, e with
  | 0, e => exact (piece (T := 512) _ _ 0 (by simp) _ rfl 0 (by sl_kernel_rfl) r k n e).trans (ha k)
  | 1, e => exact (piece (T := 512) _ _ 1 (by simp) _ rfl 128 (by sl_kernel_rfl) r k n e).trans (hb k)
  | 2, e => exact (piece (T := 512) _ _ 2 (by simp) _ rfl 256 (by sl_kernel_rfl) r k n e).trans (hc k)
  | 3, e => exact (piece (T := 512) _ _ 3 (by simp) _ rfl 384 (by sl_kernel_rfl) r k n e).trans (hd k)

theorem pay1_apply (v : FVec Ideal S512x1024 .f32) (a b c : FVec Ideal S512x128 .f32) (p s : FVec Ideal S512x256 .f32) (u : FVec Ideal S256x128 .bf16)
    (w : FVec Ideal S512x1024 .bf16) (r : Fin 512) (j : Fin 1024) :
    k0_pay1 v a b c p s u w (ix2 r j) = v (ix2 r j) + ∑ n : Fin 512, four a b c (last p s u) (ix2 r n) * w (ix2 n j) := by
  show addf v (matmul dot_S512x512_S512x1024_S512x1024_1_0_0_1_n_n none (truncf (F := Ideal) .bf16 (four a b c (last p s u)) bitsLt_bf16_f32)
    (shapeCast S512x1024 w shapeCasts_S512x1024_S512x1024) (constant S512x1024 .f32 0x00000000#32)) (ix2 r j) = _
  pointwise

/-- What the body leaves in the result's block, at an index. -/
theorem out_apply (r : Fin 512) (j : Fin 1024) : out0_11 x0 x1 x2 x3 x4 x5 x6 x7 x8 x9 x10 (ix2 r j)
    = recalled (y x0 x1 x2 x3 x4 x5 x6 r) (row (R := 1) (C := 1024) x7 0) (row (R := 1024) (C := 512) x8) (row (R := 256) (C := 1024) x9)
      (row (R := 512) (C := 1024) x10) j := by
  have hq : row (R := 512) (C := 512) (k0_pay13 x0 x1 x2 x3 x4 x5 x6 x7 x8 x9 x10) r
      = dot (norm (y x0 x1 x2 x3 x4 x5 x6 r) (row (R := 1) (C := 1024) x7 0)) (row (R := 1024) (C := 512) x8) := funext fun n => pay5_apply ..
  unfold out0_11 r0_7
  rw [View.canon_unit_zero hz, pay1_apply, pay4_apply, View.ld_unit_zero (S := S512x1024) hz]
  refine congrArg _ (Finset.sum_congr rfl fun n _ => congrArg (· * _) ?_)
  refine (four_apply _ _ _ _ (head _ _) r n (fun k => ?_) (fun k => pay7_apply x9 _ r k) (fun k => pay8_apply x9 _ r k) (fun k => last_apply x9 _ r k)).trans ?_
  · exact pay6_apply x9 r k _ _ _ _ _
  · rw [hq]; rfl

end Cert.Proof.MergeBlock

end
-- ==== Proof.MergeValue.lean ====
/- The merge's result: row by row, the row arithmetic of the arrays as the region finds them. -/
module

public import proofs.«01_k».proof.Proof.MergeBlock

@[expose] public section

set_option maxRecDepth 16384

noncomputable section

namespace Cert.Proof.MergeValue

open Cert.MergeIdeal Cert.MergeIdeal.Gen Cert.MergeIdeal.Value Idealize.ShloMosaic Idealize.ShloMosaic.TcCoe Idealize.SL.Sem
open Cert.Proof.Rows Cert.Proof.MergeRows Cert.Proof.MergeBlock

open Idealize.ShloMosaic.Pipeline (Dat)

variable (m : (ℓ : Loc nD τ sig) → Buf (Elt Ideal) ℓ)

/-- The rows of a batch's memory. -/
def memory (kv : FVec Ideal S4096x1024 .bf16) (a : Fin 16) : Fin 256 → Fin 1024 → EReal := fun s n => kv (ix2 ⟨a.val * 256 + s.val, by omega⟩ n)

/-- The result's row `r`. -/
def G (c : Dev nD) : FVec Ideal S65536x1024 .f32 := fun y =>
  recalled (merged (row (R := 65536) (C := 1024) (V m c main_v0) (y 0)) (mixed (row (R := 65536) (C := 512) (V m c main_arg1) (y 0))
      (row (R := 65536) (C := 512) (V m c main_arg2) (y 0)) (row (R := 65536) (C := 512) (V m c main_arg3) (y 0))
      (row (R := 65536) (C := 3072) (V m c main_arg4) (y 0)) (fun a s n => (V m c main_v1 : S3x512x1024.Idx → EReal) (ix3 a s n)))
      (row (R := 1024) (C := 1024) (V m c main_v2)))
    (row (R := 1) (C := 1024) (V m c main_v3) 0) (row (R := 1024) (C := 512) (V m c main_v4))
    (memory (V m c main_arg9) ⟨(y 0).val / 4096, by have : (y 0).val < 65536 := (y 0).isLt; omega⟩) (row (R := 512) (C := 1024) (V m c main_v5)) (y 1)

theorem G_apply (c : Dev nD) (r : Fin 65536) (j : Fin 1024) : G m c (ix2 r j) =
  recalled (merged (row (R := 65536) (C := 1024) (V m c main_v0) r) (mixed (row (R := 65536) (C := 512) (V m c main_arg1) r)
      (row (R := 65536) (C := 512) (V m c main_arg2) r) (row (R := 65536) (C := 512) (V m c main_arg3) r)
      (row (R := 65536) (C := 3072) (V m c main_arg4) r) (fun a s n => (V m c main_v1 : S3x512x1024.Idx → EReal) (ix3 a s n)))
      (row (R := 1024) (C := 1024) (V m c main_v2)))
    (row (R := 1) (C := 1024) (V m c main_v3) 0) (row (R := 1024) (C := 512) (V m c main_v4))
    (memory (V m c main_arg9) ⟨r.val / 4096, by omega⟩) (row (R := 512) (C := 1024) (V m c main_v5)) j := rfl

theorem idx_rows : ∀ t : Fin cfg0.N, (win0_0.index t (0 : Fin 2) = t.val ∧ win0_0.index t (1 : Fin 2) = 0)
    ∧ (win0_1.index t (0 : Fin 2) = t.val ∧ win0_1.index t (1 : Fin 2) = 0) ∧ (win0_2.index t (0 : Fin 2) = t.val ∧ win0_2.index t (1 : Fin 2) = 0)
    ∧ (win0_3.index t (0 : Fin 2) = t.val ∧ win0_3.index t (1 : Fin 2) = 0) ∧ (win0_4.index t (0 : Fin 2) = t.val ∧ win0_4.index t (1 : Fin 2) = 0)
    ∧ (win0_9.index t (0 : Fin 2) = t.val / 8 ∧ win0_9.index t (1 : Fin 2) = 0)
    ∧ (win0_11.index t (0 : Fin 2) = t.val ∧ win0_11.index t (1 : Fin 2) = 0) :=
  (by decide +kernel : ∀ t : Fin grid0.N, _)

theorem idx_const : ∀ t : Fin cfg0.N, (win0_5.index t (0 : Fin 3) = 0 ∧ win0_5.index t (1 : Fin 3) = 0 ∧ win0_5.index t (2 : Fin 3) = 0)
    ∧ (win0_6.index t (0 : Fin 2) = 0 ∧ win0_6.index t (1 : Fin 2) = 0) ∧ (win0_7.index t (0 : Fin 2) = 0 ∧ win0_7.index t (1 : Fin 2) = 0)
    ∧ (win0_8.index t (0 : Fin 2) = 0 ∧ win0_8.index t (1 : Fin 2) = 0) ∧ (win0_10.index t (0 : Fin 2) = 0 ∧ win0_10.index t (1 : Fin 2) = 0) :=
  (by decide +kernel : ∀ t : Fin grid0.N, _)

theorem t_lt (t : Fin cfg0.N) : t.val < 128 := by
  have h := t.isLt
  have hN : cfg0.N = 128 := N_0
  omega

theorem row_lt (t : Fin cfg0.N) (r : Fin 512) : t.val * 512 + r.val < 65536 := by
  have h := t_lt t
  omega

/-- The array's row of a block's row. -/
def at' (t : Fin cfg0.N) (r : Fin 512) : Fin 65536 := ⟨t.val * 512 + r.val, row_lt t r⟩

/-- An array's index from a block's place and an index in the block. -/
theorem place (t : Fin cfg0.N) (C : Nat) (i : (⟨2, ![65536, C]⟩ : Shape).Idx) (r : Fin 512) (k : Fin C)
    (h0 : (i 0).val = t.val * 512 + 1 * r.val) (h1 : (i 1).val = 0 * C + 1 * k.val) : i = ix2 (at' t r) k := by
  refine funext fun a => Fin.ext ?_
  match a with
  | ⟨0, _⟩ => show (i 0).val = t.val * 512 + r.val; omega
  | ⟨1, _⟩ => show (i 1).val = k.val; omega

theorem row0 (c : Dev nD) (t : Fin cfg0.N) (r : Fin 512) :
    row (R := 512) (C := 1024) (iblk m c 0 t) r = row (R := 65536) (C := 1024) (V m c main_v0) (at' t r) := by
  obtain ⟨⟨e0, e1⟩, -⟩ := idx_rows t
  funext k
  refine congrArg (V m c main_v0) (place t 1024 _ r k ?_ ?_)
  · show win0_0.index t (0 : Fin 2) * 512 + 1 * r.val = _; rw [e0]
  · show win0_0.index t (1 : Fin 2) * 1024 + 1 * k.val = _; rw [e1]

theorem row1 (c : Dev nD) (t : Fin cfg0.N) (r : Fin 512) :
    row (R := 512) (C := 512) (iblk m c 1 t) r = row (R := 65536) (C := 512) (V m c main_arg1) (at' t r) := by
  obtain ⟨-, ⟨e0, e1⟩, -⟩ := idx_rows t
  funext k
  refine congrArg (V m c main_arg1) (place t 512 _ r k ?_ ?_)
  · show win0_1.index t (0 : Fin 2) * 512 + 1 * r.val = _; rw [e0]
  · show win0_1.index t (1 : Fin 2) * 512 + 1 * k.val = _; rw [e1]

theorem row2 (c : Dev nD) (t : Fin cfg0.N) (r : Fin 512) :
    row (R := 512) (C := 512) (iblk m c 2 t) r = row (R := 65536) (C := 512) (V m c main_arg2) (at' t r) := by
  obtain ⟨-, -, ⟨e0, e1⟩, -⟩ := idx_rows t
  funext k
  refine congrArg (V m c main_arg2) (place t 512 _ r k ?_ ?_)
  · show win0_2.index t (0 : Fin 2) * 512 + 1 * r.val = _; rw [e0]
  · show win0_2.index t (1 : Fin 2) * 512 + 1 * k.val = _; rw [e1]

theorem row3 (c : Dev nD) (t : Fin cfg0.N) (r : Fin 512) :
    row (R := 512) (C := 512) (iblk m c 3 t) r = row (R := 65536) (C := 512) (V m c main_arg3) (at' t r) := by
  obtain ⟨-, -, -, ⟨e0, e1⟩, -⟩ := idx_rows t
  funext k
  refine congrArg (V m c main_arg3) (place t 512 _ r k ?_ ?_)
  · show win0_3.index t (0 : Fin 2) * 512 + 1 * r.val = _; rw [e0]
  · show win0_3.index t (1 : Fin 2) * 512 + 1 * k.val = _; rw [e1]

theorem row4 (c : Dev nD) (t : Fin cfg0.N) (r : Fin 512) :
    row (R := 512) (C := 3072) (iblk m c 4 t) r = row (R := 65536) (C := 3072) (V m c main_arg4) (at' t r) := by
  obtain ⟨-, -, -, -, ⟨e0, e1⟩, -⟩ := idx_rows t
  funext k
  refine congrArg (V m c main_arg4) (place t 3072 _ r k ?_ ?_)
  · show win0_4.index t (0 : Fin 2) * 512 + 1 * r.val = _; rw [e0]
  · show win0_4.index t (1 : Fin 2) * 3072 + 1 * k.val = _; rw [e1]

theorem rows9 (c : Dev nD) (t : Fin cfg0.N) :
    row (R := 256) (C := 1024) (iblk m c 9 t) = memory (V m c main_arg9) ⟨t.val / 8, by have := t_lt t; omega⟩ := by
  obtain ⟨-, -, -, -, -, ⟨e0, e1⟩, -⟩ := idx_rows t
  funext s n
  refine congrArg (V m c main_arg9) (funext fun a => Fin.ext ?_)
  match a with
  | ⟨0, _⟩ => show win0_9.index t (0 : Fin 2) * 256 + 1 * s.val = t.val / 8 * 256 + s.val; rw [e0]; omega
  | ⟨1, _⟩ => show win0_9.index t (1 : Fin 2) * 1024 + 1 * n.val = n.val; rw [e1]; omega

theorem iblk5 (c : Dev nD) (t : Fin cfg0.N) : iblk m c 5 t = V m c main_v1 := by
  obtain ⟨⟨e0, e1, e2⟩, -⟩ := idx_const t
  funext j
  refine congrArg (V m c main_v1) (funext fun a => Fin.ext ?_)
  match a with
  | ⟨0, _⟩ => show win0_5.index t (0 : Fin 3) * 3 + 1 * (j 0).val = (j 0).val; rw [e0]; omega
  | ⟨1, _⟩ => show win0_5.index t (1 : Fin 3) * 512 + 1 * (j 1).val = (j 1).val; rw [e1]; omega
  | ⟨2, _⟩ => show win0_5.index t (2 : Fin 3) * 1024 + 1 * (j 2).val = (j 2).val; rw [e2]; omega

theorem iblk6 (c : Dev nD) (t : Fin cfg0.N) : iblk m c 6 t = V m c main_v2 := by
  obtain ⟨-, ⟨e0, e1⟩, -⟩ := idx_const t
  funext j
  refine congrArg (V m c main_v2) (funext fun a => Fin.ext ?_)
  match a with
  | ⟨0, _⟩ => show win0_6.index t (0 : Fin 2) * 1024 + 1 * (j 0).val = (j 0).val; rw [e0]; omega
  | ⟨1, _⟩ => show win0_6.index t (1 : Fin 2) * 1024 + 1 * (j 1).val = (j 1).val; rw [e1]; omega

theorem iblk7 (c : Dev nD) (t : Fin cfg0.N) : iblk m c 7 t = V m c main_v3 := by
  obtain ⟨-, -, ⟨e0, e1⟩, -⟩ := idx_const t
  funext j
  refine congrArg (V m c main_v3) (funext fun a => Fin.ext ?_)
  match a with
  | ⟨0, _⟩ => show win0_7.index t (0 : Fin 2) * 1 + 1 * (j 0).val = (j 0).val; rw [e0]; omega
  | ⟨1, _⟩ => show win0_7.index t (1 : Fin 2) * 1024 + 1 * (j 1).val = (j 1).val; rw [e1]; omega

theorem iblk8 (c : Dev nD) (t : Fin cfg0.N) : iblk m c 8 t = V m c main_v4 := by
  obtain ⟨-, -, -, ⟨e0, e1⟩, -⟩ := idx_const t
  funext j
  refine congrArg (V m c main_v4) (funext fun a => Fin.ext ?_)
  match a with
  | ⟨0, _⟩ => show win0_8.index t (0 : Fin 2) * 1024 + 1 * (j 0).val = (j 0).val; rw [e0]; omega
  | ⟨1, _⟩ => show win0_8.index t (1 : Fin 2) * 512 + 1 * (j 1).val = (j 1).val; rw [e1]; omega

theorem iblk10 (c : Dev nD) (t : Fin cfg0.N) : iblk m c 10 t = V m c main_v5 := by
  obtain ⟨-, -, -, -, e0, e1⟩ := idx_const t
  funext j
  refine congrArg (V m c main_v5) (funext fun a => Fin.ext ?_)
  match a with
  | ⟨0, _⟩ => show win0_10.index t (0 : Fin 2) * 512 + 1 * (j 0).val = (j 0).val; rw [e0]; omega
  | ⟨1, _⟩ => show win0_10.index t (1 : Fin 2) * 1024 + 1 * (j 1).val = (j 1).val; rw [e1]; omega

/-- What a grid point writes back is its block of `G`. -/
theorem flushed_eq (c : Dev nD) (t : Fin cfg0.N) :
    (dats m 0 c).flushed 11 t = ((cfg0.win 11).blk t).view.read (Elt Ideal) (G m c) := by
  rw [flushed11, iblk5, iblk6, iblk7, iblk8, iblk10]
  obtain ⟨-, -, -, -, -, -, e0, e1⟩ := idx_rows t
  funext j
  idx_vars j
  have e : ((cfg0.win 11).blk t).view.emb (ix2 j0 j1) = (ix2 (at' t j0) j1 : S65536x1024.Idx) := by
    refine place t 1024 _ j0 j1 ?_ ?_
    · show win0_11.index t (0 : Fin 2) * 512 + 1 * j0.val = _; rw [e0]
    · show win0_11.index t (1 : Fin 2) * 1024 + 1 * j1.val = _; rw [e1]
  refine Eq.trans ?_ (congrArg (G m c) e).symm
  refine (out_apply (iblk m c 0 t) (iblk m c 1 t) (iblk m c 2 t) (iblk m c 3 t) (iblk m c 4 t) (V m c main_v1) (V m c main_v2) (V m c main_v3)
    (V m c main_v4) (iblk m c 9 t) (V m c main_v5) j0 j1).trans ?_
  unfold y
  rw [row0, row1, row2, row3, row4, rows9]
  have h : (at' t j0).val / 4096 = t.val / 8 := by
    show (t.val * 512 + j0.val) / 4096 = t.val / 8
    omega
  unfold G
  have hb : (⟨t.val / 8, by have := t_lt t; omega⟩ : Fin 16) = ⟨(at' t j0).val / 4096, by have := (at' t j0).isLt; omega⟩ := Fin.ext h.symm
  rw [hb]
  rfl

/-- A row's index lies in the block of its grid point. -/
theorem mem_blk (t : Fin cfg0.N) (i : S65536x1024.Idx) (h : t.val * 512 ≤ (i 0).val ∧ (i 0).val < t.val * 512 + 512) :
    i ∈ ((cfg0.win 11).blk t).view.set := by
  show i ∈ ((View.whole main_v6).slice (win0_11.rect t)).set
  rw [View.set_slice_whole, Rect.mem_set_unit]
  obtain ⟨-, -, -, -, -, -, e0, e1⟩ := idx_rows t
  have h1 : (i 1).val < 1024 := (i 1).isLt
  intro a
  match a with
  | ⟨0, _⟩ =>
    show win0_11.index t (0 : Fin 2) * 512 ≤ (i 0).val ∧ (i 0).val < win0_11.index t (0 : Fin 2) * 512 + 512
    rw [e0]; exact h
  | ⟨1, _⟩ =>
    show win0_11.index t (1 : Fin 2) * 1024 ≤ (i 1).val ∧ (i 1).val < win0_11.index t (1 : Fin 2) * 1024 + 1024
    rw [e1, Nat.zero_mul, Nat.zero_add]; exact ⟨Nat.zero_le _, h1⟩

/-- The blocks cover the result array. -/
theorem cover (i : S65536x1024.Idx) : ∃ t : Fin cfg0.N, (cfg0.win 11).flush t = true ∧ i ∈ ((cfg0.win 11).blk t).view.set := by
  have h0 : (i 0).val < 65536 := (i 0).isLt
  have hN : cfg0.N = 128 := N_0
  obtain ⟨t, ht⟩ : ∃ t : Fin cfg0.N, t.val = (i 0).val / 512 := ⟨⟨_, by omega⟩, rfl⟩
  exact ⟨t, flush0_11 t, mem_blk t i (by rw [ht]; omega)⟩

theorem final (c : Dev nD) : (dats m 0 c).arrAt 11 cfg0.N = G m c :=
  (dats m 0 c).arrAt_eq_of_cover 11 (G m c) (fun t _ => flushed_eq m c t) cover

/-! The arrays that the region finds are the arguments, cast and reshaped. -/

theorem V0 (c : Dev nD) : V m c main_v0 = shapeCast S65536x1024 (m ((c : Thread nD τ).loc main_arg0)) shapeCasts_S16x4096x1024_S65536x1024 := by
  unfold V hostOps0
  after_results_simp
  rfl

theorem V1 (c : Dev nD) : V m c main_v1 = truncf (F := Ideal) .bf16 (m ((c : Thread nD τ).loc main_arg5)) bitsLt_bf16_f32 := by
  unfold V hostOps0
  after_results_simp

theorem V2 (c : Dev nD) : V m c main_v2 = truncf (F := Ideal) .bf16 (m ((c : Thread nD τ).loc main_arg6)) bitsLt_bf16_f32 := by
  unfold V hostOps0
  after_results_simp

theorem V3 (c : Dev nD) : V m c main_v3 = shapeCast S1x1024 (m ((c : Thread nD τ).loc main_arg7)) shapeCasts_S1024_S1x1024 := by
  unfold V hostOps0
  after_results_simp
  rfl

theorem V4 (c : Dev nD) : V m c main_v4 = truncf (F := Ideal) .bf16 (m ((c : Thread nD τ).loc main_arg8)) bitsLt_bf16_f32 := by
  unfold V hostOps0
  after_results_simp

theorem V5 (c : Dev nD) : V m c main_v5 = truncf (F := Ideal) .bf16 (m ((c : Thread nD τ).loc main_arg10)) bitsLt_bf16_f32 := by
  unfold V hostOps0
  after_results_simp

end Cert.Proof.MergeValue

end
-- ==== Proof.MergeRefValue.lean ====
/- The merge's reference: its result, at an index, is the row arithmetic of that token's row. -/
module

public import proofs.«01_k».proof.Proof.Gen.MergeRefIdeal.Run
public import proofs.«01_k».proof.Proof.MergeRows

@[expose] public section

set_option maxRecDepth 16384

noncomputable section

namespace Cert.Proof.MergeRef

open Cert.MergeRefIdeal Cert.MergeRefIdeal.Facts Cert.MergeRefIdeal.Gen Cert.MergeRefIdeal.Value Idealize.ShloMosaic Idealize.ShloMosaic.TcCoe Idealize.SL.Sem
open Cert.Proof.Rows Cert.Proof.MergeRows

variable (x : FVec Ideal S16x4096x1024 .f32) (oa ob oc : FVec Ideal S65536x512 .bf16) (g : FVec Ideal S65536x3072 .bf16)
  (wb : FVec Ideal S3x512x1024 .f32) (wo : FVec Ideal S1024x1024 .f32) (w : FVec Ideal S1024 .f32) (wq : FVec Ideal S1024x512 .f32)
  (kv : FVec Ideal S4096x1024 .bf16) (wm : FVec Ideal S512x1024 .f32)

/-- Token `b` of batch `a` in the flattened arrays. -/
def tok (a : Fin 16) (b : Fin 4096) : Fin 65536 := ⟨a.val * 4096 + b.val, by omega⟩

/-- A branch's output, by batch, -/
def branch (o : FVec Ideal S65536x512 .bf16) : FVec Ideal S16x4096x512 .f32 :=
  shapeCast S16x4096x512 (extf (F := Ideal) .f32 o bitsLt_bf16_f32) shapeCasts_S65536x512_S16x4096x512

theorem branch_apply (o : FVec Ideal S65536x512 .bf16) (a : Fin 16) (b : Fin 4096) (s : Fin 512) :
    branch o (ix3 a b s) = row (R := 65536) (C := 512) o (tok a b) s := by
  unfold branch
  pointwise
  rfl

/-- the gates, -/
def gates : FVec Ideal S16x4096x3072 .f32 :=
  shapeCast S16x4096x3072 (extf (F := Ideal) .f32 g bitsLt_bf16_f32) shapeCasts_S65536x3072_S16x4096x3072

theorem gates_apply (a : Fin 16) (b : Fin 4096) (s : Fin 3072) : gates g (ix3 a b s) = row (R := 65536) (C := 3072) g (tok a b) s := by
  unfold gates
  pointwise
  rfl

/-- the logistic of a gate, -/
def logistic' (s : FVec Ideal S16x4096x1024 .f32) : FVec Ideal S16x4096x1024 .f32 :=
  Host.divf (broadcastInDim S16x4096x1024 ![] bcast_S_S16x4096x1024 (constant S_ .f32 0x3F800000#32))
    (addf (broadcastInDim S16x4096x1024 ![] bcast_S_S16x4096x1024 (constant S_ .f32 0x3F800000#32)) (Host.exp (Host.negf s)))

theorem logistic_apply (s : FVec Ideal S16x4096x1024 .f32) (a : Fin 16) (b : Fin 4096) (k : Fin 1024) :
    logistic' s (ix3 a b k) = Ideal.logistic (s (ix3 a b k)) := by
  unfold logistic'
  pointwise
  rfl

/-- the gated sum of the branches' products, -/
def mix : FVec Ideal S16x4096x1024 .f32 :=
  addf (addf
    (mulf (logistic' (extractStridedSlice S16x4096x1024 ![0, 0, 0] (gates g) slices_S16x4096x3072_S16x4096x1024_0_0_0))
      (Host.dotGeneral dot_S16x4096x512_S512x1024_S16x4096x1024_2_0_01_1_n_n none (branch oa) (shapeCast S512x1024 (extractStridedSlice S1x512x1024 ![0, 0, 0] wb slices_S3x512x1024_S1x512x1024_0_0_0) shapeCasts_S1x512x1024_S512x1024)))
    (mulf (logistic' (extractStridedSlice S16x4096x1024 ![0, 0, 1024] (gates g) slices_S16x4096x3072_S16x4096x1024_0_0_1024))
      (Host.dotGeneral dot_S16x4096x512_S512x1024_S16x4096x1024_2_0_01_1_n_n none (branch ob) (shapeCast S512x1024 (extractStridedSlice S1x512x1024 ![1, 0, 0] wb slices_S3x512x1024_S1x512x1024_1_0_0) shapeCasts_S1x512x1024_S512x1024))))
    (mulf (logistic' (extractStridedSlice S16x4096x1024 ![0, 0, 2048] (gates g) slices_S16x4096x3072_S16x4096x1024_0_0_2048))
      (Host.dotGeneral dot_S16x4096x512_S512x1024_S16x4096x1024_2_0_01_1_n_n none (branch oc) (shapeCast S512x1024 (extractStridedSlice S1x512x1024 ![2, 0, 0] wb slices_S3x512x1024_S1x512x1024_2_0_0) shapeCasts_S1x512x1024_S512x1024)))

/-- The gated sum's row for a token. -/
def mixRow (a : Fin 16) (b : Fin 4096) : Row :=
  mixed (row (R := 65536) (C := 512) oa (tok a b)) (row (R := 65536) (C := 512) ob (tok a b)) (row (R := 65536) (C := 512) oc (tok a b))
    (row (R := 65536) (C := 3072) g (tok a b)) (fun i s n => wb (ix3 i s n))

theorem mix_apply (a : Fin 16) (b : Fin 4096) (k : Fin 1024) : mix oa ob oc g wb (ix3 a b k) = mixRow oa ob oc g wb a b k := by
  unfold mix
  pointwise
  simp only [logistic_apply, branch_apply]
  pointwise
  simp only [gates_apply]
  rfl

/-- the residual after it, -/
def res : FVec Ideal S16x4096x1024 .f32 :=
  addf x (Host.dotGeneral dot_S16x4096x1024_S1024x1024_S16x4096x1024_2_0_01_1_n_n none (mix oa ob oc g wb) wo)

/-- The residual's row for a token. -/
def resRow (a : Fin 16) (b : Fin 4096) : Row :=
  merged (fun k => x (ix3 a b k)) (mixRow oa ob oc g wb a b) (row (R := 1024) (C := 1024) wo)

theorem res_apply (a : Fin 16) (b : Fin 4096) (k : Fin 1024) : res x oa ob oc g wb wo (ix3 a b k) = resRow x oa ob oc g wb wo a b k := by
  unfold res
  pointwise
  simp only [mix_apply]
  rfl

/-- its norm, -/
def normed (y : FVec Ideal S16x4096x1024 .f32) : FVec Ideal S16x4096x1024 .f32 :=
  mulf (mulf y (broadcastInDim S16x4096x1024 ![0, 1, 2] bcast_S16x4096x1_S16x4096x1024_0_1_2 (Host.rsqrt (addf (Host.divf (broadcastInDim S16x4096x1 ![0, 1] bcast_S16x4096_S16x4096x1_0_1 (Host.reduceAdd (mulf y y) (constant S_ .f32 0x00000000#32) reducesTo_S16x4096x1024_S16x4096_d2 h_S_)) (broadcastInDim S16x4096x1 ![] bcast_S_S16x4096x1 (constant S_ .f32 0x44800000#32))) (broadcastInDim S16x4096x1 ![] bcast_S_S16x4096x1 (constant S_ .f32 0x358637BD#32)))))) (broadcastInDim S16x4096x1024 ![0, 1, 2] bcast_S1x1x1024_S16x4096x1024_0_1_2 (broadcastInDim S1x1x1024 ![2] bcast_S1024_S1x1x1024_2 w))

theorem normed_apply (y : FVec Ideal S16x4096x1024 .f32) (a : Fin 16) (b : Fin 4096) (k : Fin 1024) :
    normed w y (ix3 a b k) = norm (fun k => y (ix3 a b k)) (fun k => w (ix1 k)) k := by
  unfold normed
  pointwise
  rfl

/-- the queries by head, -/
def query (y : FVec Ideal S16x4096x1024 .f32) : FVec Ideal S16x4096x4x128 .f32 :=
  shapeCast S16x4096x4x128 (Host.dotGeneral dot_S16x4096x1024_S1024x512_S16x4096x512_2_0_01_1_n_n none (normed w y) wq) shapeCasts_S16x4096x512_S16x4096x4x128

theorem query_apply (y : FVec Ideal S16x4096x1024 .f32) (a : Fin 16) (b : Fin 4096) (h : Fin 4) (d : Fin 128) :
    query w wq y (ix4 a b h d)
      = dot (norm (fun k => y (ix3 a b k)) (fun k => w (ix1 k))) (row (R := 1024) (C := 512) wq) ⟨128 * h.val + d.val, by omega⟩ := by
  unfold query
  pointwise
  simp only [normed_apply]
  exact congrArg (dot _ (row (R := 1024) (C := 512) wq)) (Fin.ext (by simp only; omega))

/-- the memory by batch, -/
def mem : FVec Ideal S16x256x1024 .f32 := shapeCast S16x256x1024 (extf (F := Ideal) .f32 kv bitsLt_bf16_f32) shapeCasts_S4096x1024_S16x256x1024

/-- The rows of a batch's memory. -/
def memRows (a : Fin 16) : Fin 256 → Fin 1024 → EReal := fun s n => kv (ix2 ⟨a.val * 256 + s.val, by omega⟩ n)

/-- its keys by head, -/
def keys : FVec Ideal S16x256x4x128 .f32 :=
  shapeCast S16x256x4x128 (extractStridedSlice S16x256x512 ![0, 0, 0] (mem kv) slices_S16x256x1024_S16x256x512_0_0_0) shapeCasts_S16x256x512_S16x256x4x128

theorem keys_apply (a : Fin 16) (s : Fin 256) (h : Fin 4) (d : Fin 128) :
    keys kv (ix4 a s h d) = memRows kv a s ⟨128 * h.val + d.val, by omega⟩ := by
  unfold keys mem
  pointwise
  exact congrArg (memRows kv a s) (Fin.ext (by simp only; omega))

/-- and its values. -/
def vals : FVec Ideal S16x256x4x128 .f32 :=
  shapeCast S16x256x4x128 (extractStridedSlice S16x256x512 ![0, 0, 512] (mem kv) slices_S16x256x1024_S16x256x512_0_0_512) shapeCasts_S16x256x512_S16x256x4x128

theorem vals_apply (a : Fin 16) (s : Fin 256) (h : Fin 4) (d : Fin 128) :
    vals kv (ix4 a s h d) = memRows kv a s ⟨512 + 128 * h.val + d.val, by omega⟩ := by
  unfold vals mem
  pointwise
  exact congrArg (memRows kv a s) (Fin.ext (by simp only; omega))

variable (q : FVec Ideal S16x4096x4x128 .f32) (k v : FVec Ideal S16x256x4x128 .f32)

/-- The logits, -/
def logits : FVec Ideal S16x4x4096x256 .f32 :=
  mulf (Host.dotGeneral dot_S16x4096x4x128_S16x256x4x128_S16x4x4096x256_3_3_1_1_02_02 none q k)
    (broadcastInDim S16x4x4096x256 ![] bcast_S_S16x4x4096x256 (constant S_ .f32 0x3DB504F3#32))

theorem logits_apply (a : Fin 16) (h : Fin 4) (b : Fin 4096) (s : Fin 256) :
    logits q k (ix4 a h b s) = logit (fun d => q (ix4 a b h d)) (fun s d => k (ix4 a s h d)) s := by
  unfold logits
  pointwise
  rfl

theorem max_fold (c : EReal) (f : Fin 256 → EReal) : max c (Finset.univ.fold max c f) = Finset.univ.fold max c f :=
  max_eq_right ((Finset.le_fold_max _).2 (Or.inl le_rfl))

/-- The fold over the logits of a row. -/
def rowMax (l : FVec Ideal S16x4x4096x256 .f32) : FVec Ideal S16x4x4096 .f32 :=
  Host.reduce FloatOps.maximumf l (constant (F := Ideal) S_ .f32 0xFF800000#32) reducesTo_S16x4x4096x256_S16x4x4096_d3 h_S_

theorem reduces : S16x4x4096x256.Reduces [3] S16x4x4096 := by decide

theorem lift_apply (a : Fin 16) (h : Fin 4) (b : Fin 4096) (s : Fin 256) : reduces.lift (ix3 a h b) s = ix4 a h b s := by
  funext i
  refine Fin.ext ?_
  match i with
  | ⟨0, _⟩ => rfl
  | ⟨1, _⟩ => rfl
  | ⟨2, _⟩ => rfl
  | ⟨3, _⟩ => rfl

theorem rowMax_apply (l : FVec Ideal S16x4x4096x256 .f32) (a : Fin 16) (h : Fin 4) (b : Fin 4096) :
    rowMax l (ix3 a h b) = top fun s => l (ix4 a h b s) := by
  unfold rowMax
  refine (Host.reduce_eq_fold_single FloatOps.maximumf l _ _ reduces h_S_ (ix3 a h b)).trans ?_
  unfold top
  refine Finset.fold_congr fun s _ => congrArg l (lift_apply a h b s)

/-- The largest of each row, -/
def tops (l : FVec Ideal S16x4x4096x256 .f32) : FVec Ideal S16x4x4096 .f32 :=
  maximumf (broadcastInDim S16x4x4096 ![] bcast_S_S16x4x4096 (constant S_ .f32 0xFF800000#32)) (rowMax l)

theorem maximumf_apply (u v : FVec Ideal S16x4x4096 .f32) (i : S16x4x4096.Idx) : maximumf u v i = max (u i) (v i) := rfl

theorem top_max (l : Fin 256 → EReal) : max (Ideal.ofBits .f32 0xFF800000#32) (top l) = top l := max_fold _ _

theorem bot_apply (i : S16x4x4096.Idx) :
   broadcastInDim S16x4x4096 ![] bcast_S_S16x4x4096 (constant (F := Ideal) S_ .f32 0xFF800000#32) i = Ideal.ofBits .f32 0xFF800000#32 := rfl

theorem tops_apply (l : FVec Ideal S16x4x4096x256 .f32) (a : Fin 16) (h : Fin 4) (b : Fin 4096) :
    tops l (ix3 a h b) = top fun s => l (ix4 a h b s) := by
  unfold tops
  rw [maximumf_apply, rowMax_apply, bot_apply, top_max]

/-- its exponentials, -/
def exps (l : FVec Ideal S16x4x4096x256 .f32) : FVec Ideal S16x4x4096x256 .f32 :=
  Host.exp (subf l (broadcastInDim S16x4x4096x256 ![0, 1, 2, 3] bcast_S16x4x4096x1_S16x4x4096x256_0_1_2_3
    (broadcastInDim S16x4x4096x1 ![0, 1, 2] bcast_S16x4x4096_S16x4x4096x1_0_1_2 (tops l))))

theorem exps_apply (l : FVec Ideal S16x4x4096x256 .f32) (a : Fin 16) (h : Fin 4) (b : Fin 4096) (s : Fin 256) :
    exps l (ix4 a h b s) = Ideal.exp (l (ix4 a h b s) - top fun s => l (ix4 a h b s)) := by
  unfold exps
  pointwise
  rw [tops_apply]

/-- the softmax, -/
def probs (l : FVec Ideal S16x4x4096x256 .f32) : FVec Ideal S16x4x4096x256 .f32 :=
  Host.divf (exps l) (broadcastInDim S16x4x4096x256 ![0, 1, 2, 3] bcast_S16x4x4096x1_S16x4x4096x256_0_1_2_3
    (broadcastInDim S16x4x4096x1 ![0, 1, 2] bcast_S16x4x4096_S16x4x4096x1_0_1_2
      (Host.reduceAdd (exps l) (constant S_ .f32 0x00000000#32) reducesTo_S16x4x4096x256_S16x4x4096_d3 h_S_)))

theorem probs_apply (l : FVec Ideal S16x4x4096x256 .f32) (a : Fin 16) (h : Fin 4) (b : Fin 4096) (s : Fin 256) :
    probs l (ix4 a h b s) = softmax (fun s => l (ix4 a h b s)) s := by
  unfold probs
  pointwise
  simp only [exps_apply]
  rfl

/-- and the heads side by side. -/
def outs (p : FVec Ideal S16x4x4096x256 .f32) : FVec Ideal S16x4096x512 .f32 :=
  shapeCast S16x4096x512 (transpose S16x4096x4x128 [0, 3, 1, 2] (Host.dotGeneral dot_S16x256x4x128_S16x4x4096x256_S16x4x128x4096_1_3_3_2_02_01 none v p)
    transposes_S16x4x128x4096_S16x4096x4x128_0_3_1_2) shapeCasts_S16x4096x4x128_S16x4096x512

theorem outs_apply (p : FVec Ideal S16x4x4096x256 .f32) (a : Fin 16) (b : Fin 4096) (n : Fin 512) :
    outs v p (ix3 a b n) = ∑ s : Fin 256, v (ix4 a s ⟨n.val / 128, by omega⟩ ⟨n.val % 128, by omega⟩) * p (ix4 a ⟨n.val / 128, by omega⟩ b s) := by
  unfold outs
  pointwise

/-- The residual after the memory's attention. -/
def recall (y : FVec Ideal S16x4096x1024 .f32) : FVec Ideal S16x4096x1024 .f32 :=
  addf y (Host.dotGeneral dot_S16x4096x512_S512x1024_S16x4096x1024_2_0_01_1_n_n none (outs (vals kv) (probs (logits (query w wq y) (keys kv)))) wm)

theorem recall_apply (y : FVec Ideal S16x4096x1024 .f32) (a : Fin 16) (b : Fin 4096) (j : Fin 1024) :
    recall w wq kv wm y (ix3 a b j) = recalled (fun k => y (ix3 a b k)) (fun k => w (ix1 k)) (row (R := 1024) (C := 512) wq) (memRows kv a)
      (row (R := 512) (C := 1024) wm) j := by
  unfold recall
  pointwise
  have hn : ∀ n : Fin 512, outs (vals kv) (probs (logits (query w wq y) (keys kv))) (ix3 a b n)
      = heads (dot (norm (fun k => y (ix3 a b k)) (fun k => w (ix1 k))) (row (R := 1024) (C := 512) wq)) (memRows kv a) n := fun n => by
    rw [outs_apply]
    unfold heads head attend
    refine Finset.sum_congr (M := EReal) rfl fun s _ => ?_
    rw [mul_comm, probs_apply, vals_apply]
    simp only [logits_apply, query_apply, keys_apply]
  simp only [hn]
  rfl

def out : FVec Ideal S16x4096x1024 .f32 := recall w wq kv wm (res x oa ob oc g wb wo)

theorem out_apply (a : Fin 16) (b : Fin 4096) (j : Fin 1024) : out x oa ob oc g wb wo w wq kv wm (ix3 a b j)
    = recalled (resRow x oa ob oc g wb wo a b) (fun k => w (ix1 k)) (row (R := 1024) (C := 512) wq) (memRows kv a) (row (R := 512) (C := 1024) wm) j := by
  unfold out
  rw [recall_apply]
  simp only [res_apply]

theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v85) = shapeCast S65536x1024 (out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))) shapeCasts_S16x4096x1024_S65536x1024
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  Value.run m ρ

end Cert.Proof.MergeRef

end
-- ==== Proof.MergeClaim.lean ====
/- The merge of the mixers and the memory's attention: kernel and reference end with the same array. -/
module

public import proofs.«01_k».proof.Defs
public import proofs.«01_k».proof.Proof.MergeValue
public import proofs.«01_k».proof.Proof.MergeRefValue

@[expose] public section

set_option maxRecDepth 16384

noncomputable section

namespace Cert.Proof.MergeClaim

open Idealize.ShloMosaic Idealize.ShloMosaic.TcCoe Idealize.SL.Sem
open Cert.Proof.Rows Cert.Proof.MergeRows
open Cert.MergeIdeal Cert.MergeIdeal.Facts Cert.MergeIdeal.Gen

/-- Row `r` of the flattened activations is row `r % 4096` of batch `r / 4096`. -/
theorem row_flat (x : FVec Ideal S16x4096x1024 .f32) (r : Fin 65536) :
    row (shapeCast S65536x1024 x shapeCasts_S16x4096x1024_S65536x1024) r
      = fun k => x (ix3 ⟨r.val / 4096, by omega⟩ ⟨r.val % 4096, by omega⟩ k) := by
  funext k
  unfold row
  pointwise

theorem row_weight (w : FVec Ideal S1024 .f32) : row (shapeCast S1x1024 w shapeCasts_S1024_S1x1024) 0 = fun k => w (ix1 k) := by
  funext k
  unfold row
  pointwise

theorem tok_eq (r : Fin 65536) : MergeRef.tok ⟨r.val / 4096, by omega⟩ ⟨r.val % 4096, by omega⟩ = r :=
  Fin.ext (by show r.val / 4096 * 4096 + r.val % 4096 = r.val; omega)

variable (m : (ℓ : Loc nD τ sig) → Buf (Elt Ideal) ℓ)

/-- The kernel's result is the reference's term of the same arguments. -/
theorem G_eq (c : Dev nD) : MergeValue.G m c = shapeCast S65536x1024 (MergeRef.out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)))
    shapeCasts_S16x4096x1024_S65536x1024 := by
  funext y
  obtain ⟨r, j, rfl⟩ : ∃ (r : Fin 65536) (j : Fin 1024), y = ix2 r j := ⟨y 0, y 1, eq_ix2 y⟩
  refine Eq.trans ?_ (congrFun (row_flat (MergeRef.out _ _ _ _ _ _ _ _ _ _ _) r) j).symm
  rw [MergeRef.out_apply]
  unfold MergeRef.resRow MergeRef.mixRow
  rw [tok_eq]
  rw [MergeValue.G_apply, MergeValue.V0, MergeValue.V1, MergeValue.V2, MergeValue.V3, MergeValue.V4, MergeValue.V5, row_weight, row_flat,
    V_main_arg1, V_main_arg2, V_main_arg3, V_main_arg4, V_main_arg9]
  rfl

theorem algebraic : Cert.algebraic_MergeIdeal_MergeRefIdeal := by
  intro m g m' g' _ h
  refine ⟨fun c => MergeValue.G m c, ?_, ?_⟩
  · exact (θ_run Cert.MergeIdeal.defs _ _).mono (fun _ h c => ⟨(h c).1.trans (MergeValue.final m c), (h c).2⟩)
      (Cert.MergeIdeal.Value.run_blocks m g)
  · refine (θ_run Cert.MergeRefIdeal.defs _ _).mono (fun _ k c => ⟨(k c).1.trans ?_, (k c).2⟩) (MergeRef.run m' g')
    obtain ⟨h0, h1, h2, h3, h4, h5, h6, h7, h8, h9, h10⟩ := h c
    rw [h0, h1, h2, h3, h4, h5, h6, h7, h8, h9, h10]
    exact (G_eq m c).symm

end Cert.Proof.MergeClaim

end
-- ==== Proof.MemoryValue.lean ====
/- The memory's keys and values: the call's result is, row by row, the product of the normed row with the weights. -/
module

public import proofs.«01_k».proof.Proof.Gen.MemoryIdeal.Value
public import proofs.«01_k».proof.Proof.Rows

@[expose] public section

set_option maxRecDepth 16384

noncomputable section

namespace Cert.Proof.MemoryValue

open Cert.MemoryIdeal Cert.MemoryIdeal.Gen Cert.MemoryIdeal.Value Idealize.ShloMosaic Idealize.ShloMosaic.TcCoe Idealize.SL.Sem
open Cert.Proof.Rows

open Idealize.ShloMosaic.Pipeline (Dat)

theorem hz : (![0, 0] : Fin 2 → Nat) = fun _ => 0 := funext fun a => by fin_cases a <;> rfl

variable (m : (ℓ : Loc nD τ sig) → Buf (Elt Ideal) ℓ)

theorem out_apply (x0 : Vec Ideal S512x1024 .f32) (x1 : Vec Ideal S1x1024 .f32) (x2 : Vec Ideal S1024x1024 .bf16) (r : Fin 512) (n : Fin 1024) :
    out0_3 x0 x1 x2 (ix2 r n) = dot (norm (row (R := 512) (C := 1024) x0 r) (row (R := 1) (C := 1024) x1 0)) (row (R := 1024) (C := 1024) x2) n := by
  unfold out0_3 r0_0 r0_1 r0_2
  rw [View.canon_unit_zero hz, View.ld_unit_zero (S := S512x1024) hz, View.ld_unit_zero (S := S1x1024) hz, View.ld_unit_zero (S := S1024x1024) hz]
  pointwise [k0_pay1]
  rfl

/-- The result array as one function of the arrays as the region finds them. -/
def G (c : Dev nD) : FVec Ideal S4096x1024 .bf16 := fun y =>
  dot (norm (row (R := 4096) (C := 1024) (V m c main_v0) (y 0)) (row (R := 1) (C := 1024) (V m c main_v1) 0)) (row (R := 1024) (C := 1024) (V m c main_v2)) (y 1)

theorem G_apply (c : Dev nD) (r : Fin 4096) (n : Fin 1024) : G m c (ix2 r n) =
    dot (norm (row (R := 4096) (C := 1024) (V m c main_v0) r) (row (R := 1) (C := 1024) (V m c main_v1) 0)) (row (R := 1024) (C := 1024) (V m c main_v2)) n := rfl

theorem idx_facts : ∀ t : Fin cfg0.N, (win0_0.index t (0 : Fin 2) = t.val ∧ win0_0.index t (1 : Fin 2) = 0)
    ∧ (win0_1.index t (0 : Fin 2) = 0 ∧ win0_1.index t (1 : Fin 2) = 0) ∧ (win0_2.index t (0 : Fin 2) = 0 ∧ win0_2.index t (1 : Fin 2) = 0)
    ∧ (win0_3.index t (0 : Fin 2) = t.val ∧ win0_3.index t (1 : Fin 2) = 0) :=
  (by decide +kernel : ∀ t : Fin grid0.N, _)

theorem row_lt (t : Fin cfg0.N) (r : Fin 512) : t.val * 512 + r.val < 4096 := by
  have h := t.isLt
  have hN : cfg0.N = 8 := N_0
  omega

theorem row0 (c : Dev nD) (t : Fin cfg0.N) (r : Fin 512) :
    row (R := 512) (C := 1024) (iblk m c 0 t) r = row (R := 4096) (C := 1024) (V m c main_v0) ⟨t.val * 512 + r.val, row_lt t r⟩ := by
  obtain ⟨⟨e0, e1⟩, -⟩ := idx_facts t
  funext k
  refine congrArg (V m c main_v0) (funext fun a => Fin.ext ?_)
  match a with
  | ⟨0, _⟩ => show win0_0.index t (0 : Fin 2) * 512 + 1 * r.val = t.val * 512 + r.val; rw [e0]; omega
  | ⟨1, _⟩ => show win0_0.index t (1 : Fin 2) * 1024 + 1 * k.val = k.val; rw [e1]; omega

theorem iblk1 (c : Dev nD) (t : Fin cfg0.N) : iblk m c 1 t = V m c main_v1 := by
  obtain ⟨-, ⟨e0, e1⟩, -⟩ := idx_facts t
  funext j
  refine congrArg (V m c main_v1) (funext fun a => Fin.ext ?_)
  match a with
  | ⟨0, _⟩ => show win0_1.index t (0 : Fin 2) * 1 + 1 * (j 0).val = (j 0).val; rw [e0]; omega
  | ⟨1, _⟩ => show win0_1.index t (1 : Fin 2) * 1024 + 1 * (j 1).val = (j 1).val; rw [e1]; omega

theorem iblk2 (c : Dev nD) (t : Fin cfg0.N) : iblk m c 2 t = V m c main_v2 := by
  obtain ⟨-, -, ⟨e0, e1⟩, -⟩ := idx_facts t
  funext j
  refine congrArg (V m c main_v2) (funext fun a => Fin.ext ?_)
  match a with
  | ⟨0, _⟩ => show win0_2.index t (0 : Fin 2) * 1024 + 1 * (j 0).val = (j 0).val; rw [e0]; omega
  | ⟨1, _⟩ => show win0_2.index t (1 : Fin 2) * 1024 + 1 * (j 1).val = (j 1).val; rw [e1]; omega

/-- What a grid point writes back is its block of `G`. -/
theorem flushed_eq (c : Dev nD) (t : Fin cfg0.N) :
    (dats m 0 c).flushed 3 t = ((cfg0.win 3).blk t).view.read (Elt Ideal) (G m c) := by
  rw [flushed3, iblk1, iblk2]
  obtain ⟨-, -, -, e0, e1⟩ := idx_facts t
  funext j
  idx_vars j
  have e : ((cfg0.win 3).blk t).view.emb (ix2 j0 j1) = (ix2 ⟨t.val * 512 + j0.val, row_lt t j0⟩ j1 : S4096x1024.Idx) := by
    refine funext fun a => Fin.ext ?_
    match a with
    | ⟨0, _⟩ => show win0_3.index t (0 : Fin 2) * 512 + 1 * j0.val = t.val * 512 + j0.val; rw [e0]; omega
    | ⟨1, _⟩ => show win0_3.index t (1 : Fin 2) * 1024 + 1 * j1.val = j1.val; rw [e1]; omega
  refine Eq.trans ?_ (congrArg (G m c) e).symm
  refine (out_apply (iblk m c 0 t) (V m c main_v1) (V m c main_v2) j0 j1).trans ?_
  rw [row0]
  rfl

/-- A row's index lies in the block of its grid point. -/
theorem mem_blk (t : Fin cfg0.N) (i : S4096x1024.Idx) (h : t.val * 512 ≤ (i 0).val ∧ (i 0).val < t.val * 512 + 512) :
    i ∈ ((cfg0.win 3).blk t).view.set := by
  show i ∈ ((View.whole main_v3).slice (win0_3.rect t)).set
  rw [View.set_slice_whole, Rect.mem_set_unit]
  obtain ⟨-, -, -, e0, e1⟩ := idx_facts t
  have h1 : (i 1).val < 1024 := (i 1).isLt
  intro a
  match a with
  | ⟨0, _⟩ =>
    show win0_3.index t (0 : Fin 2) * 512 ≤ (i 0).val ∧ (i 0).val < win0_3.index t (0 : Fin 2) * 512 + 512
    rw [e0]; exact h
  | ⟨1, _⟩ =>
    show win0_3.index t (1 : Fin 2) * 1024 ≤ (i 1).val ∧ (i 1).val < win0_3.index t (1 : Fin 2) * 1024 + 1024
    rw [e1, Nat.zero_mul, Nat.zero_add]; exact ⟨Nat.zero_le _, h1⟩

/-- The blocks cover the result array. -/
theorem cover (i : S4096x1024.Idx) : ∃ t : Fin cfg0.N, (cfg0.win 3).flush t = true ∧ i ∈ ((cfg0.win 3).blk t).view.set := by
  have h0 : (i 0).val < 4096 := (i 0).isLt
  have hN : cfg0.N = 8 := N_0
  obtain ⟨t, ht⟩ : ∃ t : Fin cfg0.N, t.val = (i 0).val / 512 := ⟨⟨_, by omega⟩, rfl⟩
  exact ⟨t, flush0_3 t, mem_blk t i (by rw [ht]; omega)⟩

theorem final (c : Dev nD) : (dats m 0 c).arrAt 3 cfg0.N = G m c :=
  (dats m 0 c).arrAt_eq_of_cover 3 (G m c) (fun t _ => flushed_eq m c t) cover

/-- The arrays that the region finds are the arguments, cast and reshaped. -/
theorem V0 (c : Dev nD) : V m c main_v0 = shapeCast S4096x1024 (m ((c : Thread nD τ).loc main_arg0)) shapeCasts_S16x256x1024_S4096x1024 := by
  unfold V hostOps0
  after_results_simp
  rfl

theorem V1 (c : Dev nD) : V m c main_v1 = shapeCast S1x1024 (m ((c : Thread nD τ).loc main_arg1)) shapeCasts_S1024_S1x1024 := by
  unfold V hostOps0
  after_results_simp
  rfl

theorem V2 (c : Dev nD) : V m c main_v2 = truncf (F := Ideal) .bf16 (m ((c : Thread nD τ).loc main_arg2)) bitsLt_bf16_f32 := by
  unfold V hostOps0
  after_results_simp

end Cert.Proof.MemoryValue

end
-- ==== Proof.MemoryClaim.lean ====
/- The memory's keys and values: kernel and reference end with the same array. -/
module

public import proofs.«01_k».proof.Defs
public import proofs.«01_k».proof.Proof.MemoryValue
public import proofs.«01_k».proof.Proof.Gen.MemoryRefIdeal.Run

@[expose] public section

set_option maxRecDepth 16384

noncomputable section

namespace Cert.Proof.MemoryRef

open Cert.MemoryRefIdeal Cert.MemoryRefIdeal.Facts Cert.MemoryRefIdeal.Gen Cert.MemoryRefIdeal.Value Idealize.ShloMosaic Idealize.ShloMosaic.TcCoe Idealize.SL.Sem
open Cert.Proof.Rows

variable (x : FVec Ideal S16x256x1024 .f32) (w : FVec Ideal S1024 .f32) (wkv : FVec Ideal S1024x1024 .f32)

/-- The normed memory. -/
def normed : FVec Ideal S16x256x1024 .f32 :=
  mulf (mulf x (broadcastInDim S16x256x1024 ![0, 1, 2] bcast_S16x256x1_S16x256x1024_0_1_2 (Host.rsqrt (addf (Host.divf (broadcastInDim S16x256x1 ![0, 1] bcast_S16x256_S16x256x1_0_1 (Host.reduceAdd (mulf x x) (constant S_ .f32 0x00000000#32) reducesTo_S16x256x1024_S16x256_d2 h_S_)) (broadcastInDim S16x256x1 ![] bcast_S_S16x256x1 (constant S_ .f32 0x44800000#32))) (broadcastInDim S16x256x1 ![] bcast_S_S16x256x1 (constant S_ .f32 0x358637BD#32)))))) (broadcastInDim S16x256x1024 ![0, 1, 2] bcast_S1x1x1024_S16x256x1024_0_1_2 (broadcastInDim S1x1x1024 ![2] bcast_S1024_S1x1x1024_2 w))

theorem normed_apply (a : Fin 16) (b : Fin 256) (k : Fin 1024) :
    normed x w (ix3 a b k) = norm (fun k => x (ix3 a b k)) (fun k => w (ix1 k)) k := by
  unfold normed
  pointwise
  rfl

/-- Its product with the weights, by row of all the memories. -/
def out : FVec Ideal S4096x1024 .bf16 :=
  truncf .bf16 (shapeCast S4096x1024 (Host.dotGeneral dot_S16x256x1024_S1024x1024_S16x256x1024_2_0_01_1_n_n none (normed x w) wkv) shapeCasts_S16x256x1024_S4096x1024) bitsLt_bf16_f32

theorem out_apply (r : Fin 4096) (n : Fin 1024) : out x w wkv (ix2 r n)
    = dot (norm (fun k => x (ix3 ⟨r.val / 256, by omega⟩ ⟨r.val % 256, by omega⟩ k)) (fun k => w (ix1 k))) (row (R := 1024) (C := 1024) wkv) n := by
  unfold out
  pointwise
  simp only [normed_apply]
  rfl

theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v15)
        = out (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  Value.run m ρ

end Cert.Proof.MemoryRef

namespace Cert.Proof.MemoryClaim

open Idealize.ShloMosaic Idealize.ShloMosaic.TcCoe Idealize.SL.Sem
open Cert.Proof.Rows
open Cert.MemoryIdeal Cert.MemoryIdeal.Facts Cert.MemoryIdeal.Gen

/-- Row `r` of the flattened memories is row `r % 256` of batch `r / 256`. -/
theorem row_flat (x : FVec Ideal S16x256x1024 .f32) (r : Fin 4096) :
    row (shapeCast S4096x1024 x shapeCasts_S16x256x1024_S4096x1024) r
      = fun k => x (ix3 ⟨r.val / 256, by omega⟩ ⟨r.val % 256, by omega⟩ k) := by
  funext k
  unfold row
  pointwise

theorem row_weight (w : FVec Ideal S1024 .f32) : row (shapeCast S1x1024 w shapeCasts_S1024_S1x1024) 0 = fun k => w (ix1 k) := by
  funext k
  unfold row
  pointwise

variable (m : (ℓ : Loc nD τ sig) → Buf (Elt Ideal) ℓ)

/-- The kernel's result is the reference's term of the same arguments. -/
theorem G_eq (c : Dev nD) : MemoryValue.G m c
    = MemoryRef.out (m ((c : Thread nD τ).loc main_arg0)) (m ((c : Thread nD τ).loc main_arg1)) (m ((c : Thread nD τ).loc main_arg2)) := by
  funext y
  obtain ⟨r, j, rfl⟩ : ∃ (r : Fin 4096) (j : Fin 1024), y = ix2 r j := ⟨y 0, y 1, eq_ix2 y⟩
  refine Eq.trans ?_ (MemoryRef.out_apply _ _ _ r j).symm
  rw [MemoryValue.G_apply, MemoryValue.V0, MemoryValue.V1, MemoryValue.V2, row_weight, row_flat]
  rfl

theorem algebraic : Cert.algebraic_MemoryIdeal_MemoryRefIdeal := by
  intro m g m' g' _ h
  refine ⟨fun c => MemoryValue.G m c, ?_, ?_⟩
  · exact (θ_run Cert.MemoryIdeal.defs _ _).mono (fun _ h c => ⟨(h c).1.trans (MemoryValue.final m c), (h c).2⟩)
      (Cert.MemoryIdeal.Value.run_blocks m g)
  · refine (θ_run Cert.MemoryRefIdeal.defs _ _).mono (fun _ k c => ⟨(k c).1.trans ?_, (k c).2⟩) (MemoryRef.run m' g')
    obtain ⟨h0, h1, h2⟩ := h c
    rw [h0, h1, h2]
    exact (G_eq m c).symm

end Cert.Proof.MemoryClaim

end
-- ==== Proof.lean ====
/- The claims of this directory (`Cert.Claim`), assembled: each call's frames and its value claim. -/
module

public import proofs.«01_k».proof.Defs
public import proofs.«01_k».proof.Proof.DsaFrame
public import proofs.«01_k».proof.Proof.FoxFrame
public import proofs.«01_k».proof.Proof.Gen.Ffn
public import proofs.«01_k».proof.Proof.Gen.Ffn.Frame
public import proofs.«01_k».proof.Proof.Gen.FfnIdeal
public import proofs.«01_k».proof.Proof.Gen.FfnIdeal.Frame
public import proofs.«01_k».proof.Proof.Gen.FfnIdeal.Value
public import proofs.«01_k».proof.Proof.Gen.FfnRefIdeal.Run
public import proofs.«01_k».proof.Proof.FfnClaim
public import proofs.«01_k».proof.Proof.Gen.FfnLast
public import proofs.«01_k».proof.Proof.Gen.FfnLast.Frame
public import proofs.«01_k».proof.Proof.Gen.FfnLastIdeal
public import proofs.«01_k».proof.Proof.Gen.FfnLastIdeal.Frame
public import proofs.«01_k».proof.Proof.Gen.FfnLastIdeal.Value
public import proofs.«01_k».proof.Proof.Gen.FfnLastRefIdeal.Run
public import proofs.«01_k».proof.Proof.FfnLastClaim
public import proofs.«01_k».proof.Proof.Gen.Proj
public import proofs.«01_k».proof.Proof.Gen.Proj.Frame
public import proofs.«01_k».proof.Proof.Gen.ProjIdeal
public import proofs.«01_k».proof.Proof.Gen.ProjIdeal.Frame
public import proofs.«01_k».proof.Proof.Gen.ProjIdeal.Value
public import proofs.«01_k».proof.Proof.Gen.ProjRefIdeal.Run
public import proofs.«01_k».proof.Proof.ProjClaim
public import proofs.«01_k».proof.Proof.Gen.Merge
public import proofs.«01_k».proof.Proof.Gen.Merge.Frame
public import proofs.«01_k».proof.Proof.Gen.MergeIdeal
public import proofs.«01_k».proof.Proof.Gen.MergeIdeal.Frame
public import proofs.«01_k».proof.Proof.Gen.MergeIdeal.Value
public import proofs.«01_k».proof.Proof.Gen.MergeRefIdeal.Run
public import proofs.«01_k».proof.Proof.MergeClaim
public import proofs.«01_k».proof.Proof.Gen.Memory
public import proofs.«01_k».proof.Proof.Gen.Memory.Frame
public import proofs.«01_k».proof.Proof.Gen.MemoryIdeal
public import proofs.«01_k».proof.Proof.Gen.MemoryIdeal.Frame
public import proofs.«01_k».proof.Proof.Gen.MemoryIdeal.Value
public import proofs.«01_k».proof.Proof.Gen.MemoryRefIdeal.Run
public import proofs.«01_k».proof.Proof.MemoryClaim
public import proofs.«01_k».proof.Proof.Gen.Rglru
public import proofs.«01_k».proof.Proof.Gen.Rglru.Frame
public import proofs.«01_k».proof.Proof.Gen.RglruIdeal
public import proofs.«01_k».proof.Proof.Gen.RglruIdeal.Frame
public import proofs.«01_k».proof.Proof.Gen.Sums
public import proofs.«01_k».proof.Proof.Gen.Sums.Frame
public import proofs.«01_k».proof.Proof.Gen.SumsIdeal
public import proofs.«01_k».proof.Proof.Gen.SumsIdeal.Frame

@[expose] public section

noncomputable section

namespace Cert.Proof

open Idealize.ShloMosaic Idealize.SL.Sem

/-- The reference of `Ffn` leaves its arguments as they were; it has no semaphore. -/
theorem frame_FfnRefIdeal : Cert.quiescent_FfnRefIdeal := fun m ρ _ =>
  (θ_run Cert.FfnRefIdeal.defs _ _).mono (fun r h => ⟨fun c => (h c).2, sem_eq_zero_of_no_sems (by decide) r.2⟩) (Cert.FfnRefIdeal.Value.run m ρ)

/-- The reference of `FfnLast` leaves its arguments as they were; it has no semaphore. -/
theorem frame_FfnLastRefIdeal : Cert.quiescent_FfnLastRefIdeal := fun m ρ _ =>
  (θ_run Cert.FfnLastRefIdeal.defs _ _).mono (fun r h => ⟨fun c => (h c).2, sem_eq_zero_of_no_sems (by decide) r.2⟩) (Cert.FfnLastRefIdeal.Value.run m ρ)

/-- The reference of `Proj` leaves its arguments as they were; it has no semaphore. -/
theorem frame_ProjRefIdeal : Cert.quiescent_ProjRefIdeal := fun m ρ _ =>
  (θ_run Cert.ProjRefIdeal.defs _ _).mono (fun r h => ⟨fun c => (h c).2.2.2.2.2.2.2.2.2.2, sem_eq_zero_of_no_sems (by decide) r.2⟩) (Cert.ProjRefIdeal.Value.run m ρ)

/-- The reference of `Merge` leaves its arguments as they were; it has no semaphore. -/
theorem frame_MergeRefIdeal : Cert.quiescent_MergeRefIdeal := fun m ρ _ =>
  (θ_run Cert.MergeRefIdeal.defs _ _).mono (fun r h => ⟨fun c => (h c).2, sem_eq_zero_of_no_sems (by decide) r.2⟩) (Cert.MergeRefIdeal.Value.run m ρ)

/-- The reference of `Memory` leaves its arguments as they were; it has no semaphore. -/
theorem frame_MemoryRefIdeal : Cert.quiescent_MemoryRefIdeal := fun m ρ _ =>
  (θ_run Cert.MemoryRefIdeal.defs _ _).mono (fun r h => ⟨fun c => (h c).2, sem_eq_zero_of_no_sems (by decide) r.2⟩) (Cert.MemoryRefIdeal.Value.run m ρ)

theorem claim : Cert.Claim := ⟨Cert.Dsa.Gen.facts,
    Cert.Ffn.Gen.facts,
    Cert.FfnIdeal.Gen.facts,
    Cert.FfnRefIdeal.Gen.facts,
    Cert.FfnLast.Gen.facts,
    Cert.FfnLastIdeal.Gen.facts,
    Cert.FfnLastRefIdeal.Gen.facts,
    Cert.Proj.Gen.facts,
    Cert.ProjIdeal.Gen.facts,
    Cert.ProjRefIdeal.Gen.facts,
    Cert.Merge.Gen.facts,
    Cert.MergeIdeal.Gen.facts,
    Cert.MergeRefIdeal.Gen.facts,
    Cert.Memory.Gen.facts,
    Cert.MemoryIdeal.Gen.facts,
    Cert.MemoryRefIdeal.Gen.facts,
    Cert.Rglru.Gen.facts,
    Cert.RglruIdeal.Gen.facts,
    Cert.Sums.Gen.facts,
    Cert.SumsIdeal.Gen.facts,
    Cert.Fox.Gen.facts,
    fun m ρ _ => Cert.Proof.Dsa.frame m ρ,
    fun m ρ _ => Cert.Ffn.Gen.frame m ρ,
    fun m ρ _ => Cert.FfnIdeal.Gen.frame m ρ,
    frame_FfnRefIdeal,
    fun m ρ _ => Cert.FfnLast.Gen.frame m ρ,
    fun m ρ _ => Cert.FfnLastIdeal.Gen.frame m ρ,
    frame_FfnLastRefIdeal,
    fun m ρ _ => Cert.Proj.Gen.frame m ρ,
    fun m ρ _ => Cert.ProjIdeal.Gen.frame m ρ,
    frame_ProjRefIdeal,
    fun m ρ _ => Cert.Merge.Gen.frame m ρ,
    fun m ρ _ => Cert.MergeIdeal.Gen.frame m ρ,
    frame_MergeRefIdeal,
    fun m ρ _ => Cert.Memory.Gen.frame m ρ,
    fun m ρ _ => Cert.MemoryIdeal.Gen.frame m ρ,
    frame_MemoryRefIdeal,
    fun m ρ _ => Cert.Rglru.Gen.frame m ρ,
    fun m ρ _ => Cert.RglruIdeal.Gen.frame m ρ,
    fun m ρ _ => Cert.Sums.Gen.frame m ρ,
    fun m ρ _ => Cert.SumsIdeal.Gen.frame m ρ,
    fun m ρ _ => Cert.Proof.Fox.frame m ρ,
    trivial,
    Cert.Proof.FfnClaim.algebraic,
    trivial,
    Cert.Proof.FfnLastClaim.algebraic,
    trivial,
    Cert.Proof.ProjClaim.algebraic,
    trivial,
    Cert.Proof.MergeClaim.algebraic,
    trivial,
    Cert.Proof.MemoryClaim.algebraic,
    trivial,
    trivial⟩

end Cert.Proof

end
